-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_in_range.lean ====
abbrev S294912x8x128 : Shape := ⟨3, ![294912, 8, 128]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S294912x8x128 .f32) (main_arg1 : IVec S288 32) (main_arg2 : IVec S288 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Kernel.lean ====
abbrev S294912x8x128 : Shape := ⟨3, ![294912, 8, 128]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1024x8x128x2 : Shape := ⟨5, ![32, 1024, 8, 128, 2]⟩
abbrev S32x1024x8x2x128 : Shape := ⟨5, ![32, 1024, 8, 2, 128]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S1024x1024 : Shape := ⟨2, ![1024, 1024]⟩
abbrev S3x1024x8x128 : Shape := ⟨4, ![3, 1024, 8, 128]⟩
abbrev S3 : Shape := ⟨1, ![3]⟩
abbrev S2x1x1024x2048 : Shape := ⟨4, ![2, 1, 1024, 2048]⟩
abbrev S2 : Shape := ⟨1, ![2]⟩
abbrev S2x1x1x2048 : Shape := ⟨4, ![2, 1, 1, 2048]⟩
abbrev S2x1x1024x1024 : Shape := ⟨4, ![2, 1, 1024, 1024]⟩
abbrev S2x1x1x1024 : Shape := ⟨4, ![2, 1, 1, 1024]⟩
abbrev S2x1024x8x128 : Shape := ⟨4, ![2, 1024, 8, 128]⟩
abbrev S1 : Shape := ⟨1, ![1]⟩
abbrev S_ : Shape := ⟨0, ![]⟩
abbrev S1x1024x8x128 : Shape := ⟨4, ![1, 1024, 8, 128]⟩
abbrev S1024x8x128 : Shape := ⟨3, ![1024, 8, 128]⟩
abbrev S1x1x1024x2048 : Shape := ⟨4, ![1, 1, 1024, 2048]⟩
abbrev S1x1024x2048 : Shape := ⟨3, ![1, 1024, 2048]⟩
abbrev S1x1x1x2048 : Shape := ⟨4, ![1, 1, 1, 2048]⟩
abbrev S1x1x2048 : Shape := ⟨3, ![1, 1, 2048]⟩
abbrev S1x1x1024x1024 : Shape := ⟨4, ![1, 1, 1024, 1024]⟩
abbrev S1x1024x1024 : Shape := ⟨3, ![1, 1024, 1024]⟩
abbrev S1x1x1x1024 : Shape := ⟨4, ![1, 1, 1, 1024]⟩
abbrev S1x1x1024 : Shape := ⟨3, ![1, 1, 1024]⟩
abbrev S1024x1 : Shape := ⟨2, ![1024, 1]⟩
abbrev S1x1024x256 : Shape := ⟨3, ![1, 1024, 256]⟩
abbrev S1024x256 : Shape := ⟨2, ![1024, 256]⟩
abbrev S1x1x256 : Shape := ⟨3, ![1, 1, 256]⟩
abbrev S1x256 : Shape := ⟨2, ![1, 256]⟩
abbrev S1024x128 : Shape := ⟨2, ![1024, 128]⟩
abbrev S1x1024 : Shape := ⟨2, ![1, 1024]⟩

abbrev nBuf : Space → Nat
  | .hbm => 16
  | .vmem => 7
  | .smem => 2
  | _ => 0

abbrev bufTy : (tb : Table) → Fin (tcTables nBuf tb) → BufTy
  | .hbm, ⟨0, _⟩ => ⟨S294912x8x128, .f32⟩
  | .hbm, ⟨1, _⟩ => ⟨S288, .i32⟩
  | .hbm, ⟨2, _⟩ => ⟨S288, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32x1024x8x128x2, .f32⟩
  | .hbm, ⟨8, _⟩ => ⟨S32x1024x8x2x128, .f32⟩
  | .hbm, ⟨9, _⟩ => ⟨S32x1024x2048, .f32⟩
  | .hbm, ⟨10, _⟩ => ⟨S32x1024x2048, .bf16⟩
  | .hbm, ⟨11, _⟩ => ⟨S32x8x128x2, .f32⟩
  | .hbm, ⟨12, _⟩ => ⟨S32x8x2x128, .f32⟩
  | .hbm, ⟨13, _⟩ => ⟨S32x1x2048, .f32⟩
  | .hbm, ⟨14, _⟩ => ⟨S32x1x1024, .f32⟩
  | .hbm, ⟨15, _⟩ => ⟨S294912x8x128, .f32⟩
  | .local _ .vmem, ⟨0, _⟩ => ⟨S1024x1024, .bf16⟩
  | .local _ .vmem, ⟨1, _⟩ => ⟨S3x1024x8x128, .f32⟩
  | .local _ .vmem, ⟨2, _⟩ => ⟨S2x1x1024x2048, .bf16⟩
  | .local _ .vmem, ⟨3, _⟩ => ⟨S2x1x1x2048, .f32⟩
  | .local _ .vmem, ⟨4, _⟩ => ⟨S2x1x1024x1024, .f32⟩
  | .local _ .vmem, ⟨5, _⟩ => ⟨S2x1x1x1024, .f32⟩
  | .local _ .vmem, ⟨6, _⟩ => ⟨S2x1024x8x128, .f32⟩
  | .local _ .smem, ⟨0, _⟩ => ⟨S288, .i32⟩
  | .local _ .smem, ⟨1, _⟩ => ⟨S288, .i32⟩
  | _, _ => ⟨S294912x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_scoped8 : Ref sig .tc := ⟨.vmem, 5, rfl⟩
abbrev cc0_scoped10 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v24_r0 : BitVec 32 := Scalar.remui c0_i32_21_r0 c3_i32_r0
  ![v24_r0.toNat]
def k0_off2 : Fin 4 → Nat :=
  let c0_i32_21_r0 : BitVec 32 := 0#32
  let c3_i32_r0 : BitVec 32 := 3#32
  let v24_r0 : BitVec 32 := Scalar.remui c0_i32_21_r0 c3_i32_r0
  let c0_i32_22_r0 : BitVec 32 := 0#32
  let c0_i32_23_r0 : BitVec 32 := 0#32
  let c0_i32_24_r0 : BitVec 32 := 0#32
  ![v24_r0.toNat, 0, 0, 0]
def k0_off3 : Fin 1 → Nat :=
  let c0_i32_30_r0 : BitVec 32 := 0#32
  let c2_i32_r0 : BitVec 32 := 2#32
  let v31_r0 : BitVec 32 := Scalar.remui c0_i32_30_r0 c2_i32_r0
  ![v31_r0.toNat]
def k0_off4 : Fin 4 → Nat :=
  let c0_i32_30_r0 : BitVec 32 := 0#32
  let c2_i32_r0 : BitVec 32 := 2#32
  let v31_r0 : BitVec 32 := Scalar.remui c0_i32_30_r0 c2_i32_r0
  let c0_i32_32_r0 : BitVec 32 := 0#32
  let c0_i32_33_r0 : BitVec 32 := 0#32
  let c0_i32_34_r0 : BitVec 32 := 0#32
  ![v31_r0.toNat, 0, 0, 0]
def k0_off5 (v32_r0 : BitVec 32) : Fin 3 → Nat :=
  let c1_i32_31_r0 : BitVec 32 := 1#32
  let v33_r0 : BitVec 32 := Scalar.muli c1_i32_31_r0 v32_r0
  let c0_i32_35_r0 : BitVec 32 := 0#32
  let c0_i32_36_r0 : BitVec 32 := 0#32
  ![v33_r0.toNat, 0, 0]

def k0_chk1 (v32_r0 : BitVec 32) : Prop :=
  (∀ a, (k0_off5 v32_r0) a + S1x1024x2048.size a ≤ S32x1024x2048.size a) ∧
  (∀ (hinb : ∀ a, (k0_off5 v32_r0) a + S1x1024x2048.size a ≤ S32x1024x2048.size a), (Rect.unit (s := S32x1024x2048) (k0_off5 v32_r0) S1x1024x2048.size hinb).WholeWords (EltTy.packing .bf16))
theorem k0_off5_inb : ∀ (v32_r0 : BitVec 32) (k0_hw1 : k0_chk1 v32_r0), ∀ a, (k0_off5 v32_r0) a + S1x1024x2048.size a ≤ S32x1024x2048.size a := fun v32_r0 k0_hw1 => k0_hw1.1
theorem k0_off5_wordsbf16 : ∀ (v32_r0 : BitVec 32) (k0_hw1 : k0_chk1 v32_r0), (Rect.unit (s := S32x1024x2048) (k0_off5 v32_r0) S1x1024x2048.size (k0_off5_inb v32_r0 k0_hw1)).WholeWords (EltTy.packing .bf16) := fun v32_r0 k0_hw1 => k0_hw1.2 (k0_off5_inb v32_r0 k0_hw1)

def k0_off6 : Fin 1 → Nat :=
  let c0_i32_39_r0 : BitVec 32 := 0#32
  let c2_i32_40_r0 : BitVec 32 := 2#32
  let v40_r0 : BitVec 32 := Scalar.remui c0_i32_39_r0 c2_i32_40_r0
  ![v40_r0.toNat]
def k0_off7 : Fin 4 → Nat :=
  let c0_i32_39_r0 : BitVec 32 := 0#32
  let c2_i32_40_r0 : BitVec 32 := 2#32
  let v40_r0 : BitVec 32 := Scalar.remui c0_i32_39_r0 c2_i32_40_r0
  let c0_i32_43_r0 : BitVec 32 := 0#32
  let c0_i32_44_r0 : BitVec 32 := 0#32
  let c0_i32_45_r0 : BitVec 32 := 0#32
  ![v40_r0.toNat, 0, 0, 0]
def k0_off8 (v41_r0 : BitVec 32) : Fin 3 → Nat :=
  let c1_i32_42_r0 : BitVec 32 := 1#32
  let v42_r0 : BitVec 32 := Scalar.muli c1_i32_42_r0 v41_r0
  let c0_i32_46_r0 : BitVec 32 := 0#32
  let c0_i32_47_r0 : BitVec 32 := 0#32
  ![v42_r0.toNat, 0, 0]

def k0_chk2 (v41_r0 : BitVec 32) : Prop :=
  (∀ a, (k0_off8 v41_r0) a + S1x1x2048.size a ≤ S32x1x2048.size a)
theorem k0_off8_inb : ∀ (v41_r0 : BitVec 32) (k0_hw2 : k0_chk2 v41_r0), ∀ a, (k0_off8 v41_r0) a + S1x1x2048.size a ≤ S32x1x2048.size a := fun v41_r0 k0_hw2 => k0_hw2

def k0_off9 : Fin 1 → Nat :=
  let c0_i32_50_r0 : BitVec 32 := 0#32
  let c2_i32_51_r0 : BitVec 32 := 2#32
  let v49_r0 : BitVec 32 := Scalar.remui c0_i32_50_r0 c2_i32_51_r0
  ![v49_r0.toNat]
def k0_off10 : Fin 4 → Nat :=
  let c0_i32_50_r0 : BitVec 32 := 0#32
  let c2_i32_51_r0 : BitVec 32 := 2#32
  let v49_r0 : BitVec 32 := Scalar.remui c0_i32_50_r0 c2_i32_51_r0
  let c0_i32_54_r0 : BitVec 32 := 0#32
  let c0_i32_55_r0 : BitVec 32 := 0#32
  let c0_i32_56_r0 : BitVec 32 := 0#32
  ![v49_r0.toNat, 0, 0, 0]
def k0_off11 (v50_r0 : BitVec 32) : Fin 3 → Nat :=
  let c1_i32_53_r0 : BitVec 32 := 1#32
  let v51_r0 : BitVec 32 := Scalar.muli c1_i32_53_r0 v50_r0
  let c0_i32_57_r0 : BitVec 32 := 0#32
  let c0_i32_58_r0 : BitVec 32 := 0#32
  ![v51_r0.toNat, 0, 0]

def k0_chk3 (v50_r0 : BitVec 32) : Prop :=
  (∀ a, (k0_off11 v50_r0) a + S1x1024x1024.size a ≤ S32x1024x1024.size a)
theorem k0_off11_inb : ∀ (v50_r0 : BitVec 32) (k0_hw3 : k0_chk3 v50_r0), ∀ a, (k0_off11 v50_r0) a + S1x1024x1024.size a ≤ S32x1024x1024.size a := fun v50_r0 k0_hw3 => k0_hw3

def k0_off12 : Fin 1 → Nat :=
  let c0_i32_61_r0 : BitVec 32 := 0#32
  let c2_i32_62_r0 : BitVec 32 := 2#32
  let v58_r0 : BitVec 32 := Scalar.remui c0_i32_61_r0 c2_i32_62_r0
  ![v58_r0.toNat]
def k0_off13 : Fin 4 → Nat :=
  let c0_i32_61_r0 : BitVec 32 := 0#32
  let c2_i32_62_r0 : BitVec 32 := 2#32
  let v58_r0 : BitVec 32 := Scalar.remui c0_i32_61_r0 c2_i32_62_r0
  let c0_i32_65_r0 : BitVec 32 := 0#32
  let c0_i32_66_r0 : BitVec 32 := 0#32
  let c0_i32_67_r0 : BitVec 32 := 0#32
  ![v58_r0.toNat, 0, 0, 0]
def k0_off14 (v59_r0 : BitVec 32) : Fin 3 → Nat :=
  let c1_i32_64_r0 : BitVec 32 := 1#32
  let v60_r0 : BitVec 32 := Scalar.muli c1_i32_64_r0 v59_r0
  let c0_i32_68_r0 : BitVec 32 := 0#32
  let c0_i32_69_r0 : BitVec 32 := 0#32
  ![v60_r0.toNat, 0, 0]

def k0_chk4 (v59_r0 : BitVec 32) : Prop :=
  (∀ a, (k0_off14 v59_r0) a + S1x1x1024.size a ≤ S32x1x1024.size a)
theorem k0_off14_inb : ∀ (v59_r0 : BitVec 32) (k0_hw4 : k0_chk4 v59_r0), ∀ a, (k0_off14 v59_r0) a + S1x1x1024.size a ≤ S32x1x1024.size a := fun v59_r0 k0_hw4 => k0_hw4

def k0_cond1 : BitVec 1 :=
  let true_73_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c288_i32_r0 : BitVec 32 := 288#32
  let v11_r0 : BitVec 1 := Scalar.cmpi .eq v10_r0 c288_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_72_r0 : BitVec 32 := 0#32
  let v67_r0 : BitVec 1 := Scalar.cmpi .ne v13_r0 c0_i32_72_r0
  let v68_r0 : BitVec 1 := Scalar.andi true_73_r0 v67_r0
  let true_74_r0 : BitVec 1 := 1#1
  let v69_r0 : BitVec 1 := Scalar.andi v68_r0 true_74_r0
  let v70_r0 : BitVec 32 := Scalar.extui v69_r0
  let c0_i32_75_r0 : BitVec 32 := 0#32
  let v71_r0 : BitVec 1 := Scalar.cmpi .ne v70_r0 c0_i32_75_r0
  v71_r0

def k0_off15 : Fin 1 → Nat :=
  let c0_i32_28_r0 : BitVec 32 := 0#32
  let c1_i32_29_r0 : BitVec 32 := 1#32
  let v30_r0 : BitVec 32 := Scalar.addi c0_i32_28_r0 c1_i32_29_r0
  let c3_i32_120_r0 : BitVec 32 := 3#32
  let v108_r0 : BitVec 32 := Scalar.remui v30_r0 c3_i32_120_r0
  ![v108_r0.toNat]
def k0_off16 : Fin 4 → Nat :=
  let c0_i32_28_r0 : BitVec 32 := 0#32
  let c1_i32_29_r0 : BitVec 32 := 1#32
  let v30_r0 : BitVec 32 := Scalar.addi c0_i32_28_r0 c1_i32_29_r0
  let c3_i32_120_r0 : BitVec 32 := 3#32
  let v108_r0 : BitVec 32 := Scalar.remui v30_r0 c3_i32_120_r0
  let c0_i32_122_r0 : BitVec 32 := 0#32
  let c0_i32_123_r0 : BitVec 32 := 0#32
  let c0_i32_124_r0 : BitVec 32 := 0#32
  ![v108_r0.toNat, 0, 0, 0]
def k0_off17 : Fin 3 → Nat :=
  let c1024_i32_121_r0 : BitVec 32 := 1024#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c288_i32_r0 : BitVec 32 := 288#32
  let v11_r0 : BitVec 1 := Scalar.cmpi .eq v10_r0 c288_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v109_r0 : BitVec 32 := Scalar.muli c1024_i32_121_r0 v13_r0
  let c0_i32_125_r0 : BitVec 32 := 0#32
  let c0_i32_126_r0 : BitVec 32 := 0#32
  ![v109_r0.toNat, 0, 0]
@[reducible] def k0_t1_loop : Scf.Loop 32 :=
  let c0_i32_85_r0 : BitVec 32 := 0#32
  let c288_i32_86_r0 : BitVec 32 := 288#32
  let v74_r0 : BitVec 32 := Scalar.addi c0_i32_85_r0 c288_i32_86_r0
  let c1_i32_87_r0 : BitVec 32 := 1#32
  ⟨c0_i32_85_r0, v74_r0, c1_i32_87_r0⟩
def k0_off18 (arg10_r0 : BitVec 32) : Fin 1 → Nat :=
  let c3_i32_236_r0 : BitVec 32 := 3#32
  let v353_r0 : BitVec 32 := Scalar.remui arg10_r0 c3_i32_236_r0
  ![v353_r0.toNat]
def k0_cond2 (k0_t1 : Fin k0_t1_loop.trips) (arg22_r0 : BitVec 32) : BitVec 1 :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let true_134_r0 : BitVec 1 := 1#1
  let c1_i32_133_r0 : BitVec 32 := 1#32
  let v121_r0 : BitVec 32 := Scalar.addi v119_r0 c1_i32_133_r0
  let v122_r0 : BitVec 32 := Scalar.select true_134_r0 v121_r0 v119_r0
  let c288_i32_135_r0 : BitVec 32 := 288#32
  let v123_r0 : BitVec 1 := Scalar.cmpi .eq v122_r0 c288_i32_135_r0
  let c0_i32_136_r0 : BitVec 32 := 0#32
  let v124_r0 : BitVec 32 := Scalar.select v123_r0 c0_i32_136_r0 v122_r0
  let c0_i32_137_r0 : BitVec 32 := 0#32
  let v125_r0 : BitVec 32 := Scalar.addi v124_r0 c0_i32_137_r0
  let v131_r0 : BitVec 1 := Scalar.cmpi .ne v120_r0 v125_r0
  let c0_i32_85_r0 : BitVec 32 := 0#32
  let c1_i32_87_r0 : BitVec 32 := 1#32
  let arg9_r0 : BitVec 32 := Scf.iv c0_i32_85_r0 c1_i32_87_r0 k0_t1
  let c286_i32_r0 : BitVec 32 := 286#32
  let v132_r0 : BitVec 1 := Scalar.cmpi .sge arg9_r0 c286_i32_r0
  let true_143_r0 : BitVec 1 := 1#1
  let v133_r0 : BitVec 1 := Scalar.xori v132_r0 true_143_r0
  let v134_r0 : BitVec 1 := Scalar.andi v131_r0 v133_r0
  let true_144_r0 : BitVec 1 := 1#1
  let v135_r0 : BitVec 1 := Scalar.andi v134_r0 true_144_r0
  let v136_r0 : BitVec 32 := Scalar.extui v135_r0
  let c0_i32_145_r0 : BitVec 32 := 0#32
  let v137_r0 : BitVec 1 := Scalar.cmpi .ne v136_r0 c0_i32_145_r0
  v137_r0

def k0_off19 (arg10_r0 : BitVec 32) : Fin 4 → Nat :=
  let c3_i32_236_r0 : BitVec 32 := 3#32
  let v353_r0 : BitVec 32 := Scalar.remui arg10_r0 c3_i32_236_r0
  let c0_i32_238_r0 : BitVec 32 := 0#32
  let c0_i32_239_r0 : BitVec 32 := 0#32
  let c0_i32_240_r0 : BitVec 32 := 0#32
  ![v353_r0.toNat, 0, 0, 0]
def k0_off20 (arg22_r0 : BitVec 32) : Fin 3 → Nat :=
  let c1024_i32_237_r0 : BitVec 32 := 1024#32
  let true_134_r0 : BitVec 1 := 1#1
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c1_i32_133_r0 : BitVec 32 := 1#32
  let v121_r0 : BitVec 32 := Scalar.addi v119_r0 c1_i32_133_r0
  let v122_r0 : BitVec 32 := Scalar.select true_134_r0 v121_r0 v119_r0
  let c288_i32_135_r0 : BitVec 32 := 288#32
  let v123_r0 : BitVec 1 := Scalar.cmpi .eq v122_r0 c288_i32_135_r0
  let c0_i32_136_r0 : BitVec 32 := 0#32
  let v124_r0 : BitVec 32 := Scalar.select v123_r0 c0_i32_136_r0 v122_r0
  let c0_i32_137_r0 : BitVec 32 := 0#32
  let v125_r0 : BitVec 32 := Scalar.addi v124_r0 c0_i32_137_r0
  let v354_r0 : BitVec 32 := Scalar.muli c1024_i32_237_r0 v125_r0
  let c0_i32_241_r0 : BitVec 32 := 0#32
  let c0_i32_242_r0 : BitVec 32 := 0#32
  ![v354_r0.toNat, 0, 0]
def k0_off21 (arg22_r0 : BitVec 32) : Fin 1 → Nat :=
  let c0_i32_122_r0 : BitVec 32 := 0#32
  let v110_r0 : BitVec 32 := Scalar.addi arg22_r0 c0_i32_122_r0
  let v141_r0 : Index := Scalar.indexCast v110_r0
  ![v141_r0.toNat]
def k0_off22 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v143_r0 : Index := Scalar.indexCast v120_r0
  ![v143_r0.toNat]
def k0_off23 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v354_r0 : Index := Scalar.indexCast v120_r0
  ![v354_r0.toNat]
def k0_cond3 (k0_t1 : Fin k0_t1_loop.trips) (v142_r0 : BitVec 32) (v144_r0 : BitVec 32) : BitVec 1 :=
  let v145_r0 : BitVec 1 := Scalar.cmpi .ne v142_r0 v144_r0
  let c0_i32_85_r0 : BitVec 32 := 0#32
  let c1_i32_87_r0 : BitVec 32 := 1#32
  let arg9_r0 : BitVec 32 := Scf.iv c0_i32_85_r0 c1_i32_87_r0 k0_t1
  let c287_i32_148_r0 : BitVec 32 := 287#32
  let v146_r0 : BitVec 1 := Scalar.cmpi .sge arg9_r0 c287_i32_148_r0
  let true_149_r0 : BitVec 1 := 1#1
  let v147_r0 : BitVec 1 := Scalar.xori v146_r0 true_149_r0
  let v148_r0 : BitVec 1 := Scalar.andi v145_r0 v147_r0
  let true_150_r0 : BitVec 1 := 1#1
  let v149_r0 : BitVec 1 := Scalar.andi v148_r0 true_150_r0
  let v150_r0 : BitVec 32 := Scalar.extui v149_r0
  let c0_i32_151_r0 : BitVec 32 := 0#32
  let v151_r0 : BitVec 1 := Scalar.cmpi .ne v150_r0 c0_i32_151_r0
  v151_r0

def k0_off24 (arg12_r0 : BitVec 32) : Fin 1 → Nat :=
  let c2_i32_236_r0 : BitVec 32 := 2#32
  let v353_r0 : BitVec 32 := Scalar.remui arg12_r0 c2_i32_236_r0
  ![v353_r0.toNat]
def k0_off25 (arg12_r0 : BitVec 32) : Fin 4 → Nat :=
  let c2_i32_236_r0 : BitVec 32 := 2#32
  let v353_r0 : BitVec 32 := Scalar.remui arg12_r0 c2_i32_236_r0
  let c0_i32_238_r0 : BitVec 32 := 0#32
  let c0_i32_239_r0 : BitVec 32 := 0#32
  let c0_i32_240_r0 : BitVec 32 := 0#32
  ![v353_r0.toNat, 0, 0, 0]
def k0_off26 (v355_r0 : BitVec 32) : Fin 3 → Nat :=
  let c1_i32_237_r0 : BitVec 32 := 1#32
  let v356_r0 : BitVec 32 := Scalar.muli c1_i32_237_r0 v355_r0
  let c0_i32_241_r0 : BitVec 32 := 0#32
  let c0_i32_242_r0 : BitVec 32 := 0#32
  ![v356_r0.toNat, 0, 0]

def k0_chk7 (k0_t1 : Fin k0_t1_loop.trips) (v142_r0 : BitVec 32) (v144_r0 : BitVec 32) (v355_r0 : BitVec 32) : Prop :=
  (∀ (k0_h3 : k0_cond3 k0_t1 v142_r0 v144_r0 = 1#1), ∀ a, (k0_off26 v355_r0) a + S1x1024x2048.size a ≤ S32x1024x2048.size a) ∧
  (∀ (k0_h3 : k0_cond3 k0_t1 v142_r0 v144_r0 = 1#1), ∀ (hinb : ∀ a, (k0_off26 v355_r0) a + S1x1024x2048.size a ≤ S32x1024x2048.size a), (Rect.unit (s := S32x1024x2048) (k0_off26 v355_r0) S1x1024x2048.size hinb).WholeWords (EltTy.packing .bf16))
theorem k0_off26_inb : ∀ (k0_t1 : Fin k0_t1_loop.trips) (v142_r0 : BitVec 32) (v144_r0 : BitVec 32) (v355_r0 : BitVec 32) (k0_hw7 : k0_chk7 k0_t1 v142_r0 v144_r0 v355_r0), ∀ (k0_h3 : k0_cond3 k0_t1 v142_r0 v144_r0 = 1#1), ∀ a, (k0_off26 v355_r0) a + S1x1024x2048.size a ≤ S32x1024x2048.size a := fun k0_t1 v142_r0 v144_r0 v355_r0 k0_hw7 k0_h3 => k0_hw7.1 k0_h3
theorem k0_off26_wordsbf16 : ∀ (k0_t1 : Fin k0_t1_loop.trips) (v142_r0 : BitVec 32) (v144_r0 : BitVec 32) (v355_r0 : BitVec 32) (k0_hw7 : k0_chk7 k0_t1 v142_r0 v144_r0 v355_r0), ∀ (k0_h3 : k0_cond3 k0_t1 v142_r0 v144_r0 = 1#1), (Rect.unit (s := S32x1024x2048) (k0_off26 v355_r0) S1x1024x2048.size (k0_off26_inb k0_t1 v142_r0 v144_r0 v355_r0 k0_hw7 k0_h3)).WholeWords (EltTy.packing .bf16) := fun k0_t1 v142_r0 v144_r0 v355_r0 k0_hw7 k0_h3 => k0_hw7.2 k0_h3 (k0_off26_inb k0_t1 v142_r0 v144_r0 v355_r0 k0_hw7 k0_h3)

def k0_chk6 (k0_t1 : Fin k0_t1_loop.trips) (arg12_r0 : BitVec 32) (arg22_r0 : BitVec 32) (v142_r0 : BitVec 32) (v144_r0 : BitVec 32) : Prop :=
  (∀ (k0_h3 : k0_cond3 k0_t1 v142_r0 v144_r0 = 1#1), ∀ a, (k0_off23 arg22_r0) a + S1.size a ≤ S288.size a) ∧
  (∀ (k0_h3 : k0_cond3 k0_t1 v142_r0 v144_r0 = 1#1), ∀ a, (k0_off24 arg12_r0) a + S1.size a ≤ S2.size a) ∧
  (∀ (k0_h3 : k0_cond3 k0_t1 v142_r0 v144_r0 = 1#1), ∀ a, (k0_off25 arg12_r0) a + S1x1x1024x2048.size a ≤ S2x1x1024x2048.size a) ∧
  (∀ (k0_h3 : k0_cond3 k0_t1 v142_r0 v144_r0 = 1#1), ∀ (hinb : ∀ a, (k0_off25 arg12_r0) a + S1x1x1024x2048.size a ≤ S2x1x1024x2048.size a), (Rect.unit (s := S2x1x1024x2048) (k0_off25 arg12_r0) S1x1x1024x2048.size hinb).WholeWords (EltTy.packing .bf16))
theorem k0_off23_inb : ∀ (k0_t1 : Fin k0_t1_loop.trips) (arg12_r0 : BitVec 32) (arg22_r0 : BitVec 32) (v142_r0 : BitVec 32) (v144_r0 : BitVec 32) (k0_hw6 : k0_chk6 k0_t1 arg12_r0 arg22_r0 v142_r0 v144_r0), ∀ (k0_h3 : k0_cond3 k0_t1 v142_r0 v144_r0 = 1#1), ∀ a, (k0_off23 arg22_r0) a + S1.size a ≤ S288.size a := fun k0_t1 arg12_r0 arg22_r0 v142_r0 v144_r0 k0_hw6 k0_h3 => k0_hw6.1 k0_h3
theorem k0_off24_inb : ∀ (k0_t1 : Fin k0_t1_loop.trips) (arg12_r0 : BitVec 32) (arg22_r0 : BitVec 32) (v142_r0 : BitVec 32) (v144_r0 : BitVec 32) (k0_hw6 : k0_chk6 k0_t1 arg12_r0 arg22_r0 v142_r0 v144_r0), ∀ (k0_h3 : k0_cond3 k0_t1 v142_r0 v144_r0 = 1#1), ∀ a, (k0_off24 arg12_r0) a + S1.size a ≤ S2.size a := fun k0_t1 arg12_r0 arg22_r0 v142_r0 v144_r0 k0_hw6 k0_h3 => k0_hw6.2.1 k0_h3
theorem k0_off25_inb : ∀ (k0_t1 : Fin k0_t1_loop.trips) (arg12_r0 : BitVec 32) (arg22_r0 : BitVec 32) (v142_r0 : BitVec 32) (v144_r0 : BitVec 32) (k0_hw6 : k0_chk6 k0_t1 arg12_r0 arg22_r0 v142_r0 v144_r0), ∀ (k0_h3 : k0_cond3 k0_t1 v142_r0 v144_r0 = 1#1), ∀ a, (k0_off25 arg12_r0) a + S1x1x1024x2048.size a ≤ S2x1x1024x2048.size a := fun k0_t1 arg12_r0 arg22_r0 v142_r0 v144_r0 k0_hw6 k0_h3 => k0_hw6.2.2.1 k0_h3
theorem k0_off25_wordsbf16 : ∀ (k0_t1 : Fin k0_t1_loop.trips) (arg12_r0 : BitVec 32) (arg22_r0 : BitVec 32) (v142_r0 : BitVec 32) (v144_r0 : BitVec 32) (k0_hw6 : k0_chk6 k0_t1 arg12_r0 arg22_r0 v142_r0 v144_r0), ∀ (k0_h3 : k0_cond3 k0_t1 v142_r0 v144_r0 = 1#1), (Rect.unit (s := S2x1x1024x2048) (k0_off25 arg12_r0) S1x1x1024x2048.size (k0_off25_inb k0_t1 arg12_r0 arg22_r0 v142_r0 v144_r0 k0_hw6 k0_h3)).WholeWords (EltTy.packing .bf16) := fun k0_t1 arg12_r0 arg22_r0 v142_r0 v144_r0 k0_hw6 k0_h3 => k0_hw6.2.2.2 k0_h3 (k0_off25_inb k0_t1 arg12_r0 arg22_r0 v142_r0 v144_r0 k0_hw6 k0_h3)

def k0_off27 (arg22_r0 : BitVec 32) : Fin 1 → Nat :=
  let c0_i32_122_r0 : BitVec 32 := 0#32
  let v110_r0 : BitVec 32 := Scalar.addi arg22_r0 c0_i32_122_r0
  let v155_r0 : Index := Scalar.indexCast v110_r0
  ![v155_r0.toNat]
def k0_off28 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v157_r0 : Index := Scalar.indexCast v120_r0
  ![v157_r0.toNat]
def k0_off29 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v354_r0 : Index := Scalar.indexCast v120_r0
  ![v354_r0.toNat]
def k0_cond4 (k0_t1 : Fin k0_t1_loop.trips) (v156_r0 : BitVec 32) (v158_r0 : BitVec 32) : BitVec 1 :=
  let v159_r0 : BitVec 1 := Scalar.cmpi .ne v156_r0 v158_r0
  let c0_i32_85_r0 : BitVec 32 := 0#32
  let c1_i32_87_r0 : BitVec 32 := 1#32
  let arg9_r0 : BitVec 32 := Scf.iv c0_i32_85_r0 c1_i32_87_r0 k0_t1
  let c287_i32_154_r0 : BitVec 32 := 287#32
  let v160_r0 : BitVec 1 := Scalar.cmpi .sge arg9_r0 c287_i32_154_r0
  let true_155_r0 : BitVec 1 := 1#1
  let v161_r0 : BitVec 1 := Scalar.xori v160_r0 true_155_r0
  let v162_r0 : BitVec 1 := Scalar.andi v159_r0 v161_r0
  let true_156_r0 : BitVec 1 := 1#1
  let v163_r0 : BitVec 1 := Scalar.andi v162_r0 true_156_r0
  let v164_r0 : BitVec 32 := Scalar.extui v163_r0
  let c0_i32_157_r0 : BitVec 32 := 0#32
  let v165_r0 : BitVec 1 := Scalar.cmpi .ne v164_r0 c0_i32_157_r0
  v165_r0

def k0_off30 (arg14_r0 : BitVec 32) : Fin 1 → Nat :=
  let c2_i32_236_r0 : BitVec 32 := 2#32
  let v353_r0 : BitVec 32 := Scalar.remui arg14_r0 c2_i32_236_r0
  ![v353_r0.toNat]
def k0_off31 (arg14_r0 : BitVec 32) : Fin 4 → Nat :=
  let c2_i32_236_r0 : BitVec 32 := 2#32
  let v353_r0 : BitVec 32 := Scalar.remui arg14_r0 c2_i32_236_r0
  let c0_i32_238_r0 : BitVec 32 := 0#32
  let c0_i32_239_r0 : BitVec 32 := 0#32
  let c0_i32_240_r0 : BitVec 32 := 0#32
  ![v353_r0.toNat, 0, 0, 0]

def k0_chk8 (k0_t1 : Fin k0_t1_loop.trips) (arg14_r0 : BitVec 32) (arg22_r0 : BitVec 32) (v156_r0 : BitVec 32) (v158_r0 : BitVec 32) : Prop :=
  (∀ (k0_h4 : k0_cond4 k0_t1 v156_r0 v158_r0 = 1#1), ∀ a, (k0_off29 arg22_r0) a + S1.size a ≤ S288.size a) ∧
  (∀ (k0_h4 : k0_cond4 k0_t1 v156_r0 v158_r0 = 1#1), ∀ a, (k0_off30 arg14_r0) a + S1.size a ≤ S2.size a) ∧
  (∀ (k0_h4 : k0_cond4 k0_t1 v156_r0 v158_r0 = 1#1), ∀ a, (k0_off31 arg14_r0) a + S1x1x1x2048.size a ≤ S2x1x1x2048.size a)
theorem k0_off29_inb : ∀ (k0_t1 : Fin k0_t1_loop.trips) (arg14_r0 : BitVec 32) (arg22_r0 : BitVec 32) (v156_r0 : BitVec 32) (v158_r0 : BitVec 32) (k0_hw8 : k0_chk8 k0_t1 arg14_r0 arg22_r0 v156_r0 v158_r0), ∀ (k0_h4 : k0_cond4 k0_t1 v156_r0 v158_r0 = 1#1), ∀ a, (k0_off29 arg22_r0) a + S1.size a ≤ S288.size a := fun k0_t1 arg14_r0 arg22_r0 v156_r0 v158_r0 k0_hw8 k0_h4 => k0_hw8.1 k0_h4
theorem k0_off30_inb : ∀ (k0_t1 : Fin k0_t1_loop.trips) (arg14_r0 : BitVec 32) (arg22_r0 : BitVec 32) (v156_r0 : BitVec 32) (v158_r0 : BitVec 32) (k0_hw8 : k0_chk8 k0_t1 arg14_r0 arg22_r0 v156_r0 v158_r0), ∀ (k0_h4 : k0_cond4 k0_t1 v156_r0 v158_r0 = 1#1), ∀ a, (k0_off30 arg14_r0) a + S1.size a ≤ S2.size a := fun k0_t1 arg14_r0 arg22_r0 v156_r0 v158_r0 k0_hw8 k0_h4 => k0_hw8.2.1 k0_h4
theorem k0_off31_inb : ∀ (k0_t1 : Fin k0_t1_loop.trips) (arg14_r0 : BitVec 32) (arg22_r0 : BitVec 32) (v156_r0 : BitVec 32) (v158_r0 : BitVec 32) (k0_hw8 : k0_chk8 k0_t1 arg14_r0 arg22_r0 v156_r0 v158_r0), ∀ (k0_h4 : k0_cond4 k0_t1 v156_r0 v158_r0 = 1#1), ∀ a, (k0_off31 arg14_r0) a + S1x1x1x2048.size a ≤ S2x1x1x2048.size a := fun k0_t1 arg14_r0 arg22_r0 v156_r0 v158_r0 k0_hw8 k0_h4 => k0_hw8.2.2 k0_h4

def k0_off32 (v355_r0 : BitVec 32) : Fin 3 → Nat :=
  let c1_i32_237_r0 : BitVec 32 := 1#32
  let v356_r0 : BitVec 32 := Scalar.muli c1_i32_237_r0 v355_r0
  let c0_i32_241_r0 : BitVec 32 := 0#32
  let c0_i32_242_r0 : BitVec 32 := 0#32
  ![v356_r0.toNat, 0, 0]

def k0_chk9 (k0_t1 : Fin k0_t1_loop.trips) (v156_r0 : BitVec 32) (v158_r0 : BitVec 32) (v355_r0 : BitVec 32) : Prop :=
  (∀ (k0_h4 : k0_cond4 k0_t1 v156_r0 v158_r0 = 1#1), ∀ a, (k0_off32 v355_r0) a + S1x1x2048.size a ≤ S32x1x2048.size a)
theorem k0_off32_inb : ∀ (k0_t1 : Fin k0_t1_loop.trips) (v156_r0 : BitVec 32) (v158_r0 : BitVec 32) (v355_r0 : BitVec 32) (k0_hw9 : k0_chk9 k0_t1 v156_r0 v158_r0 v355_r0), ∀ (k0_h4 : k0_cond4 k0_t1 v156_r0 v158_r0 = 1#1), ∀ a, (k0_off32 v355_r0) a + S1x1x2048.size a ≤ S32x1x2048.size a := fun k0_t1 v156_r0 v158_r0 v355_r0 k0_hw9 k0_h4 => k0_hw9 k0_h4

def k0_off33 (arg22_r0 : BitVec 32) : Fin 1 → Nat :=
  let c0_i32_122_r0 : BitVec 32 := 0#32
  let v110_r0 : BitVec 32 := Scalar.addi arg22_r0 c0_i32_122_r0
  let v169_r0 : Index := Scalar.indexCast v110_r0
  ![v169_r0.toNat]
def k0_off34 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v171_r0 : Index := Scalar.indexCast v120_r0
  ![v171_r0.toNat]
def k0_off35 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v354_r0 : Index := Scalar.indexCast v120_r0
  ![v354_r0.toNat]
def k0_cond5 (k0_t1 : Fin k0_t1_loop.trips) (v170_r0 : BitVec 32) (v172_r0 : BitVec 32) : BitVec 1 :=
  let v173_r0 : BitVec 1 := Scalar.cmpi .ne v170_r0 v172_r0
  let c0_i32_85_r0 : BitVec 32 := 0#32
  let c1_i32_87_r0 : BitVec 32 := 1#32
  let arg9_r0 : BitVec 32 := Scf.iv c0_i32_85_r0 c1_i32_87_r0 k0_t1
  let c287_i32_160_r0 : BitVec 32 := 287#32
  let v174_r0 : BitVec 1 := Scalar.cmpi .sge arg9_r0 c287_i32_160_r0
  let true_161_r0 : BitVec 1 := 1#1
  let v175_r0 : BitVec 1 := Scalar.xori v174_r0 true_161_r0
  let v176_r0 : BitVec 1 := Scalar.andi v173_r0 v175_r0
  let true_162_r0 : BitVec 1 := 1#1
  let v177_r0 : BitVec 1 := Scalar.andi v176_r0 true_162_r0
  let v178_r0 : BitVec 32 := Scalar.extui v177_r0
  let c0_i32_163_r0 : BitVec 32 := 0#32
  let v179_r0 : BitVec 1 := Scalar.cmpi .ne v178_r0 c0_i32_163_r0
  v179_r0

def k0_off36 (arg16_r0 : BitVec 32) : Fin 1 → Nat :=
  let c2_i32_236_r0 : BitVec 32 := 2#32
  let v353_r0 : BitVec 32 := Scalar.remui arg16_r0 c2_i32_236_r0
  ![v353_r0.toNat]
def k0_off37 (arg16_r0 : BitVec 32) : Fin 4 → Nat :=
  let c2_i32_236_r0 : BitVec 32 := 2#32
  let v353_r0 : BitVec 32 := Scalar.remui arg16_r0 c2_i32_236_r0
  let c0_i32_238_r0 : BitVec 32 := 0#32
  let c0_i32_239_r0 : BitVec 32 := 0#32
  let c0_i32_240_r0 : BitVec 32 := 0#32
  ![v353_r0.toNat, 0, 0, 0]

def k0_chk10 (k0_t1 : Fin k0_t1_loop.trips) (arg16_r0 : BitVec 32) (arg22_r0 : BitVec 32) (v170_r0 : BitVec 32) (v172_r0 : BitVec 32) : Prop :=
  (∀ (k0_h5 : k0_cond5 k0_t1 v170_r0 v172_r0 = 1#1), ∀ a, (k0_off35 arg22_r0) a + S1.size a ≤ S288.size a) ∧
  (∀ (k0_h5 : k0_cond5 k0_t1 v170_r0 v172_r0 = 1#1), ∀ a, (k0_off36 arg16_r0) a + S1.size a ≤ S2.size a) ∧
  (∀ (k0_h5 : k0_cond5 k0_t1 v170_r0 v172_r0 = 1#1), ∀ a, (k0_off37 arg16_r0) a + S1x1x1024x1024.size a ≤ S2x1x1024x1024.size a)
theorem k0_off35_inb : ∀ (k0_t1 : Fin k0_t1_loop.trips) (arg16_r0 : BitVec 32) (arg22_r0 : BitVec 32) (v170_r0 : BitVec 32) (v172_r0 : BitVec 32) (k0_hw10 : k0_chk10 k0_t1 arg16_r0 arg22_r0 v170_r0 v172_r0), ∀ (k0_h5 : k0_cond5 k0_t1 v170_r0 v172_r0 = 1#1), ∀ a, (k0_off35 arg22_r0) a + S1.size a ≤ S288.size a := fun k0_t1 arg16_r0 arg22_r0 v170_r0 v172_r0 k0_hw10 k0_h5 => k0_hw10.1 k0_h5
theorem k0_off36_inb : ∀ (k0_t1 : Fin k0_t1_loop.trips) (arg16_r0 : BitVec 32) (arg22_r0 : BitVec 32) (v170_r0 : BitVec 32) (v172_r0 : BitVec 32) (k0_hw10 : k0_chk10 k0_t1 arg16_r0 arg22_r0 v170_r0 v172_r0), ∀ (k0_h5 : k0_cond5 k0_t1 v170_r0 v172_r0 = 1#1), ∀ a, (k0_off36 arg16_r0) a + S1.size a ≤ S2.size a := fun k0_t1 arg16_r0 arg22_r0 v170_r0 v172_r0 k0_hw10 k0_h5 => k0_hw10.2.1 k0_h5
theorem k0_off37_inb : ∀ (k0_t1 : Fin k0_t1_loop.trips) (arg16_r0 : BitVec 32) (arg22_r0 : BitVec 32) (v170_r0 : BitVec 32) (v172_r0 : BitVec 32) (k0_hw10 : k0_chk10 k0_t1 arg16_r0 arg22_r0 v170_r0 v172_r0), ∀ (k0_h5 : k0_cond5 k0_t1 v170_r0 v172_r0 = 1#1), ∀ a, (k0_off37 arg16_r0) a + S1x1x1024x1024.size a ≤ S2x1x1024x1024.size a := fun k0_t1 arg16_r0 arg22_r0 v170_r0 v172_r0 k0_hw10 k0_h5 => k0_hw10.2.2 k0_h5

def k0_off38 (v355_r0 : BitVec 32) : Fin 3 → Nat :=
  let c1_i32_237_r0 : BitVec 32 := 1#32
  let v356_r0 : BitVec 32 := Scalar.muli c1_i32_237_r0 v355_r0
  let c0_i32_241_r0 : BitVec 32 := 0#32
  let c0_i32_242_r0 : BitVec 32 := 0#32
  ![v356_r0.toNat, 0, 0]

def k0_chk11 (k0_t1 : Fin k0_t1_loop.trips) (v170_r0 : BitVec 32) (v172_r0 : BitVec 32) (v355_r0 : BitVec 32) : Prop :=
  (∀ (k0_h5 : k0_cond5 k0_t1 v170_r0 v172_r0 = 1#1), ∀ a, (k0_off38 v355_r0) a + S1x1024x1024.size a ≤ S32x1024x1024.size a)
theorem k0_off38_inb : ∀ (k0_t1 : Fin k0_t1_loop.trips) (v170_r0 : BitVec 32) (v172_r0 : BitVec 32) (v355_r0 : BitVec 32) (k0_hw11 : k0_chk11 k0_t1 v170_r0 v172_r0 v355_r0), ∀ (k0_h5 : k0_cond5 k0_t1 v170_r0 v172_r0 = 1#1), ∀ a, (k0_off38 v355_r0) a + S1x1024x1024.size a ≤ S32x1024x1024.size a := fun k0_t1 v170_r0 v172_r0 v355_r0 k0_hw11 k0_h5 => k0_hw11 k0_h5

def k0_off39 (arg22_r0 : BitVec 32) : Fin 1 → Nat :=
  let c0_i32_122_r0 : BitVec 32 := 0#32
  let v110_r0 : BitVec 32 := Scalar.addi arg22_r0 c0_i32_122_r0
  let v183_r0 : Index := Scalar.indexCast v110_r0
  ![v183_r0.toNat]
def k0_off40 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v185_r0 : Index := Scalar.indexCast v120_r0
  ![v185_r0.toNat]
def k0_off41 (arg22_r0 : BitVec 32) : Fin 1 → Nat :=
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v354_r0 : Index := Scalar.indexCast v120_r0
  ![v354_r0.toNat]
def k0_cond6 (k0_t1 : Fin k0_t1_loop.trips) (v184_r0 : BitVec 32) (v186_r0 : BitVec 32) : BitVec 1 :=
  let v187_r0 : BitVec 1 := Scalar.cmpi .ne v184_r0 v186_r0
  let c0_i32_85_r0 : BitVec 32 := 0#32
  let c1_i32_87_r0 : BitVec 32 := 1#32
  let arg9_r0 : BitVec 32 := Scf.iv c0_i32_85_r0 c1_i32_87_r0 k0_t1
  let c287_i32_166_r0 : BitVec 32 := 287#32
  let v188_r0 : BitVec 1 := Scalar.cmpi .sge arg9_r0 c287_i32_166_r0
  let true_167_r0 : BitVec 1 := 1#1
  let v189_r0 : BitVec 1 := Scalar.xori v188_r0 true_167_r0
  let v190_r0 : BitVec 1 := Scalar.andi v187_r0 v189_r0
  let true_168_r0 : BitVec 1 := 1#1
  let v191_r0 : BitVec 1 := Scalar.andi v190_r0 true_168_r0
  let v192_r0 : BitVec 32 := Scalar.extui v191_r0
  let c0_i32_169_r0 : BitVec 32 := 0#32
  let v193_r0 : BitVec 1 := Scalar.cmpi .ne v192_r0 c0_i32_169_r0
  v193_r0

def k0_off42 (arg18_r0 : BitVec 32) : Fin 1 → Nat :=
  let c2_i32_236_r0 : BitVec 32 := 2#32
  let v353_r0 : BitVec 32 := Scalar.remui arg18_r0 c2_i32_236_r0
  ![v353_r0.toNat]
def k0_off43 (arg18_r0 : BitVec 32) : Fin 4 → Nat :=
  let c2_i32_236_r0 : BitVec 32 := 2#32
  let v353_r0 : BitVec 32 := Scalar.remui arg18_r0 c2_i32_236_r0
  let c0_i32_238_r0 : BitVec 32 := 0#32
  let c0_i32_239_r0 : BitVec 32 := 0#32
  let c0_i32_240_r0 : BitVec 32 := 0#32
  ![v353_r0.toNat, 0, 0, 0]

def k0_chk12 (k0_t1 : Fin k0_t1_loop.trips) (arg18_r0 : BitVec 32) (arg22_r0 : BitVec 32) (v184_r0 : BitVec 32) (v186_r0 : BitVec 32) : Prop :=
  (∀ (k0_h6 : k0_cond6 k0_t1 v184_r0 v186_r0 = 1#1), ∀ a, (k0_off41 arg22_r0) a + S1.size a ≤ S288.size a) ∧
  (∀ (k0_h6 : k0_cond6 k0_t1 v184_r0 v186_r0 = 1#1), ∀ a, (k0_off42 arg18_r0) a + S1.size a ≤ S2.size a) ∧
  (∀ (k0_h6 : k0_cond6 k0_t1 v184_r0 v186_r0 = 1#1), ∀ a, (k0_off43 arg18_r0) a + S1x1x1x1024.size a ≤ S2x1x1x1024.size a)
theorem k0_off41_inb : ∀ (k0_t1 : Fin k0_t1_loop.trips) (arg18_r0 : BitVec 32) (arg22_r0 : BitVec 32) (v184_r0 : BitVec 32) (v186_r0 : BitVec 32) (k0_hw12 : k0_chk12 k0_t1 arg18_r0 arg22_r0 v184_r0 v186_r0), ∀ (k0_h6 : k0_cond6 k0_t1 v184_r0 v186_r0 = 1#1), ∀ a, (k0_off41 arg22_r0) a + S1.size a ≤ S288.size a := fun k0_t1 arg18_r0 arg22_r0 v184_r0 v186_r0 k0_hw12 k0_h6 => k0_hw12.1 k0_h6
theorem k0_off42_inb : ∀ (k0_t1 : Fin k0_t1_loop.trips) (arg18_r0 : BitVec 32) (arg22_r0 : BitVec 32) (v184_r0 : BitVec 32) (v186_r0 : BitVec 32) (k0_hw12 : k0_chk12 k0_t1 arg18_r0 arg22_r0 v184_r0 v186_r0), ∀ (k0_h6 : k0_cond6 k0_t1 v184_r0 v186_r0 = 1#1), ∀ a, (k0_off42 arg18_r0) a + S1.size a ≤ S2.size a := fun k0_t1 arg18_r0 arg22_r0 v184_r0 v186_r0 k0_hw12 k0_h6 => k0_hw12.2.1 k0_h6
theorem k0_off43_inb : ∀ (k0_t1 : Fin k0_t1_loop.trips) (arg18_r0 : BitVec 32) (arg22_r0 : BitVec 32) (v184_r0 : BitVec 32) (v186_r0 : BitVec 32) (k0_hw12 : k0_chk12 k0_t1 arg18_r0 arg22_r0 v184_r0 v186_r0), ∀ (k0_h6 : k0_cond6 k0_t1 v184_r0 v186_r0 = 1#1), ∀ a, (k0_off43 arg18_r0) a + S1x1x1x1024.size a ≤ S2x1x1x1024.size a := fun k0_t1 arg18_r0 arg22_r0 v184_r0 v186_r0 k0_hw12 k0_h6 => k0_hw12.2.2 k0_h6

def k0_off44 (v355_r0 : BitVec 32) : Fin 3 → Nat :=
  let c1_i32_237_r0 : BitVec 32 := 1#32
  let v356_r0 : BitVec 32 := Scalar.muli c1_i32_237_r0 v355_r0
  let c0_i32_241_r0 : BitVec 32 := 0#32
  let c0_i32_242_r0 : BitVec 32 := 0#32
  ![v356_r0.toNat, 0, 0]

def k0_chk13 (k0_t1 : Fin k0_t1_loop.trips) (v184_r0 : BitVec 32) (v186_r0 : BitVec 32) (v355_r0 : BitVec 32) : Prop :=
  (∀ (k0_h6 : k0_cond6 k0_t1 v184_r0 v186_r0 = 1#1), ∀ a, (k0_off44 v355_r0) a + S1x1x1024.size a ≤ S32x1x1024.size a)
theorem k0_off44_inb : ∀ (k0_t1 : Fin k0_t1_loop.trips) (v184_r0 : BitVec 32) (v186_r0 : BitVec 32) (v355_r0 : BitVec 32) (k0_hw13 : k0_chk13 k0_t1 v184_r0 v186_r0 v355_r0), ∀ (k0_h6 : k0_cond6 k0_t1 v184_r0 v186_r0 = 1#1), ∀ a, (k0_off44 v355_r0) a + S1x1x1024.size a ≤ S32x1x1024.size a := fun k0_t1 v184_r0 v186_r0 v355_r0 k0_hw13 k0_h6 => k0_hw13 k0_h6

def k0_off45 (arg11_r0 : BitVec 32) : Fin 1 → Nat :=
  let c3_i32_237_r0 : BitVec 32 := 3#32
  let v354_r0 : BitVec 32 := Scalar.remui arg11_r0 c3_i32_237_r0
  ![v354_r0.toNat]
def k0_cond7 (k0_t1 : Fin k0_t1_loop.trips) (arg22_r0 : BitVec 32) : BitVec 1 :=
  let c0_i32_122_r0 : BitVec 32 := 0#32
  let v110_r0 : BitVec 32 := Scalar.addi arg22_r0 c0_i32_122_r0
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v201_r0 : BitVec 1 := Scalar.cmpi .ne v110_r0 v115_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let v202_r0 : BitVec 1 := Scalar.ori v201_r0 v108_r0
  let c0_i32_174_r0 : BitVec 32 := 0#32
  let v203_r0 : BitVec 1 := Scalar.cmpi .sge arg9_r0 c0_i32_174_r0
  let v204_r0 : BitVec 1 := Scalar.andi v202_r0 v203_r0
  let v205_r0 : BitVec 32 := Scalar.extui v204_r0
  let c0_i32_175_r0 : BitVec 32 := 0#32
  let v206_r0 : BitVec 1 := Scalar.cmpi .ne v205_r0 c0_i32_175_r0
  v206_r0

def k0_off46 (arg11_r0 : BitVec 32) : Fin 4 → Nat :=
  let c3_i32_237_r0 : BitVec 32 := 3#32
  let v354_r0 : BitVec 32 := Scalar.remui arg11_r0 c3_i32_237_r0
  let c0_i32_238_r0 : BitVec 32 := 0#32
  let c0_i32_239_r0 : BitVec 32 := 0#32
  let c0_i32_240_r0 : BitVec 32 := 0#32
  ![v354_r0.toNat, 0, 0, 0]
def k0_off47 (arg22_r0 : BitVec 32) : Fin 3 → Nat :=
  let c1024_i32_236_r0 : BitVec 32 := 1024#32
  let c0_i32_122_r0 : BitVec 32 := 0#32
  let v110_r0 : BitVec 32 := Scalar.addi arg22_r0 c0_i32_122_r0
  let v353_r0 : BitVec 32 := Scalar.muli c1024_i32_236_r0 v110_r0
  let c0_i32_241_r0 : BitVec 32 := 0#32
  let c0_i32_242_r0 : BitVec 32 := 0#32
  ![v353_r0.toNat, 0, 0]
def k0_off48 (arg22_r0 : BitVec 32) : Fin 1 → Nat :=
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v207_r0 : Index := Scalar.indexCast v115_r0
  ![v207_r0.toNat]
def k0_off49 (arg22_r0 : BitVec 32) : Fin 1 → Nat :=
  let c0_i32_122_r0 : BitVec 32 := 0#32
  let v110_r0 : BitVec 32 := Scalar.addi arg22_r0 c0_i32_122_r0
  let v353_r0 : Index := Scalar.indexCast v110_r0
  ![v353_r0.toNat]
def k0_cond8 (k0_t1 : Fin k0_t1_loop.trips) (v142_r0 : BitVec 32) (v208_r0 : BitVec 32) : BitVec 1 :=
  let v209_r0 : BitVec 1 := Scalar.cmpi .ne v142_r0 v208_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let v210_r0 : BitVec 1 := Scalar.ori v209_r0 v108_r0
  let c0_i32_176_r0 : BitVec 32 := 0#32
  let v211_r0 : BitVec 1 := Scalar.cmpi .sge arg9_r0 c0_i32_176_r0
  let v212_r0 : BitVec 1 := Scalar.andi v210_r0 v211_r0
  let v213_r0 : BitVec 32 := Scalar.extui v212_r0
  let c0_i32_177_r0 : BitVec 32 := 0#32
  let v214_r0 : BitVec 1 := Scalar.cmpi .ne v213_r0 c0_i32_177_r0
  v214_r0

def k0_off50 (arg13_r0 : BitVec 32) : Fin 1 → Nat :=
  let c2_i32_237_r0 : BitVec 32 := 2#32
  let v356_r0 : BitVec 32 := Scalar.remui arg13_r0 c2_i32_237_r0
  ![v356_r0.toNat]
def k0_off51 (arg13_r0 : BitVec 32) : Fin 4 → Nat :=
  let c2_i32_237_r0 : BitVec 32 := 2#32
  let v356_r0 : BitVec 32 := Scalar.remui arg13_r0 c2_i32_237_r0
  let c0_i32_238_r0 : BitVec 32 := 0#32
  let c0_i32_239_r0 : BitVec 32 := 0#32
  let c0_i32_240_r0 : BitVec 32 := 0#32
  ![v356_r0.toNat, 0, 0, 0]
def k0_off52 (v354_r0 : BitVec 32) : Fin 3 → Nat :=
  let c1_i32_236_r0 : BitVec 32 := 1#32
  let v355_r0 : BitVec 32 := Scalar.muli c1_i32_236_r0 v354_r0
  let c0_i32_241_r0 : BitVec 32 := 0#32
  let c0_i32_242_r0 : BitVec 32 := 0#32
  ![v355_r0.toNat, 0, 0]

def k0_chk15 (k0_t1 : Fin k0_t1_loop.trips) (v142_r0 : BitVec 32) (v208_r0 : BitVec 32) (v354_r0 : BitVec 32) : Prop :=
  (∀ (k0_h8 : k0_cond8 k0_t1 v142_r0 v208_r0 = 1#1), ∀ a, (k0_off52 v354_r0) a + S1x1024x2048.size a ≤ S32x1024x2048.size a) ∧
  (∀ (k0_h8 : k0_cond8 k0_t1 v142_r0 v208_r0 = 1#1), ∀ (hinb : ∀ a, (k0_off52 v354_r0) a + S1x1024x2048.size a ≤ S32x1024x2048.size a), (Rect.unit (s := S32x1024x2048) (k0_off52 v354_r0) S1x1024x2048.size hinb).WholeWords (EltTy.packing .bf16))
theorem k0_off52_inb : ∀ (k0_t1 : Fin k0_t1_loop.trips) (v142_r0 : BitVec 32) (v208_r0 : BitVec 32) (v354_r0 : BitVec 32) (k0_hw15 : k0_chk15 k0_t1 v142_r0 v208_r0 v354_r0), ∀ (k0_h8 : k0_cond8 k0_t1 v142_r0 v208_r0 = 1#1), ∀ a, (k0_off52 v354_r0) a + S1x1024x2048.size a ≤ S32x1024x2048.size a := fun k0_t1 v142_r0 v208_r0 v354_r0 k0_hw15 k0_h8 => k0_hw15.1 k0_h8
theorem k0_off52_wordsbf16 : ∀ (k0_t1 : Fin k0_t1_loop.trips) (v142_r0 : BitVec 32) (v208_r0 : BitVec 32) (v354_r0 : BitVec 32) (k0_hw15 : k0_chk15 k0_t1 v142_r0 v208_r0 v354_r0), ∀ (k0_h8 : k0_cond8 k0_t1 v142_r0 v208_r0 = 1#1), (Rect.unit (s := S32x1024x2048) (k0_off52 v354_r0) S1x1024x2048.size (k0_off52_inb k0_t1 v142_r0 v208_r0 v354_r0 k0_hw15 k0_h8)).WholeWords (EltTy.packing .bf16) := fun k0_t1 v142_r0 v208_r0 v354_r0 k0_hw15 k0_h8 => k0_hw15.2 k0_h8 (k0_off52_inb k0_t1 v142_r0 v208_r0 v354_r0 k0_hw15 k0_h8)

def k0_chk14 (k0_t1 : Fin k0_t1_loop.trips) (arg13_r0 : BitVec 32) (arg22_r0 : BitVec 32) (v142_r0 : BitVec 32) (v208_r0 : BitVec 32) : Prop :=
  (∀ (k0_h8 : k0_cond8 k0_t1 v142_r0 v208_r0 = 1#1), ∀ a, (k0_off49 arg22_r0) a + S1.size a ≤ S288.size a) ∧
  (∀ (k0_h8 : k0_cond8 k0_t1 v142_r0 v208_r0 = 1#1), ∀ a, (k0_off50 arg13_r0) a + S1.size a ≤ S2.size a) ∧
  (∀ (k0_h8 : k0_cond8 k0_t1 v142_r0 v208_r0 = 1#1), ∀ a, (k0_off51 arg13_r0) a + S1x1x1024x2048.size a ≤ S2x1x1024x2048.size a) ∧
  (∀ (k0_h8 : k0_cond8 k0_t1 v142_r0 v208_r0 = 1#1), ∀ (hinb : ∀ a, (k0_off51 arg13_r0) a + S1x1x1024x2048.size a ≤ S2x1x1024x2048.size a), (Rect.unit (s := S2x1x1024x2048) (k0_off51 arg13_r0) S1x1x1024x2048.size hinb).WholeWords (EltTy.packing .bf16))
theorem k0_off49_inb : ∀ (k0_t1 : Fin k0_t1_loop.trips) (arg13_r0 : BitVec 32) (arg22_r0 : BitVec 32) (v142_r0 : BitVec 32) (v208_r0 : BitVec 32) (k0_hw14 : k0_chk14 k0_t1 arg13_r0 arg22_r0 v142_r0 v208_r0), ∀ (k0_h8 : k0_cond8 k0_t1 v142_r0 v208_r0 = 1#1), ∀ a, (k0_off49 arg22_r0) a + S1.size a ≤ S288.size a := fun k0_t1 arg13_r0 arg22_r0 v142_r0 v208_r0 k0_hw14 k0_h8 => k0_hw14.1 k0_h8
theorem k0_off50_inb : ∀ (k0_t1 : Fin k0_t1_loop.trips) (arg13_r0 : BitVec 32) (arg22_r0 : BitVec 32) (v142_r0 : BitVec 32) (v208_r0 : BitVec 32) (k0_hw14 : k0_chk14 k0_t1 arg13_r0 arg22_r0 v142_r0 v208_r0), ∀ (k0_h8 : k0_cond8 k0_t1 v142_r0 v208_r0 = 1#1), ∀ a, (k0_off50 arg13_r0) a + S1.size a ≤ S2.size a := fun k0_t1 arg13_r0 arg22_r0 v142_r0 v208_r0 k0_hw14 k0_h8 => k0_hw14.2.1 k0_h8
theorem k0_off51_inb : ∀ (k0_t1 : Fin k0_t1_loop.trips) (arg13_r0 : BitVec 32) (arg22_r0 : BitVec 32) (v142_r0 : BitVec 32) (v208_r0 : BitVec 32) (k0_hw14 : k0_chk14 k0_t1 arg13_r0 arg22_r0 v142_r0 v208_r0), ∀ (k0_h8 : k0_cond8 k0_t1 v142_r0 v208_r0 = 1#1), ∀ a, (k0_off51 arg13_r0) a + S1x1x1024x2048.size a ≤ S2x1x1024x2048.size a := fun k0_t1 arg13_r0 arg22_r0 v142_r0 v208_r0 k0_hw14 k0_h8 => k0_hw14.2.2.1 k0_h8
theorem k0_off51_wordsbf16 : ∀ (k0_t1 : Fin k0_t1_loop.trips) (arg13_r0 : BitVec 32) (arg22_r0 : BitVec 32) (v142_r0 : BitVec 32) (v208_r0 : BitVec 32) (k0_hw14 : k0_chk14 k0_t1 arg13_r0 arg22_r0 v142_r0 v208_r0), ∀ (k0_h8 : k0_cond8 k0_t1 v142_r0 v208_r0 = 1#1), (Rect.unit (s := S2x1x1024x2048) (k0_off51 arg13_r0) S1x1x1024x2048.size (k0_off51_inb k0_t1 arg13_r0 arg22_r0 v142_r0 v208_r0 k0_hw14 k0_h8)).WholeWords (EltTy.packing .bf16) := fun k0_t1 arg13_r0 arg22_r0 v142_r0 v208_r0 k0_hw14 k0_h8 => k0_hw14.2.2.2 k0_h8 (k0_off51_inb k0_t1 arg13_r0 arg22_r0 v142_r0 v208_r0 k0_hw14 k0_h8)

def k0_off53 (arg22_r0 : BitVec 32) : Fin 1 → Nat :=
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v215_r0 : Index := Scalar.indexCast v115_r0
  ![v215_r0.toNat]
def k0_off54 (arg22_r0 : BitVec 32) : Fin 1 → Nat :=
  let c0_i32_122_r0 : BitVec 32 := 0#32
  let v110_r0 : BitVec 32 := Scalar.addi arg22_r0 c0_i32_122_r0
  let v353_r0 : Index := Scalar.indexCast v110_r0
  ![v353_r0.toNat]
def k0_cond9 (k0_t1 : Fin k0_t1_loop.trips) (v156_r0 : BitVec 32) (v216_r0 : BitVec 32) : BitVec 1 :=
  let v217_r0 : BitVec 1 := Scalar.cmpi .ne v156_r0 v216_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let v218_r0 : BitVec 1 := Scalar.ori v217_r0 v108_r0
  let c0_i32_178_r0 : BitVec 32 := 0#32
  let v219_r0 : BitVec 1 := Scalar.cmpi .sge arg9_r0 c0_i32_178_r0
  let v220_r0 : BitVec 1 := Scalar.andi v218_r0 v219_r0
  let v221_r0 : BitVec 32 := Scalar.extui v220_r0
  let c0_i32_179_r0 : BitVec 32 := 0#32
  let v222_r0 : BitVec 1 := Scalar.cmpi .ne v221_r0 c0_i32_179_r0
  v222_r0

def k0_off55 (arg15_r0 : BitVec 32) : Fin 1 → Nat :=
  let c2_i32_237_r0 : BitVec 32 := 2#32
  let v356_r0 : BitVec 32 := Scalar.remui arg15_r0 c2_i32_237_r0
  ![v356_r0.toNat]
def k0_off56 (arg15_r0 : BitVec 32) : Fin 4 → Nat :=
  let c2_i32_237_r0 : BitVec 32 := 2#32
  let v356_r0 : BitVec 32 := Scalar.remui arg15_r0 c2_i32_237_r0
  let c0_i32_238_r0 : BitVec 32 := 0#32
  let c0_i32_239_r0 : BitVec 32 := 0#32
  let c0_i32_240_r0 : BitVec 32 := 0#32
  ![v356_r0.toNat, 0, 0, 0]

def k0_chk16 (k0_t1 : Fin k0_t1_loop.trips) (arg15_r0 : BitVec 32) (arg22_r0 : BitVec 32) (v156_r0 : BitVec 32) (v216_r0 : BitVec 32) : Prop :=
  (∀ (k0_h9 : k0_cond9 k0_t1 v156_r0 v216_r0 = 1#1), ∀ a, (k0_off54 arg22_r0) a + S1.size a ≤ S288.size a) ∧
  (∀ (k0_h9 : k0_cond9 k0_t1 v156_r0 v216_r0 = 1#1), ∀ a, (k0_off55 arg15_r0) a + S1.size a ≤ S2.size a) ∧
  (∀ (k0_h9 : k0_cond9 k0_t1 v156_r0 v216_r0 = 1#1), ∀ a, (k0_off56 arg15_r0) a + S1x1x1x2048.size a ≤ S2x1x1x2048.size a)
theorem k0_off54_inb : ∀ (k0_t1 : Fin k0_t1_loop.trips) (arg15_r0 : BitVec 32) (arg22_r0 : BitVec 32) (v156_r0 : BitVec 32) (v216_r0 : BitVec 32) (k0_hw16 : k0_chk16 k0_t1 arg15_r0 arg22_r0 v156_r0 v216_r0), ∀ (k0_h9 : k0_cond9 k0_t1 v156_r0 v216_r0 = 1#1), ∀ a, (k0_off54 arg22_r0) a + S1.size a ≤ S288.size a := fun k0_t1 arg15_r0 arg22_r0 v156_r0 v216_r0 k0_hw16 k0_h9 => k0_hw16.1 k0_h9
theorem k0_off55_inb : ∀ (k0_t1 : Fin k0_t1_loop.trips) (arg15_r0 : BitVec 32) (arg22_r0 : BitVec 32) (v156_r0 : BitVec 32) (v216_r0 : BitVec 32) (k0_hw16 : k0_chk16 k0_t1 arg15_r0 arg22_r0 v156_r0 v216_r0), ∀ (k0_h9 : k0_cond9 k0_t1 v156_r0 v216_r0 = 1#1), ∀ a, (k0_off55 arg15_r0) a + S1.size a ≤ S2.size a := fun k0_t1 arg15_r0 arg22_r0 v156_r0 v216_r0 k0_hw16 k0_h9 => k0_hw16.2.1 k0_h9
theorem k0_off56_inb : ∀ (k0_t1 : Fin k0_t1_loop.trips) (arg15_r0 : BitVec 32) (arg22_r0 : BitVec 32) (v156_r0 : BitVec 32) (v216_r0 : BitVec 32) (k0_hw16 : k0_chk16 k0_t1 arg15_r0 arg22_r0 v156_r0 v216_r0), ∀ (k0_h9 : k0_cond9 k0_t1 v156_r0 v216_r0 = 1#1), ∀ a, (k0_off56 arg15_r0) a + S1x1x1x2048.size a ≤ S2x1x1x2048.size a := fun k0_t1 arg15_r0 arg22_r0 v156_r0 v216_r0 k0_hw16 k0_h9 => k0_hw16.2.2 k0_h9

def k0_off57 (v354_r0 : BitVec 32) : Fin 3 → Nat :=
  let c1_i32_236_r0 : BitVec 32 := 1#32
  let v355_r0 : BitVec 32 := Scalar.muli c1_i32_236_r0 v354_r0
  let c0_i32_241_r0 : BitVec 32 := 0#32
  let c0_i32_242_r0 : BitVec 32 := 0#32
  ![v355_r0.toNat, 0, 0]

def k0_chk17 (k0_t1 : Fin k0_t1_loop.trips) (v156_r0 : BitVec 32) (v216_r0 : BitVec 32) (v354_r0 : BitVec 32) : Prop :=
  (∀ (k0_h9 : k0_cond9 k0_t1 v156_r0 v216_r0 = 1#1), ∀ a, (k0_off57 v354_r0) a + S1x1x2048.size a ≤ S32x1x2048.size a)
theorem k0_off57_inb : ∀ (k0_t1 : Fin k0_t1_loop.trips) (v156_r0 : BitVec 32) (v216_r0 : BitVec 32) (v354_r0 : BitVec 32) (k0_hw17 : k0_chk17 k0_t1 v156_r0 v216_r0 v354_r0), ∀ (k0_h9 : k0_cond9 k0_t1 v156_r0 v216_r0 = 1#1), ∀ a, (k0_off57 v354_r0) a + S1x1x2048.size a ≤ S32x1x2048.size a := fun k0_t1 v156_r0 v216_r0 v354_r0 k0_hw17 k0_h9 => k0_hw17 k0_h9

def k0_off58 (arg22_r0 : BitVec 32) : Fin 1 → Nat :=
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v223_r0 : Index := Scalar.indexCast v115_r0
  ![v223_r0.toNat]
def k0_off59 (arg22_r0 : BitVec 32) : Fin 1 → Nat :=
  let c0_i32_122_r0 : BitVec 32 := 0#32
  let v110_r0 : BitVec 32 := Scalar.addi arg22_r0 c0_i32_122_r0
  let v353_r0 : Index := Scalar.indexCast v110_r0
  ![v353_r0.toNat]
def k0_cond10 (k0_t1 : Fin k0_t1_loop.trips) (v170_r0 : BitVec 32) (v224_r0 : BitVec 32) : BitVec 1 :=
  let v225_r0 : BitVec 1 := Scalar.cmpi .ne v170_r0 v224_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let v226_r0 : BitVec 1 := Scalar.ori v225_r0 v108_r0
  let c0_i32_180_r0 : BitVec 32 := 0#32
  let v227_r0 : BitVec 1 := Scalar.cmpi .sge arg9_r0 c0_i32_180_r0
  let v228_r0 : BitVec 1 := Scalar.andi v226_r0 v227_r0
  let v229_r0 : BitVec 32 := Scalar.extui v228_r0
  let c0_i32_181_r0 : BitVec 32 := 0#32
  let v230_r0 : BitVec 1 := Scalar.cmpi .ne v229_r0 c0_i32_181_r0
  v230_r0

def k0_off60 (arg17_r0 : BitVec 32) : Fin 1 → Nat :=
  let c2_i32_237_r0 : BitVec 32 := 2#32
  let v356_r0 : BitVec 32 := Scalar.remui arg17_r0 c2_i32_237_r0
  ![v356_r0.toNat]
def k0_off61 (arg17_r0 : BitVec 32) : Fin 4 → Nat :=
  let c2_i32_237_r0 : BitVec 32 := 2#32
  let v356_r0 : BitVec 32 := Scalar.remui arg17_r0 c2_i32_237_r0
  let c0_i32_238_r0 : BitVec 32 := 0#32
  let c0_i32_239_r0 : BitVec 32 := 0#32
  let c0_i32_240_r0 : BitVec 32 := 0#32
  ![v356_r0.toNat, 0, 0, 0]

def k0_chk18 (k0_t1 : Fin k0_t1_loop.trips) (arg17_r0 : BitVec 32) (arg22_r0 : BitVec 32) (v170_r0 : BitVec 32) (v224_r0 : BitVec 32) : Prop :=
  (∀ (k0_h10 : k0_cond10 k0_t1 v170_r0 v224_r0 = 1#1), ∀ a, (k0_off59 arg22_r0) a + S1.size a ≤ S288.size a) ∧
  (∀ (k0_h10 : k0_cond10 k0_t1 v170_r0 v224_r0 = 1#1), ∀ a, (k0_off60 arg17_r0) a + S1.size a ≤ S2.size a) ∧
  (∀ (k0_h10 : k0_cond10 k0_t1 v170_r0 v224_r0 = 1#1), ∀ a, (k0_off61 arg17_r0) a + S1x1x1024x1024.size a ≤ S2x1x1024x1024.size a)
theorem k0_off59_inb : ∀ (k0_t1 : Fin k0_t1_loop.trips) (arg17_r0 : BitVec 32) (arg22_r0 : BitVec 32) (v170_r0 : BitVec 32) (v224_r0 : BitVec 32) (k0_hw18 : k0_chk18 k0_t1 arg17_r0 arg22_r0 v170_r0 v224_r0), ∀ (k0_h10 : k0_cond10 k0_t1 v170_r0 v224_r0 = 1#1), ∀ a, (k0_off59 arg22_r0) a + S1.size a ≤ S288.size a := fun k0_t1 arg17_r0 arg22_r0 v170_r0 v224_r0 k0_hw18 k0_h10 => k0_hw18.1 k0_h10
theorem k0_off60_inb : ∀ (k0_t1 : Fin k0_t1_loop.trips) (arg17_r0 : BitVec 32) (arg22_r0 : BitVec 32) (v170_r0 : BitVec 32) (v224_r0 : BitVec 32) (k0_hw18 : k0_chk18 k0_t1 arg17_r0 arg22_r0 v170_r0 v224_r0), ∀ (k0_h10 : k0_cond10 k0_t1 v170_r0 v224_r0 = 1#1), ∀ a, (k0_off60 arg17_r0) a + S1.size a ≤ S2.size a := fun k0_t1 arg17_r0 arg22_r0 v170_r0 v224_r0 k0_hw18 k0_h10 => k0_hw18.2.1 k0_h10
theorem k0_off61_inb : ∀ (k0_t1 : Fin k0_t1_loop.trips) (arg17_r0 : BitVec 32) (arg22_r0 : BitVec 32) (v170_r0 : BitVec 32) (v224_r0 : BitVec 32) (k0_hw18 : k0_chk18 k0_t1 arg17_r0 arg22_r0 v170_r0 v224_r0), ∀ (k0_h10 : k0_cond10 k0_t1 v170_r0 v224_r0 = 1#1), ∀ a, (k0_off61 arg17_r0) a + S1x1x1024x1024.size a ≤ S2x1x1024x1024.size a := fun k0_t1 arg17_r0 arg22_r0 v170_r0 v224_r0 k0_hw18 k0_h10 => k0_hw18.2.2 k0_h10

def k0_off62 (v354_r0 : BitVec 32) : Fin 3 → Nat :=
  let c1_i32_236_r0 : BitVec 32 := 1#32
  let v355_r0 : BitVec 32 := Scalar.muli c1_i32_236_r0 v354_r0
  let c0_i32_241_r0 : BitVec 32 := 0#32
  let c0_i32_242_r0 : BitVec 32 := 0#32
  ![v355_r0.toNat, 0, 0]

def k0_chk19 (k0_t1 : Fin k0_t1_loop.trips) (v170_r0 : BitVec 32) (v224_r0 : BitVec 32) (v354_r0 : BitVec 32) : Prop :=
  (∀ (k0_h10 : k0_cond10 k0_t1 v170_r0 v224_r0 = 1#1), ∀ a, (k0_off62 v354_r0) a + S1x1024x1024.size a ≤ S32x1024x1024.size a)
theorem k0_off62_inb : ∀ (k0_t1 : Fin k0_t1_loop.trips) (v170_r0 : BitVec 32) (v224_r0 : BitVec 32) (v354_r0 : BitVec 32) (k0_hw19 : k0_chk19 k0_t1 v170_r0 v224_r0 v354_r0), ∀ (k0_h10 : k0_cond10 k0_t1 v170_r0 v224_r0 = 1#1), ∀ a, (k0_off62 v354_r0) a + S1x1024x1024.size a ≤ S32x1024x1024.size a := fun k0_t1 v170_r0 v224_r0 v354_r0 k0_hw19 k0_h10 => k0_hw19 k0_h10

def k0_off63 (arg22_r0 : BitVec 32) : Fin 1 → Nat :=
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v231_r0 : Index := Scalar.indexCast v115_r0
  ![v231_r0.toNat]
def k0_off64 (arg22_r0 : BitVec 32) : Fin 1 → Nat :=
  let c0_i32_122_r0 : BitVec 32 := 0#32
  let v110_r0 : BitVec 32 := Scalar.addi arg22_r0 c0_i32_122_r0
  let v353_r0 : Index := Scalar.indexCast v110_r0
  ![v353_r0.toNat]
def k0_cond11 (k0_t1 : Fin k0_t1_loop.trips) (v184_r0 : BitVec 32) (v232_r0 : BitVec 32) : BitVec 1 :=
  let v233_r0 : BitVec 1 := Scalar.cmpi .ne v184_r0 v232_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let v234_r0 : BitVec 1 := Scalar.ori v233_r0 v108_r0
  let c0_i32_182_r0 : BitVec 32 := 0#32
  let v235_r0 : BitVec 1 := Scalar.cmpi .sge arg9_r0 c0_i32_182_r0
  let v236_r0 : BitVec 1 := Scalar.andi v234_r0 v235_r0
  let v237_r0 : BitVec 32 := Scalar.extui v236_r0
  let c0_i32_183_r0 : BitVec 32 := 0#32
  let v238_r0 : BitVec 1 := Scalar.cmpi .ne v237_r0 c0_i32_183_r0
  v238_r0

def k0_off65 (arg19_r0 : BitVec 32) : Fin 1 → Nat :=
  let c2_i32_237_r0 : BitVec 32 := 2#32
  let v356_r0 : BitVec 32 := Scalar.remui arg19_r0 c2_i32_237_r0
  ![v356_r0.toNat]
def k0_off66 (arg19_r0 : BitVec 32) : Fin 4 → Nat :=
  let c2_i32_237_r0 : BitVec 32 := 2#32
  let v356_r0 : BitVec 32 := Scalar.remui arg19_r0 c2_i32_237_r0
  let c0_i32_238_r0 : BitVec 32 := 0#32
  let c0_i32_239_r0 : BitVec 32 := 0#32
  let c0_i32_240_r0 : BitVec 32 := 0#32
  ![v356_r0.toNat, 0, 0, 0]

def k0_chk20 (k0_t1 : Fin k0_t1_loop.trips) (arg19_r0 : BitVec 32) (arg22_r0 : BitVec 32) (v184_r0 : BitVec 32) (v232_r0 : BitVec 32) : Prop :=
  (∀ (k0_h11 : k0_cond11 k0_t1 v184_r0 v232_r0 = 1#1), ∀ a, (k0_off64 arg22_r0) a + S1.size a ≤ S288.size a) ∧
  (∀ (k0_h11 : k0_cond11 k0_t1 v184_r0 v232_r0 = 1#1), ∀ a, (k0_off65 arg19_r0) a + S1.size a ≤ S2.size a) ∧
  (∀ (k0_h11 : k0_cond11 k0_t1 v184_r0 v232_r0 = 1#1), ∀ a, (k0_off66 arg19_r0) a + S1x1x1x1024.size a ≤ S2x1x1x1024.size a)
theorem k0_off64_inb : ∀ (k0_t1 : Fin k0_t1_loop.trips) (arg19_r0 : BitVec 32) (arg22_r0 : BitVec 32) (v184_r0 : BitVec 32) (v232_r0 : BitVec 32) (k0_hw20 : k0_chk20 k0_t1 arg19_r0 arg22_r0 v184_r0 v232_r0), ∀ (k0_h11 : k0_cond11 k0_t1 v184_r0 v232_r0 = 1#1), ∀ a, (k0_off64 arg22_r0) a + S1.size a ≤ S288.size a := fun k0_t1 arg19_r0 arg22_r0 v184_r0 v232_r0 k0_hw20 k0_h11 => k0_hw20.1 k0_h11
theorem k0_off65_inb : ∀ (k0_t1 : Fin k0_t1_loop.trips) (arg19_r0 : BitVec 32) (arg22_r0 : BitVec 32) (v184_r0 : BitVec 32) (v232_r0 : BitVec 32) (k0_hw20 : k0_chk20 k0_t1 arg19_r0 arg22_r0 v184_r0 v232_r0), ∀ (k0_h11 : k0_cond11 k0_t1 v184_r0 v232_r0 = 1#1), ∀ a, (k0_off65 arg19_r0) a + S1.size a ≤ S2.size a := fun k0_t1 arg19_r0 arg22_r0 v184_r0 v232_r0 k0_hw20 k0_h11 => k0_hw20.2.1 k0_h11
theorem k0_off66_inb : ∀ (k0_t1 : Fin k0_t1_loop.trips) (arg19_r0 : BitVec 32) (arg22_r0 : BitVec 32) (v184_r0 : BitVec 32) (v232_r0 : BitVec 32) (k0_hw20 : k0_chk20 k0_t1 arg19_r0 arg22_r0 v184_r0 v232_r0), ∀ (k0_h11 : k0_cond11 k0_t1 v184_r0 v232_r0 = 1#1), ∀ a, (k0_off66 arg19_r0) a + S1x1x1x1024.size a ≤ S2x1x1x1024.size a := fun k0_t1 arg19_r0 arg22_r0 v184_r0 v232_r0 k0_hw20 k0_h11 => k0_hw20.2.2 k0_h11

def k0_off67 (v354_r0 : BitVec 32) : Fin 3 → Nat :=
  let c1_i32_236_r0 : BitVec 32 := 1#32
  let v355_r0 : BitVec 32 := Scalar.muli c1_i32_236_r0 v354_r0
  let c0_i32_241_r0 : BitVec 32 := 0#32
  let c0_i32_242_r0 : BitVec 32 := 0#32
  ![v355_r0.toNat, 0, 0]

def k0_chk21 (k0_t1 : Fin k0_t1_loop.trips) (v184_r0 : BitVec 32) (v232_r0 : BitVec 32) (v354_r0 : BitVec 32) : Prop :=
  (∀ (k0_h11 : k0_cond11 k0_t1 v184_r0 v232_r0 = 1#1), ∀ a, (k0_off67 v354_r0) a + S1x1x1024.size a ≤ S32x1x1024.size a)
theorem k0_off67_inb : ∀ (k0_t1 : Fin k0_t1_loop.trips) (v184_r0 : BitVec 32) (v232_r0 : BitVec 32) (v354_r0 : BitVec 32) (k0_hw21 : k0_chk21 k0_t1 v184_r0 v232_r0 v354_r0), ∀ (k0_h11 : k0_cond11 k0_t1 v184_r0 v232_r0 = 1#1), ∀ a, (k0_off67 v354_r0) a + S1x1x1024.size a ≤ S32x1x1024.size a := fun k0_t1 v184_r0 v232_r0 v354_r0 k0_hw21 k0_h11 => k0_hw21 k0_h11

def k0_off68 (arg22_r0 : BitVec 32) : Fin 1 → Nat :=
  let c0_i32_122_r0 : BitVec 32 := 0#32
  let v110_r0 : BitVec 32 := Scalar.addi arg22_r0 c0_i32_122_r0
  let v251_r0 : Index := Scalar.indexCast v110_r0
  ![v251_r0.toNat]
def k0_off69 (arg11_r0 : BitVec 32) : Fin 4 → Nat :=
  let c3_i32_186_r0 : BitVec 32 := 3#32
  let v245_r0 : BitVec 32 := Scalar.remui arg11_r0 c3_i32_186_r0
  let v354_r0 : Index := Scalar.indexCast v245_r0
  let c0_236_r0 : Index := 0#32
  let c0_237_r0 : Index := 0#32
  let c0_238_r0 : Index := 0#32
  ![v354_r0.toNat, 0, 0, 0]
def k0_cond13 (v252_r0 : BitVec 32) : BitVec 1 :=
  let c0_i32_192_r0 : BitVec 32 := 0#32
  let v253_r0 : BitVec 1 := Scalar.cmpi .sgt v252_r0 c0_i32_192_r0
  let v254_r0 : BitVec 32 := Scalar.extui v253_r0
  let c0_i32_193_r0 : BitVec 32 := 0#32
  let v255_r0 : BitVec 1 := Scalar.cmpi .ne v254_r0 c0_i32_193_r0
  v255_r0

def k0_off70 (arg13_r0 : BitVec 32) : Fin 4 → Nat :=
  let c2_i32_187_r0 : BitVec 32 := 2#32
  let v246_r0 : BitVec 32 := Scalar.remui arg13_r0 c2_i32_187_r0
  let c0_i32_239_r0 : BitVec 32 := 0#32
  let c0_i32_240_r0 : BitVec 32 := 0#32
  let c0_i32_241_r0 : BitVec 32 := 0#32
  ![v246_r0.toNat, 0, 0, 0]
def k0_off71 (arg15_r0 : BitVec 32) : Fin 4 → Nat :=
  let c2_i32_188_r0 : BitVec 32 := 2#32
  let v247_r0 : BitVec 32 := Scalar.remui arg15_r0 c2_i32_188_r0
  let c0_i32_246_r0 : BitVec 32 := 0#32
  let c0_i32_247_r0 : BitVec 32 := 0#32
  let c0_i32_248_r0 : BitVec 32 := 0#32
  ![v247_r0.toNat, 0, 0, 0]
def k0_off72 (arg17_r0 : BitVec 32) : Fin 4 → Nat :=
  let c2_i32_189_r0 : BitVec 32 := 2#32
  let v248_r0 : BitVec 32 := Scalar.remui arg17_r0 c2_i32_189_r0
  let c0_i32_414_r0 : BitVec 32 := 0#32
  let c0_i32_415_r0 : BitVec 32 := 0#32
  let c0_i32_416_r0 : BitVec 32 := 0#32
  ![v248_r0.toNat, 0, 0, 0]
def k0_off73 (arg19_r0 : BitVec 32) : Fin 4 → Nat :=
  let c2_i32_190_r0 : BitVec 32 := 2#32
  let v249_r0 : BitVec 32 := Scalar.remui arg19_r0 c2_i32_190_r0
  let c0_i32_421_r0 : BitVec 32 := 0#32
  let c0_i32_422_r0 : BitVec 32 := 0#32
  let c0_i32_423_r0 : BitVec 32 := 0#32
  ![v249_r0.toNat, 0, 0, 0]
def k0_off74 (arg20_r0 : BitVec 32) : Fin 4 → Nat :=
  let c2_i32_191_r0 : BitVec 32 := 2#32
  let v250_r0 : BitVec 32 := Scalar.remui arg20_r0 c2_i32_191_r0
  let v667_r0 : Index := Scalar.indexCast v250_r0
  let c0_427_r0 : Index := 0#32
  let c0_428_r0 : Index := 0#32
  let c0_429_r0 : Index := 0#32
  ![v667_r0.toNat, 0, 0, 0]
def k0_off75 (arg20_r0 : BitVec 32) : Fin 4 → Nat :=
  let c2_i32_191_r0 : BitVec 32 := 2#32
  let v250_r0 : BitVec 32 := Scalar.remui arg20_r0 c2_i32_191_r0
  let v354_r0 : Index := Scalar.indexCast v250_r0
  let c0_236_r0 : Index := 0#32
  let c0_237_r0 : Index := 0#32
  let c0_238_r0 : Index := 0#32
  ![v354_r0.toNat, 0, 0, 0]
def k0_cond14 (v252_r0 : BitVec 32) : BitVec 1 :=
  let c0_i32_194_r0 : BitVec 32 := 0#32
  let v256_r0 : BitVec 1 := Scalar.cmpi .sle v252_r0 c0_i32_194_r0
  let v257_r0 : BitVec 32 := Scalar.extui v256_r0
  let c0_i32_195_r0 : BitVec 32 := 0#32
  let v258_r0 : BitVec 1 := Scalar.cmpi .ne v257_r0 c0_i32_195_r0
  v258_r0

def k0_chk22 (arg11_r0 : BitVec 32) (arg13_r0 : BitVec 32) (arg15_r0 : BitVec 32) (arg17_r0 : BitVec 32) (arg19_r0 : BitVec 32) (arg20_r0 : BitVec 32) (v252_r0 : BitVec 32) : Prop :=
  (∀ (k0_h13 : k0_cond13 v252_r0 = 1#1), ∀ a, (k0_off69 arg11_r0) a + S1x1024x8x128.size a ≤ S3x1024x8x128.size a) ∧
  (∀ (k0_h13 : k0_cond13 v252_r0 = 1#1), ∀ a, (k0_off70 arg13_r0) a + S1x1x1024x2048.size a ≤ S2x1x1024x2048.size a) ∧
  (∀ (k0_h13 : k0_cond13 v252_r0 = 1#1), ∀ a, (k0_off71 arg15_r0) a + S1x1x1x2048.size a ≤ S2x1x1x2048.size a) ∧
  (∀ (k0_h13 : k0_cond13 v252_r0 = 1#1), ∀ a, (k0_off72 arg17_r0) a + S1x1x1024x1024.size a ≤ S2x1x1024x1024.size a) ∧
  (∀ (k0_h13 : k0_cond13 v252_r0 = 1#1), ∀ a, (k0_off73 arg19_r0) a + S1x1x1x1024.size a ≤ S2x1x1x1024.size a) ∧
  (∀ (k0_h13 : k0_cond13 v252_r0 = 1#1), ∀ a, (k0_off74 arg20_r0) a + S1x1024x8x128.size a ≤ S2x1024x8x128.size a) ∧
  (∀ (k0_h14 : k0_cond14 v252_r0 = 1#1), ∀ a, (k0_off75 arg20_r0) a + S1x1024x8x128.size a ≤ S2x1024x8x128.size a)
theorem k0_off69_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off69 arg11_r0) a + S1x1024x8x128.size a ≤ S3x1024x8x128.size a := fun arg11_r0 arg13_r0 arg15_r0 arg17_r0 arg19_r0 arg20_r0 v252_r0 k0_hw22 k0_h13 => k0_hw22.1 k0_h13
theorem k0_off70_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off70 arg13_r0) a + S1x1x1024x2048.size a ≤ S2x1x1024x2048.size a := fun arg11_r0 arg13_r0 arg15_r0 arg17_r0 arg19_r0 arg20_r0 v252_r0 k0_hw22 k0_h13 => k0_hw22.2.1 k0_h13
theorem k0_off71_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off71 arg15_r0) a + S1x1x1x2048.size a ≤ S2x1x1x2048.size a := fun arg11_r0 arg13_r0 arg15_r0 arg17_r0 arg19_r0 arg20_r0 v252_r0 k0_hw22 k0_h13 => k0_hw22.2.2.1 k0_h13
theorem k0_off72_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off72 arg17_r0) a + S1x1x1024x1024.size a ≤ S2x1x1024x1024.size a := fun arg11_r0 arg13_r0 arg15_r0 arg17_r0 arg19_r0 arg20_r0 v252_r0 k0_hw22 k0_h13 => k0_hw22.2.2.2.1 k0_h13
theorem k0_off73_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off73 arg19_r0) a + S1x1x1x1024.size a ≤ S2x1x1x1024.size a := fun arg11_r0 arg13_r0 arg15_r0 arg17_r0 arg19_r0 arg20_r0 v252_r0 k0_hw22 k0_h13 => k0_hw22.2.2.2.2.1 k0_h13
theorem k0_off74_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h13 : k0_cond13 v252_r0 = 1#1), ∀ a, (k0_off74 arg20_r0) a + S1x1024x8x128.size a ≤ S2x1024x8x128.size a := fun arg11_r0 arg13_r0 arg15_r0 arg17_r0 arg19_r0 arg20_r0 v252_r0 k0_hw22 k0_h13 => k0_hw22.2.2.2.2.2.1 k0_h13
theorem k0_off75_inb : ∀ (arg11_r0 : BitVec 32) (arg13_r0 : BitVec 32) (arg15_r0 : BitVec 32) (arg17_r0 : BitVec 32) (arg19_r0 : BitVec 32) (arg20_r0 : BitVec 32) (v252_r0 : BitVec 32) (k0_hw22 : k0_chk22 arg11_r0 arg13_r0 arg15_r0 arg17_r0 arg19_r0 arg20_r0 v252_r0), ∀ (k0_h14 : k0_cond14 v252_r0 = 1#1), ∀ a, (k0_off75 arg20_r0) a + S1x1024x8x128.size a ≤ S2x1024x8x128.size a := fun arg11_r0 arg13_r0 arg15_r0 arg17_r0 arg19_r0 arg20_r0 v252_r0 k0_hw22 k0_h14 => k0_hw22.2.2.2.2.2.2 k0_h14

def k0_off76 (arg20_r0 : BitVec 32) : Fin 1 → Nat :=
  let c2_i32_236_r0 : BitVec 32 := 2#32
  let v353_r0 : BitVec 32 := Scalar.remui arg20_r0 c2_i32_236_r0
  ![v353_r0.toNat]
def k0_cond20 (k0_t1 : Fin k0_t1_loop.trips) (arg22_r0 : BitVec 32) : BitVec 1 :=
  let c0_i32_122_r0 : BitVec 32 := 0#32
  let v110_r0 : BitVec 32 := Scalar.addi arg22_r0 c0_i32_122_r0
  let true_129_r0 : BitVec 1 := 1#1
  let c1_i32_128_r0 : BitVec 32 := 1#32
  let v116_r0 : BitVec 32 := Scalar.addi arg22_r0 c1_i32_128_r0
  let v117_r0 : BitVec 32 := Scalar.select true_129_r0 v116_r0 arg22_r0
  let c288_i32_130_r0 : BitVec 32 := 288#32
  let v118_r0 : BitVec 1 := Scalar.cmpi .eq v117_r0 c288_i32_130_r0
  let c0_i32_131_r0 : BitVec 32 := 0#32
  let v119_r0 : BitVec 32 := Scalar.select v118_r0 c0_i32_131_r0 v117_r0
  let c0_i32_132_r0 : BitVec 32 := 0#32
  let v120_r0 : BitVec 32 := Scalar.addi v119_r0 c0_i32_132_r0
  let v284_r0 : BitVec 1 := Scalar.cmpi .ne v110_r0 v120_r0
  let c0_i32_85_r0 : BitVec 32 := 0#32
  let c1_i32_87_r0 : BitVec 32 := 1#32
  let arg9_r0 : BitVec 32 := Scf.iv c0_i32_85_r0 c1_i32_87_r0 k0_t1
  let c287_i32_121_r0 : BitVec 32 := 287#32
  let v109_r0 : BitVec 1 := Scalar.cmpi .eq arg9_r0 c287_i32_121_r0
  let v285_r0 : BitVec 1 := Scalar.ori v284_r0 v109_r0
  let v286_r0 : BitVec 32 := Scalar.extui v285_r0
  let c0_i32_205_r0 : BitVec 32 := 0#32
  let v287_r0 : BitVec 1 := Scalar.cmpi .ne v286_r0 c0_i32_205_r0
  v287_r0

def k0_off77 (arg22_r0 : BitVec 32) : Fin 3 → Nat :=
  let c1024_i32_237_r0 : BitVec 32 := 1024#32
  let c0_i32_122_r0 : BitVec 32 := 0#32
  let v110_r0 : BitVec 32 := Scalar.addi arg22_r0 c0_i32_122_r0
  let v354_r0 : BitVec 32 := Scalar.muli c1024_i32_237_r0 v110_r0
  let c0_i32_238_r0 : BitVec 32 := 0#32
  let c0_i32_239_r0 : BitVec 32 := 0#32
  ![v354_r0.toNat, 0, 0]
def k0_off78 (arg20_r0 : BitVec 32) : Fin 4 → Nat :=
  let c2_i32_236_r0 : BitVec 32 := 2#32
  let v353_r0 : BitVec 32 := Scalar.remui arg20_r0 c2_i32_236_r0
  let c0_i32_240_r0 : BitVec 32 := 0#32
  let c0_i32_241_r0 : BitVec 32 := 0#32
  let c0_i32_242_r0 : BitVec 32 := 0#32
  ![v353_r0.toNat, 0, 0, 0]
def k0_off79 (arg21_r0 : BitVec 32) : Fin 1 → Nat :=
  let c2_i32_236_r0 : BitVec 32 := 2#32
  let v353_r0 : BitVec 32 := Scalar.remui arg21_r0 c2_i32_236_r0
  ![v353_r0.toNat]
def k0_cond26 (k0_t1 : Fin k0_t1_loop.trips) (arg22_r0 : BitVec 32) : BitVec 1 :=
  let c0_i32_122_r0 : BitVec 32 := 0#32
  let v110_r0 : BitVec 32 := Scalar.addi arg22_r0 c0_i32_122_r0
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v321_r0 : BitVec 1 := Scalar.cmpi .ne v110_r0 v115_r0
  let c0_i32_85_r0 : BitVec 32 := 0#32
  let c1_i32_87_r0 : BitVec 32 := 1#32
  let arg9_r0 : BitVec 32 := Scf.iv c0_i32_85_r0 c1_i32_87_r0 k0_t1
  let c0_i32_120_r0 : BitVec 32 := 0#32
  let v108_r0 : BitVec 1 := Scalar.cmpi .eq arg9_r0 c0_i32_120_r0
  let true_223_r0 : BitVec 1 := 1#1
  let v322_r0 : BitVec 1 := Scalar.xori v108_r0 true_223_r0
  let v323_r0 : BitVec 1 := Scalar.andi v321_r0 v322_r0
  let v324_r0 : BitVec 32 := Scalar.extui v323_r0
  let c0_i32_224_r0 : BitVec 32 := 0#32
  let v325_r0 : BitVec 1 := Scalar.cmpi .ne v324_r0 c0_i32_224_r0
  v325_r0

def k0_off80 (arg22_r0 : BitVec 32) : Fin 3 → Nat :=
  let c1024_i32_237_r0 : BitVec 32 := 1024#32
  let true_124_r0 : BitVec 1 := 1#1
  let c1_i32_123_r0 : BitVec 32 := 1#32
  let v111_r0 : BitVec 32 := Scalar.subi arg22_r0 c1_i32_123_r0
  let v112_r0 : BitVec 32 := Scalar.select true_124_r0 v111_r0 arg22_r0
  let c_m1_i32_125_r0 : BitVec 32 := 4294967295#32
  let v113_r0 : BitVec 1 := Scalar.cmpi .eq v112_r0 c_m1_i32_125_r0
  let c287_i32_126_r0 : BitVec 32 := 287#32
  let v114_r0 : BitVec 32 := Scalar.select v113_r0 c287_i32_126_r0 v112_r0
  let c0_i32_127_r0 : BitVec 32 := 0#32
  let v115_r0 : BitVec 32 := Scalar.addi v114_r0 c0_i32_127_r0
  let v354_r0 : BitVec 32 := Scalar.muli c1024_i32_237_r0 v115_r0
  let c0_i32_238_r0 : BitVec 32 := 0#32
  let c0_i32_239_r0 : BitVec 32 := 0#32
  ![v354_r0.toNat, 0, 0]
def k0_off81 (arg21_r0 : BitVec 32) : Fin 4 → Nat :=
  let c2_i32_236_r0 : BitVec 32 := 2#32
  let v353_r0 : BitVec 32 := Scalar.remui arg21_r0 c2_i32_236_r0
  let c0_i32_240_r0 : BitVec 32 := 0#32
  let c0_i32_241_r0 : BitVec 32 := 0#32
  let c0_i32_242_r0 : BitVec 32 := 0#32
  ![v353_r0.toNat, 0, 0, 0]

def k0_chk5 (k0_t1 : Fin k0_t1_loop.trips) (arg10_r0 : BitVec 32) (arg11_r0 : BitVec 32) (arg20_r0 : BitVec 32) (arg21_r0 : BitVec 32) (arg22_r0 : BitVec 32) : Prop :=
  (∀ (k0_h2 : k0_cond2 k0_t1 arg22_r0 = 1#1), ∀ a, (k0_off18 arg10_r0) a + S1.size a ≤ S3.size a) ∧
  (∀ (k0_h2 : k0_cond2 k0_t1 arg22_r0 = 1#1), ∀ a, (k0_off19 arg10_r0) a + S1x1024x8x128.size a ≤ S3x1024x8x128.size a) ∧
  (∀ (k0_h2 : k0_cond2 k0_t1 arg22_r0 = 1#1), ∀ a, (k0_off20 arg22_r0) a + S1024x8x128.size a ≤ S294912x8x128.size a) ∧
  (∀ a, (k0_off21 arg22_r0) a + S1.size a ≤ S288.size a) ∧
  (∀ a, (k0_off22 arg22_r0) a + S1.size a ≤ S288.size a) ∧
  (∀ a, (k0_off27 arg22_r0) a + S1.size a ≤ S288.size a) ∧
  (∀ a, (k0_off28 arg22_r0) a + S1.size a ≤ S288.size a) ∧
  (∀ a, (k0_off33 arg22_r0) a + S1.size a ≤ S288.size a) ∧
  (∀ a, (k0_off34 arg22_r0) a + S1.size a ≤ S288.size a) ∧
  (∀ a, (k0_off39 arg22_r0) a + S1.size a ≤ S288.size a) ∧
  (∀ a, (k0_off40 arg22_r0) a + S1.size a ≤ S288.size a) ∧
  (∀ (k0_h7 : k0_cond7 k0_t1 arg22_r0 = 1#1), ∀ a, (k0_off45 arg11_r0) a + S1.size a ≤ S3.size a) ∧
  (∀ (k0_h7 : k0_cond7 k0_t1 arg22_r0 = 1#1), ∀ a, (k0_off46 arg11_r0) a + S1x1024x8x128.size a ≤ S3x1024x8x128.size a) ∧
  (∀ (k0_h7 : k0_cond7 k0_t1 arg22_r0 = 1#1), ∀ a, (k0_off47 arg22_r0) a + S1024x8x128.size a ≤ S294912x8x128.size a) ∧
  (∀ a, (k0_off48 arg22_r0) a + S1.size a ≤ S288.size a) ∧
  (∀ a, (k0_off53 arg22_r0) a + S1.size a ≤ S288.size a) ∧
  (∀ a, (k0_off58 arg22_r0) a + S1.size a ≤ S288.size a) ∧
  (∀ a, (k0_off63 arg22_r0) a + S1.size a ≤ S288.size a) ∧
  (∀ a, (k0_off68 arg22_r0) a + S1.size a ≤ S288.size a) ∧
  (∀ (k0_h20 : k0_cond20 k0_t1 arg22_r0 = 1#1), ∀ a, (k0_off76 arg20_r0) a + S1.size a ≤ S2.size a) ∧
  (∀ (k0_h20 : k0_cond20 k0_t1 arg22_r0 = 1#1), ∀ a, (k0_off77 arg22_r0) a + S1024x8x128.size a ≤ S294912x8x128.size a) ∧
  (∀ (k0_h20 : k0_cond20 k0_t1 arg22_r0 = 1#1), ∀ a, (k0_off78 arg20_r0) a + S1x1024x8x128.size a ≤ S2x1024x8x128.size a) ∧
  (∀ (k0_h26 : k0_cond26 k0_t1 arg22_r0 = 1#1), ∀ a, (k0_off79 arg21_r0) a + S1.size a ≤ S2.size a) ∧
  (∀ (k0_h26 : k0_cond26 k0_t1 arg22_r0 = 1#1), ∀ a, (k0_off80 arg22_r0) a + S1024x8x128.size a ≤ S294912x8x128.size a) ∧
  (∀ (k0_h26 : k0_cond26 k0_t1 arg22_r0 = 1#1), ∀ a, (k0_off81 arg21_r0) a + S1x1024x8x128.size a ≤ S2x1024x8x128.size a)
theorem k0_off18_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h2 : k0_cond2 k0_t1 arg22_r0 = 1#1), ∀ a, (k0_off18 arg10_r0) a + S1.size a ≤ S3.size a := fun k0_t1 arg10_r0 arg11_r0 arg20_r0 arg21_r0 arg22_r0 k0_hw5 k0_h2 => k0_hw5.1 k0_h2
theorem k0_off19_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h2 : k0_cond2 k0_t1 arg22_r0 = 1#1), ∀ a, (k0_off19 arg10_r0) a + S1x1024x8x128.size a ≤ S3x1024x8x128.size a := fun k0_t1 arg10_r0 arg11_r0 arg20_r0 arg21_r0 arg22_r0 k0_hw5 k0_h2 => k0_hw5.2.1 k0_h2
theorem k0_off20_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h2 : k0_cond2 k0_t1 arg22_r0 = 1#1), ∀ a, (k0_off20 arg22_r0) a + S1024x8x128.size a ≤ S294912x8x128.size a := fun k0_t1 arg10_r0 arg11_r0 arg20_r0 arg21_r0 arg22_r0 k0_hw5 k0_h2 => k0_hw5.2.2.1 k0_h2
theorem k0_off21_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off21 arg22_r0) a + S1.size a ≤ S288.size a := fun k0_t1 arg10_r0 arg11_r0 arg20_r0 arg21_r0 arg22_r0 k0_hw5 => k0_hw5.2.2.2.1
theorem k0_off22_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off22 arg22_r0) a + S1.size a ≤ S288.size a := fun k0_t1 arg10_r0 arg11_r0 arg20_r0 arg21_r0 arg22_r0 k0_hw5 => k0_hw5.2.2.2.2.1
theorem k0_off27_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off27 arg22_r0) a + S1.size a ≤ S288.size a := fun k0_t1 arg10_r0 arg11_r0 arg20_r0 arg21_r0 arg22_r0 k0_hw5 => k0_hw5.2.2.2.2.2.1
theorem k0_off28_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off28 arg22_r0) a + S1.size a ≤ S288.size a := fun k0_t1 arg10_r0 arg11_r0 arg20_r0 arg21_r0 arg22_r0 k0_hw5 => k0_hw5.2.2.2.2.2.2.1
theorem k0_off33_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off33 arg22_r0) a + S1.size a ≤ S288.size a := fun k0_t1 arg10_r0 arg11_r0 arg20_r0 arg21_r0 arg22_r0 k0_hw5 => k0_hw5.2.2.2.2.2.2.2.1
theorem k0_off34_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off34 arg22_r0) a + S1.size a ≤ S288.size a := fun k0_t1 arg10_r0 arg11_r0 arg20_r0 arg21_r0 arg22_r0 k0_hw5 => k0_hw5.2.2.2.2.2.2.2.2.1
theorem k0_off39_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off39 arg22_r0) a + S1.size a ≤ S288.size a := fun k0_t1 arg10_r0 arg11_r0 arg20_r0 arg21_r0 arg22_r0 k0_hw5 => k0_hw5.2.2.2.2.2.2.2.2.2.1
theorem k0_off40_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off40 arg22_r0) a + S1.size a ≤ S288.size a := fun k0_t1 arg10_r0 arg11_r0 arg20_r0 arg21_r0 arg22_r0 k0_hw5 => k0_hw5.2.2.2.2.2.2.2.2.2.2.1
theorem k0_off45_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h7 : k0_cond7 k0_t1 arg22_r0 = 1#1), ∀ a, (k0_off45 arg11_r0) a + S1.size a ≤ S3.size a := fun k0_t1 arg10_r0 arg11_r0 arg20_r0 arg21_r0 arg22_r0 k0_hw5 k0_h7 => k0_hw5.2.2.2.2.2.2.2.2.2.2.2.1 k0_h7
theorem k0_off46_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h7 : k0_cond7 k0_t1 arg22_r0 = 1#1), ∀ a, (k0_off46 arg11_r0) a + S1x1024x8x128.size a ≤ S3x1024x8x128.size a := fun k0_t1 arg10_r0 arg11_r0 arg20_r0 arg21_r0 arg22_r0 k0_hw5 k0_h7 => k0_hw5.2.2.2.2.2.2.2.2.2.2.2.2.1 k0_h7
theorem k0_off47_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h7 : k0_cond7 k0_t1 arg22_r0 = 1#1), ∀ a, (k0_off47 arg22_r0) a + S1024x8x128.size a ≤ S294912x8x128.size a := fun k0_t1 arg10_r0 arg11_r0 arg20_r0 arg21_r0 arg22_r0 k0_hw5 k0_h7 => k0_hw5.2.2.2.2.2.2.2.2.2.2.2.2.2.1 k0_h7
theorem k0_off48_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off48 arg22_r0) a + S1.size a ≤ S288.size a := fun k0_t1 arg10_r0 arg11_r0 arg20_r0 arg21_r0 arg22_r0 k0_hw5 => k0_hw5.2.2.2.2.2.2.2.2.2.2.2.2.2.2.1
theorem k0_off53_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off53 arg22_r0) a + S1.size a ≤ S288.size a := fun k0_t1 arg10_r0 arg11_r0 arg20_r0 arg21_r0 arg22_r0 k0_hw5 => k0_hw5.2.2.2.2.2.2.2.2.2.2.2.2.2.2.2.1
theorem k0_off58_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off58 arg22_r0) a + S1.size a ≤ S288.size a := fun k0_t1 arg10_r0 arg11_r0 arg20_r0 arg21_r0 arg22_r0 k0_hw5 => k0_hw5.2.2.2.2.2.2.2.2.2.2.2.2.2.2.2.2.1
theorem k0_off63_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off63 arg22_r0) a + S1.size a ≤ S288.size a := fun k0_t1 arg10_r0 arg11_r0 arg20_r0 arg21_r0 arg22_r0 k0_hw5 => k0_hw5.2.2.2.2.2.2.2.2.2.2.2.2.2.2.2.2.2.1
theorem k0_off68_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ a, (k0_off68 arg22_r0) a + S1.size a ≤ S288.size a := fun k0_t1 arg10_r0 arg11_r0 arg20_r0 arg21_r0 arg22_r0 k0_hw5 => k0_hw5.2.2.2.2.2.2.2.2.2.2.2.2.2.2.2.2.2.2.1
theorem k0_off76_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h20 : k0_cond20 k0_t1 arg22_r0 = 1#1), ∀ a, (k0_off76 arg20_r0) a + S1.size a ≤ S2.size a := fun k0_t1 arg10_r0 arg11_r0 arg20_r0 arg21_r0 arg22_r0 k0_hw5 k0_h20 => k0_hw5.2.2.2.2.2.2.2.2.2.2.2.2.2.2.2.2.2.2.2.1 k0_h20
theorem k0_off77_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h20 : k0_cond20 k0_t1 arg22_r0 = 1#1), ∀ a, (k0_off77 arg22_r0) a + S1024x8x128.size a ≤ S294912x8x128.size a := fun k0_t1 arg10_r0 arg11_r0 arg20_r0 arg21_r0 arg22_r0 k0_hw5 k0_h20 => k0_hw5.2.2.2.2.2.2.2.2.2.2.2.2.2.2.2.2.2.2.2.2.1 k0_h20
theorem k0_off78_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h20 : k0_cond20 k0_t1 arg22_r0 = 1#1), ∀ a, (k0_off78 arg20_r0) a + S1x1024x8x128.size a ≤ S2x1024x8x128.size a := fun k0_t1 arg10_r0 arg11_r0 arg20_r0 arg21_r0 arg22_r0 k0_hw5 k0_h20 => k0_hw5.2.2.2.2.2.2.2.2.2.2.2.2.2.2.2.2.2.2.2.2.2.1 k0_h20
theorem k0_off79_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h26 : k0_cond26 k0_t1 arg22_r0 = 1#1), ∀ a, (k0_off79 arg21_r0) a + S1.size a ≤ S2.size a := fun k0_t1 arg10_r0 arg11_r0 arg20_r0 arg21_r0 arg22_r0 k0_hw5 k0_h26 => k0_hw5.2.2.2.2.2.2.2.2.2.2.2.2.2.2.2.2.2.2.2.2.2.2.1 k0_h26
theorem k0_off80_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h26 : k0_cond26 k0_t1 arg22_r0 = 1#1), ∀ a, (k0_off80 arg22_r0) a + S1024x8x128.size a ≤ S294912x8x128.size a := fun k0_t1 arg10_r0 arg11_r0 arg20_r0 arg21_r0 arg22_r0 k0_hw5 k0_h26 => k0_hw5.2.2.2.2.2.2.2.2.2.2.2.2.2.2.2.2.2.2.2.2.2.2.2.1 k0_h26
theorem k0_off81_inb : ∀ (k0_t1 : Fin k0_t1_loop.trips) (arg10_r0 : BitVec 32) (arg11_r0 : BitVec 32) (arg20_r0 : BitVec 32) (arg21_r0 : BitVec 32) (arg22_r0 : BitVec 32) (k0_hw5 : k0_chk5 k0_t1 arg10_r0 arg11_r0 arg20_r0 arg21_r0 arg22_r0), ∀ (k0_h26 : k0_cond26 k0_t1 arg22_r0 = 1#1), ∀ a, (k0_off81 arg21_r0) a + S1x1024x8x128.size a ≤ S2x1024x8x128.size a := fun k0_t1 arg10_r0 arg11_r0 arg20_r0 arg21_r0 arg22_r0 k0_hw5 k0_h26 => k0_hw5.2.2.2.2.2.2.2.2.2.2.2.2.2.2.2.2.2.2.2.2.2.2.2.2 k0_h26

def k0_off82 (v75_11_r0 : BitVec 32) : Fin 1 → Nat :=
  let c2_i32_114_r0 : BitVec 32 := 2#32
  let v101_r0 : BitVec 32 := Scalar.remui v75_11_r0 c2_i32_114_r0
  ![v101_r0.toNat]

def k0_off83 (v75_12_r0 : BitVec 32) : Fin 3 → Nat :=
  let c1024_i32_r0 : BitVec 32 := 1024#32
  let true_90_r0 : BitVec 1 := 1#1
  let c1_i32_89_r0 : BitVec 32 := 1#32
  let v76_r0 : BitVec 32 := Scalar.subi v75_12_r0 c1_i32_89_r0
  let v77_r0 : BitVec 32 := Scalar.select true_90_r0 v76_r0 v75_12_r0
  let c_m1_i32_91_r0 : BitVec 32 := 4294967295#32
  let v78_r0 : BitVec 1 := Scalar.cmpi .eq v77_r0 c_m1_i32_91_r0
  let c287_i32_92_r0 : BitVec 32 := 287#32
  let v79_r0 : BitVec 32 := Scalar.select v78_r0 c287_i32_92_r0 v77_r0
  let c0_i32_93_r0 : BitVec 32 := 0#32
  let v80_r0 : BitVec 32 := Scalar.addi v79_r0 c0_i32_93_r0
  let v102_r0 : BitVec 32 := Scalar.muli c1024_i32_r0 v80_r0
  let c0_i32_115_r0 : BitVec 32 := 0#32
  let c0_i32_116_r0 : BitVec 32 := 0#32
  ![v102_r0.toNat, 0, 0]

def k0_chk24 (v75_12_r0 : BitVec 32) : Prop :=
  (∀ a, (k0_off83 v75_12_r0) a + S1024x8x128.size a ≤ S294912x8x128.size a)
theorem k0_off83_inb : ∀ (v75_12_r0 : BitVec 32) (k0_hw24 : k0_chk24 v75_12_r0), ∀ a, (k0_off83 v75_12_r0) a + S1024x8x128.size a ≤ S294912x8x128.size a := fun v75_12_r0 k0_hw24 => k0_hw24

def k0_off84 (v75_11_r0 : BitVec 32) : Fin 4 → Nat :=
  let c2_i32_114_r0 : BitVec 32 := 2#32
  let v101_r0 : BitVec 32 := Scalar.remui v75_11_r0 c2_i32_114_r0
  let c0_i32_117_r0 : BitVec 32 := 0#32
  let c0_i32_118_r0 : BitVec 32 := 0#32
  let c0_i32_119_r0 : BitVec 32 := 0#32
  ![v101_r0.toNat, 0, 0, 0]

def k0_chk23 (v75_11_r0 : BitVec 32) : Prop :=
  (∀ a, (k0_off82 v75_11_r0) a + S1.size a ≤ S2.size a) ∧
  (∀ a, (k0_off84 v75_11_r0) a + S1x1024x8x128.size a ≤ S2x1024x8x128.size a)
theorem k0_off82_inb : ∀ (v75_11_r0 : BitVec 32) (k0_hw23 : k0_chk23 v75_11_r0), ∀ a, (k0_off82 v75_11_r0) a + S1.size a ≤ S2.size a := fun v75_11_r0 k0_hw23 => k0_hw23.1
theorem k0_off84_inb : ∀ (v75_11_r0 : BitVec 32) (k0_hw23 : k0_chk23 v75_11_r0), ∀ a, (k0_off84 v75_11_r0) a + S1x1024x8x128.size a ≤ S2x1024x8x128.size a := fun v75_11_r0 k0_hw23 => k0_hw23.2

abbrev stage0_0 : Fin 1 → Memref sig .tc .smem S288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S294912x8x128 : Shape := ⟨3, ![294912, 8, 128]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1024 : Shape := ⟨1, ![1024]⟩
abbrev S288x1024x1024 : Shape := ⟨3, ![288, 1024, 1024]⟩
abbrev S1x1024x1 : Shape := ⟨3, ![1, 1024, 1]⟩
abbrev S288x1x1 : Shape := ⟨3, ![288, 1, 1]⟩
abbrev S288x1024x1 : Shape := ⟨3, ![288, 1024, 1]⟩
abbrev S_ : Shape := ⟨0, ![]⟩
abbrev S288x1 : Shape := ⟨2, ![288, 1]⟩
abbrev S288x1024x2048 : Shape := ⟨3, ![288, 1024, 2048]⟩
abbrev S288x2048 : Shape := ⟨2, ![288, 2048]⟩
abbrev S288x1x2048 : Shape := ⟨3, ![288, 1, 2048]⟩
abbrev S288x1024 : Shape := ⟨2, ![288, 1024]⟩
abbrev S288x1x1024 : Shape := ⟨3, ![288, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S294912x8x128, .f32⟩
  | .hbm, ⟨1, _⟩ => ⟨S288, .i32⟩
  | .hbm, ⟨2, _⟩ => ⟨S288, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S1024, .i32⟩
  | .hbm, ⟨8, _⟩ => ⟨S288x1024x1024, .f32⟩
  | .hbm, ⟨9, _⟩ => ⟨S1x1024x1, .i32⟩
  | .hbm, ⟨10, _⟩ => ⟨S288x1x1, .i32⟩
  | .hbm, ⟨11, _⟩ => ⟨S288x1024x1, .i32⟩
  | .hbm, ⟨12, _⟩ => ⟨S288x1024x1, .i32⟩
  | .hbm, ⟨13, _⟩ => ⟨S288x1024x1, .i1⟩
  | .hbm, ⟨14, _⟩ => ⟨S_, .f32⟩
  | .hbm, ⟨15, _⟩ => ⟨S_, .f32⟩
  | .hbm, ⟨16, _⟩ => ⟨S288x1024x1024, .i1⟩
  | .hbm, ⟨17, _⟩ => ⟨S288x1024x1024, .f32⟩
  | .hbm, ⟨18, _⟩ => ⟨S288x1024x1024, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1024x2048, .f32⟩
  | .hbm, ⟨28, _⟩ => ⟨S288x1024x2048, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x2048, .f32⟩
  | .hbm, ⟨38, _⟩ => ⟨S288x1x2048, .f32⟩
  | .hbm, ⟨39, _⟩ => ⟨S288x1024x2048, .f32⟩
  | .hbm, ⟨40, _⟩ => ⟨S288x1024x2048, .f32⟩
  | .hbm, ⟨41, _⟩ => ⟨S288x1024x1024, .f32⟩
  | .hbm, ⟨42, _⟩ => ⟨S_, .f32⟩
  | .hbm, ⟨43, _⟩ => ⟨S288x1024x1024, .f32⟩
  | .hbm, ⟨44, _⟩ => ⟨S288x1024x1024, .f32⟩
  | .hbm, ⟨45, _⟩ => ⟨S288x1024x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S288x1024x1024, .f32⟩
  | .hbm, ⟨50, _⟩ => ⟨S288x1024x1024, .f32⟩
  | .hbm, ⟨51, _⟩ => ⟨S_, .f32⟩
  | .hbm, ⟨52, _⟩ => ⟨S288x1024x1024, .f32⟩
  | .hbm, ⟨53, _⟩ => ⟨S288x1024x1024, .f32⟩
  | .hbm, ⟨54, _⟩ => ⟨S_, .f32⟩
  | .hbm, ⟨55, _⟩ => ⟨S288x1024x1024, .f32⟩
  | .hbm, ⟨56, _⟩ => ⟨S288x1024x1024, .f32⟩
  | .hbm, ⟨57, _⟩ => ⟨S288x1024x1024, .f32⟩
  | .hbm, ⟨58, _⟩ => ⟨S288x1024x1024, .f32⟩
  | .hbm, ⟨59, _⟩ => ⟨S_, .f32⟩
  | .hbm, ⟨60, _⟩ => ⟨S288x1024x1024, .f32⟩
  | .hbm, ⟨61, _⟩ => ⟨S288x1024x1024, .f32⟩
  | .hbm, ⟨62, _⟩ => ⟨S_, .f32⟩
  | .hbm, ⟨63, _⟩ => ⟨S288x1024x1024, .f32⟩
  | .hbm, ⟨64, _⟩ => ⟨S288x1024x1024, .f32⟩
  | .hbm, ⟨65, _⟩ => ⟨S288x1024x1024, .f32⟩
  | .hbm, ⟨66, _⟩ => ⟨S_, .f32⟩
  | .hbm, ⟨67, _⟩ => ⟨S288x1024x1024, .f32⟩
  | .hbm, ⟨68, _⟩ => ⟨S288x1024x1024, .f32⟩
  | .hbm, ⟨69, _⟩ => ⟨S288x1024x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1024x1024, .f32⟩
  | .hbm, ⟨79, _⟩ => ⟨S288x1024x1024, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S288x1, .i32⟩
  | .hbm, ⟨88, _⟩ => ⟨S288x1024, .f32⟩
  | .hbm, ⟨89, _⟩ => ⟨S288x1x1024, .f32⟩
  | .hbm, ⟨90, _⟩ => ⟨S288x1024x1024, .f32⟩
  | .hbm, ⟨91, _⟩ => ⟨S288x1024x1024, .f32⟩
  | .hbm, ⟨92, _⟩ => ⟨S_, .i32⟩
  | .hbm, ⟨93, _⟩ => ⟨S288, .i32⟩
  | .hbm, ⟨94, _⟩ => ⟨S288, .i1⟩
  | .hbm, ⟨95, _⟩ => ⟨S288x1x1, .i1⟩
  | .hbm, ⟨96, _⟩ => ⟨S_, .f32⟩
  | .hbm, ⟨97, _⟩ => ⟨S_, .f32⟩
  | .hbm, ⟨98, _⟩ => ⟨S288x1024x1024, .i1⟩
  | .hbm, ⟨99, _⟩ => ⟨S288x1024x1024, .f32⟩
  | .hbm, ⟨100, _⟩ => ⟨S288x1024x1024, .f32⟩
  | .hbm, ⟨101, _⟩ => ⟨S294912x8x128, .f32⟩
  | _, _ => ⟨S294912x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x6x1024 : Shape := ⟨3, ![16, 6, 1024]⟩
abbrev S1024 : Shape := ⟨1, ![1024]⟩
abbrev S1024x8704 : Shape := ⟨2, ![1024, 8704]⟩
abbrev S1024x5120 : Shape := ⟨2, ![1024, 5120]⟩
abbrev S1024x2048 : Shape := ⟨2, ![1024, 2048]⟩
abbrev S1024x1536 : Shape := ⟨2, ![1024, 1536]⟩
abbrev S1x1024 : Shape := ⟨2, ![1, 1024]⟩
abbrev S16x4096x8704 : Shape := ⟨3, ![16, 4096, 8704]⟩
abbrev S1x2048x1024 : Shape := ⟨3, ![1, 2048, 1024]⟩
abbrev S1x6x1024 : Shape := ⟨3, ![1, 6, 1024]⟩
abbrev S1024x2176 : Shape := ⟨2, ![1024, 2176]⟩
abbrev S1x2048x2176 : Shape := ⟨3, ![1, 2048, 2176]⟩
abbrev S2048x1024 : Shape := ⟨2, ![2048, 1024]⟩
abbrev S1x1x1024 : Shape := ⟨3, ![1, 1, 1024]⟩
abbrev S2048 : Shape := ⟨1, ![2048]⟩
abbrev S2048x1 : Shape := ⟨2, ![2048, 1]⟩
abbrev S2048x2176 : Shape := ⟨2, ![2048, 2176]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x8704, .f32⟩
  | .hbm, ⟨4, _⟩ => ⟨S1024x5120, .f32⟩
  | .hbm, ⟨5, _⟩ => ⟨S1024x2048, .f32⟩
  | .hbm, ⟨6, _⟩ => ⟨S1024x1536, .f32⟩
  | .hbm, ⟨7, _⟩ => ⟨S1024x8704, .f32⟩
  | .hbm, ⟨8, _⟩ => ⟨S1024x8704, .bf16⟩
  | .hbm, ⟨9, _⟩ => ⟨S1x1024, .f32⟩
  | .hbm, ⟨10, _⟩ => ⟨S16x4096x8704, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2176, .bf16⟩
  | .local _ .vmem, ⟨6, _⟩ => ⟨S1024x2176, .bf16⟩
  | .local _ .vmem, ⟨7, _⟩ => ⟨S1x2048x2176, .bf16⟩
  | .local _ .vmem, ⟨8, _⟩ => ⟨S1x2048x2176, .bf16⟩
  | .local _ .vmem, ⟨9, _⟩ => ⟨S2048x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S16x4096x1024 : Shape := ⟨3, ![16, 4096, 1024]⟩
abbrev S16x6x1024 : Shape := ⟨3, ![16, 6, 1024]⟩
abbrev S1024 : Shape := ⟨1, ![1024]⟩
abbrev S1024x8704 : Shape := ⟨2, ![1024, 8704]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x8704 : Shape := ⟨3, ![16, 4096, 8704]⟩
abbrev S16x4096x5120 : Shape := ⟨3, ![16, 4096, 5120]⟩
abbrev S16x4096x2048 : Shape := ⟨3, ![16, 4096, 2048]⟩
abbrev S16x4096x1536 : Shape := ⟨3, ![16, 4096, 1536]⟩

abbrev nBuf : Space → Nat
  | .hbm => 35
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x8704, .f32⟩
  | .hbm, ⟨4, _⟩ => ⟨S16x1x1024, .f32⟩
  | .hbm, ⟨5, _⟩ => ⟨S16x1x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x8704, .f32⟩
  | .hbm, ⟨30, _⟩ => ⟨S16x4096x5120, .f32⟩
  | .hbm, ⟨31, _⟩ => ⟨S16x4096x2048, .f32⟩
  | .hbm, ⟨32, _⟩ => ⟨S16x4096x1536, .f32⟩
  | .hbm, ⟨33, _⟩ => ⟨S16x4096x8704, .f32⟩
  | .hbm, ⟨34, _⟩ => ⟨S16x4096x8704, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel3.lean ====
abbrev S4x65536x8x128 : Shape := ⟨4, ![4, 65536, 8, 128]⟩
abbrev S65536x1024 : Shape := ⟨2, ![65536, 1024]⟩
abbrev S16x6x1024 : Shape := ⟨3, ![16, 6, 1024]⟩
abbrev S65536x128 : Shape := ⟨2, ![65536, 128]⟩
abbrev S1024 : Shape := ⟨1, ![1024]⟩
abbrev S1x1024 : Shape := ⟨2, ![1, 1024]⟩
abbrev S4x512x8x128 : Shape := ⟨4, ![4, 512, 8, 128]⟩
abbrev S512x1024 : Shape := ⟨2, ![512, 1024]⟩
abbrev S1x6x1024 : Shape := ⟨3, ![1, 6, 1024]⟩
abbrev S512x128 : Shape := ⟨2, ![512, 128]⟩
abbrev S512x1 : Shape := ⟨2, ![512, 1]⟩
abbrev S1x512x8x128 : Shape := ⟨4, ![1, 512, 8, 128]⟩
abbrev S512x8x128 : Shape := ⟨3, ![512, 8, 128]⟩
abbrev S1x1x1024 : Shape := ⟨3, ![1, 1, 1024]⟩
abbrev S512 : Shape := ⟨1, ![512]⟩
abbrev S16x4096x1024 : Shape := ⟨3, ![16, 4096, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x65536x8x128, .f32⟩
  | .hbm, ⟨1, _⟩ => ⟨S65536x1024, .f32⟩
  | .hbm, ⟨2, _⟩ => ⟨S16x6x1024, .f32⟩
  | .hbm, ⟨3, _⟩ => ⟨S65536x128, .f32⟩
  | .hbm, ⟨4, _⟩ => ⟨S1024, .f32⟩
  | .hbm, ⟨5, _⟩ => ⟨S1x1024, .f32⟩
  | .hbm, ⟨6, _⟩ => ⟨S65536x1024, .f32⟩
  | .hbm, ⟨7, _⟩ => ⟨S16x4096x1024, .f32⟩
  | .local _ .vmem, ⟨0, _⟩ => ⟨S4x512x8x128, .f32⟩
  | .local _ .vmem, ⟨1, _⟩ => ⟨S4x512x8x128, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x65536x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x65536x8x128 : Shape := ⟨4, ![4, 65536, 8, 128]⟩
abbrev S65536x1024 : Shape := ⟨2, ![65536, 1024]⟩
abbrev S16x6x1024 : Shape := ⟨3, ![16, 6, 1024]⟩
abbrev S65536x128 : Shape := ⟨2, ![65536, 128]⟩
abbrev S1024 : Shape := ⟨1, ![1024]⟩
abbrev S16x1x1024 : Shape := ⟨3, ![16, 1, 1024]⟩
abbrev S4x16x4096x1024 : Shape := ⟨4, ![4, 16, 4096, 1024]⟩
abbrev S16x4096x128 : Shape := ⟨3, ![16, 4096, 128]⟩
abbrev S16x4096x4 : Shape := ⟨3, ![16, 4096, 4]⟩
abbrev S4x16x4096 : Shape := ⟨3, ![4, 16, 4096]⟩
abbrev S4x16x4096x1 : Shape := ⟨4, ![4, 16, 4096, 1]⟩
abbrev S_ : Shape := ⟨0, ![]⟩
abbrev S16x4096x1024 : Shape := ⟨3, ![16, 4096, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x65536x8x128, .f32⟩
  | .hbm, ⟨1, _⟩ => ⟨S65536x1024, .f32⟩
  | .hbm, ⟨2, _⟩ => ⟨S16x6x1024, .f32⟩
  | .hbm, ⟨3, _⟩ => ⟨S65536x128, .f32⟩
  | .hbm, ⟨4, _⟩ => ⟨S1024, .f32⟩
  | .hbm, ⟨5, _⟩ => ⟨S16x1x1024, .f32⟩
  | .hbm, ⟨6, _⟩ => ⟨S4x16x4096x1024, .f32⟩
  | .hbm, ⟨7, _⟩ => ⟨S16x4096x128, .f32⟩
  | .hbm, ⟨8, _⟩ => ⟨S16x4096x4, .f32⟩
  | .hbm, ⟨9, _⟩ => ⟨S4x16x4096, .f32⟩
  | .hbm, ⟨10, _⟩ => ⟨S4x16x4096x1, .f32⟩
  | .hbm, ⟨11, _⟩ => ⟨S4x16x4096x1024, .f32⟩
  | .hbm, ⟨12, _⟩ => ⟨S4x16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | _, _ => ⟨S4x65536x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x6x1024 : Shape := ⟨3, ![16, 6, 1024]⟩
abbrev S16x4096x8704 : Shape := ⟨3, ![16, 4096, 8704]⟩
abbrev S16x4096x512 : Shape := ⟨3, ![16, 4096, 512]⟩
abbrev S1024 : Shape := ⟨1, ![1024]⟩
abbrev S1024x1024 : Shape := ⟨2, ![1024, 1024]⟩
abbrev S512x1024 : Shape := ⟨2, ![512, 1024]⟩
abbrev S1024x32 : Shape := ⟨2, ![1024, 32]⟩
abbrev S32 : Shape := ⟨1, ![32]⟩
abbrev S1x1024 : Shape := ⟨2, ![1, 1024]⟩
abbrev S32x1 : Shape := ⟨2, ![32, 1]⟩
abbrev S32x1024 : Shape := ⟨2, ![32, 1024]⟩
abbrev S16x4096x8x128 : Shape := ⟨4, ![16, 4096, 8, 128]⟩
abbrev S8x65536 : Shape := ⟨2, ![8, 65536]⟩
abbrev S16x4096x128 : Shape := ⟨3, ![16, 4096, 128]⟩
abbrev S32x128 : Shape := ⟨2, ![32, 128]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x8x128 : Shape := ⟨4, ![1, 512, 8, 128]⟩
abbrev S8x512 : Shape := ⟨2, ![8, 512]⟩
abbrev S1x512x128 : Shape := ⟨3, ![1, 512, 128]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S512x8x128 : Shape := ⟨3, ![512, 8, 128]⟩
abbrev S32x512 : Shape := ⟨2, ![32, 512]⟩
abbrev S1x512 : Shape := ⟨2, ![1, 512]⟩
abbrev S124x512 : Shape := ⟨2, ![124, 512]⟩
abbrev S128x512 : Shape := ⟨2, ![128, 512]⟩

abbrev nBuf : Space → Nat
  | .hbm => 28
  | .vmem => 35
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x8704, .bf16⟩
  | .hbm, ⟨3, _⟩ => ⟨S16x4096x1024, .bf16⟩
  | .hbm, ⟨4, _⟩ => ⟨S16x4096x1024, .bf16⟩
  | .hbm, ⟨5, _⟩ => ⟨S16x4096x512, .bf16⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S512x1024, .f32⟩
  | .hbm, ⟨11, _⟩ => ⟨S1024x1024, .f32⟩
  | .hbm, ⟨12, _⟩ => ⟨S1024x32, .f32⟩
  | .hbm, ⟨13, _⟩ => ⟨S32, .f32⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S1024x32, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S32x1, .f32⟩
  | .hbm, ⟨22, _⟩ => ⟨S32x1024, .bf16⟩
  | .hbm, ⟨23, _⟩ => ⟨S16x4096x1024, .f32⟩
  | .hbm, ⟨24, _⟩ => ⟨S16x4096x8x128, .f32⟩
  | .hbm, ⟨25, _⟩ => ⟨S8x65536, .i32⟩
  | .hbm, ⟨26, _⟩ => ⟨S16x4096x128, .f32⟩
  | .hbm, ⟨27, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S512x1024, .bf16⟩
  | .local _ .vmem, ⟨21, _⟩ => ⟨S1024x1024, .bf16⟩
  | .local _ .vmem, ⟨22, _⟩ => ⟨S32x1024, .bf16⟩
  | .local _ .vmem, ⟨23, _⟩ => ⟨S32x1, .f32⟩
  | .local _ .vmem, ⟨24, _⟩ => ⟨S1x512x1024, .f32⟩
  | .local _ .vmem, ⟨25, _⟩ => ⟨S1x512x1024, .f32⟩
  | .local _ .vmem, ⟨26, _⟩ => ⟨S1x512x8x128, .f32⟩
  | .local _ .vmem, ⟨27, _⟩ => ⟨S1x512x8x128, .f32⟩
  | .local _ .vmem, ⟨28, _⟩ => ⟨S8x512, .i32⟩
  | .local _ .vmem, ⟨29, _⟩ => ⟨S8x512, .i32⟩
  | .local _ .vmem, ⟨30, _⟩ => ⟨S1x512x128, .f32⟩
  | .local _ .vmem, ⟨31, _⟩ => ⟨S1x512x128, .f32⟩
  | .local _ .vmem, ⟨32, _⟩ => ⟨S32x128, .f32⟩
  | .local _ .vmem, ⟨33, _⟩ => ⟨S512x512, .bf16⟩
  | .local _ .vmem, ⟨34, _⟩ => ⟨S32x1, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference4Ideal.lean ====
abbrev S16x4096x1024 : Shape := ⟨3, ![16, 4096, 1024]⟩
abbrev S16x6x1024 : Shape := ⟨3, ![16, 6, 1024]⟩
abbrev S16x4096x8704 : Shape := ⟨3, ![16, 4096, 8704]⟩
abbrev S16x4096x512 : Shape := ⟨3, ![16, 4096, 512]⟩
abbrev S1024 : Shape := ⟨1, ![1024]⟩
abbrev S1024x1024 : Shape := ⟨2, ![1024, 1024]⟩
abbrev S512x1024 : Shape := ⟨2, ![512, 1024]⟩
abbrev S1024x32 : Shape := ⟨2, ![1024, 32]⟩
abbrev S32 : Shape := ⟨1, ![32]⟩
abbrev S16x1x1024 : Shape := ⟨3, ![16, 1, 1024]⟩
abbrev S16x4096x8x128 : Shape := ⟨4, ![16, 4096, 8, 128]⟩
abbrev S_ : Shape := ⟨0, ![]⟩
abbrev S16x4096x8 : Shape := ⟨3, ![16, 4096, 8]⟩
abbrev S16x4096x8x1 : Shape := ⟨4, ![16, 4096, 8, 1]⟩
abbrev S1x1x1024 : Shape := ⟨3, ![1, 1, 1024]⟩
abbrev S16x4096 : Shape := ⟨2, ![16, 4096]⟩
abbrev S16x4096x1 : Shape := ⟨3, ![16, 4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x8704, .bf16⟩
  | .hbm, ⟨3, _⟩ => ⟨S16x4096x1024, .bf16⟩
  | .hbm, ⟨4, _⟩ => ⟨S16x4096x1024, .bf16⟩
  | .hbm, ⟨5, _⟩ => ⟨S16x4096x512, .bf16⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S512x1024, .f32⟩
  | .hbm, ⟨11, _⟩ => ⟨S1024x1024, .f32⟩
  | .hbm, ⟨12, _⟩ => ⟨S1024x32, .f32⟩
  | .hbm, ⟨13, _⟩ => ⟨S32, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x4096x8704, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x8x128, .f32⟩
  | .hbm, ⟨25, _⟩ => ⟨S16x4096x8x128, .f32⟩
  | .hbm, ⟨26, _⟩ => ⟨S_, .f32⟩
  | .hbm, ⟨27, _⟩ => ⟨S16x4096x8, .f32⟩
  | .hbm, ⟨28, _⟩ => ⟨S16x4096x8x1, .f32⟩
  | .hbm, ⟨29, _⟩ => ⟨S_, .f32⟩
  | .hbm, ⟨30, _⟩ => ⟨S16x4096x8x1, .f32⟩
  | .hbm, ⟨31, _⟩ => ⟨S16x4096x8x1, .f32⟩
  | .hbm, ⟨32, _⟩ => ⟨S_, .f32⟩
  | .hbm, ⟨33, _⟩ => ⟨S16x4096x8x1, .f32⟩
  | .hbm, ⟨34, _⟩ => ⟨S16x4096x8x1, .f32⟩
  | .hbm, ⟨35, _⟩ => ⟨S16x4096x8x1, .f32⟩
  | .hbm, ⟨36, _⟩ => ⟨S16x4096x8x128, .f32⟩
  | .hbm, ⟨37, _⟩ => ⟨S16x4096x8x128, .f32⟩
  | .hbm, ⟨38, _⟩ => ⟨S16x4096x1024, .f32⟩
  | .hbm, ⟨39, _⟩ => ⟨S1x1x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S_, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x512, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096x1024, .f32⟩
  | .hbm, ⟨59, _⟩ => ⟨S16x4096x1024, .f32⟩
  | .hbm, ⟨60, _⟩ => ⟨S_, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S_, .f32⟩
  | .hbm, ⟨77, _⟩ => ⟨S16x4096, .f32⟩
  | .hbm, ⟨78, _⟩ => ⟨S16x4096x1, .f32⟩
  | .hbm, ⟨79, _⟩ => ⟨S_, .f32⟩
  | .hbm, ⟨80, _⟩ => ⟨S16x4096x1, .f32⟩
  | .hbm, ⟨81, _⟩ => ⟨S16x4096x1, .f32⟩
  | .hbm, ⟨82, _⟩ => ⟨S_, .f32⟩
  | .hbm, ⟨83, _⟩ => ⟨S16x4096x1, .f32⟩
  | .hbm, ⟨84, _⟩ => ⟨S16x4096x1, .f32⟩
  | .hbm, ⟨85, _⟩ => ⟨S16x4096x1, .f32⟩
  | .hbm, ⟨86, _⟩ => ⟨S16x4096x1024, .f32⟩
  | .hbm, ⟨87, _⟩ => ⟨S16x4096x1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | .hbm, ⟨91, _⟩ => ⟨S16x4096x1024, .f32⟩
  | .hbm, ⟨92, _⟩ => ⟨S16x4096x1024, .f32⟩
  | .hbm, ⟨93, _⟩ => ⟨S16x4096x1024, .f32⟩
  | .hbm, ⟨94, _⟩ => ⟨S16x4096x1024, .f32⟩
  | .hbm, ⟨95, _⟩ => ⟨S_, .f32⟩
  | .hbm, ⟨96, _⟩ => ⟨S16x4096, .f32⟩
  | .hbm, ⟨97, _⟩ => ⟨S16x4096x1, .f32⟩
  | .hbm, ⟨98, _⟩ => ⟨S_, .f32⟩
  | .hbm, ⟨99, _⟩ => ⟨S16x4096x1, .f32⟩
  | .hbm, ⟨100, _⟩ => ⟨S16x4096x1, .f32⟩
  | .hbm, ⟨101, _⟩ => ⟨S_, .f32⟩
  | .hbm, ⟨102, _⟩ => ⟨S16x4096x1, .f32⟩
  | .hbm, ⟨103, _⟩ => ⟨S16x4096x1, .f32⟩
  | .hbm, ⟨104, _⟩ => ⟨S16x4096x1, .f32⟩
  | .hbm, ⟨105, _⟩ => ⟨S16x4096x1024, .f32⟩
  | .hbm, ⟨106, _⟩ => ⟨S16x4096x1024, .f32⟩
  | .hbm, ⟨107, _⟩ => ⟨S1x1x1024, .f32⟩
  | .hbm, ⟨108, _⟩ => ⟨S16x4096x1024, .f32⟩
  | .hbm, ⟨109, _⟩ => ⟨S16x4096x1024, .f32⟩
  | .hbm, ⟨110, _⟩ => ⟨S_, .f32⟩
  | .hbm, ⟨111, _⟩ => ⟨S16x1x1024, .f32⟩
  | .hbm, ⟨112, _⟩ => ⟨S16x1x1024, .f32⟩
  | .hbm, ⟨113, _⟩ => ⟨S16x4096x1024, .f32⟩
  | .hbm, ⟨114, _⟩ => ⟨S16x4096x1024, .f32⟩
  | .hbm, ⟨115, _⟩ => ⟨S16x4096x1024, .f32⟩
  | .hbm, ⟨116, _⟩ => ⟨S16x4096x1024, .f32⟩
  | .hbm, ⟨117, _⟩ => ⟨S16x4096x8x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Proof.Names.lean ====
/-
  NAMES for the pieces that the expert kernel moves: six rings of VMEM slots (token blocks, gate/up weights, gate/up
  biases, down weights, down biases, output blocks), their DMA semaphores, and the blocks of the arrays in HBM that
  a slot is filled from or written to; with the equations that turn the printed slices into those names, for a
  slot counter `n` up to 288 (the number of trips).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic

/-- Where entry `s` of an array of semaphores starts. -/
abbrev o1 (n : ℕ) : Fin 1 → Nat := ![n]
/-- Where part `n` of an array of three axes starts, in units of the first axis. -/
abbrev o3 (n : ℕ) : Fin 3 → Nat := ![n, 0, 0]
/-- Where slot `n` of a ring of four axes starts. -/
abbrev o4 (n : ℕ) : Fin 4 → Nat := ![n, 0, 0, 0]
instance (n : ℕ) : ClosedOff (o1 n) := ⟨o1 n, rfl⟩
instance (n : ℕ) : ClosedOff (o3 n) := ⟨o3 n, rfl⟩
instance (n : ℕ) : ClosedOff (o4 n) := ⟨o4 n, rfl⟩

/-! ### the block ring -/

theorem semX_inb (s : Fin 3) : ∀ a, o1 s.val a + S1.size a ≤ S3.size a := by
  have := s.isLt; intro a; fin_cases a; show s.val + 1 ≤ 3; omega
theorem slotX_inb (s : Fin 3) : ∀ a, o4 s.val a + S1x1024x8x128.size a ≤ S3x1024x8x128.size a := by
  have := s.isLt; intro a; fin_cases a
  · show s.val + 1 ≤ 3; omega
  · show 0 + 1024 ≤ 1024; omega
  · show 0 + 8 ≤ 8; omega
  · show 0 + 128 ≤ 128; omega
theorem blkX_inb (b : Fin 288) : ∀ a, o3 (1024 * b.val) a + S1024x8x128.size a ≤ S294912x8x128.size a := by
  have := b.isLt; intro a; fin_cases a
  · show 1024 * b.val + 1024 ≤ 294912; omega
  · show 0 + 8 ≤ 8; omega
  · show 0 + 128 ≤ 128; omega
/-- The DMA semaphore of slot `s` of the block ring. -/
def csmX (s : Fin 3) : DmaSems sig S_ := (cc0_scoped1.slice (Rect.unit (s := S3) (o1 s.val) S1.size (semX_inb s))).squeeze S_ squeezes_S1_S_
/-- Slot `s` of the block ring. -/
def slotX (s : Fin 3) : Memref sig .tc .vmem S1024x8x128 .f32 :=
  ((Memref.whole cc0_scoped0).slice (Rect.unit (s := S3x1024x8x128) (o4 s.val) S1x1024x8x128.size (slotX_inb s)) (fun _ => rfl)).squeeze S1024x8x128 squeezes_S1x1024x8x128_S1024x8x128
/-- The part of the array in HBM that one slot of the block ring holds. -/
def blkX (b : Fin 288) : Memref sig .tc .hbm S1024x8x128 .f32 :=
  (Memref.whole main_arg0).slice (Rect.unit (s := S294912x8x128) (o3 (1024 * b.val)) S1024x8x128.size (blkX_inb b)) (fun _ => rfl)
theorem csmX_congr {off : Fin 1 → Nat} {s : Fin 3} (e : off = o1 s.val) (hh) :
    (cc0_scoped1.slice (Rect.unit (s := S3) off S1.size hh)).squeeze S_ squeezes_S1_S_ = csmX s :=
  congrArg (fun A : DmaSems sig S1 => A.squeeze S_ squeezes_S1_S_) (SemArray.slice_unit_congr _ e _ _)
theorem slotX_congr {off : Fin 4 → Nat} {s : Fin 3} (e : off = o4 s.val) (hh hs) :
    ((Memref.whole cc0_scoped0).slice (Rect.unit (s := S3x1024x8x128) off S1x1024x8x128.size hh) hs).squeeze S1024x8x128 squeezes_S1x1024x8x128_S1024x8x128 = slotX s :=
  congrArg (fun M : Memref sig .tc .vmem S1x1024x8x128 .f32 => M.squeeze S1024x8x128 squeezes_S1x1024x8x128_S1024x8x128) (Memref.slice_unit_congr _ e _ _ _ _)
theorem blkX_congr {off : Fin 3 → Nat} {b : Fin 288} (e : off = o3 (1024 * b.val)) (hh hs) :
    (Memref.whole main_arg0).slice (Rect.unit (s := S294912x8x128) off S1024x8x128.size hh) hs = blkX b :=
  Memref.slice_unit_congr _ e _ _ _ (fun _ => rfl)

/-! ### the gate/up weight ring -/

theorem semG_inb (s : Fin 2) : ∀ a, o1 s.val a + S1.size a ≤ S2.size a := by
  have := s.isLt; intro a; fin_cases a; show s.val + 1 ≤ 2; omega
theorem slotG_inb (s : Fin 2) : ∀ a, o4 s.val a + S1x1x1024x2048.size a ≤ S2x1x1024x2048.size a := by
  have := s.isLt; intro a; fin_cases a
  · show s.val + 1 ≤ 2; omega
  · show 0 + 1 ≤ 1; omega
  · show 0 + 1024 ≤ 1024; omega
  · show 0 + 2048 ≤ 2048; omega
theorem blkG_inb (b : Fin 32) : ∀ a, o3 (b.val) a + S1x1024x2048.size a ≤ S32x1024x2048.size a := by
  have := b.isLt; intro a; fin_cases a
  · show b.val + 1 ≤ 32; omega
  · show 0 + 1024 ≤ 1024; omega
  · show 0 + 2048 ≤ 2048; omega
/-- The DMA semaphore of slot `s` of the gate/up weight ring. -/
def csmG (s : Fin 2) : DmaSems sig S_ := (cc0_scoped3.slice (Rect.unit (s := S2) (o1 s.val) S1.size (semG_inb s))).squeeze S_ squeezes_S1_S_
/-- Slot `s` of the gate/up weight ring. -/
def slotG (s : Fin 2) : Memref sig .tc .vmem S1x1024x2048 .bf16 :=
  ((Memref.whole cc0_scoped2).slice (Rect.unit (s := S2x1x1024x2048) (o4 s.val) S1x1x1024x2048.size (slotG_inb s)) (fun _ => rfl)).squeeze S1x1024x2048 squeezes_S1x1x1024x2048_S1x1024x2048
/-- The part of the array in HBM that one slot of the gate/up weight ring holds. -/
def blkG (b : Fin 32) : Memref sig .tc .hbm S1x1024x2048 .bf16 :=
  (Memref.whole main_v3).slice (Rect.unit (s := S32x1024x2048) (o3 (b.val)) S1x1024x2048.size (blkG_inb b)) (fun _ => rfl)
theorem csmG_congr {off : Fin 1 → Nat} {s : Fin 2} (e : off = o1 s.val) (hh) :
    (cc0_scoped3.slice (Rect.unit (s := S2) off S1.size hh)).squeeze S_ squeezes_S1_S_ = csmG s :=
  congrArg (fun A : DmaSems sig S1 => A.squeeze S_ squeezes_S1_S_) (SemArray.slice_unit_congr _ e _ _)
theorem slotG_congr {off : Fin 4 → Nat} {s : Fin 2} (e : off = o4 s.val) (hh hs) :
    ((Memref.whole cc0_scoped2).slice (Rect.unit (s := S2x1x1024x2048) off S1x1x1024x2048.size hh) hs).squeeze S1x1024x2048 squeezes_S1x1x1024x2048_S1x1024x2048 = slotG s :=
  congrArg (fun M : Memref sig .tc .vmem S1x1x1024x2048 .bf16 => M.squeeze S1x1024x2048 squeezes_S1x1x1024x2048_S1x1024x2048) (Memref.slice_unit_congr _ e _ _ _ _)
theorem blkG_congr {off : Fin 3 → Nat} {b : Fin 32} (e : off = o3 (b.val)) (hh hs) :
    (Memref.whole main_v3).slice (Rect.unit (s := S32x1024x2048) off S1x1024x2048.size hh) hs = blkG b :=
  Memref.slice_unit_congr _ e _ _ _ (fun _ => rfl)

/-! ### the gate/up bias ring -/

theorem semP_inb (s : Fin 2) : ∀ a, o1 s.val a + S1.size a ≤ S2.size a := by
  have := s.isLt; intro a; fin_cases a; show s.val + 1 ≤ 2; omega
theorem slotP_inb (s : Fin 2) : ∀ a, o4 s.val a + S1x1x1x2048.size a ≤ S2x1x1x2048.size a := by
  have := s.isLt; intro a; fin_cases a
  · show s.val + 1 ≤ 2; omega
  · show 0 + 1 ≤ 1; omega
  · show 0 + 1 ≤ 1; omega
  · show 0 + 2048 ≤ 2048; omega
theorem blkP_inb (b : Fin 32) : ∀ a, o3 (b.val) a + S1x1x2048.size a ≤ S32x1x2048.size a := by
  have := b.isLt; intro a; fin_cases a
  · show b.val + 1 ≤ 32; omega
  · show 0 + 1 ≤ 1; omega
  · show 0 + 2048 ≤ 2048; omega
/-- The DMA semaphore of slot `s` of the gate/up bias ring. -/
def csmP (s : Fin 2) : DmaSems sig S_ := (cc0_scoped5.slice (Rect.unit (s := S2) (o1 s.val) S1.size (semP_inb s))).squeeze S_ squeezes_S1_S_
/-- Slot `s` of the gate/up bias ring. -/
def slotP (s : Fin 2) : Memref sig .tc .vmem S1x1x2048 .f32 :=
  ((Memref.whole cc0_scoped4).slice (Rect.unit (s := S2x1x1x2048) (o4 s.val) S1x1x1x2048.size (slotP_inb s)) (fun _ => rfl)).squeeze S1x1x2048 squeezes_S1x1x1x2048_S1x1x2048
/-- The part of the array in HBM that one slot of the gate/up bias ring holds. -/
def blkP (b : Fin 32) : Memref sig .tc .hbm S1x1x2048 .f32 :=
  (Memref.whole main_v6).slice (Rect.unit (s := S32x1x2048) (o3 (b.val)) S1x1x2048.size (blkP_inb b)) (fun _ => rfl)
theorem csmP_congr {off : Fin 1 → Nat} {s : Fin 2} (e : off = o1 s.val) (hh) :
    (cc0_scoped5.slice (Rect.unit (s := S2) off S1.size hh)).squeeze S_ squeezes_S1_S_ = csmP s :=
  congrArg (fun A : DmaSems sig S1 => A.squeeze S_ squeezes_S1_S_) (SemArray.slice_unit_congr _ e _ _)
theorem slotP_congr {off : Fin 4 → Nat} {s : Fin 2} (e : off = o4 s.val) (hh hs) :
    ((Memref.whole cc0_scoped4).slice (Rect.unit (s := S2x1x1x2048) off S1x1x1x2048.size hh) hs).squeeze S1x1x2048 squeezes_S1x1x1x2048_S1x1x2048 = slotP s :=
  congrArg (fun M : Memref sig .tc .vmem S1x1x1x2048 .f32 => M.squeeze S1x1x2048 squeezes_S1x1x1x2048_S1x1x2048) (Memref.slice_unit_congr _ e _ _ _ _)
theorem blkP_congr {off : Fin 3 → Nat} {b : Fin 32} (e : off = o3 (b.val)) (hh hs) :
    (Memref.whole main_v6).slice (Rect.unit (s := S32x1x2048) off S1x1x2048.size hh) hs = blkP b :=
  Memref.slice_unit_congr _ e _ _ _ (fun _ => rfl)

/-! ### the down weight ring -/

theorem semD_inb (s : Fin 2) : ∀ a, o1 s.val a + S1.size a ≤ S2.size a := by
  have := s.isLt; intro a; fin_cases a; show s.val + 1 ≤ 2; omega
theorem slotD_inb (s : Fin 2) : ∀ a, o4 s.val a + S1x1x1024x1024.size a ≤ S2x1x1024x1024.size a := by
  have := s.isLt; intro a; fin_cases a
  · show s.val + 1 ≤ 2; omega
  · show 0 + 1 ≤ 1; omega
  · show 0 + 1024 ≤ 1024; omega
  · show 0 + 1024 ≤ 1024; omega
theorem blkD_inb (b : Fin 32) : ∀ a, o3 (b.val) a + S1x1024x1024.size a ≤ S32x1024x1024.size a := by
  have := b.isLt; intro a; fin_cases a
  · show b.val + 1 ≤ 32; omega
  · show 0 + 1024 ≤ 1024; omega
  · show 0 + 1024 ≤ 1024; omega
/-- The DMA semaphore of slot `s` of the down weight ring. -/
def csmD (s : Fin 2) : DmaSems sig S_ := (cc0_scoped7.slice (Rect.unit (s := S2) (o1 s.val) S1.size (semD_inb s))).squeeze S_ squeezes_S1_S_
/-- Slot `s` of the down weight ring. -/
def slotD (s : Fin 2) : Memref sig .tc .vmem S1x1024x1024 .f32 :=
  ((Memref.whole cc0_scoped6).slice (Rect.unit (s := S2x1x1024x1024) (o4 s.val) S1x1x1024x1024.size (slotD_inb s)) (fun _ => rfl)).squeeze S1x1024x1024 squeezes_S1x1x1024x1024_S1x1024x1024
/-- The part of the array in HBM that one slot of the down weight ring holds. -/
def blkD (b : Fin 32) : Memref sig .tc .hbm S1x1024x1024 .f32 :=
  (Memref.whole main_arg5).slice (Rect.unit (s := S32x1024x1024) (o3 (b.val)) S1x1024x1024.size (blkD_inb b)) (fun _ => rfl)
theorem csmD_congr {off : Fin 1 → Nat} {s : Fin 2} (e : off = o1 s.val) (hh) :
    (cc0_scoped7.slice (Rect.unit (s := S2) off S1.size hh)).squeeze S_ squeezes_S1_S_ = csmD s :=
  congrArg (fun A : DmaSems sig S1 => A.squeeze S_ squeezes_S1_S_) (SemArray.slice_unit_congr _ e _ _)
theorem slotD_congr {off : Fin 4 → Nat} {s : Fin 2} (e : off = o4 s.val) (hh hs) :
    ((Memref.whole cc0_scoped6).slice (Rect.unit (s := S2x1x1024x1024) off S1x1x1024x1024.size hh) hs).squeeze S1x1024x1024 squeezes_S1x1x1024x1024_S1x1024x1024 = slotD s :=
  congrArg (fun M : Memref sig .tc .vmem S1x1x1024x1024 .f32 => M.squeeze S1x1024x1024 squeezes_S1x1x1024x1024_S1x1024x1024) (Memref.slice_unit_congr _ e _ _ _ _)
theorem blkD_congr {off : Fin 3 → Nat} {b : Fin 32} (e : off = o3 (b.val)) (hh hs) :
    (Memref.whole main_arg5).slice (Rect.unit (s := S32x1024x1024) off S1x1024x1024.size hh) hs = blkD b :=
  Memref.slice_unit_congr _ e _ _ _ (fun _ => rfl)

/-! ### the down bias ring -/

theorem semQ_inb (s : Fin 2) : ∀ a, o1 s.val a + S1.size a ≤ S2.size a := by
  have := s.isLt; intro a; fin_cases a; show s.val + 1 ≤ 2; omega
theorem slotQ_inb (s : Fin 2) : ∀ a, o4 s.val a + S1x1x1x1024.size a ≤ S2x1x1x1024.size a := by
  have := s.isLt; intro a; fin_cases a
  · show s.val + 1 ≤ 2; omega
  · show 0 + 1 ≤ 1; omega
  · show 0 + 1 ≤ 1; omega
  · show 0 + 1024 ≤ 1024; omega
theorem blkQ_inb (b : Fin 32) : ∀ a, o3 (b.val) a + S1x1x1024.size a ≤ S32x1x1024.size a := by
  have := b.isLt; intro a; fin_cases a
  · show b.val + 1 ≤ 32; omega
  · show 0 + 1 ≤ 1; omega
  · show 0 + 1024 ≤ 1024; omega
/-- The DMA semaphore of slot `s` of the down bias ring. -/
def csmQ (s : Fin 2) : DmaSems sig S_ := (cc0_scoped9.slice (Rect.unit (s := S2) (o1 s.val) S1.size (semQ_inb s))).squeeze S_ squeezes_S1_S_
/-- Slot `s` of the down bias ring. -/
def slotQ (s : Fin 2) : Memref sig .tc .vmem S1x1x1024 .f32 :=
  ((Memref.whole cc0_scoped8).slice (Rect.unit (s := S2x1x1x1024) (o4 s.val) S1x1x1x1024.size (slotQ_inb s)) (fun _ => rfl)).squeeze S1x1x1024 squeezes_S1x1x1x1024_S1x1x1024
/-- The part of the array in HBM that one slot of the down bias ring holds. -/
def blkQ (b : Fin 32) : Memref sig .tc .hbm S1x1x1024 .f32 :=
  (Memref.whole main_v7).slice (Rect.unit (s := S32x1x1024) (o3 (b.val)) S1x1x1024.size (blkQ_inb b)) (fun _ => rfl)
theorem csmQ_congr {off : Fin 1 → Nat} {s : Fin 2} (e : off = o1 s.val) (hh) :
    (cc0_scoped9.slice (Rect.unit (s := S2) off S1.size hh)).squeeze S_ squeezes_S1_S_ = csmQ s :=
  congrArg (fun A : DmaSems sig S1 => A.squeeze S_ squeezes_S1_S_) (SemArray.slice_unit_congr _ e _ _)
theorem slotQ_congr {off : Fin 4 → Nat} {s : Fin 2} (e : off = o4 s.val) (hh hs) :
    ((Memref.whole cc0_scoped8).slice (Rect.unit (s := S2x1x1x1024) off S1x1x1x1024.size hh) hs).squeeze S1x1x1024 squeezes_S1x1x1x1024_S1x1x1024 = slotQ s :=
  congrArg (fun M : Memref sig .tc .vmem S1x1x1x1024 .f32 => M.squeeze S1x1x1024 squeezes_S1x1x1x1024_S1x1x1024) (Memref.slice_unit_congr _ e _ _ _ _)
theorem blkQ_congr {off : Fin 3 → Nat} {b : Fin 32} (e : off = o3 (b.val)) (hh hs) :
    (Memref.whole main_v7).slice (Rect.unit (s := S32x1x1024) off S1x1x1024.size hh) hs = blkQ b :=
  Memref.slice_unit_congr _ e _ _ _ (fun _ => rfl)

/-! ### the output ring -/

theorem semO_inb (s : Fin 2) : ∀ a, o1 s.val a + S1.size a ≤ S2.size a := by
  have := s.isLt; intro a; fin_cases a; show s.val + 1 ≤ 2; omega
theorem slotO_inb (s : Fin 2) : ∀ a, o4 s.val a + S1x1024x8x128.size a ≤ S2x1024x8x128.size a := by
  have := s.isLt; intro a; fin_cases a
  · show s.val + 1 ≤ 2; omega
  · show 0 + 1024 ≤ 1024; omega
  · show 0 + 8 ≤ 8; omega
  · show 0 + 128 ≤ 128; omega
theorem blkO_inb (b : Fin 288) : ∀ a, o3 (1024 * b.val) a + S1024x8x128.size a ≤ S294912x8x128.size a := by
  have := b.isLt; intro a; fin_cases a
  · show 1024 * b.val + 1024 ≤ 294912; omega
  · show 0 + 8 ≤ 8; omega
  · show 0 + 128 ≤ 128; omega
/-- The DMA semaphore of slot `s` of the output ring. -/
def csmO (s : Fin 2) : DmaSems sig S_ := (cc0_scoped11.slice (Rect.unit (s := S2) (o1 s.val) S1.size (semO_inb s))).squeeze S_ squeezes_S1_S_
/-- Slot `s` of the output ring. -/
def slotO (s : Fin 2) : Memref sig .tc .vmem S1024x8x128 .f32 :=
  ((Memref.whole cc0_scoped10).slice (Rect.unit (s := S2x1024x8x128) (o4 s.val) S1x1024x8x128.size (slotO_inb s)) (fun _ => rfl)).squeeze S1024x8x128 squeezes_S1x1024x8x128_S1024x8x128
/-- The part of the array in HBM that one slot of the output ring holds. -/
def blkO (b : Fin 288) : Memref sig .tc .hbm S1024x8x128 .f32 :=
  (Memref.whole main_v8).slice (Rect.unit (s := S294912x8x128) (o3 (1024 * b.val)) S1024x8x128.size (blkO_inb b)) (fun _ => rfl)
theorem csmO_congr {off : Fin 1 → Nat} {s : Fin 2} (e : off = o1 s.val) (hh) :
    (cc0_scoped11.slice (Rect.unit (s := S2) off S1.size hh)).squeeze S_ squeezes_S1_S_ = csmO s :=
  congrArg (fun A : DmaSems sig S1 => A.squeeze S_ squeezes_S1_S_) (SemArray.slice_unit_congr _ e _ _)
theorem slotO_congr {off : Fin 4 → Nat} {s : Fin 2} (e : off = o4 s.val) (hh hs) :
    ((Memref.whole cc0_scoped10).slice (Rect.unit (s := S2x1024x8x128) off S1x1024x8x128.size hh) hs).squeeze S1024x8x128 squeezes_S1x1024x8x128_S1024x8x128 = slotO s :=
  congrArg (fun M : Memref sig .tc .vmem S1x1024x8x128 .f32 => M.squeeze S1024x8x128 squeezes_S1x1024x8x128_S1024x8x128) (Memref.slice_unit_congr _ e _ _ _ _)
theorem blkO_congr {off : Fin 3 → Nat} {b : Fin 288} (e : off = o3 (1024 * b.val)) (hh hs) :
    (Memref.whole main_v8).slice (Rect.unit (s := S294912x8x128) off S1024x8x128.size hh) hs = blkO b :=
  Memref.slice_unit_congr _ e _ _ _ (fun _ => rfl)

/-! ### the printed offsets in closed form -/

theorem off18_eq {n : ℕ} (hn : n < 289) : k0_off18 (BitVec.ofNat 32 n) = o1 (Ring.sl 3 n).val :=
  (by decide +kernel : ∀ n : Fin 289, k0_off18 (BitVec.ofNat 32 n.val) = o1 (Ring.sl 3 n.val).val) ⟨n, hn⟩
@[sl_canon] theorem canon18 {n : ℕ} (hn : n < 289) (hh) : (cc0_scoped1.slice (Rect.unit (s := S3) (k0_off18 (BitVec.ofNat 32 n)) S1.size hh)).squeeze S_ squeezes_S1_S_ = csmX (Ring.sl 3 n) := csmX_congr (off18_eq hn) _
theorem off24_eq {n : ℕ} (hn : n < 289) : k0_off24 (BitVec.ofNat 32 n) = o1 (Ring.sl 2 n).val :=
  (by decide +kernel : ∀ n : Fin 289, k0_off24 (BitVec.ofNat 32 n.val) = o1 (Ring.sl 2 n.val).val) ⟨n, hn⟩
@[sl_canon] theorem canon24 {n : ℕ} (hn : n < 289) (hh) : (cc0_scoped3.slice (Rect.unit (s := S2) (k0_off24 (BitVec.ofNat 32 n)) S1.size hh)).squeeze S_ squeezes_S1_S_ = csmG (Ring.sl 2 n) := csmG_congr (off24_eq hn) _
theorem off30_eq {n : ℕ} (hn : n < 289) : k0_off30 (BitVec.ofNat 32 n) = o1 (Ring.sl 2 n).val :=
  (by decide +kernel : ∀ n : Fin 289, k0_off30 (BitVec.ofNat 32 n.val) = o1 (Ring.sl 2 n.val).val) ⟨n, hn⟩
@[sl_canon] theorem canon30 {n : ℕ} (hn : n < 289) (hh) : (cc0_scoped5.slice (Rect.unit (s := S2) (k0_off30 (BitVec.ofNat 32 n)) S1.size hh)).squeeze S_ squeezes_S1_S_ = csmP (Ring.sl 2 n) := csmP_congr (off30_eq hn) _
theorem off36_eq {n : ℕ} (hn : n < 289) : k0_off36 (BitVec.ofNat 32 n) = o1 (Ring.sl 2 n).val :=
  (by decide +kernel : ∀ n : Fin 289, k0_off36 (BitVec.ofNat 32 n.val) = o1 (Ring.sl 2 n.val).val) ⟨n, hn⟩
@[sl_canon] theorem canon36 {n : ℕ} (hn : n < 289) (hh) : (cc0_scoped7.slice (Rect.unit (s := S2) (k0_off36 (BitVec.ofNat 32 n)) S1.size hh)).squeeze S_ squeezes_S1_S_ = csmD (Ring.sl 2 n) := csmD_congr (off36_eq hn) _
theorem off42_eq {n : ℕ} (hn : n < 289) : k0_off42 (BitVec.ofNat 32 n) = o1 (Ring.sl 2 n).val :=
  (by decide +kernel : ∀ n : Fin 289, k0_off42 (BitVec.ofNat 32 n.val) = o1 (Ring.sl 2 n.val).val) ⟨n, hn⟩
@[sl_canon] theorem canon42 {n : ℕ} (hn : n < 289) (hh) : (cc0_scoped9.slice (Rect.unit (s := S2) (k0_off42 (BitVec.ofNat 32 n)) S1.size hh)).squeeze S_ squeezes_S1_S_ = csmQ (Ring.sl 2 n) := csmQ_congr (off42_eq hn) _
theorem off45_eq {n : ℕ} (hn : n < 289) : k0_off45 (BitVec.ofNat 32 n) = o1 (Ring.sl 3 n).val :=
  (by decide +kernel : ∀ n : Fin 289, k0_off45 (BitVec.ofNat 32 n.val) = o1 (Ring.sl 3 n.val).val) ⟨n, hn⟩
@[sl_canon] theorem canon45 {n : ℕ} (hn : n < 289) (hh) : (cc0_scoped1.slice (Rect.unit (s := S3) (k0_off45 (BitVec.ofNat 32 n)) S1.size hh)).squeeze S_ squeezes_S1_S_ = csmX (Ring.sl 3 n) := csmX_congr (off45_eq hn) _
theorem off50_eq {n : ℕ} (hn : n < 289) : k0_off50 (BitVec.ofNat 32 n) = o1 (Ring.sl 2 n).val :=
  (by decide +kernel : ∀ n : Fin 289, k0_off50 (BitVec.ofNat 32 n.val) = o1 (Ring.sl 2 n.val).val) ⟨n, hn⟩
@[sl_canon] theorem canon50 {n : ℕ} (hn : n < 289) (hh) : (cc0_scoped3.slice (Rect.unit (s := S2) (k0_off50 (BitVec.ofNat 32 n)) S1.size hh)).squeeze S_ squeezes_S1_S_ = csmG (Ring.sl 2 n) := csmG_congr (off50_eq hn) _
theorem off55_eq {n : ℕ} (hn : n < 289) : k0_off55 (BitVec.ofNat 32 n) = o1 (Ring.sl 2 n).val :=
  (by decide +kernel : ∀ n : Fin 289, k0_off55 (BitVec.ofNat 32 n.val) = o1 (Ring.sl 2 n.val).val) ⟨n, hn⟩
@[sl_canon] theorem canon55 {n : ℕ} (hn : n < 289) (hh) : (cc0_scoped5.slice (Rect.unit (s := S2) (k0_off55 (BitVec.ofNat 32 n)) S1.size hh)).squeeze S_ squeezes_S1_S_ = csmP (Ring.sl 2 n) := csmP_congr (off55_eq hn) _
theorem off60_eq {n : ℕ} (hn : n < 289) : k0_off60 (BitVec.ofNat 32 n) = o1 (Ring.sl 2 n).val :=
  (by decide +kernel : ∀ n : Fin 289, k0_off60 (BitVec.ofNat 32 n.val) = o1 (Ring.sl 2 n.val).val) ⟨n, hn⟩
@[sl_canon] theorem canon60 {n : ℕ} (hn : n < 289) (hh) : (cc0_scoped7.slice (Rect.unit (s := S2) (k0_off60 (BitVec.ofNat 32 n)) S1.size hh)).squeeze S_ squeezes_S1_S_ = csmD (Ring.sl 2 n) := csmD_congr (off60_eq hn) _
theorem off65_eq {n : ℕ} (hn : n < 289) : k0_off65 (BitVec.ofNat 32 n) = o1 (Ring.sl 2 n).val :=
  (by decide +kernel : ∀ n : Fin 289, k0_off65 (BitVec.ofNat 32 n.val) = o1 (Ring.sl 2 n.val).val) ⟨n, hn⟩
@[sl_canon] theorem canon65 {n : ℕ} (hn : n < 289) (hh) : (cc0_scoped9.slice (Rect.unit (s := S2) (k0_off65 (BitVec.ofNat 32 n)) S1.size hh)).squeeze S_ squeezes_S1_S_ = csmQ (Ring.sl 2 n) := csmQ_congr (off65_eq hn) _
theorem off76_eq {n : ℕ} (hn : n < 289) : k0_off76 (BitVec.ofNat 32 n) = o1 (Ring.sl 2 n).val :=
  (by decide +kernel : ∀ n : Fin 289, k0_off76 (BitVec.ofNat 32 n.val) = o1 (Ring.sl 2 n.val).val) ⟨n, hn⟩
@[sl_canon] theorem canon76 {n : ℕ} (hn : n < 289) (hh) : (cc0_scoped11.slice (Rect.unit (s := S2) (k0_off76 (BitVec.ofNat 32 n)) S1.size hh)).squeeze S_ squeezes_S1_S_ = csmO (Ring.sl 2 n) := csmO_congr (off76_eq hn) _
theorem off79_eq {n : ℕ} (hn : n < 289) : k0_off79 (BitVec.ofNat 32 n) = o1 (Ring.sl 2 n).val :=
  (by decide +kernel : ∀ n : Fin 289, k0_off79 (BitVec.ofNat 32 n.val) = o1 (Ring.sl 2 n.val).val) ⟨n, hn⟩
@[sl_canon] theorem canon79 {n : ℕ} (hn : n < 289) (hh) : (cc0_scoped11.slice (Rect.unit (s := S2) (k0_off79 (BitVec.ofNat 32 n)) S1.size hh)).squeeze S_ squeezes_S1_S_ = csmO (Ring.sl 2 n) := csmO_congr (off79_eq hn) _
theorem off82_eq {n : ℕ} (hn : n < 289) : k0_off82 (BitVec.ofNat 32 n) = o1 (Ring.sl 2 n).val :=
  (by decide +kernel : ∀ n : Fin 289, k0_off82 (BitVec.ofNat 32 n.val) = o1 (Ring.sl 2 n.val).val) ⟨n, hn⟩
@[sl_canon] theorem canon82 {n : ℕ} (hn : n < 289) (hh) : (cc0_scoped11.slice (Rect.unit (s := S2) (k0_off82 (BitVec.ofNat 32 n)) S1.size hh)).squeeze S_ squeezes_S1_S_ = csmO (Ring.sl 2 n) := csmO_congr (off82_eq hn) _
theorem off19_eq {n : ℕ} (hn : n < 289) : k0_off19 (BitVec.ofNat 32 n) = o4 (Ring.sl 3 n).val :=
  (by decide +kernel : ∀ n : Fin 289, k0_off19 (BitVec.ofNat 32 n.val) = o4 (Ring.sl 3 n.val).val) ⟨n, hn⟩
@[sl_canon] theorem canon19 {n : ℕ} (hn : n < 289) (hh hs) : ((Memref.whole cc0_scoped0).slice (Rect.unit (s := S3x1024x8x128) (k0_off19 (BitVec.ofNat 32 n)) S1x1024x8x128.size hh) hs).squeeze S1024x8x128 squeezes_S1x1024x8x128_S1024x8x128 = slotX (Ring.sl 3 n) := slotX_congr (off19_eq hn) _ _
theorem off25_eq {n : ℕ} (hn : n < 289) : k0_off25 (BitVec.ofNat 32 n) = o4 (Ring.sl 2 n).val :=
  (by decide +kernel : ∀ n : Fin 289, k0_off25 (BitVec.ofNat 32 n.val) = o4 (Ring.sl 2 n.val).val) ⟨n, hn⟩
@[sl_canon] theorem canon25 {n : ℕ} (hn : n < 289) (hh hs) : ((Memref.whole cc0_scoped2).slice (Rect.unit (s := S2x1x1024x2048) (k0_off25 (BitVec.ofNat 32 n)) S1x1x1024x2048.size hh) hs).squeeze S1x1024x2048 squeezes_S1x1x1024x2048_S1x1024x2048 = slotG (Ring.sl 2 n) := slotG_congr (off25_eq hn) _ _
theorem off31_eq {n : ℕ} (hn : n < 289) : k0_off31 (BitVec.ofNat 32 n) = o4 (Ring.sl 2 n).val :=
  (by decide +kernel : ∀ n : Fin 289, k0_off31 (BitVec.ofNat 32 n.val) = o4 (Ring.sl 2 n.val).val) ⟨n, hn⟩
@[sl_canon] theorem canon31 {n : ℕ} (hn : n < 289) (hh hs) : ((Memref.whole cc0_scoped4).slice (Rect.unit (s := S2x1x1x2048) (k0_off31 (BitVec.ofNat 32 n)) S1x1x1x2048.size hh) hs).squeeze S1x1x2048 squeezes_S1x1x1x2048_S1x1x2048 = slotP (Ring.sl 2 n) := slotP_congr (off31_eq hn) _ _
theorem off37_eq {n : ℕ} (hn : n < 289) : k0_off37 (BitVec.ofNat 32 n) = o4 (Ring.sl 2 n).val :=
  (by decide +kernel : ∀ n : Fin 289, k0_off37 (BitVec.ofNat 32 n.val) = o4 (Ring.sl 2 n.val).val) ⟨n, hn⟩
@[sl_canon] theorem canon37 {n : ℕ} (hn : n < 289) (hh hs) : ((Memref.whole cc0_scoped6).slice (Rect.unit (s := S2x1x1024x1024) (k0_off37 (BitVec.ofNat 32 n)) S1x1x1024x1024.size hh) hs).squeeze S1x1024x1024 squeezes_S1x1x1024x1024_S1x1024x1024 = slotD (Ring.sl 2 n) := slotD_congr (off37_eq hn) _ _
theorem off43_eq {n : ℕ} (hn : n < 289) : k0_off43 (BitVec.ofNat 32 n) = o4 (Ring.sl 2 n).val :=
  (by decide +kernel : ∀ n : Fin 289, k0_off43 (BitVec.ofNat 32 n.val) = o4 (Ring.sl 2 n.val).val) ⟨n, hn⟩
@[sl_canon] theorem canon43 {n : ℕ} (hn : n < 289) (hh hs) : ((Memref.whole cc0_scoped8).slice (Rect.unit (s := S2x1x1x1024) (k0_off43 (BitVec.ofNat 32 n)) S1x1x1x1024.size hh) hs).squeeze S1x1x1024 squeezes_S1x1x1x1024_S1x1x1024 = slotQ (Ring.sl 2 n) := slotQ_congr (off43_eq hn) _ _
theorem off46_eq {n : ℕ} (hn : n < 289) : k0_off46 (BitVec.ofNat 32 n) = o4 (Ring.sl 3 n).val :=
  (by decide +kernel : ∀ n : Fin 289, k0_off46 (BitVec.ofNat 32 n.val) = o4 (Ring.sl 3 n.val).val) ⟨n, hn⟩
@[sl_canon] theorem canon46 {n : ℕ} (hn : n < 289) (hh hs) : ((Memref.whole cc0_scoped0).slice (Rect.unit (s := S3x1024x8x128) (k0_off46 (BitVec.ofNat 32 n)) S1x1024x8x128.size hh) hs).squeeze S1024x8x128 squeezes_S1x1024x8x128_S1024x8x128 = slotX (Ring.sl 3 n) := slotX_congr (off46_eq hn) _ _
theorem off51_eq {n : ℕ} (hn : n < 289) : k0_off51 (BitVec.ofNat 32 n) = o4 (Ring.sl 2 n).val :=
  (by decide +kernel : ∀ n : Fin 289, k0_off51 (BitVec.ofNat 32 n.val) = o4 (Ring.sl 2 n.val).val) ⟨n, hn⟩
@[sl_canon] theorem canon51 {n : ℕ} (hn : n < 289) (hh hs) : ((Memref.whole cc0_scoped2).slice (Rect.unit (s := S2x1x1024x2048) (k0_off51 (BitVec.ofNat 32 n)) S1x1x1024x2048.size hh) hs).squeeze S1x1024x2048 squeezes_S1x1x1024x2048_S1x1024x2048 = slotG (Ring.sl 2 n) := slotG_congr (off51_eq hn) _ _
theorem off56_eq {n : ℕ} (hn : n < 289) : k0_off56 (BitVec.ofNat 32 n) = o4 (Ring.sl 2 n).val :=
  (by decide +kernel : ∀ n : Fin 289, k0_off56 (BitVec.ofNat 32 n.val) = o4 (Ring.sl 2 n.val).val) ⟨n, hn⟩
@[sl_canon] theorem canon56 {n : ℕ} (hn : n < 289) (hh hs) : ((Memref.whole cc0_scoped4).slice (Rect.unit (s := S2x1x1x2048) (k0_off56 (BitVec.ofNat 32 n)) S1x1x1x2048.size hh) hs).squeeze S1x1x2048 squeezes_S1x1x1x2048_S1x1x2048 = slotP (Ring.sl 2 n) := slotP_congr (off56_eq hn) _ _
theorem off61_eq {n : ℕ} (hn : n < 289) : k0_off61 (BitVec.ofNat 32 n) = o4 (Ring.sl 2 n).val :=
  (by decide +kernel : ∀ n : Fin 289, k0_off61 (BitVec.ofNat 32 n.val) = o4 (Ring.sl 2 n.val).val) ⟨n, hn⟩
@[sl_canon] theorem canon61 {n : ℕ} (hn : n < 289) (hh hs) : ((Memref.whole cc0_scoped6).slice (Rect.unit (s := S2x1x1024x1024) (k0_off61 (BitVec.ofNat 32 n)) S1x1x1024x1024.size hh) hs).squeeze S1x1024x1024 squeezes_S1x1x1024x1024_S1x1024x1024 = slotD (Ring.sl 2 n) := slotD_congr (off61_eq hn) _ _
theorem off66_eq {n : ℕ} (hn : n < 289) : k0_off66 (BitVec.ofNat 32 n) = o4 (Ring.sl 2 n).val :=
  (by decide +kernel : ∀ n : Fin 289, k0_off66 (BitVec.ofNat 32 n.val) = o4 (Ring.sl 2 n.val).val) ⟨n, hn⟩
@[sl_canon] theorem canon66 {n : ℕ} (hn : n < 289) (hh hs) : ((Memref.whole cc0_scoped8).slice (Rect.unit (s := S2x1x1x1024) (k0_off66 (BitVec.ofNat 32 n)) S1x1x1x1024.size hh) hs).squeeze S1x1x1024 squeezes_S1x1x1x1024_S1x1x1024 = slotQ (Ring.sl 2 n) := slotQ_congr (off66_eq hn) _ _
theorem off70_eq {n : ℕ} (hn : n < 289) : k0_off70 (BitVec.ofNat 32 n) = o4 (Ring.sl 2 n).val :=
  (by decide +kernel : ∀ n : Fin 289, k0_off70 (BitVec.ofNat 32 n.val) = o4 (Ring.sl 2 n.val).val) ⟨n, hn⟩
@[sl_canon] theorem canon70 {n : ℕ} (hn : n < 289) (hh hs) : ((Memref.whole cc0_scoped2).slice (Rect.unit (s := S2x1x1024x2048) (k0_off70 (BitVec.ofNat 32 n)) S1x1x1024x2048.size hh) hs).squeeze S1x1024x2048 squeezes_S1x1x1024x2048_S1x1024x2048 = slotG (Ring.sl 2 n) := slotG_congr (off70_eq hn) _ _
theorem off71_eq {n : ℕ} (hn : n < 289) : k0_off71 (BitVec.ofNat 32 n) = o4 (Ring.sl 2 n).val :=
  (by decide +kernel : ∀ n : Fin 289, k0_off71 (BitVec.ofNat 32 n.val) = o4 (Ring.sl 2 n.val).val) ⟨n, hn⟩
@[sl_canon] theorem canon71 {n : ℕ} (hn : n < 289) (hh hs) : ((Memref.whole cc0_scoped4).slice (Rect.unit (s := S2x1x1x2048) (k0_off71 (BitVec.ofNat 32 n)) S1x1x1x2048.size hh) hs).squeeze S1x1x2048 squeezes_S1x1x1x2048_S1x1x2048 = slotP (Ring.sl 2 n) := slotP_congr (off71_eq hn) _ _
theorem off72_eq {n : ℕ} (hn : n < 289) : k0_off72 (BitVec.ofNat 32 n) = o4 (Ring.sl 2 n).val :=
  (by decide +kernel : ∀ n : Fin 289, k0_off72 (BitVec.ofNat 32 n.val) = o4 (Ring.sl 2 n.val).val) ⟨n, hn⟩
@[sl_canon] theorem canon72 {n : ℕ} (hn : n < 289) (hh hs) : ((Memref.whole cc0_scoped6).slice (Rect.unit (s := S2x1x1024x1024) (k0_off72 (BitVec.ofNat 32 n)) S1x1x1024x1024.size hh) hs).squeeze S1x1024x1024 squeezes_S1x1x1024x1024_S1x1024x1024 = slotD (Ring.sl 2 n) := slotD_congr (off72_eq hn) _ _
theorem off73_eq {n : ℕ} (hn : n < 289) : k0_off73 (BitVec.ofNat 32 n) = o4 (Ring.sl 2 n).val :=
  (by decide +kernel : ∀ n : Fin 289, k0_off73 (BitVec.ofNat 32 n.val) = o4 (Ring.sl 2 n.val).val) ⟨n, hn⟩
@[sl_canon] theorem canon73 {n : ℕ} (hn : n < 289) (hh hs) : ((Memref.whole cc0_scoped8).slice (Rect.unit (s := S2x1x1x1024) (k0_off73 (BitVec.ofNat 32 n)) S1x1x1x1024.size hh) hs).squeeze S1x1x1024 squeezes_S1x1x1x1024_S1x1x1024 = slotQ (Ring.sl 2 n) := slotQ_congr (off73_eq hn) _ _
theorem off78_eq {n : ℕ} (hn : n < 289) : k0_off78 (BitVec.ofNat 32 n) = o4 (Ring.sl 2 n).val :=
  (by decide +kernel : ∀ n : Fin 289, k0_off78 (BitVec.ofNat 32 n.val) = o4 (Ring.sl 2 n.val).val) ⟨n, hn⟩
@[sl_canon] theorem canon78 {n : ℕ} (hn : n < 289) (hh hs) : ((Memref.whole cc0_scoped10).slice (Rect.unit (s := S2x1024x8x128) (k0_off78 (BitVec.ofNat 32 n)) S1x1024x8x128.size hh) hs).squeeze S1024x8x128 squeezes_S1x1024x8x128_S1024x8x128 = slotO (Ring.sl 2 n) := slotO_congr (off78_eq hn) _ _
theorem off81_eq {n : ℕ} (hn : n < 289) : k0_off81 (BitVec.ofNat 32 n) = o4 (Ring.sl 2 n).val :=
  (by decide +kernel : ∀ n : Fin 289, k0_off81 (BitVec.ofNat 32 n.val) = o4 (Ring.sl 2 n.val).val) ⟨n, hn⟩
@[sl_canon] theorem canon81 {n : ℕ} (hn : n < 289) (hh hs) : ((Memref.whole cc0_scoped10).slice (Rect.unit (s := S2x1024x8x128) (k0_off81 (BitVec.ofNat 32 n)) S1x1024x8x128.size hh) hs).squeeze S1024x8x128 squeezes_S1x1024x8x128_S1024x8x128 = slotO (Ring.sl 2 n) := slotO_congr (off81_eq hn) _ _
theorem off84_eq {n : ℕ} (hn : n < 289) : k0_off84 (BitVec.ofNat 32 n) = o4 (Ring.sl 2 n).val :=
  (by decide +kernel : ∀ n : Fin 289, k0_off84 (BitVec.ofNat 32 n.val) = o4 (Ring.sl 2 n.val).val) ⟨n, hn⟩
@[sl_canon] theorem canon84 {n : ℕ} (hn : n < 289) (hh hs) : ((Memref.whole cc0_scoped10).slice (Rect.unit (s := S2x1024x8x128) (k0_off84 (BitVec.ofNat 32 n)) S1x1024x8x128.size hh) hs).squeeze S1024x8x128 squeezes_S1x1024x8x128_S1024x8x128 = slotO (Ring.sl 2 n) := slotO_congr (off84_eq hn) _ _
theorem off69_eq {n : ℕ} (hn : n < 289) : k0_off69 (BitVec.ofNat 32 n) = o4 (Ring.sl 3 n).val :=
  (by decide +kernel : ∀ n : Fin 289, k0_off69 (BitVec.ofNat 32 n.val) = o4 (Ring.sl 3 n.val).val) ⟨n, hn⟩
theorem off74_eq {n : ℕ} (hn : n < 289) : k0_off74 (BitVec.ofNat 32 n) = o4 (Ring.sl 2 n).val :=
  (by decide +kernel : ∀ n : Fin 289, k0_off74 (BitVec.ofNat 32 n.val) = o4 (Ring.sl 2 n.val).val) ⟨n, hn⟩
theorem off75_eq {n : ℕ} (hn : n < 289) : k0_off75 (BitVec.ofNat 32 n) = o4 (Ring.sl 2 n).val :=
  (by decide +kernel : ∀ n : Fin 289, k0_off75 (BitVec.ofNat 32 n.val) = o4 (Ring.sl 2 n.val).val) ⟨n, hn⟩
theorem off26_eq (e : Fin 32) : k0_off26 (BitVec.ofNat 32 e.val) = o3 e.val := (by decide +kernel : ∀ e : Fin 32, k0_off26 (BitVec.ofNat 32 e.val) = o3 e.val) e
@[sl_canon] theorem canon26 (e : Fin 32) (hh hs) : (Memref.whole main_v3).slice (Rect.unit (s := S32x1024x2048) (k0_off26 (BitVec.ofNat 32 e.val)) S1x1024x2048.size hh) hs = blkG e := blkG_congr (off26_eq e) _ _
theorem off32_eq (e : Fin 32) : k0_off32 (BitVec.ofNat 32 e.val) = o3 e.val := (by decide +kernel : ∀ e : Fin 32, k0_off32 (BitVec.ofNat 32 e.val) = o3 e.val) e
@[sl_canon] theorem canon32 (e : Fin 32) (hh hs) : (Memref.whole main_v6).slice (Rect.unit (s := S32x1x2048) (k0_off32 (BitVec.ofNat 32 e.val)) S1x1x2048.size hh) hs = blkP e := blkP_congr (off32_eq e) _ _
theorem off38_eq (e : Fin 32) : k0_off38 (BitVec.ofNat 32 e.val) = o3 e.val := (by decide +kernel : ∀ e : Fin 32, k0_off38 (BitVec.ofNat 32 e.val) = o3 e.val) e
@[sl_canon] theorem canon38 (e : Fin 32) (hh hs) : (Memref.whole main_arg5).slice (Rect.unit (s := S32x1024x1024) (k0_off38 (BitVec.ofNat 32 e.val)) S1x1024x1024.size hh) hs = blkD e := blkD_congr (off38_eq e) _ _
theorem off44_eq (e : Fin 32) : k0_off44 (BitVec.ofNat 32 e.val) = o3 e.val := (by decide +kernel : ∀ e : Fin 32, k0_off44 (BitVec.ofNat 32 e.val) = o3 e.val) e
@[sl_canon] theorem canon44 (e : Fin 32) (hh hs) : (Memref.whole main_v7).slice (Rect.unit (s := S32x1x1024) (k0_off44 (BitVec.ofNat 32 e.val)) S1x1x1024.size hh) hs = blkQ e := blkQ_congr (off44_eq e) _ _
theorem off52_eq (e : Fin 32) : k0_off52 (BitVec.ofNat 32 e.val) = o3 e.val := (by decide +kernel : ∀ e : Fin 32, k0_off52 (BitVec.ofNat 32 e.val) = o3 e.val) e
@[sl_canon] theorem canon52 (e : Fin 32) (hh hs) : (Memref.whole main_v3).slice (Rect.unit (s := S32x1024x2048) (k0_off52 (BitVec.ofNat 32 e.val)) S1x1024x2048.size hh) hs = blkG e := blkG_congr (off52_eq e) _ _
theorem off57_eq (e : Fin 32) : k0_off57 (BitVec.ofNat 32 e.val) = o3 e.val := (by decide +kernel : ∀ e : Fin 32, k0_off57 (BitVec.ofNat 32 e.val) = o3 e.val) e
@[sl_canon] theorem canon57 (e : Fin 32) (hh hs) : (Memref.whole main_v6).slice (Rect.unit (s := S32x1x2048) (k0_off57 (BitVec.ofNat 32 e.val)) S1x1x2048.size hh) hs = blkP e := blkP_congr (off57_eq e) _ _
theorem off62_eq (e : Fin 32) : k0_off62 (BitVec.ofNat 32 e.val) = o3 e.val := (by decide +kernel : ∀ e : Fin 32, k0_off62 (BitVec.ofNat 32 e.val) = o3 e.val) e
@[sl_canon] theorem canon62 (e : Fin 32) (hh hs) : (Memref.whole main_arg5).slice (Rect.unit (s := S32x1024x1024) (k0_off62 (BitVec.ofNat 32 e.val)) S1x1024x1024.size hh) hs = blkD e := blkD_congr (off62_eq e) _ _
theorem off67_eq (e : Fin 32) : k0_off67 (BitVec.ofNat 32 e.val) = o3 e.val := (by decide +kernel : ∀ e : Fin 32, k0_off67 (BitVec.ofNat 32 e.val) = o3 e.val) e
@[sl_canon] theorem canon67 (e : Fin 32) (hh hs) : (Memref.whole main_v7).slice (Rect.unit (s := S32x1x1024) (k0_off67 (BitVec.ofNat 32 e.val)) S1x1x1024.size hh) hs = blkQ e := blkQ_congr (off67_eq e) _ _
theorem off5_eq (e : Fin 32) : k0_off5 (BitVec.ofNat 32 e.val) = o3 e.val := (by decide +kernel : ∀ e : Fin 32, k0_off5 (BitVec.ofNat 32 e.val) = o3 e.val) e
@[sl_canon] theorem canon5 (e : Fin 32) (hh hs) : (Memref.whole main_v3).slice (Rect.unit (s := S32x1024x2048) (k0_off5 (BitVec.ofNat 32 e.val)) S1x1024x2048.size hh) hs = blkG e := blkG_congr (off5_eq e) _ _
theorem off8_eq (e : Fin 32) : k0_off8 (BitVec.ofNat 32 e.val) = o3 e.val := (by decide +kernel : ∀ e : Fin 32, k0_off8 (BitVec.ofNat 32 e.val) = o3 e.val) e
@[sl_canon] theorem canon8 (e : Fin 32) (hh hs) : (Memref.whole main_v6).slice (Rect.unit (s := S32x1x2048) (k0_off8 (BitVec.ofNat 32 e.val)) S1x1x2048.size hh) hs = blkP e := blkP_congr (off8_eq e) _ _
theorem off11_eq (e : Fin 32) : k0_off11 (BitVec.ofNat 32 e.val) = o3 e.val := (by decide +kernel : ∀ e : Fin 32, k0_off11 (BitVec.ofNat 32 e.val) = o3 e.val) e
@[sl_canon] theorem canon11 (e : Fin 32) (hh hs) : (Memref.whole main_arg5).slice (Rect.unit (s := S32x1024x1024) (k0_off11 (BitVec.ofNat 32 e.val)) S1x1024x1024.size hh) hs = blkD e := blkD_congr (off11_eq e) _ _
theorem off14_eq (e : Fin 32) : k0_off14 (BitVec.ofNat 32 e.val) = o3 e.val := (by decide +kernel : ∀ e : Fin 32, k0_off14 (BitVec.ofNat 32 e.val) = o3 e.val) e
@[sl_canon] theorem canon14 (e : Fin 32) (hh hs) : (Memref.whole main_v7).slice (Rect.unit (s := S32x1x1024) (k0_off14 (BitVec.ofNat 32 e.val)) S1x1x1024.size hh) hs = blkQ e := blkQ_congr (off14_eq e) _ _
theorem off20_eq {k : ℕ} (hk : k + 2 < 288) : k0_off20 (BitVec.ofNat 32 k) = o3 (1024 * (Ring.bk 288 (k + 2)).val) := by
  rw [Ring.bk_val hk]; exact (by decide +kernel : ∀ k : Fin 286, k0_off20 (BitVec.ofNat 32 k.val) = o3 (1024 * (k.val + 2))) ⟨k, by omega⟩
@[sl_canon] theorem canon20 {k : ℕ} (hk : k + 2 < 288) (hh hs) : (Memref.whole main_arg0).slice (Rect.unit (s := S294912x8x128) (k0_off20 (BitVec.ofNat 32 k)) S1024x8x128.size hh) hs = blkX (Ring.bk 288 (k + 2)) := blkX_congr (off20_eq hk) _ _
theorem off47_eq {k : ℕ} (hk : k + 0 < 288) : k0_off47 (BitVec.ofNat 32 k) = o3 (1024 * (Ring.bk 288 (k + 0)).val) := by
  rw [Ring.bk_val hk]; exact (by decide +kernel : ∀ k : Fin 288, k0_off47 (BitVec.ofNat 32 k.val) = o3 (1024 * (k.val + 0))) ⟨k, by omega⟩
@[sl_canon] theorem canon47 {k : ℕ} (hk : k + 0 < 288) (hh hs) : (Memref.whole main_arg0).slice (Rect.unit (s := S294912x8x128) (k0_off47 (BitVec.ofNat 32 k)) S1024x8x128.size hh) hs = blkX (Ring.bk 288 (k + 0)) := blkX_congr (off47_eq hk) _ _
theorem off77_eq {k : ℕ} (hk : k + 0 < 288) : k0_off77 (BitVec.ofNat 32 k) = o3 (1024 * (Ring.bk 288 (k + 0)).val) := by
  rw [Ring.bk_val hk]; exact (by decide +kernel : ∀ k : Fin 288, k0_off77 (BitVec.ofNat 32 k.val) = o3 (1024 * (k.val + 0))) ⟨k, by omega⟩
@[sl_canon] theorem canon77 {k : ℕ} (hk : k + 0 < 288) (hh hs) : (Memref.whole main_v8).slice (Rect.unit (s := S294912x8x128) (k0_off77 (BitVec.ofNat 32 k)) S1024x8x128.size hh) hs = blkO (Ring.bk 288 (k + 0)) := blkO_congr (off77_eq hk) _ _
theorem off80_eq {k : ℕ} (hk : k + 1 < 288) : k0_off80 (BitVec.ofNat 32 (k + 1)) = o3 (1024 * (Ring.bk 288 k).val) := by
  rw [Ring.bk_val (by omega)]; exact (by decide +kernel : ∀ k : Fin 287, k0_off80 (BitVec.ofNat 32 (k.val + 1)) = o3 (1024 * k.val)) ⟨k, by omega⟩
@[sl_canon] theorem canon80 {k : ℕ} (hk : k + 1 < 288) (hh hs) : (Memref.whole main_v8).slice (Rect.unit (s := S294912x8x128) (k0_off80 (BitVec.ofNat 32 (k + 1))) S1024x8x128.size hh) hs = blkO (Ring.bk 288 k) := blkO_congr (off80_eq hk) _ _
theorem off83_eq : k0_off83 (BitVec.ofNat 32 0) = o3 (1024 * (Ring.bk 288 287).val) := by decide +kernel
@[sl_canon] theorem canon83  (hh hs) : (Memref.whole main_v8).slice (Rect.unit (s := S294912x8x128) (k0_off83 (BitVec.ofNat 32 0)) S1024x8x128.size hh) hs = blkO (Ring.bk 288 287) := blkO_congr off83_eq _ _
@[sl_canon] theorem canon1  (hh) : (cc0_scoped1.slice (Rect.unit (s := S3) k0_off1 S1.size hh)).squeeze S_ squeezes_S1_S_ = csmX (Ring.sl 3 0) := csmX_congr (by decide +kernel) _
@[sl_canon] theorem canon15  (hh) : (cc0_scoped1.slice (Rect.unit (s := S3) k0_off15 S1.size hh)).squeeze S_ squeezes_S1_S_ = csmX (Ring.sl 3 1) := csmX_congr (by decide +kernel) _
@[sl_canon] theorem canon3  (hh) : (cc0_scoped3.slice (Rect.unit (s := S2) k0_off3 S1.size hh)).squeeze S_ squeezes_S1_S_ = csmG (Ring.sl 2 0) := csmG_congr (by decide +kernel) _
@[sl_canon] theorem canon6  (hh) : (cc0_scoped5.slice (Rect.unit (s := S2) k0_off6 S1.size hh)).squeeze S_ squeezes_S1_S_ = csmP (Ring.sl 2 0) := csmP_congr (by decide +kernel) _
@[sl_canon] theorem canon9  (hh) : (cc0_scoped7.slice (Rect.unit (s := S2) k0_off9 S1.size hh)).squeeze S_ squeezes_S1_S_ = csmD (Ring.sl 2 0) := csmD_congr (by decide +kernel) _
@[sl_canon] theorem canon12  (hh) : (cc0_scoped9.slice (Rect.unit (s := S2) k0_off12 S1.size hh)).squeeze S_ squeezes_S1_S_ = csmQ (Ring.sl 2 0) := csmQ_congr (by decide +kernel) _
@[sl_canon] theorem canon2  (hh hs) : ((Memref.whole cc0_scoped0).slice (Rect.unit (s := S3x1024x8x128) k0_off2 S1x1024x8x128.size hh) hs).squeeze S1024x8x128 squeezes_S1x1024x8x128_S1024x8x128 = slotX (Ring.sl 3 0) := slotX_congr (by decide +kernel) _ _
@[sl_canon] theorem canon16  (hh hs) : ((Memref.whole cc0_scoped0).slice (Rect.unit (s := S3x1024x8x128) k0_off16 S1x1024x8x128.size hh) hs).squeeze S1024x8x128 squeezes_S1x1024x8x128_S1024x8x128 = slotX (Ring.sl 3 1) := slotX_congr (by decide +kernel) _ _
@[sl_canon] theorem canon4  (hh hs) : ((Memref.whole cc0_scoped2).slice (Rect.unit (s := S2x1x1024x2048) k0_off4 S1x1x1024x2048.size hh) hs).squeeze S1x1024x2048 squeezes_S1x1x1024x2048_S1x1024x2048 = slotG (Ring.sl 2 0) := slotG_congr (by decide +kernel) _ _
@[sl_canon] theorem canon7  (hh hs) : ((Memref.whole cc0_scoped4).slice (Rect.unit (s := S2x1x1x2048) k0_off7 S1x1x1x2048.size hh) hs).squeeze S1x1x2048 squeezes_S1x1x1x2048_S1x1x2048 = slotP (Ring.sl 2 0) := slotP_congr (by decide +kernel) _ _
@[sl_canon] theorem canon10  (hh hs) : ((Memref.whole cc0_scoped6).slice (Rect.unit (s := S2x1x1024x1024) k0_off10 S1x1x1024x1024.size hh) hs).squeeze S1x1024x1024 squeezes_S1x1x1024x1024_S1x1024x1024 = slotD (Ring.sl 2 0) := slotD_congr (by decide +kernel) _ _
@[sl_canon] theorem canon13  (hh hs) : ((Memref.whole cc0_scoped8).slice (Rect.unit (s := S2x1x1x1024) k0_off13 S1x1x1x1024.size hh) hs).squeeze S1x1x1024 squeezes_S1x1x1x1024_S1x1x1024 = slotQ (Ring.sl 2 0) := slotQ_congr (by decide +kernel) _ _
@[sl_canon] theorem canonL0  (hh hs) : (Memref.whole main_arg0).slice (Rect.unit (s := S294912x8x128) ![0, 0, 0] S1024x8x128.size hh) hs = blkX (Ring.bk 288 0) := blkX_congr (by decide +kernel) _ _
@[sl_canon] theorem canon17  (hh hs) : (Memref.whole main_arg0).slice (Rect.unit (s := S294912x8x128) k0_off17 S1024x8x128.size hh) hs = blkX (Ring.bk 288 1) := blkX_congr (by decide +kernel) _ _
/-! ### the word offsets of the block tables -/

theorem off21_eq {k : ℕ} (hk : k < 288) : k0_off21 (BitVec.ofNat 32 k) = o1 k := (by decide +kernel : ∀ k : Fin 288, k0_off21 (BitVec.ofNat 32 k.val) = o1 k.val) ⟨k, hk⟩
theorem off27_eq {k : ℕ} (hk : k < 288) : k0_off27 (BitVec.ofNat 32 k) = o1 k := (by decide +kernel : ∀ k : Fin 288, k0_off27 (BitVec.ofNat 32 k.val) = o1 k.val) ⟨k, hk⟩
theorem off33_eq {k : ℕ} (hk : k < 288) : k0_off33 (BitVec.ofNat 32 k) = o1 k := (by decide +kernel : ∀ k : Fin 288, k0_off33 (BitVec.ofNat 32 k.val) = o1 k.val) ⟨k, hk⟩
theorem off39_eq {k : ℕ} (hk : k < 288) : k0_off39 (BitVec.ofNat 32 k) = o1 k := (by decide +kernel : ∀ k : Fin 288, k0_off39 (BitVec.ofNat 32 k.val) = o1 k.val) ⟨k, hk⟩
theorem off49_eq {k : ℕ} (hk : k < 288) : k0_off49 (BitVec.ofNat 32 k) = o1 k := (by decide +kernel : ∀ k : Fin 288, k0_off49 (BitVec.ofNat 32 k.val) = o1 k.val) ⟨k, hk⟩
theorem off54_eq {k : ℕ} (hk : k < 288) : k0_off54 (BitVec.ofNat 32 k) = o1 k := (by decide +kernel : ∀ k : Fin 288, k0_off54 (BitVec.ofNat 32 k.val) = o1 k.val) ⟨k, hk⟩
theorem off59_eq {k : ℕ} (hk : k < 288) : k0_off59 (BitVec.ofNat 32 k) = o1 k := (by decide +kernel : ∀ k : Fin 288, k0_off59 (BitVec.ofNat 32 k.val) = o1 k.val) ⟨k, hk⟩
theorem off64_eq {k : ℕ} (hk : k < 288) : k0_off64 (BitVec.ofNat 32 k) = o1 k := (by decide +kernel : ∀ k : Fin 288, k0_off64 (BitVec.ofNat 32 k.val) = o1 k.val) ⟨k, hk⟩
theorem off68_eq {k : ℕ} (hk : k < 288) : k0_off68 (BitVec.ofNat 32 k) = o1 k := (by decide +kernel : ∀ k : Fin 288, k0_off68 (BitVec.ofNat 32 k.val) = o1 k.val) ⟨k, hk⟩
theorem off22_eq {k : ℕ} (hk : k < 288) : k0_off22 (BitVec.ofNat 32 k) = o1 ((k + 1) % 288) := (by decide +kernel : ∀ k : Fin 288, k0_off22 (BitVec.ofNat 32 k.val) = o1 ((k.val + 1) % 288)) ⟨k, hk⟩
theorem off23_eq {k : ℕ} (hk : k < 288) : k0_off23 (BitVec.ofNat 32 k) = o1 ((k + 1) % 288) := (by decide +kernel : ∀ k : Fin 288, k0_off23 (BitVec.ofNat 32 k.val) = o1 ((k.val + 1) % 288)) ⟨k, hk⟩
theorem off28_eq {k : ℕ} (hk : k < 288) : k0_off28 (BitVec.ofNat 32 k) = o1 ((k + 1) % 288) := (by decide +kernel : ∀ k : Fin 288, k0_off28 (BitVec.ofNat 32 k.val) = o1 ((k.val + 1) % 288)) ⟨k, hk⟩
theorem off29_eq {k : ℕ} (hk : k < 288) : k0_off29 (BitVec.ofNat 32 k) = o1 ((k + 1) % 288) := (by decide +kernel : ∀ k : Fin 288, k0_off29 (BitVec.ofNat 32 k.val) = o1 ((k.val + 1) % 288)) ⟨k, hk⟩
theorem off34_eq {k : ℕ} (hk : k < 288) : k0_off34 (BitVec.ofNat 32 k) = o1 ((k + 1) % 288) := (by decide +kernel : ∀ k : Fin 288, k0_off34 (BitVec.ofNat 32 k.val) = o1 ((k.val + 1) % 288)) ⟨k, hk⟩
theorem off35_eq {k : ℕ} (hk : k < 288) : k0_off35 (BitVec.ofNat 32 k) = o1 ((k + 1) % 288) := (by decide +kernel : ∀ k : Fin 288, k0_off35 (BitVec.ofNat 32 k.val) = o1 ((k.val + 1) % 288)) ⟨k, hk⟩
theorem off40_eq {k : ℕ} (hk : k < 288) : k0_off40 (BitVec.ofNat 32 k) = o1 ((k + 1) % 288) := (by decide +kernel : ∀ k : Fin 288, k0_off40 (BitVec.ofNat 32 k.val) = o1 ((k.val + 1) % 288)) ⟨k, hk⟩
theorem off41_eq {k : ℕ} (hk : k < 288) : k0_off41 (BitVec.ofNat 32 k) = o1 ((k + 1) % 288) := (by decide +kernel : ∀ k : Fin 288, k0_off41 (BitVec.ofNat 32 k.val) = o1 ((k.val + 1) % 288)) ⟨k, hk⟩
theorem off48_eq {k : ℕ} (hk : k < 288) : k0_off48 (BitVec.ofNat 32 k) = o1 ((k + 287) % 288) := (by decide +kernel : ∀ k : Fin 288, k0_off48 (BitVec.ofNat 32 k.val) = o1 ((k.val + 287) % 288)) ⟨k, hk⟩
theorem off53_eq {k : ℕ} (hk : k < 288) : k0_off53 (BitVec.ofNat 32 k) = o1 ((k + 287) % 288) := (by decide +kernel : ∀ k : Fin 288, k0_off53 (BitVec.ofNat 32 k.val) = o1 ((k.val + 287) % 288)) ⟨k, hk⟩
theorem off58_eq {k : ℕ} (hk : k < 288) : k0_off58 (BitVec.ofNat 32 k) = o1 ((k + 287) % 288) := (by decide +kernel : ∀ k : Fin 288, k0_off58 (BitVec.ofNat 32 k.val) = o1 ((k.val + 287) % 288)) ⟨k, hk⟩
theorem off63_eq {k : ℕ} (hk : k < 288) : k0_off63 (BitVec.ofNat 32 k) = o1 ((k + 287) % 288) := (by decide +kernel : ∀ k : Fin 288, k0_off63 (BitVec.ofNat 32 k.val) = o1 ((k.val + 287) % 288)) ⟨k, hk⟩
end Cert.Proof.Experts
-- ==== Proof.Facts.lean ====
/-
  FACTS about the printed words of the expert kernel's loop at trip `k`: which branches are taken, in terms of the trip
  and of the block table's words, and that every check the body assumes holds.
-/
module

public import proofs.«01_k».proof.Proof.Names

@[expose] public section

namespace Cert.Proof.Experts

open Cert.KernelIdeal Cert.KernelIdeal.Gen
open Idealize.ShloMosaic

theorem trips_eq : k0_t1_loop.trips = 288 := by decide +kernel

/-- The word of a number. -/
abbrev wd (n : ℕ) : BitVec 32 := BitVec.ofNat 32 n

theorem cmp_ne_one {v w : BitVec 32} : Scalar.cmpi .ne v w = 1#1 ↔ v ≠ w := by
  simp only [Scalar.cmpi, IntOp.cmpi]
  by_cases h : v = w
  · subst h; simp
  · have : (v != w) = true := by simpa using h
    simp [this, h]
theorem bit_cases (b : BitVec 1) : b = 0#1 ∨ b = 1#1 := by revert b; decide

theorem cond2_iff (k : Fin k0_t1_loop.trips) : k0_cond2 k (wd k.val) = 1#1 ↔ k.val + 2 < 288 := (by decide +kernel : ∀ k : Fin 288, k0_cond2 k (wd k.val) = 1#1 ↔ k.val + 2 < 288) k
theorem cond7_true (k : Fin k0_t1_loop.trips) : k0_cond7 k (wd k.val) = 1#1 := (by decide +kernel : ∀ k : Fin 288, k0_cond7 k (wd k.val) = 1#1) k
theorem cond20_true (k : Fin k0_t1_loop.trips) : k0_cond20 k (wd k.val) = 1#1 := (by decide +kernel : ∀ k : Fin 288, k0_cond20 k (wd k.val) = 1#1) k
theorem cond26_iff (k : Fin k0_t1_loop.trips) : k0_cond26 k (wd k.val) = 1#1 ↔ k.val ≠ 0 := (by decide +kernel : ∀ k : Fin 288, k0_cond26 k (wd k.val) = 1#1 ↔ k.val ≠ 0) k
theorem cond1_true : k0_cond1 = 1#1 := by decide +kernel

theorem cond3_iff (k : Fin k0_t1_loop.trips) (v w : BitVec 32) : k0_cond3 k v w = 1#1 ↔ v ≠ w ∧ k.val + 1 < 288 := by
  have h : ∀ (k : Fin 288) (b : BitVec 1), Scalar.cmpi .ne (Scalar.extui (Scalar.andi (Scalar.andi b (Scalar.xori (Scalar.cmpi .sge (Scf.iv 0#32 1#32 k) 287#32) 1#1)) 1#1)) 0#32 = 1#1 ↔ b = 1#1 ∧ k.val + 1 < 288 := by decide +kernel
  rw [← cmp_ne_one]; exact h k (Scalar.cmpi .ne v w)
theorem cond4_iff (k : Fin k0_t1_loop.trips) (v w : BitVec 32) : k0_cond4 k v w = 1#1 ↔ v ≠ w ∧ k.val + 1 < 288 := by
  have h : ∀ (k : Fin 288) (b : BitVec 1), Scalar.cmpi .ne (Scalar.extui (Scalar.andi (Scalar.andi b (Scalar.xori (Scalar.cmpi .sge (Scf.iv 0#32 1#32 k) 287#32) 1#1)) 1#1)) 0#32 = 1#1 ↔ b = 1#1 ∧ k.val + 1 < 288 := by decide +kernel
  rw [← cmp_ne_one]; exact h k (Scalar.cmpi .ne v w)
theorem cond5_iff (k : Fin k0_t1_loop.trips) (v w : BitVec 32) : k0_cond5 k v w = 1#1 ↔ v ≠ w ∧ k.val + 1 < 288 := by
  have h : ∀ (k : Fin 288) (b : BitVec 1), Scalar.cmpi .ne (Scalar.extui (Scalar.andi (Scalar.andi b (Scalar.xori (Scalar.cmpi .sge (Scf.iv 0#32 1#32 k) 287#32) 1#1)) 1#1)) 0#32 = 1#1 ↔ b = 1#1 ∧ k.val + 1 < 288 := by decide +kernel
  rw [← cmp_ne_one]; exact h k (Scalar.cmpi .ne v w)
theorem cond6_iff (k : Fin k0_t1_loop.trips) (v w : BitVec 32) : k0_cond6 k v w = 1#1 ↔ v ≠ w ∧ k.val + 1 < 288 := by
  have h : ∀ (k : Fin 288) (b : BitVec 1), Scalar.cmpi .ne (Scalar.extui (Scalar.andi (Scalar.andi b (Scalar.xori (Scalar.cmpi .sge (Scf.iv 0#32 1#32 k) 287#32) 1#1)) 1#1)) 0#32 = 1#1 ↔ b = 1#1 ∧ k.val + 1 < 288 := by decide +kernel
  rw [← cmp_ne_one]; exact h k (Scalar.cmpi .ne v w)
theorem cond8_iff (k : Fin k0_t1_loop.trips) (v w : BitVec 32) : k0_cond8 k v w = 1#1 ↔ v ≠ w ∨ k.val = 0 := by
  have h : ∀ (k : Fin 288) (b : BitVec 1), Scalar.cmpi .ne (Scalar.extui (Scalar.andi (Scalar.ori b (Scalar.cmpi .eq (Scf.iv 0#32 1#32 k) 0#32)) (Scalar.cmpi .sge (Scf.iv 0#32 1#32 k) 0#32))) 0#32 = 1#1 ↔ b = 1#1 ∨ k.val = 0 := by decide +kernel
  rw [← cmp_ne_one]; exact h k (Scalar.cmpi .ne v w)
theorem cond9_iff (k : Fin k0_t1_loop.trips) (v w : BitVec 32) : k0_cond9 k v w = 1#1 ↔ v ≠ w ∨ k.val = 0 := by
  have h : ∀ (k : Fin 288) (b : BitVec 1), Scalar.cmpi .ne (Scalar.extui (Scalar.andi (Scalar.ori b (Scalar.cmpi .eq (Scf.iv 0#32 1#32 k) 0#32)) (Scalar.cmpi .sge (Scf.iv 0#32 1#32 k) 0#32))) 0#32 = 1#1 ↔ b = 1#1 ∨ k.val = 0 := by decide +kernel
  rw [← cmp_ne_one]; exact h k (Scalar.cmpi .ne v w)
theorem cond10_iff (k : Fin k0_t1_loop.trips) (v w : BitVec 32) : k0_cond10 k v w = 1#1 ↔ v ≠ w ∨ k.val = 0 := by
  have h : ∀ (k : Fin 288) (b : BitVec 1), Scalar.cmpi .ne (Scalar.extui (Scalar.andi (Scalar.ori b (Scalar.cmpi .eq (Scf.iv 0#32 1#32 k) 0#32)) (Scalar.cmpi .sge (Scf.iv 0#32 1#32 k) 0#32))) 0#32 = 1#1 ↔ b = 1#1 ∨ k.val = 0 := by decide +kernel
  rw [← cmp_ne_one]; exact h k (Scalar.cmpi .ne v w)
theorem cond11_iff (k : Fin k0_t1_loop.trips) (v w : BitVec 32) : k0_cond11 k v w = 1#1 ↔ v ≠ w ∨ k.val = 0 := by
  have h : ∀ (k : Fin 288) (b : BitVec 1), Scalar.cmpi .ne (Scalar.extui (Scalar.andi (Scalar.ori b (Scalar.cmpi .eq (Scf.iv 0#32 1#32 k) 0#32)) (Scalar.cmpi .sge (Scf.iv 0#32 1#32 k) 0#32))) 0#32 = 1#1 ↔ b = 1#1 ∨ k.val = 0 := by decide +kernel
  rw [← cmp_ne_one]; exact h k (Scalar.cmpi .ne v w)
theorem cond13_iff (v : BitVec 32) : k0_cond13 v = 1#1 ↔ Scalar.cmpi .sgt v 0#32 = 1#1 := by
  have h : ∀ b : BitVec 1, Scalar.cmpi .ne (Scalar.extui b) 0#32 = 1#1 ↔ b = 1#1 := by decide
  exact h _
theorem cond14_iff (v : BitVec 32) : k0_cond14 v = 1#1 ↔ ¬ k0_cond13 v = 1#1 := by
  have h : ∀ b : BitVec 1, Scalar.cmpi .ne (Scalar.extui b) 0#32 = 1#1 ↔ b = 1#1 := by decide
  rw [cond13_iff, show k0_cond14 v = 1#1 ↔ Scalar.cmpi .sle v 0#32 = 1#1 from h _]
  simp only [Scalar.cmpi, IntOp.cmpi, BitVec.sle, BitVec.slt]
  by_cases h : (0#32 : BitVec 32).toInt < v.toInt
  · have h' : ¬ v.toInt ≤ (0#32 : BitVec 32).toInt := by omega
    rw [decide_eq_true h, decide_eq_false h']; decide
  · have h' : v.toInt ≤ (0#32 : BitVec 32).toInt := by omega
    rw [decide_eq_false h, decide_eq_true h']; decide

/-! ### the checks -/

theorem in1 {off : Fin 1 → Nat} {n m : ℕ} (e : off = o1 n) (h : n + 1 ≤ m) : ∀ a : Fin 1, off a + 1 ≤ m := by
  intro a; fin_cases a; rw [e]; exact h

theorem chk1_ok (e : Fin 32) : k0_chk1 (wd e.val) := (by decide +kernel : ∀ e : Fin 32, k0_chk1 (wd e.val)) e
theorem chk2_ok (e : Fin 32) : k0_chk2 (wd e.val) := (by decide +kernel : ∀ e : Fin 32, k0_chk2 (wd e.val)) e
theorem chk3_ok (e : Fin 32) : k0_chk3 (wd e.val) := (by decide +kernel : ∀ e : Fin 32, k0_chk3 (wd e.val)) e
theorem chk4_ok (e : Fin 32) : k0_chk4 (wd e.val) := (by decide +kernel : ∀ e : Fin 32, k0_chk4 (wd e.val)) e
theorem chk7_ok (k : Fin k0_t1_loop.trips) (v w : BitVec 32) (e : Fin 32) : k0_chk7 k v w (wd e.val) :=
  ⟨fun _ => (by decide +kernel : ∀ e : Fin 32, ∀ a, k0_off26 (wd e.val) a + S1x1024x2048.size a ≤ S32x1024x2048.size a) e, fun _ => (by decide +kernel : ∀ e : Fin 32, ∀ h : ∀ a, k0_off26 (wd e.val) a + S1x1024x2048.size a ≤ S32x1024x2048.size a, (Rect.unit (s := S32x1024x2048) (k0_off26 (wd e.val)) S1x1024x2048.size h).WholeWords (EltTy.packing .bf16)) e⟩
theorem chk9_ok (k : Fin k0_t1_loop.trips) (v w : BitVec 32) (e : Fin 32) : k0_chk9 k v w (wd e.val) :=
  fun _ => (by decide +kernel : ∀ e : Fin 32, ∀ a, k0_off32 (wd e.val) a + S1x1x2048.size a ≤ S32x1x2048.size a) e
theorem chk11_ok (k : Fin k0_t1_loop.trips) (v w : BitVec 32) (e : Fin 32) : k0_chk11 k v w (wd e.val) :=
  fun _ => (by decide +kernel : ∀ e : Fin 32, ∀ a, k0_off38 (wd e.val) a + S1x1024x1024.size a ≤ S32x1024x1024.size a) e
theorem chk13_ok (k : Fin k0_t1_loop.trips) (v w : BitVec 32) (e : Fin 32) : k0_chk13 k v w (wd e.val) :=
  fun _ => (by decide +kernel : ∀ e : Fin 32, ∀ a, k0_off44 (wd e.val) a + S1x1x1024.size a ≤ S32x1x1024.size a) e
theorem chk15_ok (k : Fin k0_t1_loop.trips) (v w : BitVec 32) (e : Fin 32) : k0_chk15 k v w (wd e.val) :=
  ⟨fun _ => (by decide +kernel : ∀ e : Fin 32, ∀ a, k0_off52 (wd e.val) a + S1x1024x2048.size a ≤ S32x1024x2048.size a) e, fun _ => (by decide +kernel : ∀ e : Fin 32, ∀ h : ∀ a, k0_off52 (wd e.val) a + S1x1024x2048.size a ≤ S32x1024x2048.size a, (Rect.unit (s := S32x1024x2048) (k0_off52 (wd e.val)) S1x1024x2048.size h).WholeWords (EltTy.packing .bf16)) e⟩
theorem chk17_ok (k : Fin k0_t1_loop.trips) (v w : BitVec 32) (e : Fin 32) : k0_chk17 k v w (wd e.val) :=
  fun _ => (by decide +kernel : ∀ e : Fin 32, ∀ a, k0_off57 (wd e.val) a + S1x1x2048.size a ≤ S32x1x2048.size a) e
theorem chk19_ok (k : Fin k0_t1_loop.trips) (v w : BitVec 32) (e : Fin 32) : k0_chk19 k v w (wd e.val) :=
  fun _ => (by decide +kernel : ∀ e : Fin 32, ∀ a, k0_off62 (wd e.val) a + S1x1024x1024.size a ≤ S32x1024x1024.size a) e
theorem chk21_ok (k : Fin k0_t1_loop.trips) (v w : BitVec 32) (e : Fin 32) : k0_chk21 k v w (wd e.val) :=
  fun _ => (by decide +kernel : ∀ e : Fin 32, ∀ a, k0_off67 (wd e.val) a + S1x1x1024.size a ≤ S32x1x1024.size a) e
theorem chk6_ok (k : Fin k0_t1_loop.trips) {n : ℕ} (hn : n < 289) (v w : BitVec 32) : k0_chk6 k (wd n) (wd k.val) v w :=
  ⟨fun _ => (by decide +kernel : ∀ k : Fin 288, ∀ a, k0_off23 (wd k.val) a + S1.size a ≤ S288.size a) k, fun _ => (by decide +kernel : ∀ n : Fin 289, ∀ a, k0_off24 (wd n.val) a + S1.size a ≤ S2.size a) ⟨n, hn⟩,
    fun _ => (by decide +kernel : ∀ n : Fin 289, ∀ a, k0_off25 (wd n.val) a + S1x1x1024x2048.size a ≤ S2x1x1024x2048.size a) ⟨n, hn⟩, fun _ => (by decide +kernel : ∀ n : Fin 289, ∀ h : ∀ a, k0_off25 (wd n.val) a + S1x1x1024x2048.size a ≤ S2x1x1024x2048.size a, (Rect.unit (s := S2x1x1024x2048) (k0_off25 (wd n.val)) S1x1x1024x2048.size h).WholeWords (EltTy.packing .bf16)) ⟨n, hn⟩⟩
theorem chk8_ok (k : Fin k0_t1_loop.trips) {n : ℕ} (hn : n < 289) (v w : BitVec 32) : k0_chk8 k (wd n) (wd k.val) v w :=
  ⟨fun _ => (by decide +kernel : ∀ k : Fin 288, ∀ a, k0_off29 (wd k.val) a + S1.size a ≤ S288.size a) k, fun _ => (by decide +kernel : ∀ n : Fin 289, ∀ a, k0_off30 (wd n.val) a + S1.size a ≤ S2.size a) ⟨n, hn⟩,
    fun _ => (by decide +kernel : ∀ n : Fin 289, ∀ a, k0_off31 (wd n.val) a + S1x1x1x2048.size a ≤ S2x1x1x2048.size a) ⟨n, hn⟩⟩
theorem chk10_ok (k : Fin k0_t1_loop.trips) {n : ℕ} (hn : n < 289) (v w : BitVec 32) : k0_chk10 k (wd n) (wd k.val) v w :=
  ⟨fun _ => (by decide +kernel : ∀ k : Fin 288, ∀ a, k0_off35 (wd k.val) a + S1.size a ≤ S288.size a) k, fun _ => (by decide +kernel : ∀ n : Fin 289, ∀ a, k0_off36 (wd n.val) a + S1.size a ≤ S2.size a) ⟨n, hn⟩,
    fun _ => (by decide +kernel : ∀ n : Fin 289, ∀ a, k0_off37 (wd n.val) a + S1x1x1024x1024.size a ≤ S2x1x1024x1024.size a) ⟨n, hn⟩⟩
theorem chk12_ok (k : Fin k0_t1_loop.trips) {n : ℕ} (hn : n < 289) (v w : BitVec 32) : k0_chk12 k (wd n) (wd k.val) v w :=
  ⟨fun _ => (by decide +kernel : ∀ k : Fin 288, ∀ a, k0_off41 (wd k.val) a + S1.size a ≤ S288.size a) k, fun _ => (by decide +kernel : ∀ n : Fin 289, ∀ a, k0_off42 (wd n.val) a + S1.size a ≤ S2.size a) ⟨n, hn⟩,
    fun _ => (by decide +kernel : ∀ n : Fin 289, ∀ a, k0_off43 (wd n.val) a + S1x1x1x1024.size a ≤ S2x1x1x1024.size a) ⟨n, hn⟩⟩
theorem chk14_ok (k : Fin k0_t1_loop.trips) {n : ℕ} (hn : n < 289) (v w : BitVec 32) : k0_chk14 k (wd n) (wd k.val) v w :=
  ⟨fun _ => (by decide +kernel : ∀ k : Fin 288, ∀ a, k0_off49 (wd k.val) a + S1.size a ≤ S288.size a) k, fun _ => (by decide +kernel : ∀ n : Fin 289, ∀ a, k0_off50 (wd n.val) a + S1.size a ≤ S2.size a) ⟨n, hn⟩,
    fun _ => (by decide +kernel : ∀ n : Fin 289, ∀ a, k0_off51 (wd n.val) a + S1x1x1024x2048.size a ≤ S2x1x1024x2048.size a) ⟨n, hn⟩, fun _ => (by decide +kernel : ∀ n : Fin 289, ∀ h : ∀ a, k0_off51 (wd n.val) a + S1x1x1024x2048.size a ≤ S2x1x1024x2048.size a, (Rect.unit (s := S2x1x1024x2048) (k0_off51 (wd n.val)) S1x1x1024x2048.size h).WholeWords (EltTy.packing .bf16)) ⟨n, hn⟩⟩
theorem chk16_ok (k : Fin k0_t1_loop.trips) {n : ℕ} (hn : n < 289) (v w : BitVec 32) : k0_chk16 k (wd n) (wd k.val) v w :=
  ⟨fun _ => (by decide +kernel : ∀ k : Fin 288, ∀ a, k0_off54 (wd k.val) a + S1.size a ≤ S288.size a) k, fun _ => (by decide +kernel : ∀ n : Fin 289, ∀ a, k0_off55 (wd n.val) a + S1.size a ≤ S2.size a) ⟨n, hn⟩,
    fun _ => (by decide +kernel : ∀ n : Fin 289, ∀ a, k0_off56 (wd n.val) a + S1x1x1x2048.size a ≤ S2x1x1x2048.size a) ⟨n, hn⟩⟩
theorem chk18_ok (k : Fin k0_t1_loop.trips) {n : ℕ} (hn : n < 289) (v w : BitVec 32) : k0_chk18 k (wd n) (wd k.val) v w :=
  ⟨fun _ => (by decide +kernel : ∀ k : Fin 288, ∀ a, k0_off59 (wd k.val) a + S1.size a ≤ S288.size a) k, fun _ => (by decide +kernel : ∀ n : Fin 289, ∀ a, k0_off60 (wd n.val) a + S1.size a ≤ S2.size a) ⟨n, hn⟩,
    fun _ => (by decide +kernel : ∀ n : Fin 289, ∀ a, k0_off61 (wd n.val) a + S1x1x1024x1024.size a ≤ S2x1x1024x1024.size a) ⟨n, hn⟩⟩
theorem chk20_ok (k : Fin k0_t1_loop.trips) {n : ℕ} (hn : n < 289) (v w : BitVec 32) : k0_chk20 k (wd n) (wd k.val) v w :=
  ⟨fun _ => (by decide +kernel : ∀ k : Fin 288, ∀ a, k0_off64 (wd k.val) a + S1.size a ≤ S288.size a) k, fun _ => (by decide +kernel : ∀ n : Fin 289, ∀ a, k0_off65 (wd n.val) a + S1.size a ≤ S2.size a) ⟨n, hn⟩,
    fun _ => (by decide +kernel : ∀ n : Fin 289, ∀ a, k0_off66 (wd n.val) a + S1x1x1x1024.size a ≤ S2x1x1x1024.size a) ⟨n, hn⟩⟩
theorem chk5_ok (k : Fin k0_t1_loop.trips) : k0_chk5 k (wd (min (k.val + 2) 288)) (wd k.val) (wd k.val) (wd (k.val - 1)) (wd k.val) :=
  (by decide +kernel : ∀ k : Fin k0_t1_loop.trips, k0_chk5 k (wd (min (k.val + 2) 288)) (wd k.val) (wd k.val) (wd (k.val - 1)) (wd k.val)) k
theorem chk22_ok {k n : ℕ} (hk : k < 289) (hn : n < 289) (v : BitVec 32) : k0_chk22 (wd k) (wd n) (wd n) (wd n) (wd n) (wd k) v :=
  ⟨fun _ => (by decide +kernel : ∀ n : Fin 289, ∀ a, k0_off69 (wd n.val) a + S1x1024x8x128.size a ≤ S3x1024x8x128.size a) ⟨k, hk⟩,
   fun _ => (by decide +kernel : ∀ n : Fin 289, ∀ a, k0_off70 (wd n.val) a + S1x1x1024x2048.size a ≤ S2x1x1024x2048.size a) ⟨n, hn⟩,
   fun _ => (by decide +kernel : ∀ n : Fin 289, ∀ a, k0_off71 (wd n.val) a + S1x1x1x2048.size a ≤ S2x1x1x2048.size a) ⟨n, hn⟩,
   fun _ => (by decide +kernel : ∀ n : Fin 289, ∀ a, k0_off72 (wd n.val) a + S1x1x1024x1024.size a ≤ S2x1x1024x1024.size a) ⟨n, hn⟩,
   fun _ => (by decide +kernel : ∀ n : Fin 289, ∀ a, k0_off73 (wd n.val) a + S1x1x1x1024.size a ≤ S2x1x1x1024.size a) ⟨n, hn⟩,
   fun _ => (by decide +kernel : ∀ n : Fin 289, ∀ a, k0_off74 (wd n.val) a + S1x1024x8x128.size a ≤ S2x1024x8x128.size a) ⟨k, hk⟩,
   fun _ => (by decide +kernel : ∀ n : Fin 289, ∀ a, k0_off75 (wd n.val) a + S1x1024x8x128.size a ≤ S2x1024x8x128.size a) ⟨k, hk⟩⟩
theorem chk23_ok : k0_chk23 (wd 287) := by decide +kernel
theorem chk24_ok : k0_chk24 (wd 0) := by decide +kernel

end Cert.Proof.Experts
-- ==== Proof.Pieces.lean ====
/-
  The resources of the expert kernel's loop: for each ring a semaphore at zero, a slot held, a slot filled from a part
  of the array in HBM, a transfer in flight; and the block table's words.
-/
module

public import proofs.«01_k».proof.Proof.Facts
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD)

/-- A DMA semaphore at zero. -/
abbrev cellP (s : DmaSems sig S_) : sProp 𝕄 := semVal ((c : Thread nD τ), SemLoc.dma s.sem) 0

/-! ### the block ring -/

/-- Slot `s` of the block ring, held at contents `f`. -/
abbrev holdX (s : Fin 3) (f : Buf (Elt F) ((slotX s).view.loc (c : Thread nD τ))) : sProp 𝕄 :=
  (slotX s).view.loc (c : Thread nD τ) ↦[(slotX s).view.set]{fullShare} f
/-- Part `b` of the array in HBM, held at the array's contents `A`. -/
abbrev homeX (A : Buf (Elt F) ((Memref.whole main_arg0).view.loc (c : Thread nD τ))) (b : Fin 288) : sProp 𝕄 :=
  (blkX b).view.loc (c : Thread nD τ) ↦[(blkX b).view.set]{fullShare} A
/-- Part `b`'s values. -/
abbrev valX (A : Buf (Elt F) ((Memref.whole main_arg0).view.loc (c : Thread nD τ))) (b : Fin 288) : S1024x8x128.Idx → Elt F .f32 :=
  ReadAs.same.apply ((blkX b).view.read (Elt F) A)
/-- What a transfer of part `b` leaves in slot `s` over prior contents `f`. -/
abbrev fillX (A : Buf (Elt F) ((Memref.whole main_arg0).view.loc (c : Thread nD τ))) (s : Fin 3) (b : Fin 288)
    (f : Buf (Elt F) ((slotX s).view.loc (c : Thread nD τ))) : Buf (Elt F) ((slotX s).view.loc (c : Thread nD τ)) :=
  (slotX s).view.writes (Elt F) f [⟨Rect.whole S1024x8x128, valX c A b⟩]
/-- Part `b` in flight into slot `s`. -/
abbrev flyX (A : Buf (Elt F) ((Memref.whole main_arg0).view.loc (c : Thread nD τ))) (s : Fin 3) (b : Fin 288)
    (f : Buf (Elt F) ((slotX s).view.loc (c : Thread nD τ))) : sProp 𝕄 :=
  Transfers.Flight countersEmb (c : Thread nD τ) (SemLoc.dma (csmX s).sem) () 131072 iprop(holdX c s (fillX c A s b f) ∗ homeX c A b)
/-- Slot `s` filled from part `b`. -/
abbrev fullX (A : Buf (Elt F) ((Memref.whole main_arg0).view.loc (c : Thread nD τ))) (s : Fin 3) (b : Fin 288) : sProp 𝕄 :=
  holdX c s (fillX c A s b (slotX s).view.junk)

/-! ### the gate/up weight ring -/

/-- Slot `s` of the gate/up weight ring, held at contents `f`. -/
abbrev holdG (s : Fin 2) (f : Buf (Elt F) ((slotG s).view.loc (c : Thread nD τ))) : sProp 𝕄 :=
  (slotG s).view.loc (c : Thread nD τ) ↦[(slotG s).view.set]{fullShare} f
/-- Part `b` of the array in HBM, held at the array's contents `A`. -/
abbrev homeG (A : Buf (Elt F) ((Memref.whole main_v3).view.loc (c : Thread nD τ))) (b : Fin 32) : sProp 𝕄 :=
  (blkG b).view.loc (c : Thread nD τ) ↦[(blkG b).view.set]{fullShare} A
/-- Part `b`'s values. -/
abbrev valG (A : Buf (Elt F) ((Memref.whole main_v3).view.loc (c : Thread nD τ))) (b : Fin 32) : S1x1024x2048.Idx → Elt F .bf16 :=
  ReadAs.same.apply ((blkG b).view.read (Elt F) A)
/-- What a transfer of part `b` leaves in slot `s` over prior contents `f`. -/
abbrev fillG (A : Buf (Elt F) ((Memref.whole main_v3).view.loc (c : Thread nD τ))) (s : Fin 2) (b : Fin 32)
    (f : Buf (Elt F) ((slotG s).view.loc (c : Thread nD τ))) : Buf (Elt F) ((slotG s).view.loc (c : Thread nD τ)) :=
  (slotG s).view.writes (Elt F) f [⟨Rect.whole S1x1024x2048, valG c A b⟩]
/-- Part `b` in flight into slot `s`. -/
abbrev flyG (A : Buf (Elt F) ((Memref.whole main_v3).view.loc (c : Thread nD τ))) (s : Fin 2) (b : Fin 32)
    (f : Buf (Elt F) ((slotG s).view.loc (c : Thread nD τ))) : sProp 𝕄 :=
  Transfers.Flight countersEmb (c : Thread nD τ) (SemLoc.dma (csmG s).sem) () 131072 iprop(holdG c s (fillG c A s b f) ∗ homeG c A b)
/-- Slot `s` filled from part `b`. -/
abbrev fullG (A : Buf (Elt F) ((Memref.whole main_v3).view.loc (c : Thread nD τ))) (s : Fin 2) (b : Fin 32) : sProp 𝕄 :=
  holdG c s (fillG c A s b (slotG s).view.junk)

/-! ### the gate/up bias ring -/

/-- Slot `s` of the gate/up bias ring, held at contents `f`. -/
abbrev holdP (s : Fin 2) (f : Buf (Elt F) ((slotP s).view.loc (c : Thread nD τ))) : sProp 𝕄 :=
  (slotP s).view.loc (c : Thread nD τ) ↦[(slotP s).view.set]{fullShare} f
/-- Part `b` of the array in HBM, held at the array's contents `A`. -/
abbrev homeP (A : Buf (Elt F) ((Memref.whole main_v6).view.loc (c : Thread nD τ))) (b : Fin 32) : sProp 𝕄 :=
  (blkP b).view.loc (c : Thread nD τ) ↦[(blkP b).view.set]{fullShare} A
/-- Part `b`'s values. -/
abbrev valP (A : Buf (Elt F) ((Memref.whole main_v6).view.loc (c : Thread nD τ))) (b : Fin 32) : S1x1x2048.Idx → Elt F .f32 :=
  ReadAs.same.apply ((blkP b).view.read (Elt F) A)
/-- What a transfer of part `b` leaves in slot `s` over prior contents `f`. -/
abbrev fillP (A : Buf (Elt F) ((Memref.whole main_v6).view.loc (c : Thread nD τ))) (s : Fin 2) (b : Fin 32)
    (f : Buf (Elt F) ((slotP s).view.loc (c : Thread nD τ))) : Buf (Elt F) ((slotP s).view.loc (c : Thread nD τ)) :=
  (slotP s).view.writes (Elt F) f [⟨Rect.whole S1x1x2048, valP c A b⟩]
/-- Part `b` in flight into slot `s`. -/
abbrev flyP (A : Buf (Elt F) ((Memref.whole main_v6).view.loc (c : Thread nD τ))) (s : Fin 2) (b : Fin 32)
    (f : Buf (Elt F) ((slotP s).view.loc (c : Thread nD τ))) : sProp 𝕄 :=
  Transfers.Flight countersEmb (c : Thread nD τ) (SemLoc.dma (csmP s).sem) () 256 iprop(holdP c s (fillP c A s b f) ∗ homeP c A b)
/-- Slot `s` filled from part `b`. -/
abbrev fullP (A : Buf (Elt F) ((Memref.whole main_v6).view.loc (c : Thread nD τ))) (s : Fin 2) (b : Fin 32) : sProp 𝕄 :=
  holdP c s (fillP c A s b (slotP s).view.junk)

/-! ### the down weight ring -/

/-- Slot `s` of the down weight ring, held at contents `f`. -/
abbrev holdD (s : Fin 2) (f : Buf (Elt F) ((slotD s).view.loc (c : Thread nD τ))) : sProp 𝕄 :=
  (slotD s).view.loc (c : Thread nD τ) ↦[(slotD s).view.set]{fullShare} f
/-- Part `b` of the array in HBM, held at the array's contents `A`. -/
abbrev homeD (A : Buf (Elt F) ((Memref.whole main_arg5).view.loc (c : Thread nD τ))) (b : Fin 32) : sProp 𝕄 :=
  (blkD b).view.loc (c : Thread nD τ) ↦[(blkD b).view.set]{fullShare} A
/-- Part `b`'s values. -/
abbrev valD (A : Buf (Elt F) ((Memref.whole main_arg5).view.loc (c : Thread nD τ))) (b : Fin 32) : S1x1024x1024.Idx → Elt F .f32 :=
  ReadAs.same.apply ((blkD b).view.read (Elt F) A)
/-- What a transfer of part `b` leaves in slot `s` over prior contents `f`. -/
abbrev fillD (A : Buf (Elt F) ((Memref.whole main_arg5).view.loc (c : Thread nD τ))) (s : Fin 2) (b : Fin 32)
    (f : Buf (Elt F) ((slotD s).view.loc (c : Thread nD τ))) : Buf (Elt F) ((slotD s).view.loc (c : Thread nD τ)) :=
  (slotD s).view.writes (Elt F) f [⟨Rect.whole S1x1024x1024, valD c A b⟩]
/-- Part `b` in flight into slot `s`. -/
abbrev flyD (A : Buf (Elt F) ((Memref.whole main_arg5).view.loc (c : Thread nD τ))) (s : Fin 2) (b : Fin 32)
    (f : Buf (Elt F) ((slotD s).view.loc (c : Thread nD τ))) : sProp 𝕄 :=
  Transfers.Flight countersEmb (c : Thread nD τ) (SemLoc.dma (csmD s).sem) () 131072 iprop(holdD c s (fillD c A s b f) ∗ homeD c A b)
/-- Slot `s` filled from part `b`. -/
abbrev fullD (A : Buf (Elt F) ((Memref.whole main_arg5).view.loc (c : Thread nD τ))) (s : Fin 2) (b : Fin 32) : sProp 𝕄 :=
  holdD c s (fillD c A s b (slotD s).view.junk)

/-! ### the down bias ring -/

/-- Slot `s` of the down bias ring, held at contents `f`. -/
abbrev holdQ (s : Fin 2) (f : Buf (Elt F) ((slotQ s).view.loc (c : Thread nD τ))) : sProp 𝕄 :=
  (slotQ s).view.loc (c : Thread nD τ) ↦[(slotQ s).view.set]{fullShare} f
/-- Part `b` of the array in HBM, held at the array's contents `A`. -/
abbrev homeQ (A : Buf (Elt F) ((Memref.whole main_v7).view.loc (c : Thread nD τ))) (b : Fin 32) : sProp 𝕄 :=
  (blkQ b).view.loc (c : Thread nD τ) ↦[(blkQ b).view.set]{fullShare} A
/-- Part `b`'s values. -/
abbrev valQ (A : Buf (Elt F) ((Memref.whole main_v7).view.loc (c : Thread nD τ))) (b : Fin 32) : S1x1x1024.Idx → Elt F .f32 :=
  ReadAs.same.apply ((blkQ b).view.read (Elt F) A)
/-- What a transfer of part `b` leaves in slot `s` over prior contents `f`. -/
abbrev fillQ (A : Buf (Elt F) ((Memref.whole main_v7).view.loc (c : Thread nD τ))) (s : Fin 2) (b : Fin 32)
    (f : Buf (Elt F) ((slotQ s).view.loc (c : Thread nD τ))) : Buf (Elt F) ((slotQ s).view.loc (c : Thread nD τ)) :=
  (slotQ s).view.writes (Elt F) f [⟨Rect.whole S1x1x1024, valQ c A b⟩]
/-- Part `b` in flight into slot `s`. -/
abbrev flyQ (A : Buf (Elt F) ((Memref.whole main_v7).view.loc (c : Thread nD τ))) (s : Fin 2) (b : Fin 32)
    (f : Buf (Elt F) ((slotQ s).view.loc (c : Thread nD τ))) : sProp 𝕄 :=
  Transfers.Flight countersEmb (c : Thread nD τ) (SemLoc.dma (csmQ s).sem) () 128 iprop(holdQ c s (fillQ c A s b f) ∗ homeQ c A b)
/-- Slot `s` filled from part `b`. -/
abbrev fullQ (A : Buf (Elt F) ((Memref.whole main_v7).view.loc (c : Thread nD τ))) (s : Fin 2) (b : Fin 32) : sProp 𝕄 :=
  holdQ c s (fillQ c A s b (slotQ s).view.junk)

/-! ### the output ring -/

/-- Slot `s` of the output ring, held at contents `f`. -/
abbrev holdO (s : Fin 2) (f : Buf (Elt F) ((slotO s).view.loc (c : Thread nD τ))) : sProp 𝕄 :=
  (slotO s).view.loc (c : Thread nD τ) ↦[(slotO s).view.set]{fullShare} f
/-- Part `b` of the array in HBM, held at the array's contents `A`. -/
abbrev homeO (A : Buf (Elt F) ((Memref.whole main_v8).view.loc (c : Thread nD τ))) (b : Fin 288) : sProp 𝕄 :=
  (blkO b).view.loc (c : Thread nD τ) ↦[(blkO b).view.set]{fullShare} A
end Pieces

/-! ## The block table's words -/

/-- An SMEM table held at contents `g`. -/
abbrev tabP (c : Dev nD) (M : Memref sig .tc .smem S288 .i32) (g : Buf (Elt F) (M.view.loc (c : Thread nD τ))) : sProp 𝕄 :=
  M.view.loc (c : Thread nD τ) ↦[M.view.set]{fullShare} g
/-- The block table's contents `g` hold, at each block, the number of an expert. -/
def Table (c : Dev nD) (arg0 : Memref sig .tc .smem S288 .i32) (g : Buf (Elt F) (arg0.view.loc (c : Thread nD τ))) (E : ℕ → Fin 32) : Prop :=
  ∀ (off : Fin 1 → Nat) (h : ∀ a, off a + S1.size a ≤ S288.size a) (x : S1.Idx) (j : ℕ), off = o1 j → j < 288 →
    arg0.view.readAt (Elt F) (Rect.unit (s := S288) off S1.size h).toLoadRect g x = wd (E j).val

end Cert.Proof.Experts
-- ==== Proof.Within.lean ====
module

public import proofs.«01_k».proof.Proof.Pieces
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The loads and stores of the body that go through a whole ring stay in one slot -/

theorem ringX_within {n : ℕ} (hn : n < 289) (hh : ∀ a, k0_off69 (wd n) a + S1x1024x8x128.size a ≤ S3x1024x8x128.size a) :
    ((Memref.whole cc0_scoped0 : Memref sig .tc .vmem S3x1024x8x128 .f32).access (Rect.unit (s := S3x1024x8x128) (k0_off69 (wd n)) S1x1024x8x128.size hh)).set ⊆ (slotX (Ring.sl 3 n)).view.set := by
  have e := off69_eq hn
  generalize k0_off69 (wd n) = off at e hh
  subst e
  unfold slotX
  exact Finset.subset_of_eq (View.set_reshape ((Memref.whole cc0_scoped0 : Memref sig .tc .vmem S3x1024x8x128 .f32).slice (Rect.unit (s := S3x1024x8x128) (o4 (Ring.sl 3 n).val) S1x1024x8x128.size hh) (fun _ => rfl)).view _).symm
theorem ringO_within {n : ℕ} (hn : n < 289) (hh : ∀ a, k0_off74 (wd n) a + S1x1024x8x128.size a ≤ S2x1024x8x128.size a) :
    ((Memref.whole cc0_scoped10 : Memref sig .tc .vmem S2x1024x8x128 .f32).access (Rect.unit (s := S2x1024x8x128) (k0_off74 (wd n)) S1x1024x8x128.size hh)).set ⊆ (slotO (Ring.sl 2 n)).view.set := by
  have e := off74_eq hn
  generalize k0_off74 (wd n) = off at e hh
  subst e
  unfold slotO
  exact Finset.subset_of_eq (View.set_reshape ((Memref.whole cc0_scoped10 : Memref sig .tc .vmem S2x1024x8x128 .f32).slice (Rect.unit (s := S2x1024x8x128) (o4 (Ring.sl 2 n).val) S1x1024x8x128.size hh) (fun _ => rfl)).view _).symm
theorem ringO_within0 {n : ℕ} (hn : n < 289) (hh : ∀ a, k0_off75 (wd n) a + S1x1024x8x128.size a ≤ S2x1024x8x128.size a) :
    ((Memref.whole cc0_scoped10 : Memref sig .tc .vmem S2x1024x8x128 .f32).access (Rect.unit (s := S2x1024x8x128) (k0_off75 (wd n)) S1x1024x8x128.size hh)).set ⊆ (slotO (Ring.sl 2 n)).view.set := by
  have e := off75_eq hn
  generalize k0_off75 (wd n) = off at e hh
  subst e
  unfold slotO
  exact Finset.subset_of_eq (View.set_reshape ((Memref.whole cc0_scoped10 : Memref sig .tc .vmem S2x1024x8x128 .f32).slice (Rect.unit (s := S2x1024x8x128) (o4 (Ring.sl 2 n).val) S1x1024x8x128.size hh) (fun _ => rfl)).view _).symm
end Cert.Proof.Experts
-- ==== Proof.Compute.lean ====
module

public import proofs.«01_k».proof.Proof.Within
public import Idealize.ShloMosaic.Lib.Pipeline.KitQuiescent
public import Idealize.ShloMosaic.Lib.Ring
public import Idealize.ShloMosaic.Lib.Affine
public import Idealize.ShloMosaic.Lib.Tactic

public import Idealize.ShloMosaic.Lib.Pipeline.FrameBody

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What one block's trip computes -/

/-- One slab of the activation, from the masked block, a slab of the gate/up weights and of their bias. -/
def slabV (x : FVec F S1024x1024 .bf16) (w : Vec F S1x1024x256 .bf16) (b : Vec F S1x1x256 .f32) : FVec F S1024x128 .bf16 :=
  k0_pay13 (k0_pay9 x w b) (k0_pay10 x w b) (k0_pay11 x w b) k0_pay12
/-- The eight slabs, as the body stores them side by side, newest first. -/
def actL (x : FVec F S1024x1024 .bf16) (gv : S1x1024x2048.Idx → Elt F .bf16) (pv : S1x1x2048.Idx → Elt F .f32) : List (View.Piece (Elt F) S1024x1024 .bf16) :=
  [⟨Rect.unit (s := S1024x1024) ![0, 896] S1024x128.size inb_S1024x1024_S1024x128_0_896, slabV x (View.ld gv (Rect.unit (s := S1x1024x2048) ![0, 0, 1792] S1x1024x256.size inb_S1x1024x2048_S1x1024x256_0_0_1792)) (View.ld pv (Rect.unit (s := S1x1x2048) ![0, 0, 1792] S1x1x256.size inb_S1x1x2048_S1x1x256_0_0_1792))⟩,
   ⟨Rect.unit (s := S1024x1024) ![0, 768] S1024x128.size inb_S1024x1024_S1024x128_0_768, slabV x (View.ld gv (Rect.unit (s := S1x1024x2048) ![0, 0, 1536] S1x1024x256.size inb_S1x1024x2048_S1x1024x256_0_0_1536)) (View.ld pv (Rect.unit (s := S1x1x2048) ![0, 0, 1536] S1x1x256.size inb_S1x1x2048_S1x1x256_0_0_1536))⟩,
   ⟨Rect.unit (s := S1024x1024) ![0, 640] S1024x128.size inb_S1024x1024_S1024x128_0_640, slabV x (View.ld gv (Rect.unit (s := S1x1024x2048) ![0, 0, 1280] S1x1024x256.size inb_S1x1024x2048_S1x1024x256_0_0_1280)) (View.ld pv (Rect.unit (s := S1x1x2048) ![0, 0, 1280] S1x1x256.size inb_S1x1x2048_S1x1x256_0_0_1280))⟩,
   ⟨Rect.unit (s := S1024x1024) ![0, 512] S1024x128.size inb_S1024x1024_S1024x128_0_512, slabV x (View.ld gv (Rect.unit (s := S1x1024x2048) ![0, 0, 1024] S1x1024x256.size inb_S1x1024x2048_S1x1024x256_0_0_1024)) (View.ld pv (Rect.unit (s := S1x1x2048) ![0, 0, 1024] S1x1x256.size inb_S1x1x2048_S1x1x256_0_0_1024))⟩,
   ⟨Rect.unit (s := S1024x1024) ![0, 384] S1024x128.size inb_S1024x1024_S1024x128_0_384, slabV x (View.ld gv (Rect.unit (s := S1x1024x2048) ![0, 0, 768] S1x1024x256.size inb_S1x1024x2048_S1x1024x256_0_0_768)) (View.ld pv (Rect.unit (s := S1x1x2048) ![0, 0, 768] S1x1x256.size inb_S1x1x2048_S1x1x256_0_0_768))⟩,
   ⟨Rect.unit (s := S1024x1024) ![0, 256] S1024x128.size inb_S1024x1024_S1024x128_0_256, slabV x (View.ld gv (Rect.unit (s := S1x1024x2048) ![0, 0, 512] S1x1024x256.size inb_S1x1024x2048_S1x1024x256_0_0_512)) (View.ld pv (Rect.unit (s := S1x1x2048) ![0, 0, 512] S1x1x256.size inb_S1x1x2048_S1x1x256_0_0_512))⟩,
   ⟨Rect.unit (s := S1024x1024) ![0, 128] S1024x128.size inb_S1024x1024_S1024x128_0_128, slabV x (View.ld gv (Rect.unit (s := S1x1024x2048) ![0, 0, 256] S1x1024x256.size inb_S1x1024x2048_S1x1024x256_0_0_256)) (View.ld pv (Rect.unit (s := S1x1x2048) ![0, 0, 256] S1x1x256.size inb_S1x1x2048_S1x1x256_0_0_256))⟩,
   ⟨Rect.unit (s := S1024x1024) ![0, 0] S1024x128.size inb_S1024x1024_S1024x128_0_0, slabV x (View.ld gv (Rect.unit (s := S1x1024x2048) ![0, 0, 0] S1x1024x256.size inb_S1x1024x2048_S1x1024x256_0_0_0)) (View.ld pv (Rect.unit (s := S1x1x2048) ![0, 0, 0] S1x1x256.size inb_S1x1x2048_S1x1x256_0_0_0))⟩]
/-- The block as the body loads it: one slot of the ring. -/
def blockV (xb : S1024x8x128.Idx → Elt F .f32) : Vec F S1x1024x8x128 .f32 := shapeCast S1x1024x8x128 xb shapeCasts_S1024x8x128_S1x1024x8x128
/-- What the trip stores for a block with `v` valid rows. -/
def storeV (v : BitVec 32) (xb : S1024x8x128.Idx → Elt F .f32) (gv : S1x1024x2048.Idx → Elt F .bf16) (pv : S1x1x2048.Idx → Elt F .f32)
    (dv : S1x1024x1024.Idx → Elt F .f32) (qv : S1x1x1024.Idx → Elt F .f32) : Vec F S1x1024x8x128 .f32 :=
  if k0_cond13 v = 1#1 then k0_pay50 (View.canon (actL (k0_pay1 v (blockV xb)) gv pv)) dv qv else k0_pay51
/-- The block's results. -/
def outV (v : BitVec 32) (xb : S1024x8x128.Idx → Elt F .f32) (gv : S1x1024x2048.Idx → Elt F .bf16) (pv : S1x1x2048.Idx → Elt F .f32)
    (dv : S1x1024x1024.Idx → Elt F .f32) (qv : S1x1x1024.Idx → Elt F .f32) : S1024x8x128.Idx → Elt F .f32 :=
  shapeCast S1024x8x128 (storeV v xb gv pv dv qv) shapeCasts_S1x1024x8x128_S1024x8x128

/-- A slot of a ring is read in row-major order of the box the ring is loaded through. -/
theorem read_slot {κ : Kind} {sp : Space} {s s' : Shape} {el : EltTy} (m : Memref sig κ sp s el) (r : Rect s) (hs : ∀ a, r.stride a = 1) (sq : r.shape.Squeezes s')
    (f : m.view.ty.Contents (Elt F)) (y : s'.Idx) :
    ((m.slice r hs).squeeze s' sq).view.read (Elt F) f y = m.view.readAt (Elt F) r.toLoadRect f (Shape.reshapeEquiv sq.numel_eq y) := rfl

/-- A slot of the block ring filled with a block reads, through the ring, as the block. -/
theorem load_block {n : ℕ} (hn : n < 289) (xb : S1024x8x128.Idx → Elt F .f32)
    (hh : ∀ a, k0_off69 (wd n) a + S1x1024x8x128.size a ≤ S3x1024x8x128.size a) :
    (Memref.whole cc0_scoped0 : Memref sig .tc .vmem S3x1024x8x128 .f32).view.readAt (Elt F) (Rect.unit (s := S3x1024x8x128) (k0_off69 (wd n)) S1x1024x8x128.size hh).toLoadRect
      ((slotX (Ring.sl 3 n)).view.writes (Elt F) (slotX (Ring.sl 3 n)).view.junk [⟨Rect.whole S1024x8x128, xb⟩]) = blockV xb := by
  have e := off69_eq hn
  generalize k0_off69 (wd n) = off at e hh
  subst e
  have h1 : ∀ y, (slotX (Ring.sl 3 n)).view.read (Elt F) ((slotX (Ring.sl 3 n)).view.writes (Elt F) (slotX (Ring.sl 3 n)).view.junk [⟨Rect.whole S1024x8x128, xb⟩]) y = xb y := by
    exact congrFun (View.read_writes_whole _ _ _)
  generalize (slotX (Ring.sl 3 n)).view.writes (Elt F) (slotX (Ring.sl 3 n)).view.junk [⟨Rect.whole S1024x8x128, xb⟩] = f at h1 ⊢
  funext i
  have h2 := h1 (Shape.reshapeEquiv shapeCasts_S1024x8x128_S1x1024x8x128 i)
  refine Eq.trans ?_ h2
  refine Eq.trans ?_ (read_slot (Memref.whole cc0_scoped0) _ (fun _ => rfl) squeezes_S1x1024x8x128_S1024x8x128 f _).symm
  congr 1
  exact ((Shape.reshapeEquiv_reshapeEquiv _ _ i).trans (Shape.reshapeEquiv_self _ i)).symm

/-- A store through the ring at one slot reads, through the slot, as what was stored. -/
theorem read_store {n : ℕ} (w : S1x1024x8x128.Idx → Elt F .f32) (off : Fin 4 → ℕ) (e : off = o4 (Ring.sl 2 n).val)
    (hh : ∀ a, off a + S1x1024x8x128.size a ≤ S2x1024x8x128.size a) (f : Buf (Elt F) ((Memref.whole cc0_scoped10).view.loc ((0 : Dev nD) : Thread nD τ))) :
    (slotO (Ring.sl 2 n)).view.read (Elt F) (View.write (Elt F) ((Memref.whole cc0_scoped10 : Memref sig .tc .vmem S2x1024x8x128 .f32).access (Rect.unit (s := S2x1024x8x128) off S1x1024x8x128.size hh)) f w Finset.univ)
      = shapeCast S1024x8x128 w shapeCasts_S1x1024x8x128_S1024x8x128 := by
  subst e
  funext i
  refine (read_slot (Memref.whole cc0_scoped10) _ (fun _ => rfl) squeezes_S1x1024x8x128_S1024x8x128 _ i).trans ?_
  exact View.read_slice_write_emb (v := (Memref.whole cc0_scoped10 : Memref sig .tc .vmem S2x1024x8x128 .f32).view) (Rect.unit (s := S2x1024x8x128) (o4 (Ring.sl 2 n).val) S1x1024x8x128.size hh) f w (Finset.mem_univ _)

/-- A load of a box of a filled slot reads the filling there. -/
theorem load_part {κ : Kind} {sp : Space} {s : Shape} {el : EltTy} (v : View sig κ sp s el) (g : s.Idx → Elt F el) (r : Rect s) :
    v.readCov [⟨Rect.whole s, g⟩] r.toLoadRect = View.ld g r := by
  rw [View.readCov_eq_canon']
  funext j
  have h := View.canon_cons_emb (Val := Elt F) (Rect.whole s) g [] (r.toLoadRect.idx j)
  rw [Rect.emb_whole_apply] at h
  exact h
/-- A load of the whole of a written array reads its contents. -/
theorem load_all {κ : Kind} {sp : Space} {s : Shape} {el : EltTy} (v : View sig κ sp s el) (L : List (View.Piece (Elt F) s el)) {off : Fin s.rank → ℕ} (h : off = fun _ => 0)
    (hh : ∀ a, off a + s.size a ≤ s.size a) : v.readCov L (Rect.unit off s.size hh).toLoadRect = View.canon L := by
  rw [View.readCov_eq_canon']
  subst h
  funext j
  exact congrArg (View.canon L) (Rect.emb_whole_apply s j)
end Cert.Proof.Experts
-- ==== Proof.Trip14.lean ====
module

public import proofs.«01_k».proof.Proof.Compute
public import Idealize.ShloMosaic.Lib.Pipeline.KitQuiescent
public import Idealize.ShloMosaic.Lib.Ring
public import Idealize.ShloMosaic.Lib.Affine
public import Idealize.ShloMosaic.Lib.Tactic

public import Idealize.ShloMosaic.Lib.Pipeline.Value

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
section
variable (c : Dev nD)
/-- The activation scratch, held. -/
abbrev actP : sProp 𝕄 := iprop(∃ f : Buf (Elt F) ((Memref.whole cc0_scratch0).view.loc (c : Thread nD τ)),
  (Memref.whole cc0_scratch0).view.loc (c : Thread nD τ) ↦[(Memref.whole cc0_scratch0).view.set]{fullShare} f)
/-- Slot `s` of the output ring, free. -/
abbrev freeO (s : Fin 2) : sProp 𝕄 := iprop(∃ f, holdO (F := F) c s f ∗ cellP c (csmO s))
/-- Part `b` of the result, held. -/
abbrev anyO (b : Fin 288) : sProp 𝕄 := iprop(∃ g, homeO (F := F) c g b)
/-- Part `b` of the result, finished: it reads `y`. -/
abbrev doneO (b : Fin 288) (y : S1024x8x128.Idx → Elt F .f32) : sProp 𝕄 := iprop(∃ g, ⌜(blkO b).view.read (Elt F) g = y⌝ ∗ homeO (F := F) c g b)
/-- Slot `s` on its way out to part `b`, which will read `y`. -/
abbrev flyO (s : Fin 2) (b : Fin 288) (y : S1024x8x128.Idx → Elt F .f32) : sProp 𝕄 :=
  iprop(∃ f g, ⌜(slotO s).view.read (Elt F) f = y ∧ (blkO b).view.read (Elt F) g = y⌝ ∗
    Transfers.Flight countersEmb (c : Thread nD τ) (SemLoc.dma (csmO s).sem) () 131072 iprop(homeO (F := F) c g b ∗ holdO c s f))
end
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))

theorem compute (k : Fin k0_t1_loop.trips) (n : ℕ) (hn : n < 289) (hk : k.val < 289) (hk' : k.val + 0 < 288) (e : Fin 32) (b10 hw5 v109 v110 v120 v142 v144 v156 v158 v170 v172 v184 v186 v245 v250) (v252 : BitVec 32) (hw22) (hv : k0_cond13 v252 = 1#1) (hv' : ¬ k0_cond14 v252 = 1#1) (W) :
    iprop(actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
      ∗ freeO c (Ring.sl 2 k.val) ∗ anyO c (Ring.bk 288 (k.val + 0)) ∗ owes (c : Thread nD τ) 0 W)
      ⊢ wp frame (wpE (defs₀ (F := F)) 𝒱₀ (c : Thread nD τ) none) Set.univ
        (k0_part14 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 v109 v110 v120 v142 v144 v156 v158 v170 v172 v184 v186 v245 v250 v252 hw22)
        (fun r => iprop(⌜r = Scalar.andi (Scalar.ori (Scalar.cmpi .ne v110 v120) v109) 1#1⌝ ∗ actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
          ∗ flyO c (Ring.sl 2 k.val) (Ring.bk 288 (k.val + 0)) (outV v252 (valX c XA (Ring.bk 288 k.val)) (valG c GA e) (valP c PA e) (valD c DA e) (valQ c QA e)) ∗ owes (c : Thread nD τ) 0 W)) := by
  have h20 := cond20_true k
  have iX := ringX_within (n := k.val) hk (k0_off69_inb _ _ _ _ _ _ _ hw22 hv)
  have iO := ringO_within (n := k.val) hk (k0_off74_inb _ _ _ _ _ _ _ hw22 hv)
  iintro ⟨Ha, HX, HG, HP, HD, HQ, HO, Hb, HW⟩
  icases Ha with ⟨%fa, Ha⟩
  icases HO with ⟨%fo, HO, Hc⟩
  icases Hb with ⟨%go, Hb⟩
  sl_unfold [k0_part14]
  sl_exec
  sl_step
  isplitr
  · ipureintro; rfl
  isplitl [Ha]; · iexists _; iexact Ha
  isplitl [HX]; · iexact HX
  isplitl [HG]; · iexact HG
  isplitl [HP]; · iexact HP
  isplitl [HD]; · iexact HD
  isplitl [HQ]; · iexact HQ
  isplitl [Hc]
  · iexists _, _
    isplitr
    rotate_left
    · iexact Hc
    · ipureintro
      have hy : (slotO (Ring.sl 2 k.val)).view.read (Elt F) (compute.sl.HO_w1 c XA GA PA DA QA k n e v252 hw22 hv fo) = outV v252 (valX c XA (Ring.bk 288 k.val)) (valG c GA e) (valP c PA e) (valD c DA e) (valQ c QA e) := by
        unfold compute.sl.HO_w1
        have h355 : compute.sl.v355_r0 c XA k n v252 hw22 hv = blockV (valX c XA (Ring.bk 288 k.val)) := load_block hk _ _
        have hg0 : compute.sl.v367_r0 c GA n e = View.ld (valG c GA e) (Rect.unit (s := S1x1024x2048) ![0, 0, 0] S1x1024x256.size inb_S1x1024x2048_S1x1024x256_0_0_0) := load_part _ _ _
        have hp0 : compute.sl.v372_r0 c PA n e = View.ld (valP c PA e) (Rect.unit (s := S1x1x2048) ![0, 0, 0] S1x1x256.size inb_S1x1x2048_S1x1x256_0_0_0) := load_part _ _ _
        have hg1 : compute.sl.v403_r0 c GA n e = View.ld (valG c GA e) (Rect.unit (s := S1x1024x2048) ![0, 0, 256] S1x1024x256.size inb_S1x1024x2048_S1x1024x256_0_0_256) := load_part _ _ _
        have hp1 : compute.sl.v408_r0 c PA n e = View.ld (valP c PA e) (Rect.unit (s := S1x1x2048) ![0, 0, 256] S1x1x256.size inb_S1x1x2048_S1x1x256_0_0_256) := load_part _ _ _
        have hg2 : compute.sl.v439_r0 c GA n e = View.ld (valG c GA e) (Rect.unit (s := S1x1024x2048) ![0, 0, 512] S1x1024x256.size inb_S1x1024x2048_S1x1024x256_0_0_512) := load_part _ _ _
        have hp2 : compute.sl.v444_r0 c PA n e = View.ld (valP c PA e) (Rect.unit (s := S1x1x2048) ![0, 0, 512] S1x1x256.size inb_S1x1x2048_S1x1x256_0_0_512) := load_part _ _ _
        have hg3 : compute.sl.v475_r0 c GA n e = View.ld (valG c GA e) (Rect.unit (s := S1x1024x2048) ![0, 0, 768] S1x1024x256.size inb_S1x1024x2048_S1x1024x256_0_0_768) := load_part _ _ _
        have hp3 : compute.sl.v480_r0 c PA n e = View.ld (valP c PA e) (Rect.unit (s := S1x1x2048) ![0, 0, 768] S1x1x256.size inb_S1x1x2048_S1x1x256_0_0_768) := load_part _ _ _
        have hg4 : compute.sl.v511_r0 c GA n e = View.ld (valG c GA e) (Rect.unit (s := S1x1024x2048) ![0, 0, 1024] S1x1024x256.size inb_S1x1024x2048_S1x1024x256_0_0_1024) := load_part _ _ _
        have hp4 : compute.sl.v516_r0 c PA n e = View.ld (valP c PA e) (Rect.unit (s := S1x1x2048) ![0, 0, 1024] S1x1x256.size inb_S1x1x2048_S1x1x256_0_0_1024) := load_part _ _ _
        have hg5 : compute.sl.v547_r0 c GA n e = View.ld (valG c GA e) (Rect.unit (s := S1x1024x2048) ![0, 0, 1280] S1x1024x256.size inb_S1x1024x2048_S1x1024x256_0_0_1280) := load_part _ _ _
        have hp5 : compute.sl.v552_r0 c PA n e = View.ld (valP c PA e) (Rect.unit (s := S1x1x2048) ![0, 0, 1280] S1x1x256.size inb_S1x1x2048_S1x1x256_0_0_1280) := load_part _ _ _
        have hg6 : compute.sl.v583_r0 c GA n e = View.ld (valG c GA e) (Rect.unit (s := S1x1024x2048) ![0, 0, 1536] S1x1024x256.size inb_S1x1024x2048_S1x1024x256_0_0_1536) := load_part _ _ _
        have hp6 : compute.sl.v588_r0 c PA n e = View.ld (valP c PA e) (Rect.unit (s := S1x1x2048) ![0, 0, 1536] S1x1x256.size inb_S1x1x2048_S1x1x256_0_0_1536) := load_part _ _ _
        have hg7 : compute.sl.v619_r0 c GA n e = View.ld (valG c GA e) (Rect.unit (s := S1x1024x2048) ![0, 0, 1792] S1x1024x256.size inb_S1x1024x2048_S1x1024x256_0_0_1792) := load_part _ _ _
        have hp7 : compute.sl.v624_r0 c PA n e = View.ld (valP c PA e) (Rect.unit (s := S1x1x2048) ![0, 0, 1792] S1x1x256.size inb_S1x1x2048_S1x1x256_0_0_1792) := load_part _ _ _
        have hd : compute.sl.v656_r0 c DA n e = valD c DA e := (load_part (slotD (Ring.sl 2 n)).view _ _).trans (View.ld_unit_zero (by funext a; fin_cases a <;> rfl) _ _)
        have hq : compute.sl.v662_r0 c QA n e = valQ c QA e := (load_part (slotQ (Ring.sl 2 n)).view _ _).trans (View.ld_unit_zero (by funext a; fin_cases a <;> rfl) _ _)
        have ha : compute.sl.v653_r0 c XA GA PA k n e v252 hw22 hv = View.canon (actL (k0_pay1 v252 (blockV (valX c XA (Ring.bk 288 k.val)))) (valG c GA e) (valP c PA e)) := by
          refine (load_all _ _ (by funext a; fin_cases a <;> rfl) _).trans (congrArg View.canon ?_)
          unfold actL
          rw [← h355, ← hg0, ← hp0, ← hg1, ← hp1, ← hg2, ← hp2, ← hg3, ← hp3, ← hg4, ← hp4, ← hg5, ← hp5, ← hg6, ← hp6, ← hg7, ← hp7]
          rfl
        refine (read_store (n := k.val) _ _ (off74_eq hk) _ _).trans ?_
        unfold outV storeV
        rw [if_pos hv, ← ha, ← hd, ← hq]
        rfl
      exact ⟨hy, (View.read_writes_whole _ _ _).trans hy⟩
  · iexact HW

theorem blank (k : Fin k0_t1_loop.trips) (n : ℕ) (hn : n < 289) (hk : k.val < 289) (hk' : k.val + 0 < 288) (e : Fin 32) (b10 hw5 v109 v110 v120 v142 v144 v156 v158 v170 v172 v184 v186 v245 v250) (v252 : BitVec 32) (hw22) (hv' : ¬ k0_cond13 v252 = 1#1) (hv : k0_cond14 v252 = 1#1) (W) :
    iprop(actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
      ∗ freeO c (Ring.sl 2 k.val) ∗ anyO c (Ring.bk 288 (k.val + 0)) ∗ owes (c : Thread nD τ) 0 W)
      ⊢ wp frame (wpE (defs₀ (F := F)) 𝒱₀ (c : Thread nD τ) none) Set.univ
        (k0_part14 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 v109 v110 v120 v142 v144 v156 v158 v170 v172 v184 v186 v245 v250 v252 hw22)
        (fun r => iprop(⌜r = Scalar.andi (Scalar.ori (Scalar.cmpi .ne v110 v120) v109) 1#1⌝ ∗ actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
          ∗ flyO c (Ring.sl 2 k.val) (Ring.bk 288 (k.val + 0)) (outV v252 (valX c XA (Ring.bk 288 k.val)) (valG c GA e) (valP c PA e) (valD c DA e) (valQ c QA e)) ∗ owes (c : Thread nD τ) 0 W)) := by
  have h20 := cond20_true k
  have iO := ringO_within0 (n := k.val) hk (k0_off75_inb _ _ _ _ _ _ _ hw22 hv)
  iintro ⟨Ha, HX, HG, HP, HD, HQ, HO, Hb, HW⟩
  icases Ha with ⟨%fa, Ha⟩
  icases HO with ⟨%fo, HO, Hc⟩
  icases Hb with ⟨%go, Hb⟩
  sl_unfold [k0_part14]
  sl_exec
  sl_step
  isplitr
  · ipureintro; rfl
  isplitl [Ha]; · iexists _; iexact Ha
  isplitl [HX]; · iexact HX
  isplitl [HG]; · iexact HG
  isplitl [HP]; · iexact HP
  isplitl [HD]; · iexact HD
  isplitl [HQ]; · iexact HQ
  isplitl [Hc]
  · iexists _, _
    isplitr
    rotate_left
    · iexact Hc
    · ipureintro
      have hy : (slotO (Ring.sl 2 k.val)).view.read (Elt F) (blank.sl.HO_w1 c k n v252 hw22 hv fo) = outV v252 (valX c XA (Ring.bk 288 k.val)) (valG c GA e) (valP c PA e) (valD c DA e) (valQ c QA e) := by
        unfold blank.sl.HO_w1
        refine (read_store (n := k.val) _ _ (off75_eq hk) _ _).trans ?_
        unfold outV storeV
        rw [if_neg hv']
      exact ⟨hy, (View.read_writes_whole _ _ _).trans hy⟩
  · iexact HW

end Cert.Proof.Experts
-- ==== Proof.States.lean ====
module

public import proofs.«01_k».proof.Proof.Trip14
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
/-! ## The rings' states before, during and after a trip -/
section
variable (c : Dev nD)
open scoped Classical in
/-- The set without part `e`, when it has been issued. -/
def without {n : ℕ} (S : Finset (Fin n)) (p : Prop) (e : Fin n) : Finset (Fin n) := if p then S.erase e else S
open scoped Classical in
/-- The set with part `e` again, when it has been waited for. -/
def within {n : ℕ} (S : Finset (Fin n)) (p : Prop) (e : Fin n) : Finset (Fin n) := if p then insert e S else S
theorem within_true {n : ℕ} (S : Finset (Fin n)) {p : Prop} (h : p) (e : Fin n) : within S p e = insert e S := if_pos h
theorem within_false {n : ℕ} (S : Finset (Fin n)) {p : Prop} (h : ¬ p) (e : Fin n) : within S p e = S := if_neg h
theorem without_true {n : ℕ} (S : Finset (Fin n)) {p : Prop} (h : p) (e : Fin n) : without S p e = S.erase e := if_pos h
theorem without_false {n : ℕ} (S : Finset (Fin n)) {p : Prop} (h : ¬ p) (e : Fin n) : without S p e = S := if_neg h

open scoped Classical in
/-- The slot of the block ring this trip reads: on its way if `fr`, else filled already. -/
def curX (A : Buf (Elt F) ((Memref.whole main_arg0).view.loc (c : Thread nD τ))) (s : Fin 3) (e : Fin 288) (fr : Prop) : sProp 𝕄 :=
  if fr then iprop(∃ f, flyX c A s e f) else iprop(cellP c (csmX s) ∗ fullX c A s e)
open scoped Classical in
/-- The slot of the block ring the next part goes to: on its way if issued, else free. -/
def nxtX (A : Buf (Elt F) ((Memref.whole main_arg0).view.loc (c : Thread nD τ))) (s : Fin 3) (e : Fin 288) (iss : Prop) : sProp 𝕄 :=
  if iss then iprop(∃ f, flyX c A s e f) else iprop(∃ f, cellP c (csmX s) ∗ holdX c s f)
/-- The parts of the array not on their way. -/
abbrev homesX (A : Buf (Elt F) ((Memref.whole main_arg0).view.loc (c : Thread nD τ))) (S : Finset (Fin 288)) : sProp 𝕄 := bigSep S (homeX c A)
theorem curX_true (A : Buf (Elt F) ((Memref.whole main_arg0).view.loc (c : Thread nD τ))) (s : Fin 3) (e : Fin 288) {fr : Prop} (h : fr) : curX c A s e fr = iprop(∃ f, flyX c A s e f) := if_pos h
theorem curX_false (A : Buf (Elt F) ((Memref.whole main_arg0).view.loc (c : Thread nD τ))) (s : Fin 3) (e : Fin 288) {fr : Prop} (h : ¬ fr) : curX c A s e fr = iprop(cellP c (csmX s) ∗ fullX c A s e) := if_neg h
theorem nxtX_true (A : Buf (Elt F) ((Memref.whole main_arg0).view.loc (c : Thread nD τ))) (s : Fin 3) (e : Fin 288) {fr : Prop} (h : fr) : nxtX c A s e fr = iprop(∃ f, flyX c A s e f) := if_pos h
theorem nxtX_false (A : Buf (Elt F) ((Memref.whole main_arg0).view.loc (c : Thread nD τ))) (s : Fin 3) (e : Fin 288) {fr : Prop} (h : ¬ fr) : nxtX c A s e fr = iprop(∃ f, cellP c (csmX s) ∗ holdX c s f) := if_neg h
theorem homesX_take (A : Buf (Elt F) ((Memref.whole main_arg0).view.loc (c : Thread nD τ))) {S : Finset (Fin 288)} {e : Fin 288} (h : e ∈ S) : homesX c A S = iprop(homeX c A e ∗ homesX c A (S.erase e)) := BI.bigSep_erase h
theorem homesX_put (A : Buf (Elt F) ((Memref.whole main_arg0).view.loc (c : Thread nD τ))) {S : Finset (Fin 288)} {e : Fin 288} (h : e ∉ S) : homesX c A (insert e S) = iprop(homeX c A e ∗ homesX c A S) := BI.bigSep_insert h

open scoped Classical in
/-- The slot of the gate/up weight ring this trip reads: on its way if `fr`, else filled already. -/
def curG (A : Buf (Elt F) ((Memref.whole main_v3).view.loc (c : Thread nD τ))) (s : Fin 2) (e : Fin 32) (fr : Prop) : sProp 𝕄 :=
  if fr then iprop(∃ f, flyG c A s e f) else iprop(cellP c (csmG s) ∗ fullG c A s e)
open scoped Classical in
/-- The slot of the gate/up weight ring the next part goes to: on its way if issued, else free. -/
def nxtG (A : Buf (Elt F) ((Memref.whole main_v3).view.loc (c : Thread nD τ))) (s : Fin 2) (e : Fin 32) (iss : Prop) : sProp 𝕄 :=
  if iss then iprop(∃ f, flyG c A s e f) else iprop(∃ f, cellP c (csmG s) ∗ holdG c s f)
/-- The parts of the array not on their way. -/
abbrev homesG (A : Buf (Elt F) ((Memref.whole main_v3).view.loc (c : Thread nD τ))) (S : Finset (Fin 32)) : sProp 𝕄 := bigSep S (homeG c A)
theorem curG_true (A : Buf (Elt F) ((Memref.whole main_v3).view.loc (c : Thread nD τ))) (s : Fin 2) (e : Fin 32) {fr : Prop} (h : fr) : curG c A s e fr = iprop(∃ f, flyG c A s e f) := if_pos h
theorem curG_false (A : Buf (Elt F) ((Memref.whole main_v3).view.loc (c : Thread nD τ))) (s : Fin 2) (e : Fin 32) {fr : Prop} (h : ¬ fr) : curG c A s e fr = iprop(cellP c (csmG s) ∗ fullG c A s e) := if_neg h
theorem nxtG_true (A : Buf (Elt F) ((Memref.whole main_v3).view.loc (c : Thread nD τ))) (s : Fin 2) (e : Fin 32) {fr : Prop} (h : fr) : nxtG c A s e fr = iprop(∃ f, flyG c A s e f) := if_pos h
theorem nxtG_false (A : Buf (Elt F) ((Memref.whole main_v3).view.loc (c : Thread nD τ))) (s : Fin 2) (e : Fin 32) {fr : Prop} (h : ¬ fr) : nxtG c A s e fr = iprop(∃ f, cellP c (csmG s) ∗ holdG c s f) := if_neg h
theorem homesG_take (A : Buf (Elt F) ((Memref.whole main_v3).view.loc (c : Thread nD τ))) {S : Finset (Fin 32)} {e : Fin 32} (h : e ∈ S) : homesG c A S = iprop(homeG c A e ∗ homesG c A (S.erase e)) := BI.bigSep_erase h
theorem homesG_put (A : Buf (Elt F) ((Memref.whole main_v3).view.loc (c : Thread nD τ))) {S : Finset (Fin 32)} {e : Fin 32} (h : e ∉ S) : homesG c A (insert e S) = iprop(homeG c A e ∗ homesG c A S) := BI.bigSep_insert h

open scoped Classical in
/-- The slot of the gate/up bias ring this trip reads: on its way if `fr`, else filled already. -/
def curP (A : Buf (Elt F) ((Memref.whole main_v6).view.loc (c : Thread nD τ))) (s : Fin 2) (e : Fin 32) (fr : Prop) : sProp 𝕄 :=
  if fr then iprop(∃ f, flyP c A s e f) else iprop(cellP c (csmP s) ∗ fullP c A s e)
open scoped Classical in
/-- The slot of the gate/up bias ring the next part goes to: on its way if issued, else free. -/
def nxtP (A : Buf (Elt F) ((Memref.whole main_v6).view.loc (c : Thread nD τ))) (s : Fin 2) (e : Fin 32) (iss : Prop) : sProp 𝕄 :=
  if iss then iprop(∃ f, flyP c A s e f) else iprop(∃ f, cellP c (csmP s) ∗ holdP c s f)
/-- The parts of the array not on their way. -/
abbrev homesP (A : Buf (Elt F) ((Memref.whole main_v6).view.loc (c : Thread nD τ))) (S : Finset (Fin 32)) : sProp 𝕄 := bigSep S (homeP c A)
theorem curP_true (A : Buf (Elt F) ((Memref.whole main_v6).view.loc (c : Thread nD τ))) (s : Fin 2) (e : Fin 32) {fr : Prop} (h : fr) : curP c A s e fr = iprop(∃ f, flyP c A s e f) := if_pos h
theorem curP_false (A : Buf (Elt F) ((Memref.whole main_v6).view.loc (c : Thread nD τ))) (s : Fin 2) (e : Fin 32) {fr : Prop} (h : ¬ fr) : curP c A s e fr = iprop(cellP c (csmP s) ∗ fullP c A s e) := if_neg h
theorem nxtP_true (A : Buf (Elt F) ((Memref.whole main_v6).view.loc (c : Thread nD τ))) (s : Fin 2) (e : Fin 32) {fr : Prop} (h : fr) : nxtP c A s e fr = iprop(∃ f, flyP c A s e f) := if_pos h
theorem nxtP_false (A : Buf (Elt F) ((Memref.whole main_v6).view.loc (c : Thread nD τ))) (s : Fin 2) (e : Fin 32) {fr : Prop} (h : ¬ fr) : nxtP c A s e fr = iprop(∃ f, cellP c (csmP s) ∗ holdP c s f) := if_neg h
theorem homesP_take (A : Buf (Elt F) ((Memref.whole main_v6).view.loc (c : Thread nD τ))) {S : Finset (Fin 32)} {e : Fin 32} (h : e ∈ S) : homesP c A S = iprop(homeP c A e ∗ homesP c A (S.erase e)) := BI.bigSep_erase h
theorem homesP_put (A : Buf (Elt F) ((Memref.whole main_v6).view.loc (c : Thread nD τ))) {S : Finset (Fin 32)} {e : Fin 32} (h : e ∉ S) : homesP c A (insert e S) = iprop(homeP c A e ∗ homesP c A S) := BI.bigSep_insert h

open scoped Classical in
/-- The slot of the down weight ring this trip reads: on its way if `fr`, else filled already. -/
def curD (A : Buf (Elt F) ((Memref.whole main_arg5).view.loc (c : Thread nD τ))) (s : Fin 2) (e : Fin 32) (fr : Prop) : sProp 𝕄 :=
  if fr then iprop(∃ f, flyD c A s e f) else iprop(cellP c (csmD s) ∗ fullD c A s e)
open scoped Classical in
/-- The slot of the down weight ring the next part goes to: on its way if issued, else free. -/
def nxtD (A : Buf (Elt F) ((Memref.whole main_arg5).view.loc (c : Thread nD τ))) (s : Fin 2) (e : Fin 32) (iss : Prop) : sProp 𝕄 :=
  if iss then iprop(∃ f, flyD c A s e f) else iprop(∃ f, cellP c (csmD s) ∗ holdD c s f)
/-- The parts of the array not on their way. -/
abbrev homesD (A : Buf (Elt F) ((Memref.whole main_arg5).view.loc (c : Thread nD τ))) (S : Finset (Fin 32)) : sProp 𝕄 := bigSep S (homeD c A)
theorem curD_true (A : Buf (Elt F) ((Memref.whole main_arg5).view.loc (c : Thread nD τ))) (s : Fin 2) (e : Fin 32) {fr : Prop} (h : fr) : curD c A s e fr = iprop(∃ f, flyD c A s e f) := if_pos h
theorem curD_false (A : Buf (Elt F) ((Memref.whole main_arg5).view.loc (c : Thread nD τ))) (s : Fin 2) (e : Fin 32) {fr : Prop} (h : ¬ fr) : curD c A s e fr = iprop(cellP c (csmD s) ∗ fullD c A s e) := if_neg h
theorem nxtD_true (A : Buf (Elt F) ((Memref.whole main_arg5).view.loc (c : Thread nD τ))) (s : Fin 2) (e : Fin 32) {fr : Prop} (h : fr) : nxtD c A s e fr = iprop(∃ f, flyD c A s e f) := if_pos h
theorem nxtD_false (A : Buf (Elt F) ((Memref.whole main_arg5).view.loc (c : Thread nD τ))) (s : Fin 2) (e : Fin 32) {fr : Prop} (h : ¬ fr) : nxtD c A s e fr = iprop(∃ f, cellP c (csmD s) ∗ holdD c s f) := if_neg h
theorem homesD_take (A : Buf (Elt F) ((Memref.whole main_arg5).view.loc (c : Thread nD τ))) {S : Finset (Fin 32)} {e : Fin 32} (h : e ∈ S) : homesD c A S = iprop(homeD c A e ∗ homesD c A (S.erase e)) := BI.bigSep_erase h
theorem homesD_put (A : Buf (Elt F) ((Memref.whole main_arg5).view.loc (c : Thread nD τ))) {S : Finset (Fin 32)} {e : Fin 32} (h : e ∉ S) : homesD c A (insert e S) = iprop(homeD c A e ∗ homesD c A S) := BI.bigSep_insert h

open scoped Classical in
/-- The slot of the down bias ring this trip reads: on its way if `fr`, else filled already. -/
def curQ (A : Buf (Elt F) ((Memref.whole main_v7).view.loc (c : Thread nD τ))) (s : Fin 2) (e : Fin 32) (fr : Prop) : sProp 𝕄 :=
  if fr then iprop(∃ f, flyQ c A s e f) else iprop(cellP c (csmQ s) ∗ fullQ c A s e)
open scoped Classical in
/-- The slot of the down bias ring the next part goes to: on its way if issued, else free. -/
def nxtQ (A : Buf (Elt F) ((Memref.whole main_v7).view.loc (c : Thread nD τ))) (s : Fin 2) (e : Fin 32) (iss : Prop) : sProp 𝕄 :=
  if iss then iprop(∃ f, flyQ c A s e f) else iprop(∃ f, cellP c (csmQ s) ∗ holdQ c s f)
/-- The parts of the array not on their way. -/
abbrev homesQ (A : Buf (Elt F) ((Memref.whole main_v7).view.loc (c : Thread nD τ))) (S : Finset (Fin 32)) : sProp 𝕄 := bigSep S (homeQ c A)
theorem curQ_true (A : Buf (Elt F) ((Memref.whole main_v7).view.loc (c : Thread nD τ))) (s : Fin 2) (e : Fin 32) {fr : Prop} (h : fr) : curQ c A s e fr = iprop(∃ f, flyQ c A s e f) := if_pos h
theorem curQ_false (A : Buf (Elt F) ((Memref.whole main_v7).view.loc (c : Thread nD τ))) (s : Fin 2) (e : Fin 32) {fr : Prop} (h : ¬ fr) : curQ c A s e fr = iprop(cellP c (csmQ s) ∗ fullQ c A s e) := if_neg h
theorem nxtQ_true (A : Buf (Elt F) ((Memref.whole main_v7).view.loc (c : Thread nD τ))) (s : Fin 2) (e : Fin 32) {fr : Prop} (h : fr) : nxtQ c A s e fr = iprop(∃ f, flyQ c A s e f) := if_pos h
theorem nxtQ_false (A : Buf (Elt F) ((Memref.whole main_v7).view.loc (c : Thread nD τ))) (s : Fin 2) (e : Fin 32) {fr : Prop} (h : ¬ fr) : nxtQ c A s e fr = iprop(∃ f, cellP c (csmQ s) ∗ holdQ c s f) := if_neg h
theorem homesQ_take (A : Buf (Elt F) ((Memref.whole main_v7).view.loc (c : Thread nD τ))) {S : Finset (Fin 32)} {e : Fin 32} (h : e ∈ S) : homesQ c A S = iprop(homeQ c A e ∗ homesQ c A (S.erase e)) := BI.bigSep_erase h
theorem homesQ_put (A : Buf (Elt F) ((Memref.whole main_v7).view.loc (c : Thread nD τ))) {S : Finset (Fin 32)} {e : Fin 32} (h : e ∉ S) : homesQ c A (insert e S) = iprop(homeQ c A e ∗ homesQ c A S) := BI.bigSep_insert h
end
/-! ## Which expert each block has, and when a trip changes experts -/

/-- The next block has another expert: this trip issues it. -/
def Iss (E : ℕ → Fin 32) (k : ℕ) : Prop := E k ≠ E ((k + 1) % 288) ∧ k + 1 < 288
/-- This block's expert is not the block before's: this trip waits for it. -/
def Fr (E : ℕ → Fin 32) (k : ℕ) : Prop := E k ≠ E ((k + 287) % 288) ∨ k = 0
theorem wd_ne {a b : Fin 32} : (wd a.val ≠ wd b.val) ↔ a ≠ b :=
  (by decide +kernel : ∀ a b : Fin 32, (wd a.val ≠ wd b.val) ↔ a ≠ b) a b
/-- A counter moves on by a step exactly when its bit is set. -/
theorem step_word (b : BitVec 1) (n : ℕ) : Scalar.select (Scalar.andi b 1#1) (Scalar.addi (wd n) 1#32) (wd n) = wd (if b = 1#1 then n + 1 else n) := by
  have hb : b = 0#1 ∨ b = 1#1 := by revert b; decide
  rcases hb with rfl | rfl
  · rfl
  · show wd n + 1#32 = wd (n + 1)
    exact (BitVec.ofNat_add n 1).symm
/-- A table's contents `g` hold, at each block, the word `V` gives. -/
def Words (c : Dev nD) (M : Memref sig .tc .smem S288 .i32) (g : Buf (Elt F) (M.view.loc (c : Thread nD τ))) (V : ℕ → BitVec 32) : Prop :=
  ∀ (off : Fin 1 → Nat) (h : ∀ a, off a + S1.size a ≤ S288.size a) (x : S1.Idx) (j : ℕ), off = o1 j → j < 288 →
    M.view.readAt (Elt F) (Rect.unit (s := S288) off S1.size h).toLoadRect g x = V j
end Cert.Proof.Experts
-- ==== Proof.Rest.lean ====
module

public import proofs.«01_k».proof.Proof.States
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
/-! ## A filled slot does not remember what it held before -/
variable (c : Dev nD)

theorem fullX_eq (A : Buf (Elt F) ((Memref.whole main_arg0).view.loc (c : Thread nD τ))) (s : Fin 3) (e : Fin 288)
    (f : Buf (Elt F) ((slotX s).view.loc (c : Thread nD τ))) : (holdX c s (fillX c A s e f) : sProp 𝕄) = fullX c A s e :=
  Ring.pointsTo_whole_rebase _ _ _ _ _

theorem fullG_eq (A : Buf (Elt F) ((Memref.whole main_v3).view.loc (c : Thread nD τ))) (s : Fin 2) (e : Fin 32)
    (f : Buf (Elt F) ((slotG s).view.loc (c : Thread nD τ))) : (holdG c s (fillG c A s e f) : sProp 𝕄) = fullG c A s e :=
  Ring.pointsTo_whole_rebase _ _ _ _ _

theorem fullP_eq (A : Buf (Elt F) ((Memref.whole main_v6).view.loc (c : Thread nD τ))) (s : Fin 2) (e : Fin 32)
    (f : Buf (Elt F) ((slotP s).view.loc (c : Thread nD τ))) : (holdP c s (fillP c A s e f) : sProp 𝕄) = fullP c A s e :=
  Ring.pointsTo_whole_rebase _ _ _ _ _

theorem fullD_eq (A : Buf (Elt F) ((Memref.whole main_arg5).view.loc (c : Thread nD τ))) (s : Fin 2) (e : Fin 32)
    (f : Buf (Elt F) ((slotD s).view.loc (c : Thread nD τ))) : (holdD c s (fillD c A s e f) : sProp 𝕄) = fullD c A s e :=
  Ring.pointsTo_whole_rebase _ _ _ _ _

theorem fullQ_eq (A : Buf (Elt F) ((Memref.whole main_v7).view.loc (c : Thread nD τ))) (s : Fin 2) (e : Fin 32)
    (f : Buf (Elt F) ((slotQ s).view.loc (c : Thread nD τ))) : (holdQ c s (fillQ c A s e f) : sProp 𝕄) = fullQ c A s e :=
  Ring.pointsTo_whole_rebase _ _ _ _ _
end Cert.Proof.Experts
-- ==== Proof.Trip10.lean ====
module

public import proofs.«01_k».proof.Proof.Rest
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

/-- The block before block `w`, round the table. -/
abbrev before (w : BitVec 32) : BitVec 32 :=
  Scalar.select (Scalar.cmpi .eq (Scalar.select 1#1 (Scalar.subi w 1#32) w) 4294967295#32) 287#32 (Scalar.select 1#1 (Scalar.subi w 1#32) w)
/-- The block after block `w`, round the table. -/
abbrev after (w : BitVec 32) : BitVec 32 :=
  Scalar.select (Scalar.cmpi .eq (Scalar.select 1#1 (Scalar.addi w 1#32) w) 288#32) 0#32 (Scalar.select 1#1 (Scalar.addi w 1#32) w)
/-- Whether block `k + 2` is to be fetched in trip `k`. -/
abbrev ahead (k : Fin k0_t1_loop.trips) : BitVec 1 :=
  Scalar.andi (Scalar.cmpi .ne (Scalar.addi (after (wd k.val)) 0#32) (Scalar.addi (after (after (wd k.val))) 0#32)) (Scalar.xori (Scalar.cmpi .sge (Scf.iv 0#32 1#32 k) 286#32) 1#1)

theorem fetchX (k : Fin k0_t1_loop.trips) (m : ℕ) (h5 : k0_chk5 k (wd m) (wd k.val) (wd k.val) (wd (k.val - 1)) (wd k.val)) (hm : m = k.val + 2) (hI : k.val + 2 < 288) (S : Finset (Fin 288)) (hX : Ring.bk 288 (k.val + 2) ∈ S) (W) :
    iprop(nxtX c XA (Ring.sl 3 (k.val + 2)) (Ring.bk 288 (k.val + 2)) False ∗ homesX c XA S ∗ owes (c : Thread nD τ) 0 W)
      ⊢ wp frame (wpE (defs₀ (F := F)) 𝒱₀ (c : Thread nD τ) none) Set.univ
        (k0_part10 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 0#32 1#32 k (wd m) (wd k.val) (wd k.val) (wd (k.val - 1)) (wd k.val))
        (fun r => iprop(⌜r = ⟨h5, Scf.iv 0#32 1#32 k, Scalar.cmpi .eq (Scf.iv 0#32 1#32 k) 0#32, Scalar.cmpi .eq (Scf.iv 0#32 1#32 k) 287#32, Scalar.addi (wd k.val) 0#32,
            Scalar.addi (before (wd k.val)) 0#32, Scalar.addi (after (wd k.val)) 0#32, ahead k⟩⌝ ∗
          nxtX c XA (Ring.sl 3 (k.val + 2)) (Ring.bk 288 (k.val + 2)) (k.val + 2 < 288) ∗ homesX c XA (without S (k.val + 2 < 288) (Ring.bk 288 (k.val + 2))) ∗ owes (c : Thread nD τ) 0 W)) := by
  have hc : k0_cond2 k (wd k.val) = 1#1 := by rw [cond2_iff]; exact hI
  subst hm
  have hk1 : k.val + 2 < 289 := by omega
  rw [nxtX_false c XA _ _ not_false, nxtX_true c XA _ _ hI, without_true S hI, homesX_take c XA hX]
  iintro ⟨HX, HX', HW⟩
  icases HX with ⟨%f, Hc, HX⟩
  icases HX' with ⟨Hh, HX'⟩
  sl_unfold [k0_part10]
  sl_exec
  sl_step
  isplitr
  · ipureintro; rfl
  isplitl [Hc]; · iexists _; iexact Hc
  isplitl [HX']; · iexact HX'
  iexact HW

theorem restX (k : Fin k0_t1_loop.trips) (m : ℕ) (h5 : k0_chk5 k (wd m) (wd k.val) (wd k.val) (wd (k.val - 1)) (wd k.val)) (hI : ¬ k.val + 2 < 288) (S : Finset (Fin 288)) (W) :
    iprop(nxtX c XA (Ring.sl 3 (k.val + 2)) (Ring.bk 288 (k.val + 2)) False ∗ homesX c XA S ∗ owes (c : Thread nD τ) 0 W)
      ⊢ wp frame (wpE (defs₀ (F := F)) 𝒱₀ (c : Thread nD τ) none) Set.univ
        (k0_part10 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 0#32 1#32 k (wd m) (wd k.val) (wd k.val) (wd (k.val - 1)) (wd k.val))
        (fun r => iprop(⌜r = ⟨h5, Scf.iv 0#32 1#32 k, Scalar.cmpi .eq (Scf.iv 0#32 1#32 k) 0#32, Scalar.cmpi .eq (Scf.iv 0#32 1#32 k) 287#32, Scalar.addi (wd k.val) 0#32,
            Scalar.addi (before (wd k.val)) 0#32, Scalar.addi (after (wd k.val)) 0#32, ahead k⟩⌝ ∗
          nxtX c XA (Ring.sl 3 (k.val + 2)) (Ring.bk 288 (k.val + 2)) (k.val + 2 < 288) ∗ homesX c XA (without S (k.val + 2 < 288) (Ring.bk 288 (k.val + 2))) ∗ owes (c : Thread nD τ) 0 W)) := by
  have hc : ¬ k0_cond2 k (wd k.val) = 1#1 := by rw [cond2_iff]; exact hI
  rw [nxtX_false c XA _ _ not_false, nxtX_false c XA _ _ hI, without_false S hI]
  iintro ⟨HX, HX', HW⟩
  icases HX with ⟨%f, Hc, HX⟩
  sl_unfold [k0_part10]
  sl_exec
  sl_step
  isplitr
  · ipureintro; rfl
  isplitl [Hc HX]
  · iexists _; isplitl [Hc]; · iexact Hc
    iexact HX
  isplitl [HX']; · iexact HX'
  iexact HW

theorem pure15 (k : Fin k0_t1_loop.trips) (v108 : BitVec 1) (v110 v115 v142 v156 v170 v184 v208 v216 v224 v232 : BitVec 32) (v288 : BitVec 1) (W) :
    (iprop(owes (c : Thread nD τ) 0 W) : sProp 𝕄)
      ⊢ wp frame (wpE (defs₀ (F := F)) 𝒱₀ (c : Thread nD τ) none) Set.univ
        (k0_part15 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (wd k.val) v108 v110 v115 v142 v156 v170 v184 v208 v216 v224 v232 v288)
        (fun r => iprop(⌜r = ⟨Scalar.select v288 (Scalar.addi (wd k.val) 1#32) (wd k.val), Scalar.andi (Scalar.cmpi .ne v110 v115) (Scalar.xori v108 1#1)⟩⌝ ∗ owes (c : Thread nD τ) 0 W)) := by
  iintro HW
  sl_unfold [k0_part15]
  sl_exec
  sl_step
  isplitr
  · ipureintro; rfl
  iexact HW
end Cert.Proof.Experts
-- ==== Proof.Trip11.lean ====
module

public import proofs.«01_k».proof.Proof.States
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

theorem issueGP (hT : Table c arg0 g0 E)  (k : Fin k0_t1_loop.trips) (hk : k.val < 288) (n : ℕ) (hn : n + 1 < 289) (SG SP : Finset (Fin 32)) (b10 v110 v120 v134 hw5) (hI : Iss E k.val) (hG : (E ((k.val + 1) % 288)) ∈ SG) (hP : (E ((k.val + 1) % 288)) ∈ SP) (W) :
    iprop(tabP c arg0 g0 ∗ nxtG c GA (Ring.sl 2 (n + 1)) (E ((k.val + 1) % 288)) (False) ∗ homesG c GA SG ∗ nxtP c PA (Ring.sl 2 (n + 1)) (E ((k.val + 1) % 288)) (False) ∗ homesP c PA SP ∗ owes (c : Thread nD τ) 0 W)
      ⊢ wp frame (wpE (defs₀ (F := F)) 𝒱₀ (c : Thread nD τ) none) Set.univ
        (k0_part11 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd (n + 1)) (wd (n + 1)) (wd (n + 1)) (wd k.val) (wd (k.val - 1)) (wd k.val) hw5 (Scf.iv 0#32 1#32 k) v110 v120 v134)
        (fun r => iprop(⌜r = ⟨Scalar.select (Scalar.andi v134 1#1) (Scalar.addi b10 1#32) b10, wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, chk10_ok k hn _ _, Scalar.andi (Scalar.cmpi .ne (wd (E k.val).val) (wd (E ((k.val + 1) % 288)).val)) (Scalar.xori (Scalar.cmpi .sge (Scf.iv 0#32 1#32 k) 287#32) 1#1)⟩⌝ ∗ tabP c arg0 g0 ∗ nxtG c GA (Ring.sl 2 (n + 1)) (E ((k.val + 1) % 288)) (Iss E k.val) ∗ homesG c GA (without SG (Iss E k.val) (E ((k.val + 1) % 288))) ∗ nxtP c PA (Ring.sl 2 (n + 1)) (E ((k.val + 1) % 288)) (Iss E k.val) ∗ homesP c PA (without SP (Iss E k.val) (E ((k.val + 1) % 288))) ∗ owes (c : Thread nD τ) 0 W)) := by
  have hk1 : (k.val + 1) % 288 < 288 := Nat.mod_lt _ (by decide)
  have hkp : (k.val + 287) % 288 < 288 := Nat.mod_lt _ (by decide)
  have hn' : n < 289 := by omega
  rw [nxtG_false c GA _ _ not_false, nxtG_true c GA _ _ hI, without_true SG hI, homesG_take c GA hG]
  rw [nxtP_false c PA _ _ not_false, nxtP_true c PA _ _ hI, without_true SP hI, homesP_take c PA hP]
  iintro ⟨Ht, HG, HG', HP, HP', HW⟩
  icases HG with ⟨%fG, HcG, HG⟩
  icases HG' with ⟨HhG, HG'⟩
  icases HP with ⟨%fP, HcP, HP⟩
  icases HP' with ⟨HhP, HP'⟩
  sl_unfold [k0_part11]
  sl_exec
  have e0 : issueGP.sl.r c arg0 g0 k b10 hw5 = wd (E k.val).val := hT _ _ _ _ (off21_eq hk) (hk)
  have e1 : issueGP.sl.r_1 c arg0 g0 k b10 hw5 = wd (E ((k.val + 1) % 288)).val := hT _ _ _ _ (off22_eq hk) (hk1)
  rw [e0, e1]
  have h6 := chk6_ok k hn (wd (E k.val).val) (wd (E ((k.val + 1) % 288)).val)
  have h3 : k0_cond3 k (wd (E k.val).val) (wd (E ((k.val + 1) % 288)).val) = 1#1 := by rw [cond3_iff, wd_ne]; exact hI
  sl_exec
  have e2 : issueGP.sl.r_2 c arg0 g0 E k n h6 h3 = wd (E ((k.val + 1) % 288)).val := hT _ _ _ _ (off23_eq hk) (hk1)
  rw [e2]
  have h7 := chk7_ok k (wd (E k.val).val) (wd (E ((k.val + 1) % 288)).val) (E ((k.val + 1) % 288))
  sl_exec
  have e3 : issueGP.sl.r_3 c arg0 g0 k b10 hw5 = wd (E k.val).val := hT _ _ _ _ (off27_eq hk) (hk)
  have e4 : issueGP.sl.r_4 c arg0 g0 k b10 hw5 = wd (E ((k.val + 1) % 288)).val := hT _ _ _ _ (off28_eq hk) (hk1)
  rw [e3, e4]
  have h8 := chk8_ok k hn (wd (E k.val).val) (wd (E ((k.val + 1) % 288)).val)
  have h4 : k0_cond4 k (wd (E k.val).val) (wd (E ((k.val + 1) % 288)).val) = 1#1 := by rw [cond4_iff, wd_ne]; exact hI
  sl_exec
  have e5 : issueGP.sl.r_5 c arg0 g0 E k n h8 h4 = wd (E ((k.val + 1) % 288)).val := hT _ _ _ _ (off29_eq hk) (hk1)
  rw [e5]
  have h9 := chk9_ok k (wd (E k.val).val) (wd (E ((k.val + 1) % 288)).val) (E ((k.val + 1) % 288))
  sl_exec
  have e6 : issueGP.sl.r_6 c arg0 g0 k b10 hw5 = wd (E k.val).val := hT _ _ _ _ (off33_eq hk) (hk)
  have e7 : issueGP.sl.r_7 c arg0 g0 k b10 hw5 = wd (E ((k.val + 1) % 288)).val := hT _ _ _ _ (off34_eq hk) (hk1)
  rw [e6, e7]
  have h10 := chk10_ok k hn (wd (E k.val).val) (wd (E ((k.val + 1) % 288)).val)
  sl_exec
  sl_step
  isplitr
  · ipureintro; rfl
  isplitl [Ht]; · iexact Ht
  isplitl [HcG]; · iexists _; iexact HcG
  isplitl [HG']; · iexact HG'
  isplitl [HcP]; · iexists _; iexact HcP
  isplitl [HP']; · iexact HP'
  iexact HW

theorem keepGP (hT : Table c arg0 g0 E)  (k : Fin k0_t1_loop.trips) (hk : k.val < 288) (n : ℕ) (hn : n + 1 < 289) (SG SP : Finset (Fin 32)) (b10 v110 v120 v134 hw5) (hI : ¬ Iss E k.val) (W) :
    iprop(tabP c arg0 g0 ∗ nxtG c GA (Ring.sl 2 (n + 1)) (E ((k.val + 1) % 288)) (False) ∗ homesG c GA SG ∗ nxtP c PA (Ring.sl 2 (n + 1)) (E ((k.val + 1) % 288)) (False) ∗ homesP c PA SP ∗ owes (c : Thread nD τ) 0 W)
      ⊢ wp frame (wpE (defs₀ (F := F)) 𝒱₀ (c : Thread nD τ) none) Set.univ
        (k0_part11 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd (n + 1)) (wd (n + 1)) (wd (n + 1)) (wd k.val) (wd (k.val - 1)) (wd k.val) hw5 (Scf.iv 0#32 1#32 k) v110 v120 v134)
        (fun r => iprop(⌜r = ⟨Scalar.select (Scalar.andi v134 1#1) (Scalar.addi b10 1#32) b10, wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, chk10_ok k hn _ _, Scalar.andi (Scalar.cmpi .ne (wd (E k.val).val) (wd (E ((k.val + 1) % 288)).val)) (Scalar.xori (Scalar.cmpi .sge (Scf.iv 0#32 1#32 k) 287#32) 1#1)⟩⌝ ∗ tabP c arg0 g0 ∗ nxtG c GA (Ring.sl 2 (n + 1)) (E ((k.val + 1) % 288)) (Iss E k.val) ∗ homesG c GA (without SG (Iss E k.val) (E ((k.val + 1) % 288))) ∗ nxtP c PA (Ring.sl 2 (n + 1)) (E ((k.val + 1) % 288)) (Iss E k.val) ∗ homesP c PA (without SP (Iss E k.val) (E ((k.val + 1) % 288))) ∗ owes (c : Thread nD τ) 0 W)) := by
  have hk1 : (k.val + 1) % 288 < 288 := Nat.mod_lt _ (by decide)
  have hkp : (k.val + 287) % 288 < 288 := Nat.mod_lt _ (by decide)
  have hn' : n < 289 := by omega
  rw [nxtG_false c GA _ _ not_false, nxtG_false c GA _ _ hI, without_false SG hI]
  rw [nxtP_false c PA _ _ not_false, nxtP_false c PA _ _ hI, without_false SP hI]
  iintro ⟨Ht, HG, HG', HP, HP', HW⟩
  icases HG with ⟨%fG, HcG, HG⟩
  icases HP with ⟨%fP, HcP, HP⟩
  sl_unfold [k0_part11]
  sl_exec
  have e0 : keepGP.sl.r c arg0 g0 k b10 hw5 = wd (E k.val).val := hT _ _ _ _ (off21_eq hk) (hk)
  have e1 : keepGP.sl.r_1 c arg0 g0 k b10 hw5 = wd (E ((k.val + 1) % 288)).val := hT _ _ _ _ (off22_eq hk) (hk1)
  rw [e0, e1]
  have h6 := chk6_ok k hn (wd (E k.val).val) (wd (E ((k.val + 1) % 288)).val)
  have h3 : ¬ k0_cond3 k (wd (E k.val).val) (wd (E ((k.val + 1) % 288)).val) = 1#1 := by rw [cond3_iff, wd_ne]; exact hI
  sl_exec
  have e2 : keepGP.sl.r_2 c arg0 g0 k b10 hw5 = wd (E k.val).val := hT _ _ _ _ (off27_eq hk) (hk)
  have e3 : keepGP.sl.r_3 c arg0 g0 k b10 hw5 = wd (E ((k.val + 1) % 288)).val := hT _ _ _ _ (off28_eq hk) (hk1)
  rw [e2, e3]
  have h8 := chk8_ok k hn (wd (E k.val).val) (wd (E ((k.val + 1) % 288)).val)
  have h4 : ¬ k0_cond4 k (wd (E k.val).val) (wd (E ((k.val + 1) % 288)).val) = 1#1 := by rw [cond4_iff, wd_ne]; exact hI
  sl_exec
  have e4 : keepGP.sl.r_4 c arg0 g0 k b10 hw5 = wd (E k.val).val := hT _ _ _ _ (off33_eq hk) (hk)
  have e5 : keepGP.sl.r_5 c arg0 g0 k b10 hw5 = wd (E ((k.val + 1) % 288)).val := hT _ _ _ _ (off34_eq hk) (hk1)
  rw [e4, e5]
  have h10 := chk10_ok k hn (wd (E k.val).val) (wd (E ((k.val + 1) % 288)).val)
  sl_exec
  sl_step
  isplitr
  · ipureintro; rfl
  isplitl [Ht]; · iexact Ht
  isplitl [HcG HG]
  · iexists _; isplitl [HcG]; · iexact HcG
    iexact HG
  isplitl [HG']; · iexact HG'
  isplitl [HcP HP]
  · iexists _; isplitl [HcP]; · iexact HcP
    iexact HP
  isplitl [HP']; · iexact HP'
  iexact HW
end Cert.Proof.Experts
-- ==== Proof.Trip12.lean ====
module

public import proofs.«01_k».proof.Proof.Rest
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

theorem issueDQ_waitXG (hT : Table c arg0 g0 E)  (k : Fin k0_t1_loop.trips) (hk : k.val < 288) (n : ℕ) (hn : n + 1 < 289) (SD SQ SG : Finset (Fin 32)) (b10 v110 v115 v120 v108 hw5 hw10) (hk0 : k.val + 0 < 288) (hkx : k.val < 289) (SX : Finset (Fin 288)) (hX : Ring.bk 288 (k.val + 0) ∉ SX) (hI : Iss E k.val) (hD : (E ((k.val + 1) % 288)) ∈ SD) (hQ : (E ((k.val + 1) % 288)) ∈ SQ) (hF : Fr E k.val) (hG : (E k.val) ∉ SG) (W) :
    iprop(tabP c arg0 g0 ∗ nxtD c DA (Ring.sl 2 (n + 1)) (E ((k.val + 1) % 288)) (False) ∗ homesD c DA SD ∗ nxtQ c QA (Ring.sl 2 (n + 1)) (E ((k.val + 1) % 288)) (False) ∗ homesQ c QA SQ ∗ curG c GA (Ring.sl 2 n) (E k.val) (Fr E k.val) ∗ homesG c GA SG ∗ (∃ f, flyX c XA (Ring.sl 3 k.val) (Ring.bk 288 (k.val + 0)) f) ∗ homesX c XA SX ∗ owes (c : Thread nD τ) 0 W)
      ⊢ wp frame (wpE (defs₀ (F := F)) 𝒱₀ (c : Thread nD τ) none) Set.univ
        (k0_part12 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd (n + 1)) (wd (n + 1)) (wd k.val) (wd (k.val - 1)) (wd k.val) hw5 (Scf.iv 0#32 1#32 k) v108 v110 v115 v120 (wd (E k.val).val) (wd (E k.val).val) (wd (E ((k.val + 1) % 288)).val) hw10 (Scalar.andi (Scalar.cmpi .ne (wd (E k.val).val) (wd (E ((k.val + 1) % 288)).val)) (Scalar.xori (Scalar.cmpi .sge (Scf.iv 0#32 1#32 k) 287#32) 1#1)))
        (fun r => iprop(⌜r = ⟨Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E ((k.val + 287) % 288)).val⟩⌝ ∗ tabP c arg0 g0 ∗ nxtD c DA (Ring.sl 2 (n + 1)) (E ((k.val + 1) % 288)) (Iss E k.val) ∗ homesD c DA (without SD (Iss E k.val) (E ((k.val + 1) % 288))) ∗ nxtQ c QA (Ring.sl 2 (n + 1)) (E ((k.val + 1) % 288)) (Iss E k.val) ∗ homesQ c QA (without SQ (Iss E k.val) (E ((k.val + 1) % 288))) ∗ curG c GA (Ring.sl 2 n) (E k.val) (False) ∗ homesG c GA (within SG (Fr E k.val) (E k.val)) ∗ (cellP c (csmX (Ring.sl 3 k.val)) ∗ fullX c XA (Ring.sl 3 k.val) (Ring.bk 288 (k.val + 0))) ∗ homesX c XA (insert (Ring.bk 288 (k.val + 0)) SX) ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [homesX_put c XA hX]
  rw [nxtD_false c DA _ _ not_false, nxtD_true c DA _ _ hI, without_true SD hI, homesD_take c DA hD]
  rw [nxtQ_false c QA _ _ not_false, nxtQ_true c QA _ _ hI, without_true SQ hI, homesQ_take c QA hQ]
  rw [curG_true c GA _ _ hF, curG_false c GA _ _ not_false, within_true SG hF, homesG_put c GA hG]
  iintro ⟨Ht, HD, HD', HQ, HQ', HG, HG', HX, HX', HW⟩
  icases HD with ⟨%fD, HcD, HD⟩
  icases HD' with ⟨HhD, HD'⟩
  icases HQ with ⟨%fQ, HcQ, HQ⟩
  icases HQ' with ⟨HhQ, HQ'⟩
  icases HG with ⟨%fG, HcG⟩
  icases HX with ⟨%fX, HcX⟩
  sl_unfold [k0_part12]
  have h5 : k0_cond5 k (wd (E k.val).val) (wd (E ((k.val + 1) % 288)).val) = 1#1 := by rw [cond5_iff, wd_ne]; exact hI
  have h7 := cond7_true k
  sl_exec
  have e0 : issueDQ_waitXG.sl.r c arg0 g0 E k n hw10 h5 = wd (E ((k.val + 1) % 288)).val := hT _ _ _ _ (off35_eq hk) (hk1)
  rw [e0]
  have h11 := chk11_ok k (wd (E k.val).val) (wd (E ((k.val + 1) % 288)).val) (E ((k.val + 1) % 288))
  sl_exec
  have e1 : issueDQ_waitXG.sl.r_1 c arg0 g0 k b10 hw5 = wd (E k.val).val := hT _ _ _ _ (off39_eq hk) (hk)
  have e2 : issueDQ_waitXG.sl.r_2 c arg0 g0 k b10 hw5 = wd (E ((k.val + 1) % 288)).val := hT _ _ _ _ (off40_eq hk) (hk1)
  rw [e1, e2]
  have h12 := chk12_ok k hn (wd (E k.val).val) (wd (E ((k.val + 1) % 288)).val)
  have h6 : k0_cond6 k (wd (E k.val).val) (wd (E ((k.val + 1) % 288)).val) = 1#1 := by rw [cond6_iff, wd_ne]; exact hI
  sl_exec
  have e3 : issueDQ_waitXG.sl.r_3 c arg0 g0 E k n h12 h6 = wd (E ((k.val + 1) % 288)).val := hT _ _ _ _ (off41_eq hk) (hk1)
  rw [e3]
  have h13 := chk13_ok k (wd (E k.val).val) (wd (E ((k.val + 1) % 288)).val) (E ((k.val + 1) % 288))
  sl_exec
  have e4 : issueDQ_waitXG.sl.r_4 c arg0 g0 k b10 hw5 = wd (E ((k.val + 287) % 288)).val := hT _ _ _ _ (off48_eq hk) (hkp)
  rw [e4]
  have h14 := chk14_ok k hn' (wd (E k.val).val) (wd (E ((k.val + 287) % 288)).val)
  have h8 : k0_cond8 k (wd (E k.val).val) (wd (E ((k.val + 287) % 288)).val) = 1#1 := by rw [cond8_iff, wd_ne]; exact hF
  sl_exec
  have e5 : issueDQ_waitXG.sl.r_5 c arg0 g0 E k n h14 h8 = wd (E k.val).val := hT _ _ _ _ (off49_eq hk) (hk)
  rw [e5]
  have h15 := chk15_ok k (wd (E k.val).val) (wd (E ((k.val + 287) % 288)).val) (E k.val)
  sl_exec
  sl_step
  isplitr
  · ipureintro; rfl
  isplitl [Ht]; · iexact Ht
  isplitl [HcD]; · iexists _; iexact HcD
  isplitl [HD']; · iexact HD'
  isplitl [HcQ]; · iexists _; iexact HcQ
  isplitl [HQ']; · iexact HQ'
  isplitl [HcG HcG_dst]
  · isplitl [HcG]; · iexact HcG
    rw [← fullG_eq c GA _ _ fG]; iexact HcG_dst
  isplitl [HcG_src HG']
  · isplitl [HcG_src]; · iexact HcG_src
    iexact HG'
  isplitl [HcX HcX_dst]
  · isplitl [HcX]; · iexact HcX
    rw [← fullX_eq c XA _ _ fX]; iexact HcX_dst
  isplitl [HcX_src HX']
  · isplitl [HcX_src]; · iexact HcX_src
    iexact HX'
  iexists _; iexact HW

theorem issueDQ_waitX (hT : Table c arg0 g0 E)  (k : Fin k0_t1_loop.trips) (hk : k.val < 288) (n : ℕ) (hn : n + 1 < 289) (SD SQ SG : Finset (Fin 32)) (b10 v110 v115 v120 v108 hw5 hw10) (hk0 : k.val + 0 < 288) (hkx : k.val < 289) (SX : Finset (Fin 288)) (hX : Ring.bk 288 (k.val + 0) ∉ SX) (hI : Iss E k.val) (hD : (E ((k.val + 1) % 288)) ∈ SD) (hQ : (E ((k.val + 1) % 288)) ∈ SQ) (hF : ¬ Fr E k.val) (W) :
    iprop(tabP c arg0 g0 ∗ nxtD c DA (Ring.sl 2 (n + 1)) (E ((k.val + 1) % 288)) (False) ∗ homesD c DA SD ∗ nxtQ c QA (Ring.sl 2 (n + 1)) (E ((k.val + 1) % 288)) (False) ∗ homesQ c QA SQ ∗ curG c GA (Ring.sl 2 n) (E k.val) (Fr E k.val) ∗ homesG c GA SG ∗ (∃ f, flyX c XA (Ring.sl 3 k.val) (Ring.bk 288 (k.val + 0)) f) ∗ homesX c XA SX ∗ owes (c : Thread nD τ) 0 W)
      ⊢ wp frame (wpE (defs₀ (F := F)) 𝒱₀ (c : Thread nD τ) none) Set.univ
        (k0_part12 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd (n + 1)) (wd (n + 1)) (wd k.val) (wd (k.val - 1)) (wd k.val) hw5 (Scf.iv 0#32 1#32 k) v108 v110 v115 v120 (wd (E k.val).val) (wd (E k.val).val) (wd (E ((k.val + 1) % 288)).val) hw10 (Scalar.andi (Scalar.cmpi .ne (wd (E k.val).val) (wd (E ((k.val + 1) % 288)).val)) (Scalar.xori (Scalar.cmpi .sge (Scf.iv 0#32 1#32 k) 287#32) 1#1)))
        (fun r => iprop(⌜r = ⟨Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E ((k.val + 287) % 288)).val⟩⌝ ∗ tabP c arg0 g0 ∗ nxtD c DA (Ring.sl 2 (n + 1)) (E ((k.val + 1) % 288)) (Iss E k.val) ∗ homesD c DA (without SD (Iss E k.val) (E ((k.val + 1) % 288))) ∗ nxtQ c QA (Ring.sl 2 (n + 1)) (E ((k.val + 1) % 288)) (Iss E k.val) ∗ homesQ c QA (without SQ (Iss E k.val) (E ((k.val + 1) % 288))) ∗ curG c GA (Ring.sl 2 n) (E k.val) (False) ∗ homesG c GA (within SG (Fr E k.val) (E k.val)) ∗ (cellP c (csmX (Ring.sl 3 k.val)) ∗ fullX c XA (Ring.sl 3 k.val) (Ring.bk 288 (k.val + 0))) ∗ homesX c XA (insert (Ring.bk 288 (k.val + 0)) SX) ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [homesX_put c XA hX]
  rw [nxtD_false c DA _ _ not_false, nxtD_true c DA _ _ hI, without_true SD hI, homesD_take c DA hD]
  rw [nxtQ_false c QA _ _ not_false, nxtQ_true c QA _ _ hI, without_true SQ hI, homesQ_take c QA hQ]
  rw [curG_false c GA _ _ hF, curG_false c GA _ _ not_false, within_false SG hF]
  iintro ⟨Ht, HD, HD', HQ, HQ', HG, HG', HX, HX', HW⟩
  icases HD with ⟨%fD, HcD, HD⟩
  icases HD' with ⟨HhD, HD'⟩
  icases HQ with ⟨%fQ, HcQ, HQ⟩
  icases HQ' with ⟨HhQ, HQ'⟩
  icases HG with ⟨HcG, HG⟩
  icases HX with ⟨%fX, HcX⟩
  sl_unfold [k0_part12]
  have h5 : k0_cond5 k (wd (E k.val).val) (wd (E ((k.val + 1) % 288)).val) = 1#1 := by rw [cond5_iff, wd_ne]; exact hI
  have h7 := cond7_true k
  sl_exec
  have e0 : issueDQ_waitX.sl.r c arg0 g0 E k n hw10 h5 = wd (E ((k.val + 1) % 288)).val := hT _ _ _ _ (off35_eq hk) (hk1)
  rw [e0]
  have h11 := chk11_ok k (wd (E k.val).val) (wd (E ((k.val + 1) % 288)).val) (E ((k.val + 1) % 288))
  sl_exec
  have e1 : issueDQ_waitX.sl.r_1 c arg0 g0 k b10 hw5 = wd (E k.val).val := hT _ _ _ _ (off39_eq hk) (hk)
  have e2 : issueDQ_waitX.sl.r_2 c arg0 g0 k b10 hw5 = wd (E ((k.val + 1) % 288)).val := hT _ _ _ _ (off40_eq hk) (hk1)
  rw [e1, e2]
  have h12 := chk12_ok k hn (wd (E k.val).val) (wd (E ((k.val + 1) % 288)).val)
  have h6 : k0_cond6 k (wd (E k.val).val) (wd (E ((k.val + 1) % 288)).val) = 1#1 := by rw [cond6_iff, wd_ne]; exact hI
  sl_exec
  have e3 : issueDQ_waitX.sl.r_3 c arg0 g0 E k n h12 h6 = wd (E ((k.val + 1) % 288)).val := hT _ _ _ _ (off41_eq hk) (hk1)
  rw [e3]
  have h13 := chk13_ok k (wd (E k.val).val) (wd (E ((k.val + 1) % 288)).val) (E ((k.val + 1) % 288))
  sl_exec
  have e4 : issueDQ_waitX.sl.r_4 c arg0 g0 k b10 hw5 = wd (E ((k.val + 287) % 288)).val := hT _ _ _ _ (off48_eq hk) (hkp)
  rw [e4]
  have h14 := chk14_ok k hn' (wd (E k.val).val) (wd (E ((k.val + 287) % 288)).val)
  have h8 : ¬ k0_cond8 k (wd (E k.val).val) (wd (E ((k.val + 287) % 288)).val) = 1#1 := by rw [cond8_iff, wd_ne]; exact hF
  sl_exec
  sl_step
  isplitr
  · ipureintro; rfl
  isplitl [Ht]; · iexact Ht
  isplitl [HcD]; · iexists _; iexact HcD
  isplitl [HD']; · iexact HD'
  isplitl [HcQ]; · iexists _; iexact HcQ
  isplitl [HQ']; · iexact HQ'
  isplitl [HcG HG]
  · isplitl [HcG]; · iexact HcG
    iexact HG
  isplitl [HG']; · iexact HG'
  isplitl [HcX HcX_dst]
  · isplitl [HcX]; · iexact HcX
    rw [← fullX_eq c XA _ _ fX]; iexact HcX_dst
  isplitl [HcX_src HX']
  · isplitl [HcX_src]; · iexact HcX_src
    iexact HX'
  iexists _; iexact HW

theorem keepDQ_waitXG (hT : Table c arg0 g0 E)  (k : Fin k0_t1_loop.trips) (hk : k.val < 288) (n : ℕ) (hn : n + 1 < 289) (SD SQ SG : Finset (Fin 32)) (b10 v110 v115 v120 v108 hw5 hw10) (hk0 : k.val + 0 < 288) (hkx : k.val < 289) (SX : Finset (Fin 288)) (hX : Ring.bk 288 (k.val + 0) ∉ SX) (hI : ¬ Iss E k.val) (hF : Fr E k.val) (hG : (E k.val) ∉ SG) (W) :
    iprop(tabP c arg0 g0 ∗ nxtD c DA (Ring.sl 2 (n + 1)) (E ((k.val + 1) % 288)) (False) ∗ homesD c DA SD ∗ nxtQ c QA (Ring.sl 2 (n + 1)) (E ((k.val + 1) % 288)) (False) ∗ homesQ c QA SQ ∗ curG c GA (Ring.sl 2 n) (E k.val) (Fr E k.val) ∗ homesG c GA SG ∗ (∃ f, flyX c XA (Ring.sl 3 k.val) (Ring.bk 288 (k.val + 0)) f) ∗ homesX c XA SX ∗ owes (c : Thread nD τ) 0 W)
      ⊢ wp frame (wpE (defs₀ (F := F)) 𝒱₀ (c : Thread nD τ) none) Set.univ
        (k0_part12 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd (n + 1)) (wd (n + 1)) (wd k.val) (wd (k.val - 1)) (wd k.val) hw5 (Scf.iv 0#32 1#32 k) v108 v110 v115 v120 (wd (E k.val).val) (wd (E k.val).val) (wd (E ((k.val + 1) % 288)).val) hw10 (Scalar.andi (Scalar.cmpi .ne (wd (E k.val).val) (wd (E ((k.val + 1) % 288)).val)) (Scalar.xori (Scalar.cmpi .sge (Scf.iv 0#32 1#32 k) 287#32) 1#1)))
        (fun r => iprop(⌜r = ⟨Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E ((k.val + 287) % 288)).val⟩⌝ ∗ tabP c arg0 g0 ∗ nxtD c DA (Ring.sl 2 (n + 1)) (E ((k.val + 1) % 288)) (Iss E k.val) ∗ homesD c DA (without SD (Iss E k.val) (E ((k.val + 1) % 288))) ∗ nxtQ c QA (Ring.sl 2 (n + 1)) (E ((k.val + 1) % 288)) (Iss E k.val) ∗ homesQ c QA (without SQ (Iss E k.val) (E ((k.val + 1) % 288))) ∗ curG c GA (Ring.sl 2 n) (E k.val) (False) ∗ homesG c GA (within SG (Fr E k.val) (E k.val)) ∗ (cellP c (csmX (Ring.sl 3 k.val)) ∗ fullX c XA (Ring.sl 3 k.val) (Ring.bk 288 (k.val + 0))) ∗ homesX c XA (insert (Ring.bk 288 (k.val + 0)) SX) ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [homesX_put c XA hX]
  rw [nxtD_false c DA _ _ not_false, nxtD_false c DA _ _ hI, without_false SD hI]
  rw [nxtQ_false c QA _ _ not_false, nxtQ_false c QA _ _ hI, without_false SQ hI]
  rw [curG_true c GA _ _ hF, curG_false c GA _ _ not_false, within_true SG hF, homesG_put c GA hG]
  iintro ⟨Ht, HD, HD', HQ, HQ', HG, HG', HX, HX', HW⟩
  icases HD with ⟨%fD, HcD, HD⟩
  icases HQ with ⟨%fQ, HcQ, HQ⟩
  icases HG with ⟨%fG, HcG⟩
  icases HX with ⟨%fX, HcX⟩
  sl_unfold [k0_part12]
  have h5 : ¬ k0_cond5 k (wd (E k.val).val) (wd (E ((k.val + 1) % 288)).val) = 1#1 := by rw [cond5_iff, wd_ne]; exact hI
  have h7 := cond7_true k
  sl_exec
  have e0 : keepDQ_waitXG.sl.r c arg0 g0 k b10 hw5 = wd (E k.val).val := hT _ _ _ _ (off39_eq hk) (hk)
  have e1 : keepDQ_waitXG.sl.r_1 c arg0 g0 k b10 hw5 = wd (E ((k.val + 1) % 288)).val := hT _ _ _ _ (off40_eq hk) (hk1)
  rw [e0, e1]
  have h12 := chk12_ok k hn (wd (E k.val).val) (wd (E ((k.val + 1) % 288)).val)
  have h6 : ¬ k0_cond6 k (wd (E k.val).val) (wd (E ((k.val + 1) % 288)).val) = 1#1 := by rw [cond6_iff, wd_ne]; exact hI
  sl_exec
  have e2 : keepDQ_waitXG.sl.r_2 c arg0 g0 k b10 hw5 = wd (E ((k.val + 287) % 288)).val := hT _ _ _ _ (off48_eq hk) (hkp)
  rw [e2]
  have h14 := chk14_ok k hn' (wd (E k.val).val) (wd (E ((k.val + 287) % 288)).val)
  have h8 : k0_cond8 k (wd (E k.val).val) (wd (E ((k.val + 287) % 288)).val) = 1#1 := by rw [cond8_iff, wd_ne]; exact hF
  sl_exec
  have e3 : keepDQ_waitXG.sl.r_3 c arg0 g0 E k n h14 h8 = wd (E k.val).val := hT _ _ _ _ (off49_eq hk) (hk)
  rw [e3]
  have h15 := chk15_ok k (wd (E k.val).val) (wd (E ((k.val + 287) % 288)).val) (E k.val)
  sl_exec
  sl_step
  isplitr
  · ipureintro; rfl
  isplitl [Ht]; · iexact Ht
  isplitl [HcD HD]
  · iexists _; isplitl [HcD]; · iexact HcD
    iexact HD
  isplitl [HD']; · iexact HD'
  isplitl [HcQ HQ]
  · iexists _; isplitl [HcQ]; · iexact HcQ
    iexact HQ
  isplitl [HQ']; · iexact HQ'
  isplitl [HcG HcG_dst]
  · isplitl [HcG]; · iexact HcG
    rw [← fullG_eq c GA _ _ fG]; iexact HcG_dst
  isplitl [HcG_src HG']
  · isplitl [HcG_src]; · iexact HcG_src
    iexact HG'
  isplitl [HcX HcX_dst]
  · isplitl [HcX]; · iexact HcX
    rw [← fullX_eq c XA _ _ fX]; iexact HcX_dst
  isplitl [HcX_src HX']
  · isplitl [HcX_src]; · iexact HcX_src
    iexact HX'
  iexists _; iexact HW

theorem keepDQ_waitX (hT : Table c arg0 g0 E)  (k : Fin k0_t1_loop.trips) (hk : k.val < 288) (n : ℕ) (hn : n + 1 < 289) (SD SQ SG : Finset (Fin 32)) (b10 v110 v115 v120 v108 hw5 hw10) (hk0 : k.val + 0 < 288) (hkx : k.val < 289) (SX : Finset (Fin 288)) (hX : Ring.bk 288 (k.val + 0) ∉ SX) (hI : ¬ Iss E k.val) (hF : ¬ Fr E k.val) (W) :
    iprop(tabP c arg0 g0 ∗ nxtD c DA (Ring.sl 2 (n + 1)) (E ((k.val + 1) % 288)) (False) ∗ homesD c DA SD ∗ nxtQ c QA (Ring.sl 2 (n + 1)) (E ((k.val + 1) % 288)) (False) ∗ homesQ c QA SQ ∗ curG c GA (Ring.sl 2 n) (E k.val) (Fr E k.val) ∗ homesG c GA SG ∗ (∃ f, flyX c XA (Ring.sl 3 k.val) (Ring.bk 288 (k.val + 0)) f) ∗ homesX c XA SX ∗ owes (c : Thread nD τ) 0 W)
      ⊢ wp frame (wpE (defs₀ (F := F)) 𝒱₀ (c : Thread nD τ) none) Set.univ
        (k0_part12 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd (n + 1)) (wd (n + 1)) (wd k.val) (wd (k.val - 1)) (wd k.val) hw5 (Scf.iv 0#32 1#32 k) v108 v110 v115 v120 (wd (E k.val).val) (wd (E k.val).val) (wd (E ((k.val + 1) % 288)).val) hw10 (Scalar.andi (Scalar.cmpi .ne (wd (E k.val).val) (wd (E ((k.val + 1) % 288)).val)) (Scalar.xori (Scalar.cmpi .sge (Scf.iv 0#32 1#32 k) 287#32) 1#1)))
        (fun r => iprop(⌜r = ⟨Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E ((k.val + 287) % 288)).val⟩⌝ ∗ tabP c arg0 g0 ∗ nxtD c DA (Ring.sl 2 (n + 1)) (E ((k.val + 1) % 288)) (Iss E k.val) ∗ homesD c DA (without SD (Iss E k.val) (E ((k.val + 1) % 288))) ∗ nxtQ c QA (Ring.sl 2 (n + 1)) (E ((k.val + 1) % 288)) (Iss E k.val) ∗ homesQ c QA (without SQ (Iss E k.val) (E ((k.val + 1) % 288))) ∗ curG c GA (Ring.sl 2 n) (E k.val) (False) ∗ homesG c GA (within SG (Fr E k.val) (E k.val)) ∗ (cellP c (csmX (Ring.sl 3 k.val)) ∗ fullX c XA (Ring.sl 3 k.val) (Ring.bk 288 (k.val + 0))) ∗ homesX c XA (insert (Ring.bk 288 (k.val + 0)) SX) ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [homesX_put c XA hX]
  rw [nxtD_false c DA _ _ not_false, nxtD_false c DA _ _ hI, without_false SD hI]
  rw [nxtQ_false c QA _ _ not_false, nxtQ_false c QA _ _ hI, without_false SQ hI]
  rw [curG_false c GA _ _ hF, curG_false c GA _ _ not_false, within_false SG hF]
  iintro ⟨Ht, HD, HD', HQ, HQ', HG, HG', HX, HX', HW⟩
  icases HD with ⟨%fD, HcD, HD⟩
  icases HQ with ⟨%fQ, HcQ, HQ⟩
  icases HG with ⟨HcG, HG⟩
  icases HX with ⟨%fX, HcX⟩
  sl_unfold [k0_part12]
  have h5 : ¬ k0_cond5 k (wd (E k.val).val) (wd (E ((k.val + 1) % 288)).val) = 1#1 := by rw [cond5_iff, wd_ne]; exact hI
  have h7 := cond7_true k
  sl_exec
  have e0 : keepDQ_waitX.sl.r c arg0 g0 k b10 hw5 = wd (E k.val).val := hT _ _ _ _ (off39_eq hk) (hk)
  have e1 : keepDQ_waitX.sl.r_1 c arg0 g0 k b10 hw5 = wd (E ((k.val + 1) % 288)).val := hT _ _ _ _ (off40_eq hk) (hk1)
  rw [e0, e1]
  have h12 := chk12_ok k hn (wd (E k.val).val) (wd (E ((k.val + 1) % 288)).val)
  have h6 : ¬ k0_cond6 k (wd (E k.val).val) (wd (E ((k.val + 1) % 288)).val) = 1#1 := by rw [cond6_iff, wd_ne]; exact hI
  sl_exec
  have e2 : keepDQ_waitX.sl.r_2 c arg0 g0 k b10 hw5 = wd (E ((k.val + 287) % 288)).val := hT _ _ _ _ (off48_eq hk) (hkp)
  rw [e2]
  have h14 := chk14_ok k hn' (wd (E k.val).val) (wd (E ((k.val + 287) % 288)).val)
  have h8 : ¬ k0_cond8 k (wd (E k.val).val) (wd (E ((k.val + 287) % 288)).val) = 1#1 := by rw [cond8_iff, wd_ne]; exact hF
  sl_exec
  sl_step
  isplitr
  · ipureintro; rfl
  isplitl [Ht]; · iexact Ht
  isplitl [HcD HD]
  · iexists _; isplitl [HcD]; · iexact HcD
    iexact HD
  isplitl [HD']; · iexact HD'
  isplitl [HcQ HQ]
  · iexists _; isplitl [HcQ]; · iexact HcQ
    iexact HQ
  isplitl [HQ']; · iexact HQ'
  isplitl [HcG HG]
  · isplitl [HcG]; · iexact HcG
    iexact HG
  isplitl [HG']; · iexact HG'
  isplitl [HcX HcX_dst]
  · isplitl [HcX]; · iexact HcX
    rw [← fullX_eq c XA _ _ fX]; iexact HcX_dst
  isplitl [HcX_src HX']
  · isplitl [HcX_src]; · iexact HcX_src
    iexact HX'
  iexists _; iexact HW
end Cert.Proof.Experts
-- ==== Proof.Trip13.lean ====
module

public import proofs.«01_k».proof.Proof.Rest
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

theorem waitPDQ (hT : Table c arg0 g0 E) {V : ℕ → BitVec 32} {g1 : Buf (Elt F) (arg1.view.loc (c : Thread nD τ))} (hV : Words c arg1 g1 V) (k : Fin k0_t1_loop.trips) (hk : k.val < 288) (n : ℕ) (hn : n + 1 < 289) (SP SD SQ : Finset (Fin 32)) (b10 v110 v115 v108 hw5) (hkx : k.val < 289)  (hF : Fr E k.val) (hP : (E k.val) ∉ SP) (hD : (E k.val) ∉ SD) (hQ : (E k.val) ∉ SQ) (W) :
    iprop(tabP c arg0 g0 ∗ curP c PA (Ring.sl 2 n) (E k.val) (Fr E k.val) ∗ homesP c PA SP ∗ curD c DA (Ring.sl 2 n) (E k.val) (Fr E k.val) ∗ homesD c DA SD ∗ curQ c QA (Ring.sl 2 n) (E k.val) (Fr E k.val) ∗ homesQ c QA SQ ∗ tabP c arg1 g1 ∗ owes (c : Thread nD τ) 0 W)
      ⊢ wp frame (wpE (defs₀ (F := F)) 𝒱₀ (c : Thread nD τ) none) Set.univ
        (k0_part13 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 (Scf.iv 0#32 1#32 k) v108 v110 v115 (wd (E k.val).val) (wd (E k.val).val) (wd (E k.val).val))
        (fun r => iprop(⌜r = ⟨wd (E ((k.val + 287) % 288)).val, wd (E ((k.val + 287) % 288)).val, wd (E ((k.val + 287) % 288)).val, Scalar.remui (wd k.val) 3#32, Scalar.remui (wd k.val) 2#32, V k.val, chk22_ok hkx (by omega) (V k.val)⟩⌝ ∗ tabP c arg0 g0 ∗ curP c PA (Ring.sl 2 n) (E k.val) (False) ∗ homesP c PA (within SP (Fr E k.val) (E k.val)) ∗ curD c DA (Ring.sl 2 n) (E k.val) (False) ∗ homesD c DA (within SD (Fr E k.val) (E k.val)) ∗ curQ c QA (Ring.sl 2 n) (E k.val) (False) ∗ homesQ c QA (within SQ (Fr E k.val) (E k.val)) ∗ tabP c arg1 g1 ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [curP_true c PA _ _ hF, curP_false c PA _ _ not_false, within_true SP hF, homesP_put c PA hP]
  rw [curD_true c DA _ _ hF, curD_false c DA _ _ not_false, within_true SD hF, homesD_put c DA hD]
  rw [curQ_true c QA _ _ hF, curQ_false c QA _ _ not_false, within_true SQ hF, homesQ_put c QA hQ]
  iintro ⟨Ht, HP, HP', HD, HD', HQ, HQ', Ht1, HW⟩
  icases HP with ⟨%fP, HcP⟩
  icases HD with ⟨%fD, HcD⟩
  icases HQ with ⟨%fQ, HcQ⟩
  sl_unfold [k0_part13]
  sl_exec
  have e0 : waitPDQ.sl.r c arg0 g0 k b10 hw5 = wd (E ((k.val + 287) % 288)).val := hT _ _ _ _ (off53_eq hk) (hkp)
  rw [e0]
  have h16 := chk16_ok k hn' (wd (E k.val).val) (wd (E ((k.val + 287) % 288)).val)
  have h9 : k0_cond9 k (wd (E k.val).val) (wd (E ((k.val + 287) % 288)).val) = 1#1 := by rw [cond9_iff, wd_ne]; exact hF
  sl_exec
  have e1 : waitPDQ.sl.r_1 c arg0 g0 E k n h16 h9 = wd (E k.val).val := hT _ _ _ _ (off54_eq hk) (hk)
  rw [e1]
  have h17 := chk17_ok k (wd (E k.val).val) (wd (E ((k.val + 287) % 288)).val) (E k.val)
  sl_exec
  have e2 : waitPDQ.sl.r_2 c arg0 g0 k b10 hw5 = wd (E ((k.val + 287) % 288)).val := hT _ _ _ _ (off58_eq hk) (hkp)
  rw [e2]
  have h18 := chk18_ok k hn' (wd (E k.val).val) (wd (E ((k.val + 287) % 288)).val)
  have h10 : k0_cond10 k (wd (E k.val).val) (wd (E ((k.val + 287) % 288)).val) = 1#1 := by rw [cond10_iff, wd_ne]; exact hF
  sl_exec
  have e3 : waitPDQ.sl.r_3 c arg0 g0 E k n h18 h10 = wd (E k.val).val := hT _ _ _ _ (off59_eq hk) (hk)
  rw [e3]
  have h19 := chk19_ok k (wd (E k.val).val) (wd (E ((k.val + 287) % 288)).val) (E k.val)
  sl_exec
  have e4 : waitPDQ.sl.r_4 c arg0 g0 k b10 hw5 = wd (E ((k.val + 287) % 288)).val := hT _ _ _ _ (off63_eq hk) (hkp)
  rw [e4]
  have h20 := chk20_ok k hn' (wd (E k.val).val) (wd (E ((k.val + 287) % 288)).val)
  have h11 : k0_cond11 k (wd (E k.val).val) (wd (E ((k.val + 287) % 288)).val) = 1#1 := by rw [cond11_iff, wd_ne]; exact hF
  sl_exec
  have e5 : waitPDQ.sl.r_5 c arg0 g0 E k n h20 h11 = wd (E k.val).val := hT _ _ _ _ (off64_eq hk) (hk)
  rw [e5]
  have h21 := chk21_ok k (wd (E k.val).val) (wd (E ((k.val + 287) % 288)).val) (E k.val)
  sl_exec
  have e6 : waitPDQ.sl.r_6 c arg1 k b10 hw5 = V k.val := hV _ _ _ _ (off68_eq hk) hk
  rw [e6]
  have h22 := chk22_ok hkx hn' (V k.val)
  sl_exec
  sl_step
  isplitr
  · ipureintro; rfl
  isplitl [Ht]; · iexact Ht
  isplitl [HcP HcP_dst]
  · isplitl [HcP]; · iexact HcP
    rw [← fullP_eq c PA _ _ fP]; iexact HcP_dst
  isplitl [HcP_src HP']
  · isplitl [HcP_src]; · iexact HcP_src
    iexact HP'
  isplitl [HcD HcD_dst]
  · isplitl [HcD]; · iexact HcD
    rw [← fullD_eq c DA _ _ fD]; iexact HcD_dst
  isplitl [HcD_src HD']
  · isplitl [HcD_src]; · iexact HcD_src
    iexact HD'
  isplitl [HcQ HcQ_dst]
  · isplitl [HcQ]; · iexact HcQ
    rw [← fullQ_eq c QA _ _ fQ]; iexact HcQ_dst
  isplitl [HcQ_src HQ']
  · isplitl [HcQ_src]; · iexact HcQ_src
    iexact HQ'
  isplitl [Ht1]; · iexact Ht1
  iexists _; iexact HW

theorem skipPDQ (hT : Table c arg0 g0 E) {V : ℕ → BitVec 32} {g1 : Buf (Elt F) (arg1.view.loc (c : Thread nD τ))} (hV : Words c arg1 g1 V) (k : Fin k0_t1_loop.trips) (hk : k.val < 288) (n : ℕ) (hn : n + 1 < 289) (SP SD SQ : Finset (Fin 32)) (b10 v110 v115 v108 hw5) (hkx : k.val < 289)  (hF : ¬ Fr E k.val) (W) :
    iprop(tabP c arg0 g0 ∗ curP c PA (Ring.sl 2 n) (E k.val) (Fr E k.val) ∗ homesP c PA SP ∗ curD c DA (Ring.sl 2 n) (E k.val) (Fr E k.val) ∗ homesD c DA SD ∗ curQ c QA (Ring.sl 2 n) (E k.val) (Fr E k.val) ∗ homesQ c QA SQ ∗ tabP c arg1 g1 ∗ owes (c : Thread nD τ) 0 W)
      ⊢ wp frame (wpE (defs₀ (F := F)) 𝒱₀ (c : Thread nD τ) none) Set.univ
        (k0_part13 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 (Scf.iv 0#32 1#32 k) v108 v110 v115 (wd (E k.val).val) (wd (E k.val).val) (wd (E k.val).val))
        (fun r => iprop(⌜r = ⟨wd (E ((k.val + 287) % 288)).val, wd (E ((k.val + 287) % 288)).val, wd (E ((k.val + 287) % 288)).val, Scalar.remui (wd k.val) 3#32, Scalar.remui (wd k.val) 2#32, V k.val, chk22_ok hkx (by omega) (V k.val)⟩⌝ ∗ tabP c arg0 g0 ∗ curP c PA (Ring.sl 2 n) (E k.val) (False) ∗ homesP c PA (within SP (Fr E k.val) (E k.val)) ∗ curD c DA (Ring.sl 2 n) (E k.val) (False) ∗ homesD c DA (within SD (Fr E k.val) (E k.val)) ∗ curQ c QA (Ring.sl 2 n) (E k.val) (False) ∗ homesQ c QA (within SQ (Fr E k.val) (E k.val)) ∗ tabP c arg1 g1 ∗ ∃ W, owes (c : Thread nD τ) 0 W)) := by
  have hk1 : (k.val + 1) % 288 < 288 := Nat.mod_lt _ (by decide)
  have hkp : (k.val + 287) % 288 < 288 := Nat.mod_lt _ (by decide)
  have hn' : n < 289 := by omega
  rw [curP_false c PA _ _ hF, curP_false c PA _ _ not_false, within_false SP hF]
  rw [curD_false c DA _ _ hF, curD_false c DA _ _ not_false, within_false SD hF]
  rw [curQ_false c QA _ _ hF, curQ_false c QA _ _ not_false, within_false SQ hF]
  iintro ⟨Ht, HP, HP', HD, HD', HQ, HQ', Ht1, HW⟩
  icases HP with ⟨HcP, HP⟩
  icases HD with ⟨HcD, HD⟩
  icases HQ with ⟨HcQ, HQ⟩
  sl_unfold [k0_part13]
  sl_exec
  have e0 : skipPDQ.sl.r c arg0 g0 k b10 hw5 = wd (E ((k.val + 287) % 288)).val := hT _ _ _ _ (off53_eq hk) (hkp)
  rw [e0]
  have h16 := chk16_ok k hn' (wd (E k.val).val) (wd (E ((k.val + 287) % 288)).val)
  have h9 : ¬ k0_cond9 k (wd (E k.val).val) (wd (E ((k.val + 287) % 288)).val) = 1#1 := by rw [cond9_iff, wd_ne]; exact hF
  sl_exec
  have e1 : skipPDQ.sl.r_1 c arg0 g0 k b10 hw5 = wd (E ((k.val + 287) % 288)).val := hT _ _ _ _ (off58_eq hk) (hkp)
  rw [e1]
  have h18 := chk18_ok k hn' (wd (E k.val).val) (wd (E ((k.val + 287) % 288)).val)
  have h10 : ¬ k0_cond10 k (wd (E k.val).val) (wd (E ((k.val + 287) % 288)).val) = 1#1 := by rw [cond10_iff, wd_ne]; exact hF
  sl_exec
  have e2 : skipPDQ.sl.r_2 c arg0 g0 k b10 hw5 = wd (E ((k.val + 287) % 288)).val := hT _ _ _ _ (off63_eq hk) (hkp)
  rw [e2]
  have h20 := chk20_ok k hn' (wd (E k.val).val) (wd (E ((k.val + 287) % 288)).val)
  have h11 : ¬ k0_cond11 k (wd (E k.val).val) (wd (E ((k.val + 287) % 288)).val) = 1#1 := by rw [cond11_iff, wd_ne]; exact hF
  sl_exec
  have e3 : skipPDQ.sl.r_3 c arg1 k b10 hw5 = V k.val := hV _ _ _ _ (off68_eq hk) hk
  rw [e3]
  have h22 := chk22_ok hkx hn' (V k.val)
  sl_exec
  sl_step
  isplitr
  · ipureintro; rfl
  isplitl [Ht]; · iexact Ht
  isplitl [HcP HP]
  · isplitl [HcP]; · iexact HcP
    iexact HP
  isplitl [HP']; · iexact HP'
  isplitl [HcD HD]
  · isplitl [HcD]; · iexact HcD
    iexact HD
  isplitl [HD']; · iexact HD'
  isplitl [HcQ HQ]
  · isplitl [HcQ]; · iexact HcQ
    iexact HQ
  isplitl [HQ']; · iexact HQ'
  isplitl [Ht1]; · iexact Ht1
  iexists _; iexact HW
end Cert.Proof.Experts
-- ==== Proof.Stages.lean ====
module

public import proofs.«01_k».proof.Proof.Trip10
public import proofs.«01_k».proof.Proof.Trip11
public import proofs.«01_k».proof.Proof.Trip12
public import proofs.«01_k».proof.Proof.Trip13
public import proofs.«01_k».proof.Proof.Trip14
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)
/-! ## A trip's parts, whichever transfers they start or wait for -/

theorem part10 (k : Fin k0_t1_loop.trips) (m : ℕ) (h5 : k0_chk5 k (wd m) (wd k.val) (wd k.val) (wd (k.val - 1)) (wd k.val)) (hm : m = min (k.val + 2) 288) (S : Finset (Fin 288)) (hX : k.val + 2 < 288 → Ring.bk 288 (k.val + 2) ∈ S) (W) :
    iprop(nxtX c XA (Ring.sl 3 (k.val + 2)) (Ring.bk 288 (k.val + 2)) False ∗ homesX c XA S ∗ owes (c : Thread nD τ) 0 W)
      ⊢ wp frame (wpE (defs₀ (F := F)) 𝒱₀ (c : Thread nD τ) none) Set.univ
        (k0_part10 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 0#32 1#32 k (wd m) (wd k.val) (wd k.val) (wd (k.val - 1)) (wd k.val))
        (fun r => iprop(⌜r = ⟨h5, Scf.iv 0#32 1#32 k, Scalar.cmpi .eq (Scf.iv 0#32 1#32 k) 0#32, Scalar.cmpi .eq (Scf.iv 0#32 1#32 k) 287#32, Scalar.addi (wd k.val) 0#32,
            Scalar.addi (before (wd k.val)) 0#32, Scalar.addi (after (wd k.val)) 0#32, ahead k⟩⌝ ∗
          nxtX c XA (Ring.sl 3 (k.val + 2)) (Ring.bk 288 (k.val + 2)) (k.val + 2 < 288) ∗ homesX c XA (without S (k.val + 2 < 288) (Ring.bk 288 (k.val + 2))) ∗ owes (c : Thread nD τ) 0 W)) := by
  by_cases hI : k.val + 2 < 288
  · exact fetchX c arg0 harg0 arg1 harg1 XA k m h5 (by omega) hI S (hX hI) W
  · exact restX c arg0 harg0 arg1 harg1 XA k m h5 hI S W

theorem part11 (hT : Table c arg0 g0 E)  (k : Fin k0_t1_loop.trips) (hk : k.val < 288) (n : ℕ) (hn : n + 1 < 289) (SG SP : Finset (Fin 32)) (b10 v110 v120 v134 hw5) (hG : Iss E k.val → (E ((k.val + 1) % 288)) ∈ SG) (hP : Iss E k.val → (E ((k.val + 1) % 288)) ∈ SP) (W) :
    iprop(tabP c arg0 g0 ∗ nxtG c GA (Ring.sl 2 (n + 1)) (E ((k.val + 1) % 288)) (False) ∗ homesG c GA SG ∗ nxtP c PA (Ring.sl 2 (n + 1)) (E ((k.val + 1) % 288)) (False) ∗ homesP c PA SP ∗ owes (c : Thread nD τ) 0 W)
      ⊢ wp frame (wpE (defs₀ (F := F)) 𝒱₀ (c : Thread nD τ) none) Set.univ
        (k0_part11 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd (n + 1)) (wd (n + 1)) (wd (n + 1)) (wd k.val) (wd (k.val - 1)) (wd k.val) hw5 (Scf.iv 0#32 1#32 k) v110 v120 v134)
        (fun r => iprop(⌜r = ⟨Scalar.select (Scalar.andi v134 1#1) (Scalar.addi b10 1#32) b10, wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, chk10_ok k hn _ _, Scalar.andi (Scalar.cmpi .ne (wd (E k.val).val) (wd (E ((k.val + 1) % 288)).val)) (Scalar.xori (Scalar.cmpi .sge (Scf.iv 0#32 1#32 k) 287#32) 1#1)⟩⌝ ∗ tabP c arg0 g0 ∗ nxtG c GA (Ring.sl 2 (n + 1)) (E ((k.val + 1) % 288)) (Iss E k.val) ∗ homesG c GA (without SG (Iss E k.val) (E ((k.val + 1) % 288))) ∗ nxtP c PA (Ring.sl 2 (n + 1)) (E ((k.val + 1) % 288)) (Iss E k.val) ∗ homesP c PA (without SP (Iss E k.val) (E ((k.val + 1) % 288))) ∗ owes (c : Thread nD τ) 0 W)) := by
  by_cases hI : Iss E k.val
  · exact issueGP c arg0 harg0 arg1 harg1 GA PA g0 E hT k hk n hn SG SP b10 v110 v120 v134 hw5 hI (hG hI) (hP hI) W
  · exact keepGP c arg0 harg0 arg1 harg1 GA PA g0 E hT k hk n hn SG SP b10 v110 v120 v134 hw5 hI W

theorem part12 (hT : Table c arg0 g0 E)  (k : Fin k0_t1_loop.trips) (hk : k.val < 288) (n : ℕ) (hn : n + 1 < 289) (SD SQ SG : Finset (Fin 32)) (b10 v110 v115 v120 v108 hw5 hw10) (hk0 : k.val + 0 < 288) (hkx : k.val < 289) (SX : Finset (Fin 288)) (hX : Ring.bk 288 (k.val + 0) ∉ SX) (hD : Iss E k.val → (E ((k.val + 1) % 288)) ∈ SD) (hQ : Iss E k.val → (E ((k.val + 1) % 288)) ∈ SQ) (hG : Fr E k.val → (E k.val) ∉ SG) (W) :
    iprop(tabP c arg0 g0 ∗ nxtD c DA (Ring.sl 2 (n + 1)) (E ((k.val + 1) % 288)) (False) ∗ homesD c DA SD ∗ nxtQ c QA (Ring.sl 2 (n + 1)) (E ((k.val + 1) % 288)) (False) ∗ homesQ c QA SQ ∗ curG c GA (Ring.sl 2 n) (E k.val) (Fr E k.val) ∗ homesG c GA SG ∗ (∃ f, flyX c XA (Ring.sl 3 k.val) (Ring.bk 288 (k.val + 0)) f) ∗ homesX c XA SX ∗ owes (c : Thread nD τ) 0 W)
      ⊢ wp frame (wpE (defs₀ (F := F)) 𝒱₀ (c : Thread nD τ) none) Set.univ
        (k0_part12 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd (n + 1)) (wd (n + 1)) (wd k.val) (wd (k.val - 1)) (wd k.val) hw5 (Scf.iv 0#32 1#32 k) v108 v110 v115 v120 (wd (E k.val).val) (wd (E k.val).val) (wd (E ((k.val + 1) % 288)).val) hw10 (Scalar.andi (Scalar.cmpi .ne (wd (E k.val).val) (wd (E ((k.val + 1) % 288)).val)) (Scalar.xori (Scalar.cmpi .sge (Scf.iv 0#32 1#32 k) 287#32) 1#1)))
        (fun r => iprop(⌜r = ⟨Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E k.val).val, wd (E ((k.val + 1) % 288)).val, Scalar.select (Scalar.andi (Scalar.andi (Scalar.cmpi .ne (wd (E k.val).val) (wd (E ((k.val + 1) % 288)).val)) (Scalar.xori (Scalar.cmpi .sge (Scf.iv 0#32 1#32 k) 287#32) 1#1)) 1#1) (Scalar.addi (wd (n + 1)) 1#32) (wd (n + 1)), wd (E ((k.val + 287) % 288)).val⟩⌝ ∗ tabP c arg0 g0 ∗ nxtD c DA (Ring.sl 2 (n + 1)) (E ((k.val + 1) % 288)) (Iss E k.val) ∗ homesD c DA (without SD (Iss E k.val) (E ((k.val + 1) % 288))) ∗ nxtQ c QA (Ring.sl 2 (n + 1)) (E ((k.val + 1) % 288)) (Iss E k.val) ∗ homesQ c QA (without SQ (Iss E k.val) (E ((k.val + 1) % 288))) ∗ curG c GA (Ring.sl 2 n) (E k.val) (False) ∗ homesG c GA (within SG (Fr E k.val) (E k.val)) ∗ (cellP c (csmX (Ring.sl 3 k.val)) ∗ fullX c XA (Ring.sl 3 k.val) (Ring.bk 288 (k.val + 0))) ∗ homesX c XA (insert (Ring.bk 288 (k.val + 0)) SX) ∗ ∃ W, owes (c : Thread nD τ) 0 W)) := by
  by_cases hI : Iss E k.val <;> by_cases hF : Fr E k.val
  · exact issueDQ_waitXG c arg0 harg0 arg1 harg1 XA GA DA QA g0 E hT k hk n hn SD SQ SG b10 v110 v115 v120 v108 hw5 hw10 hk0 hkx SX hX hI (hD hI) (hQ hI) hF (hG hF) W
  · exact issueDQ_waitX c arg0 harg0 arg1 harg1 XA GA DA QA g0 E hT k hk n hn SD SQ SG b10 v110 v115 v120 v108 hw5 hw10 hk0 hkx SX hX hI (hD hI) (hQ hI) hF W
  · exact keepDQ_waitXG c arg0 harg0 arg1 harg1 XA GA DA QA g0 E hT k hk n hn SD SQ SG b10 v110 v115 v120 v108 hw5 hw10 hk0 hkx SX hX hI hF (hG hF) W
  · exact keepDQ_waitX c arg0 harg0 arg1 harg1 XA GA DA QA g0 E hT k hk n hn SD SQ SG b10 v110 v115 v120 v108 hw5 hw10 hk0 hkx SX hX hI hF W

theorem part13 (hT : Table c arg0 g0 E) {V : ℕ → BitVec 32} {g1 : Buf (Elt F) (arg1.view.loc (c : Thread nD τ))} (hV : Words c arg1 g1 V) (k : Fin k0_t1_loop.trips) (hk : k.val < 288) (n : ℕ) (hn : n + 1 < 289) (SP SD SQ : Finset (Fin 32)) (b10 v110 v115 v108 hw5) (hkx : k.val < 289)  (hP : Fr E k.val → (E k.val) ∉ SP) (hD : Fr E k.val → (E k.val) ∉ SD) (hQ : Fr E k.val → (E k.val) ∉ SQ) (W) :
    iprop(tabP c arg0 g0 ∗ curP c PA (Ring.sl 2 n) (E k.val) (Fr E k.val) ∗ homesP c PA SP ∗ curD c DA (Ring.sl 2 n) (E k.val) (Fr E k.val) ∗ homesD c DA SD ∗ curQ c QA (Ring.sl 2 n) (E k.val) (Fr E k.val) ∗ homesQ c QA SQ ∗ tabP c arg1 g1 ∗ owes (c : Thread nD τ) 0 W)
      ⊢ wp frame (wpE (defs₀ (F := F)) 𝒱₀ (c : Thread nD τ) none) Set.univ
        (k0_part13 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 (Scf.iv 0#32 1#32 k) v108 v110 v115 (wd (E k.val).val) (wd (E k.val).val) (wd (E k.val).val))
        (fun r => iprop(⌜r = ⟨wd (E ((k.val + 287) % 288)).val, wd (E ((k.val + 287) % 288)).val, wd (E ((k.val + 287) % 288)).val, Scalar.remui (wd k.val) 3#32, Scalar.remui (wd k.val) 2#32, V k.val, chk22_ok hkx (by omega) (V k.val)⟩⌝ ∗ tabP c arg0 g0 ∗ curP c PA (Ring.sl 2 n) (E k.val) (False) ∗ homesP c PA (within SP (Fr E k.val) (E k.val)) ∗ curD c DA (Ring.sl 2 n) (E k.val) (False) ∗ homesD c DA (within SD (Fr E k.val) (E k.val)) ∗ curQ c QA (Ring.sl 2 n) (E k.val) (False) ∗ homesQ c QA (within SQ (Fr E k.val) (E k.val)) ∗ tabP c arg1 g1 ∗ ∃ W, owes (c : Thread nD τ) 0 W)) := by
  by_cases hF : Fr E k.val
  · exact waitPDQ c arg0 harg0 arg1 harg1 PA DA QA g0 E hT hV k hk n hn SP SD SQ b10 v110 v115 v108 hw5 hkx hF (hP hF) (hD hF) (hQ hF) W
  · exact skipPDQ c arg0 harg0 arg1 harg1 PA DA QA g0 E hT hV k hk n hn SP SD SQ b10 v110 v115 v108 hw5 hkx hF W

theorem part14 (k : Fin k0_t1_loop.trips) (n : ℕ) (hn : n < 289) (hk : k.val < 289) (hk' : k.val + 0 < 288) (e : Fin 32) (b10 hw5 v109 v110 v120 v142 v144 v156 v158 v170 v172 v184 v186 v245 v250) (v252 : BitVec 32) (hw22) (W) :
    iprop(actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
      ∗ freeO c (Ring.sl 2 k.val) ∗ anyO c (Ring.bk 288 (k.val + 0)) ∗ owes (c : Thread nD τ) 0 W)
      ⊢ wp frame (wpE (defs₀ (F := F)) 𝒱₀ (c : Thread nD τ) none) Set.univ
        (k0_part14 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 k b10 (wd k.val) (wd n) (wd n) (wd n) (wd n) (wd k.val) (wd (k.val - 1)) (wd k.val) hw5 v109 v110 v120 v142 v144 v156 v158 v170 v172 v184 v186 v245 v250 v252 hw22)
        (fun r => iprop(⌜r = Scalar.andi (Scalar.ori (Scalar.cmpi .ne v110 v120) v109) 1#1⌝ ∗ actP c ∗ fullX c XA (Ring.sl 3 k.val) (Ring.bk 288 k.val) ∗ fullG c GA (Ring.sl 2 n) e ∗ fullP c PA (Ring.sl 2 n) e ∗ fullD c DA (Ring.sl 2 n) e ∗ fullQ c QA (Ring.sl 2 n) e
          ∗ flyO c (Ring.sl 2 k.val) (Ring.bk 288 (k.val + 0)) (outV v252 (valX c XA (Ring.bk 288 k.val)) (valG c GA e) (valP c PA e) (valD c DA e) (valQ c QA e)) ∗ owes (c : Thread nD τ) 0 W)) := by
  by_cases hv : k0_cond13 v252 = 1#1
  · exact compute c arg0 harg0 arg1 harg1 XA GA PA DA QA k n hn hk hk' e b10 hw5 v109 v110 v120 v142 v144 v156 v158 v170 v172 v184 v186 v245 v250 v252 hw22 hv (fun h => (cond14_iff _).1 h hv) W
  · exact blank c arg0 harg0 arg1 harg1 XA GA PA DA QA k n hn hk hk' e b10 hw5 v109 v110 v120 v142 v144 v156 v158 v170 v172 v184 v186 v245 v250 v252 hw22 hv ((cond14_iff _).2 hv) W
end Cert.Proof.Experts
-- ==== Proof.Inv.lean ====
module

public import proofs.«01_k».proof.Proof.Stages
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
/-! ## The loop's words -/
section Numbers
variable (E : ℕ → Fin 32)
open scoped Classical in
/-- How many weight fetches the trips before trip `k` have started. -/
def ch : ℕ → ℕ
  | 0 => 0
  | k + 1 => if Iss E k then ch k + 1 else ch k
theorem ch_le : ∀ k, ch E k ≤ k
  | 0 => Nat.le_refl 0
  | k + 1 => by
    have := ch_le k
    unfold ch; split <;> omega
theorem ch_true {k : ℕ} (h : Iss E k) : ch E (k + 1) = ch E k + 1 := if_pos h
theorem ch_false {k : ℕ} (h : ¬ Iss E k) : ch E (k + 1) = ch E k := if_neg h
/-- The bit by which trip `k` decides to fetch the next block's weights. -/
abbrev issB (k : Fin k0_t1_loop.trips) : BitVec 1 :=
  Scalar.andi (Scalar.cmpi .ne (wd (E k.val).val) (wd (E ((k.val + 1) % 288)).val)) (Scalar.xori (Scalar.cmpi .sge (Scf.iv 0#32 1#32 k) 287#32) 1#1)
theorem issB_iff (k : Fin k0_t1_loop.trips) : issB E k = 1#1 ↔ Iss E k.val := by
  have h : ∀ (k : Fin 288) (b : BitVec 1), Scalar.andi b (Scalar.xori (Scalar.cmpi .sge (Scf.iv 0#32 1#32 k) 287#32) 1#1) = 1#1 ↔ b = 1#1 ∧ k.val + 1 < 288 := by decide +kernel
  rw [show (issB E k = 1#1 ↔ _) from h k _, cmp_ne_one, wd_ne]; exact Iff.rfl
/-- The counter of started fetches moves on with the fetch. -/
theorem word12 (k : Fin k0_t1_loop.trips) :
    Scalar.select (Scalar.andi (issB E k) 1#1) (Scalar.addi (wd (ch E k.val + 1)) 1#32) (wd (ch E k.val + 1)) = wd (ch E (k.val + 1) + 1) := by
  rw [step_word]
  by_cases h : Iss E k.val
  · rw [if_pos ((issB_iff E k).2 h), ch_true E h]
  · rw [if_neg (fun hb => h ((issB_iff E k).1 hb)), ch_false E h]
/-- The counter of the slot read: it moves on as the other does, except past the last trip, where nothing reads it. -/
abbrev word13 (k : Fin k0_t1_loop.trips) : BitVec 32 :=
  Scalar.select (Scalar.ori (Scalar.cmpi .ne (wd (E k.val).val) (wd (E ((k.val + 1) % 288)).val)) (Scalar.cmpi .eq (Scf.iv 0#32 1#32 k) 287#32)) (Scalar.addi (wd (ch E k.val)) 1#32) (wd (ch E k.val))
theorem word13_eq (k : Fin k0_t1_loop.trips) (hk : k.val + 1 < 288) : word13 E k = wd (ch E (k.val + 1)) := by
  have h : ∀ (k : Fin 288) (b : BitVec 1), k.val + 1 < 288 → Scalar.ori b (Scalar.cmpi .eq (Scf.iv 0#32 1#32 k) 287#32) = Scalar.andi (Scalar.andi b (Scalar.xori (Scalar.cmpi .sge (Scf.iv 0#32 1#32 k) 287#32) 1#1)) 1#1 := by decide +kernel
  unfold word13
  rw [h k _ hk, show Scalar.select _ _ _ = _ from step_word (issB E k) (ch E k.val)]
  by_cases h : Iss E k.val
  · rw [if_pos ((issB_iff E k).2 h), ch_true E h]
  · rw [if_neg (fun hb => h ((issB_iff E k).1 hb)), ch_false E h]
theorem word10 (k : Fin k0_t1_loop.trips) :
    Scalar.select (Scalar.andi (ahead k) 1#1) (Scalar.addi (wd (min (k.val + 2) 288)) 1#32) (wd (min (k.val + 2) 288)) = wd (min (k.val + 1 + 2) 288) :=
  (by decide +kernel : ∀ k : Fin 288, Scalar.select (Scalar.andi (ahead k) 1#1) (Scalar.addi (wd (min (k.val + 2) 288)) 1#32) (wd (min (k.val + 2) 288)) = wd (min (k.val + 1 + 2) 288)) k
theorem word11 (k : Fin k0_t1_loop.trips) :
    Scalar.select (Scalar.ori (Scalar.cmpi .ne (Scalar.addi (wd k.val) 0#32) (Scalar.addi (after (wd k.val)) 0#32)) (Scalar.cmpi .eq (Scf.iv 0#32 1#32 k) 287#32)) (Scalar.addi (wd k.val) 1#32) (wd k.val) = wd (k.val + 1) :=
  (by decide +kernel : ∀ k : Fin 288, Scalar.select (Scalar.ori (Scalar.cmpi .ne (Scalar.addi (wd k.val) 0#32) (Scalar.addi (after (wd k.val)) 0#32)) (Scalar.cmpi .eq (Scf.iv 0#32 1#32 k) 287#32)) (Scalar.addi (wd k.val) 1#32) (wd k.val) = wd (k.val + 1)) k
theorem word20 (k : Fin k0_t1_loop.trips) :
    Scalar.select (Scalar.andi (Scalar.ori (Scalar.cmpi .ne (Scalar.addi (wd k.val) 0#32) (Scalar.addi (after (wd k.val)) 0#32)) (Scalar.cmpi .eq (Scf.iv 0#32 1#32 k) 287#32)) 1#1) (Scalar.addi (wd k.val) 1#32) (wd k.val) = wd (k.val + 1) :=
  (by decide +kernel : ∀ k : Fin 288, Scalar.select (Scalar.andi (Scalar.ori (Scalar.cmpi .ne (Scalar.addi (wd k.val) 0#32) (Scalar.addi (after (wd k.val)) 0#32)) (Scalar.cmpi .eq (Scf.iv 0#32 1#32 k) 287#32)) 1#1) (Scalar.addi (wd k.val) 1#32) (wd k.val) = wd (k.val + 1)) k
theorem word21 (k : Fin k0_t1_loop.trips) :
    Scalar.select (Scalar.andi (Scalar.andi (Scalar.cmpi .ne (Scalar.addi (wd k.val) 0#32) (Scalar.addi (before (wd k.val)) 0#32)) (Scalar.xori (Scalar.cmpi .eq (Scf.iv 0#32 1#32 k) 0#32) 1#1)) 1#1) (Scalar.addi (wd (k.val - 1)) 1#32) (wd (k.val - 1)) = wd k.val :=
  (by decide +kernel : ∀ k : Fin 288, Scalar.select (Scalar.andi (Scalar.andi (Scalar.cmpi .ne (Scalar.addi (wd k.val) 0#32) (Scalar.addi (before (wd k.val)) 0#32)) (Scalar.xori (Scalar.cmpi .eq (Scf.iv 0#32 1#32 k) 0#32) 1#1)) 1#1) (Scalar.addi (wd (k.val - 1)) 1#32) (wd (k.val - 1)) = wd k.val) k
theorem word22 (k : Fin k0_t1_loop.trips) : after (wd k.val) = wd ((k.val + 1) % 288) :=
  (by decide +kernel : ∀ k : Fin 288, after (wd k.val) = wd ((k.val + 1) % 288)) k
end Numbers

/-! ## The rings between two trips -/
section Rings
variable (c : Dev nD) (E : ℕ → Fin 32)

theorem sl2_two (n : ℕ) : Ring.sl 2 (n + 1 + 1) = Ring.sl 2 n := Fin.ext (by show (n + 1 + 1) % 2 = n % 2; omega)
theorem sl3_three (n : ℕ) : Ring.sl 3 (n + 1 + 2) = Ring.sl 3 n := Fin.ext (by show (n + 1 + 2) % 3 = n % 3; omega)
theorem same_of_not_iss {k : ℕ} (hk : k < 288) (hE : E 288 = E 287) (h : ¬ Iss E k) : E (k + 1) = E k := by
  by_cases hk' : k + 1 < 288
  · by_contra hne
    refine h ⟨?_, hk'⟩
    rw [Nat.mod_eq_of_lt hk']; exact fun e => hne e.symm
  · have : k = 287 := by omega
    subst this; exact hE
theorem fr_of_iss {k : ℕ} (h : Iss E k) : Fr E (k + 1) := by
  refine Or.inl ?_
  have h2 := h.2
  have h1 := h.1
  rw [Nat.mod_eq_of_lt h2] at h1
  rw [show (k + 1 + 287) % 288 = k from by omega]; exact fun e => h1 e.symm
theorem not_fr {k : ℕ} (hk : k < 288) (hE : E 288 = E 287) (h : ¬ Iss E k) : ¬ Fr E (k + 1) := by
  rintro (h' | h')
  · rw [show (k + 1 + 287) % 288 = k from by omega] at h'; exact h' (same_of_not_iss E hk hE h)
  · omega
theorem mem_issued {k : ℕ} (h : Iss E k) : E ((k + 1) % 288) ∈ without Finset.univ (Fr E k) (E k) := by
  unfold without; split
  · exact Finset.mem_erase.2 ⟨fun e => h.1 e.symm, Finset.mem_univ _⟩
  · exact Finset.mem_univ _
theorem notMem_waited {k : ℕ} (h : Fr E k) : E k ∉ without (without Finset.univ (Fr E k) (E k)) (Iss E k) (E ((k + 1) % 288)) := by
  rw [without_true _ h]; unfold without; split
  · exact fun hm => Finset.notMem_erase _ _ (Finset.mem_of_mem_erase hm)
  · exact Finset.notMem_erase _ _
theorem homes_issued {k : ℕ} (hk : k < 288) (h : Iss E k) :
    within (without (without Finset.univ (Fr E k) (E k)) (Iss E k) (E ((k + 1) % 288))) (Fr E k) (E k) = without Finset.univ (Fr E (k + 1)) (E (k + 1)) := by
  have h1 := h.1
  rw [without_true _ h, without_true _ (fr_of_iss E h)]
  rw [Nat.mod_eq_of_lt h.2] at h1 ⊢
  by_cases hF : Fr E k
  · rw [within_true _ hF, without_true _ hF]
    ext x; simp only [Finset.mem_insert, Finset.mem_erase, Finset.mem_univ, and_true]
    constructor
    · rintro (rfl | ⟨h2, -⟩)
      · exact h1
      · exact h2
    · intro hx; by_cases hx' : x = E k
      · exact Or.inl hx'
      · exact Or.inr ⟨hx, hx'⟩
  · rw [within_false _ hF, without_false _ hF]
theorem homes_kept {k : ℕ} (hk : k < 288) (hE : E 288 = E 287) (h : ¬ Iss E k) :
    within (without (without Finset.univ (Fr E k) (E k)) (Iss E k) (E ((k + 1) % 288))) (Fr E k) (E k) = without Finset.univ (Fr E (k + 1)) (E (k + 1)) := by
  rw [without_false _ h, without_false _ (not_fr E hk hE h)]
  by_cases hF : Fr E k
  · rw [within_true _ hF, without_true _ hF, Finset.insert_erase (Finset.mem_univ _)]
  · rw [within_false _ hF, without_false _ hF]

/-- The gate/up weight ring before trip `k`. -/
def ringG (A : Buf (Elt F) ((Memref.whole main_v3).view.loc (c : Thread nD τ))) (k : ℕ) : sProp 𝕄 :=
  iprop(curG c A (Ring.sl 2 (ch E k)) (E k) (Fr E k) ∗ nxtG c A (Ring.sl 2 (ch E k + 1)) (E ((k + 1) % 288)) False ∗ homesG c A (without Finset.univ (Fr E k) (E k)))
theorem ringG_next (A : Buf (Elt F) ((Memref.whole main_v3).view.loc (c : Thread nD τ))) {k : ℕ} (hk : k < 288) (hE : E 288 = E 287) :
    iprop(curG c A (Ring.sl 2 (ch E k)) (E k) False ∗ nxtG c A (Ring.sl 2 (ch E k + 1)) (E ((k + 1) % 288)) (Iss E k)
      ∗ homesG c A (within (without (without Finset.univ (Fr E k) (E k)) (Iss E k) (E ((k + 1) % 288))) (Fr E k) (E k))) ⊢ ringG c E A (k + 1) := by
  unfold ringG
  by_cases hI : Iss E k
  · have hm : (k + 1) % 288 = k + 1 := Nat.mod_eq_of_lt hI.2
    rw [homes_issued E hk hI, hm, ch_true E hI, curG_true c A _ _ (fr_of_iss E hI), nxtG_true c A _ _ hI, curG_false c A _ _ not_false, nxtG_false c A _ _ not_false, sl2_two]
    iintro ⟨⟨Hc, Hf⟩, Hn, Hh⟩
    isplitl [Hn]; · iexact Hn
    isplitl [Hc Hf]
    · iexists _; isplitl [Hc]; · iexact Hc
      iexact Hf
    iexact Hh
  · rw [homes_kept E hk hE hI, ch_false E hI, curG_false c A _ _ (not_fr E hk hE hI), curG_false c A _ _ not_false, nxtG_false c A _ _ hI, nxtG_false c A _ _ not_false, same_of_not_iss E hk hE hI]

/-- The gate/up bias ring before trip `k`. -/
def ringP (A : Buf (Elt F) ((Memref.whole main_v6).view.loc (c : Thread nD τ))) (k : ℕ) : sProp 𝕄 :=
  iprop(curP c A (Ring.sl 2 (ch E k)) (E k) (Fr E k) ∗ nxtP c A (Ring.sl 2 (ch E k + 1)) (E ((k + 1) % 288)) False ∗ homesP c A (without Finset.univ (Fr E k) (E k)))
theorem ringP_next (A : Buf (Elt F) ((Memref.whole main_v6).view.loc (c : Thread nD τ))) {k : ℕ} (hk : k < 288) (hE : E 288 = E 287) :
    iprop(curP c A (Ring.sl 2 (ch E k)) (E k) False ∗ nxtP c A (Ring.sl 2 (ch E k + 1)) (E ((k + 1) % 288)) (Iss E k)
      ∗ homesP c A (within (without (without Finset.univ (Fr E k) (E k)) (Iss E k) (E ((k + 1) % 288))) (Fr E k) (E k))) ⊢ ringP c E A (k + 1) := by
  unfold ringP
  by_cases hI : Iss E k
  · have hm : (k + 1) % 288 = k + 1 := Nat.mod_eq_of_lt hI.2
    rw [homes_issued E hk hI, hm, ch_true E hI, curP_true c A _ _ (fr_of_iss E hI), nxtP_true c A _ _ hI, curP_false c A _ _ not_false, nxtP_false c A _ _ not_false, sl2_two]
    iintro ⟨⟨Hc, Hf⟩, Hn, Hh⟩
    isplitl [Hn]; · iexact Hn
    isplitl [Hc Hf]
    · iexists _; isplitl [Hc]; · iexact Hc
      iexact Hf
    iexact Hh
  · rw [homes_kept E hk hE hI, ch_false E hI, curP_false c A _ _ (not_fr E hk hE hI), curP_false c A _ _ not_false, nxtP_false c A _ _ hI, nxtP_false c A _ _ not_false, same_of_not_iss E hk hE hI]

/-- The down weight ring before trip `k`. -/
def ringD (A : Buf (Elt F) ((Memref.whole main_arg5).view.loc (c : Thread nD τ))) (k : ℕ) : sProp 𝕄 :=
  iprop(curD c A (Ring.sl 2 (ch E k)) (E k) (Fr E k) ∗ nxtD c A (Ring.sl 2 (ch E k + 1)) (E ((k + 1) % 288)) False ∗ homesD c A (without Finset.univ (Fr E k) (E k)))
theorem ringD_next (A : Buf (Elt F) ((Memref.whole main_arg5).view.loc (c : Thread nD τ))) {k : ℕ} (hk : k < 288) (hE : E 288 = E 287) :
    iprop(curD c A (Ring.sl 2 (ch E k)) (E k) False ∗ nxtD c A (Ring.sl 2 (ch E k + 1)) (E ((k + 1) % 288)) (Iss E k)
      ∗ homesD c A (within (without (without Finset.univ (Fr E k) (E k)) (Iss E k) (E ((k + 1) % 288))) (Fr E k) (E k))) ⊢ ringD c E A (k + 1) := by
  unfold ringD
  by_cases hI : Iss E k
  · have hm : (k + 1) % 288 = k + 1 := Nat.mod_eq_of_lt hI.2
    rw [homes_issued E hk hI, hm, ch_true E hI, curD_true c A _ _ (fr_of_iss E hI), nxtD_true c A _ _ hI, curD_false c A _ _ not_false, nxtD_false c A _ _ not_false, sl2_two]
    iintro ⟨⟨Hc, Hf⟩, Hn, Hh⟩
    isplitl [Hn]; · iexact Hn
    isplitl [Hc Hf]
    · iexists _; isplitl [Hc]; · iexact Hc
      iexact Hf
    iexact Hh
  · rw [homes_kept E hk hE hI, ch_false E hI, curD_false c A _ _ (not_fr E hk hE hI), curD_false c A _ _ not_false, nxtD_false c A _ _ hI, nxtD_false c A _ _ not_false, same_of_not_iss E hk hE hI]

/-- The down bias ring before trip `k`. -/
def ringQ (A : Buf (Elt F) ((Memref.whole main_v7).view.loc (c : Thread nD τ))) (k : ℕ) : sProp 𝕄 :=
  iprop(curQ c A (Ring.sl 2 (ch E k)) (E k) (Fr E k) ∗ nxtQ c A (Ring.sl 2 (ch E k + 1)) (E ((k + 1) % 288)) False ∗ homesQ c A (without Finset.univ (Fr E k) (E k)))
theorem ringQ_next (A : Buf (Elt F) ((Memref.whole main_v7).view.loc (c : Thread nD τ))) {k : ℕ} (hk : k < 288) (hE : E 288 = E 287) :
    iprop(curQ c A (Ring.sl 2 (ch E k)) (E k) False ∗ nxtQ c A (Ring.sl 2 (ch E k + 1)) (E ((k + 1) % 288)) (Iss E k)
      ∗ homesQ c A (within (without (without Finset.univ (Fr E k) (E k)) (Iss E k) (E ((k + 1) % 288))) (Fr E k) (E k))) ⊢ ringQ c E A (k + 1) := by
  unfold ringQ
  by_cases hI : Iss E k
  · have hm : (k + 1) % 288 = k + 1 := Nat.mod_eq_of_lt hI.2
    rw [homes_issued E hk hI, hm, ch_true E hI, curQ_true c A _ _ (fr_of_iss E hI), nxtQ_true c A _ _ hI, curQ_false c A _ _ not_false, nxtQ_false c A _ _ not_false, sl2_two]
    iintro ⟨⟨Hc, Hf⟩, Hn, Hh⟩
    isplitl [Hn]; · iexact Hn
    isplitl [Hc Hf]
    · iexists _; isplitl [Hc]; · iexact Hc
      iexact Hf
    iexact Hh
  · rw [homes_kept E hk hE hI, ch_false E hI, curQ_false c A _ _ (not_fr E hk hE hI), curQ_false c A _ _ not_false, nxtQ_false c A _ _ hI, nxtQ_false c A _ _ not_false, same_of_not_iss E hk hE hI]

/-- The blocks that are home before trip `k`: all but the two on their way. -/
def homeX2 (k : ℕ) : Finset (Fin 288) := Finset.univ.filter fun b => b.val ≠ k ∧ b.val ≠ k + 1
theorem homeX2_next {k : ℕ} (hk : k < 288) :
    insert (Ring.bk 288 k) (without (homeX2 k) (k + 2 < 288) (Ring.bk 288 (k + 2))) = homeX2 (k + 1) := by
  have e := Ring.bk_val (NB := 288) hk
  unfold without homeX2
  by_cases h2 : k + 2 < 288
  · have e2 := Ring.bk_val (NB := 288) h2
    rw [if_pos h2]; ext x
    simp only [Finset.mem_insert, Finset.mem_erase, Finset.mem_filter, Finset.mem_univ, true_and, Fin.ext_iff, e, e2, Ne]; omega
  · rw [if_neg h2]; ext x
    have := x.isLt
    simp only [Finset.mem_insert, Finset.mem_filter, Finset.mem_univ, true_and, Fin.ext_iff, e, Ne]; omega
theorem mem_homeX2 {k : ℕ} (h : k + 2 < 288) : Ring.bk 288 (k + 2) ∈ homeX2 k := by
  have e2 := Ring.bk_val (NB := 288) h
  unfold homeX2
  simp only [Finset.mem_filter, Finset.mem_univ, true_and, e2]; omega
theorem notMem_homeX2 {k : ℕ} (h : k < 288) : Ring.bk 288 k ∉ without (homeX2 k) (k + 2 < 288) (Ring.bk 288 (k + 2)) := by
  have e := Ring.bk_val (NB := 288) h
  unfold without homeX2; split <;> (simp only [Finset.mem_erase, Finset.mem_filter, e]; omega)
/-- The block ring before trip `k`. -/
def ringX (A : Buf (Elt F) ((Memref.whole main_arg0).view.loc (c : Thread nD τ))) (k : ℕ) : sProp 𝕄 :=
  iprop(nxtX c A (Ring.sl 3 k) (Ring.bk 288 k) (k < 288) ∗ nxtX c A (Ring.sl 3 (k + 1)) (Ring.bk 288 (k + 1)) (k + 1 < 288)
    ∗ nxtX c A (Ring.sl 3 (k + 2)) (Ring.bk 288 (k + 2)) False ∗ homesX c A (homeX2 k))
theorem ringX_next (A : Buf (Elt F) ((Memref.whole main_arg0).view.loc (c : Thread nD τ))) {k : ℕ} (hk : k < 288) :
    iprop((cellP c (csmX (Ring.sl 3 k)) ∗ fullX c A (Ring.sl 3 k) (Ring.bk 288 k)) ∗ nxtX c A (Ring.sl 3 (k + 1)) (Ring.bk 288 (k + 1)) (k + 1 < 288)
      ∗ nxtX c A (Ring.sl 3 (k + 2)) (Ring.bk 288 (k + 2)) (k + 2 < 288)
      ∗ homesX c A (insert (Ring.bk 288 k) (without (homeX2 k) (k + 2 < 288) (Ring.bk 288 (k + 2))))) ⊢ ringX c A (k + 1) := by
  unfold ringX
  rw [homeX2_next hk, sl3_three, nxtX_false c A (Ring.sl 3 k) _ not_false]
  iintro ⟨⟨Hc, Hf⟩, H1, H2, Hh⟩
  isplitl [H1]; · iexact H1
  isplitl [H2]; · iexact H2
  isplitl [Hc Hf]
  · iexists _; isplitl [Hc]; · iexact Hc
    iexact Hf
  iexact Hh

/-! ### the output ring -/
variable (y : ℕ → S1024x8x128.Idx → Elt F .f32)
/-- The parts of the result not yet sent before trip `k`. -/
abbrev toGo (k : ℕ) : Finset (Fin 288) := Finset.univ.filter fun b => k ≤ b.val
/-- The parts of the result finished before trip `k`. -/
abbrev gone (k : ℕ) : Finset (Fin 288) := Finset.univ.filter fun b => b.val + 1 < k
/-- The slot sent out by the trip before. -/
def prevO : ℕ → sProp 𝕄
  | 0 => freeO c (Ring.sl 2 1)
  | k + 1 => flyO c (Ring.sl 2 k) (Ring.bk 288 k) (y k)
/-- The output ring before trip `k`. -/
def ringO (k : ℕ) : sProp 𝕄 :=
  iprop(freeO c (Ring.sl 2 k) ∗ prevO c y k ∗ bigSep (gone k) (fun b => doneO c b (y b.val)) ∗ bigSep (toGo k) (fun b => anyO c b))
theorem toGo_take {k : ℕ} (hk : k < 288) : (bigSep (toGo k) (fun b => anyO c b) : sProp 𝕄) = iprop(anyO c (Ring.bk 288 k) ∗ bigSep (toGo (k + 1)) (fun b => anyO c b)) := by
  have e := Ring.bk_val (NB := 288) hk
  have h : toGo k = insert (Ring.bk 288 k) (toGo (k + 1)) := by
    ext b; simp only [Finset.mem_insert, Finset.mem_filter, Finset.mem_univ, true_and, Fin.ext_iff, e]; omega
  rw [h, BI.bigSep_insert (by simp only [Finset.mem_filter, Finset.mem_univ, true_and, e]; omega)]; rfl
theorem gone_put {k : ℕ} (hk : k < 288) :
    (bigSep (gone (k + 2)) (fun b => doneO c b (y b.val)) : sProp 𝕄) = iprop(doneO c (Ring.bk 288 k) (y k) ∗ bigSep (gone (k + 1)) (fun b => doneO c b (y b.val))) := by
  have e := Ring.bk_val (NB := 288) hk
  have h : gone (k + 2) = insert (Ring.bk 288 k) (gone (k + 1)) := by
    ext b; simp only [Finset.mem_insert, Finset.mem_filter, Finset.mem_univ, true_and, Fin.ext_iff, e]; omega
  rw [h, BI.bigSep_insert (by simp only [Finset.mem_filter, Finset.mem_univ, true_and, e]; omega), e]; rfl
theorem gone_one : gone 1 = gone 0 := by
  ext b; simp only [Finset.mem_filter, Finset.mem_univ, true_and]; omega
end Rings
/-- Block `k`'s part of the result, one back. -/
@[sl_canon] theorem canon80_back {k : ℕ} (h0 : k ≠ 0) (hk : k < 288) (hh hs) :
    (Memref.whole main_v8).slice (Rect.unit (s := S294912x8x128) (k0_off80 (BitVec.ofNat 32 k)) S1024x8x128.size hh) hs = blkO (Ring.bk 288 (k - 1)) := by
  obtain ⟨j, rfl⟩ : ∃ j, k = j + 1 := ⟨k - 1, by omega⟩
  exact blkO_congr (off80_eq hk) _ _
end Cert.Proof.Experts
-- ==== Proof.Trip.lean ====
module

public import proofs.«01_k».proof.Proof.Inv
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

variable (g1 : Buf (Elt F) (arg1.view.loc (c : Thread nD τ))) (V : ℕ → BitVec 32)
/-- What block `b` of the result is to read. -/
def blockOut (b : ℕ) : S1024x8x128.Idx → Elt F .f32 :=
  outV (V b) (valX c XA (Ring.bk 288 b)) (valG c GA (E b)) (valP c PA (E b)) (valD c DA (E b)) (valQ c QA (E b))
/-- The resources before trip `k`. -/
def stateAt (k : ℕ) : sProp 𝕄 :=
  iprop(tabP c arg0 g0 ∗ tabP c arg1 g1 ∗ actP c ∗ ringX c XA k ∗ ringG c E GA k ∗ ringP c E PA k ∗ ringD c E DA k ∗ ringQ c E QA k
    ∗ ringO c (blockOut c XA GA PA DA QA E V) k ∗ ∃ W, owes (c : Thread nD τ) 0 W)
/-- The words carried into trip `k`. -/
abbrev wordsAt (k : ℕ) (m : BitVec 32) : BitVec 32 × BitVec 32 × BitVec 32 × BitVec 32 × BitVec 32 × BitVec 32 × BitVec 32 × BitVec 32 × BitVec 32 × BitVec 32 × BitVec 32 × BitVec 32 × BitVec 32 :=
  (wd (min (k + 2) 288), wd k, wd (ch E k + 1), m, wd (ch E k + 1), m, wd (ch E k + 1), m, wd (ch E k + 1), m, wd k, wd (k - 1), wd (k % 288))

@[sl_canon] theorem canon79_lit {n : ℕ} (hn : n < 289) (hh) :
    (cc0_scoped11.slice (Rect.unit (s := S2) (k0_off79 (BitVec.ofNat 32 n)) ![1] hh)).squeeze S_ squeezes_S1_S_ = csmO (Ring.sl 2 n) := csmO_congr (off79_eq hn) _
@[sl_canon] theorem canon81_lit {n : ℕ} (hn : n < 289) (hh hs) :
    ((Memref.whole cc0_scoped10).slice (Rect.unit (s := S2x1024x8x128) (k0_off81 (BitVec.ofNat 32 n)) ![1, 1024, 8, 128] hh) hs).squeeze S1024x8x128 squeezes_S1x1024x8x128_S1024x8x128 = slotO (Ring.sl 2 n) :=
  canon81 hn hh hs
@[sl_canon] theorem canon80_lit {k : ℕ} (h0 : k ≠ 0) (hk : k < 288) (hh hs) :
    (Memref.whole main_v8).slice (Rect.unit (s := S294912x8x128) (k0_off80 (BitVec.ofNat 32 k)) ![1024, 8, 128] hh) hs = blkO (Ring.bk 288 (k - 1)) :=
  canon80_back h0 hk hh hs
theorem prevO_zero (y : ℕ → S1024x8x128.Idx → Elt F .f32) {k : ℕ} (h : k = 0) : prevO c y k = freeO c (Ring.sl 2 (k + 1)) := by subst h; rfl
theorem prevO_pos (y : ℕ → S1024x8x128.Idx → Elt F .f32) {k : ℕ} (h : k ≠ 0) : prevO c y k = flyO c (Ring.sl 2 (k - 1)) (Ring.bk 288 (k - 1)) (y (k - 1)) := by
  obtain ⟨j, rfl⟩ : ∃ j, k = j + 1 := ⟨k - 1, by omega⟩
  rfl
/-- The output ring moves on, once the slot sent two trips ago is free again. -/
theorem ringO_next (y : ℕ → S1024x8x128.Idx → Elt F .f32) {k : ℕ} (hk : k < 288) :
    iprop((if k = 0 then iprop(emp) else doneO c (Ring.bk 288 (k - 1)) (y (k - 1))) ∗ freeO c (Ring.sl 2 (k + 1)) ∗ flyO c (Ring.sl 2 k) (Ring.bk 288 (k + 0)) (y k)
      ∗ bigSep (gone k) (fun b => doneO c b (y b.val)) ∗ bigSep (toGo (k + 1)) (fun b => anyO c b)) ⊢ ringO c y (k + 1) := by
  unfold ringO prevO
  cases k with
  | zero =>
    rw [if_pos rfl, show (bigSep (gone (0 + 1)) (fun b => doneO c b (y b.val)) : sProp 𝕄) = bigSep (gone 0) (fun b => doneO c b (y b.val)) from congrArg (fun S => bigSep S _) gone_one]
    iintro ⟨-, H1, H2, H3, H4⟩
    isplitl [H1]; · iexact H1
    isplitl [H2]; · iexact H2
    isplitl [H3]; · iexact H3
    iexact H4
  | succ j =>
    rw [if_neg (Nat.succ_ne_zero j), show j + 1 + 1 = j + 2 from rfl, gone_put c y (show j < 288 by omega)]
    iintro ⟨H0, H1, H2, H3, H4⟩
    isplitl [H1]; · iexact H1
    isplitl [H2]; · iexact H2
    isplitl [H0 H3]
    · isplitl [H0]; · iexact H0
      iexact H3
    iexact H4
theorem doneO_if {k : ℕ} (h : k ≠ 0) {y : S1024x8x128.Idx → Elt F .f32} {b : Fin 288} {g : Buf (Elt F) ((Memref.whole main_v8).view.loc (c : Thread nD τ))}
    (hg : (blkO b).view.read (Elt F) g = y) : homeO c g b ⊢ (if k = 0 then iprop(emp) else doneO c b y : sProp 𝕄) := by
  rw [if_neg h]
  iintro H
  iexists g
  isplitr
  · ipureintro; exact hg
  iexact H
theorem freeO_back {k : ℕ} (h : k ≠ 0) (f : Buf (Elt F) ((slotO (Ring.sl 2 (k - 1))).view.loc (c : Thread nD τ))) :
    iprop(holdO c (Ring.sl 2 (k - 1)) f ∗ cellP c (csmO (Ring.sl 2 (k - 1)))) ⊢ (freeO c (Ring.sl 2 (k + 1)) : sProp 𝕄) := by
  obtain ⟨j, rfl⟩ : ∃ j, k = j + 1 := ⟨k - 1, by omega⟩
  rw [sl2_two]
  iintro ⟨H, H'⟩
  iexists f
  isplitl [H]; · iexact H
  iexact H'
/-- What a trip leaves is the state before the next. -/
theorem sealed {k : ℕ} (hk : k < 288) (hE : E 288 = E 287) :
    iprop(tabP c arg0 g0 ∗ tabP c arg1 g1 ∗ actP c
      ∗ ((cellP c (csmX (Ring.sl 3 k)) ∗ fullX c XA (Ring.sl 3 k) (Ring.bk 288 k)) ∗ nxtX c XA (Ring.sl 3 (k + 1)) (Ring.bk 288 (k + 1)) (k + 1 < 288)
        ∗ nxtX c XA (Ring.sl 3 (k + 2)) (Ring.bk 288 (k + 2)) (k + 2 < 288)
        ∗ homesX c XA (insert (Ring.bk 288 k) (without (homeX2 k) (k + 2 < 288) (Ring.bk 288 (k + 2)))))
      ∗ ((cellP c (csmG (Ring.sl 2 (ch E k))) ∗ fullG c GA (Ring.sl 2 (ch E k)) (E k)) ∗ nxtG c GA (Ring.sl 2 (ch E k + 1)) (E ((k + 1) % 288)) (Iss E k)
        ∗ homesG c GA (within (without (without Finset.univ (Fr E k) (E k)) (Iss E k) (E ((k + 1) % 288))) (Fr E k) (E k)))
      ∗ ((cellP c (csmP (Ring.sl 2 (ch E k))) ∗ fullP c PA (Ring.sl 2 (ch E k)) (E k)) ∗ nxtP c PA (Ring.sl 2 (ch E k + 1)) (E ((k + 1) % 288)) (Iss E k)
        ∗ homesP c PA (within (without (without Finset.univ (Fr E k) (E k)) (Iss E k) (E ((k + 1) % 288))) (Fr E k) (E k)))
      ∗ ((cellP c (csmD (Ring.sl 2 (ch E k))) ∗ fullD c DA (Ring.sl 2 (ch E k)) (E k)) ∗ nxtD c DA (Ring.sl 2 (ch E k + 1)) (E ((k + 1) % 288)) (Iss E k)
        ∗ homesD c DA (within (without (without Finset.univ (Fr E k) (E k)) (Iss E k) (E ((k + 1) % 288))) (Fr E k) (E k)))
      ∗ ((cellP c (csmQ (Ring.sl 2 (ch E k))) ∗ fullQ c QA (Ring.sl 2 (ch E k)) (E k)) ∗ nxtQ c QA (Ring.sl 2 (ch E k + 1)) (E ((k + 1) % 288)) (Iss E k)
        ∗ homesQ c QA (within (without (without Finset.univ (Fr E k) (E k)) (Iss E k) (E ((k + 1) % 288))) (Fr E k) (E k)))
      ∗ ringO c (blockOut c XA GA PA DA QA E V) (k + 1) ∗ ∃ W, owes (c : Thread nD τ) 0 W)
      ⊢ stateAt c arg0 arg1 XA GA PA DA QA g0 E g1 V (k + 1) := by
  unfold stateAt
  rw [← curG_false c GA _ _ not_false, ← curP_false c PA _ _ not_false, ← curD_false c DA _ _ not_false, ← curQ_false c QA _ _ not_false]
  iintro ⟨Ht0, Ht1, Ha, HX, HG, HP, HD, HQ, HO, HW⟩
  isplitl [Ht0]; · iexact Ht0
  isplitl [Ht1]; · iexact Ht1
  isplitl [Ha]; · iexact Ha
  isplitl [HX]
  · iapply (ringX_next c XA hk) $$ [HX]
    iexact HX
  isplitl [HG]
  · iapply (ringG_next c E GA hk hE) $$ [HG]
    iexact HG
  isplitl [HP]
  · iapply (ringP_next c E PA hk hE) $$ [HP]
    iexact HP
  isplitl [HD]
  · iapply (ringD_next c E DA hk hE) $$ [HD]
    iexact HD
  isplitl [HQ]
  · iapply (ringQ_next c E QA hk hE) $$ [HQ]
    iexact HQ
  isplitl [HO]; · iexact HO
  iexact HW
open Idealize.ShloMosaic in
/-- One trip. -/
theorem trip (hT : Table c arg0 g0 E) (hV : Words c arg1 g1 V) (hE : E 288 = E 287) (v13 v30 v39 v48 v50 : BitVec 32) (hw3)
    (k : Fin k0_t1_loop.trips) (hk : k.val < 288) :
    stateAt c arg0 arg1 XA GA PA DA QA g0 E g1 V k.val
      ⊢ wp frame (wpE (defs₀ (F := F)) 𝒱₀ (c : Thread nD τ) none) Set.univ
        (k0_t1_body (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 v13 v30 v39 v48 v50 hw3 k (wordsAt E k.val (wd (ch E k.val))))
        (fun r => iprop(⌜r = wordsAt E (k.val + 1) (word13 E k)⌝ ∗ stateAt c arg0 arg1 XA GA PA DA QA g0 E g1 V (k.val + 1))) := by
  have hm : k.val % 288 = k.val := Nat.mod_eq_of_lt hk
  have hn := ch_le E k.val
  have h5 := chk5_ok k
  have hk289 : k.val - 1 < 289 := by omega
  unfold wordsAt
  rw [hm]
  generalize hS : stateAt c arg0 arg1 XA GA PA DA QA g0 E g1 V (k.val + 1) = S
  unfold stateAt
  unfold ringX ringG ringP ringD ringQ ringO
  rw [nxtX_true c XA _ _ hk, toGo_take c hk]
  iintro ⟨Ht0, Ht1, Ha, ⟨HX, HX1, HX2, HXh⟩, ⟨HG, HG1, HGh⟩, ⟨HP, HP1, HPh⟩, ⟨HD, HD1, HDh⟩, ⟨HQ, HQ1, HQh⟩, ⟨HO, HO1, Hgone, ⟨Hany, Htogo⟩⟩, ⟨%W0, HW⟩⟩
  sl_unfold [k0_t1_body]
  dsimp only
  iapply (exec_cut Idealize.ShloMosaic.frame (wpE (defs₀ (F := F)) 𝒱₀ (c : Thread nD τ) none) Set.univ
    (part10 c arg0 harg0 arg1 harg1 XA k (min (k.val + 2) 288) h5 rfl (homeX2 k.val) mem_homeX2 W0)) $$ [HX2 HXh HW]
  · isplitl [HX2]; · iexact HX2
    isplitl [HXh]; · iexact HXh
    iexact HW
  iintro %r ⟨%hr, HX2, HXh, HW⟩
  subst hr
  dsimp only
  iapply (exec_cut Idealize.ShloMosaic.frame (wpE (defs₀ (F := F)) 𝒱₀ (c : Thread nD τ) none) Set.univ
    (part11 c arg0 harg0 arg1 harg1 GA PA g0 E hT k hk (ch E k.val) (by omega) _ _ (wd (min (k.val + 2) 288)) _ _ _ _ (mem_issued E) (mem_issued E) W0)) $$ [Ht0 HG1 HGh HP1 HPh HW]
  · isplitl [Ht0]; · iexact Ht0
    isplitl [HG1]; · iexact HG1
    isplitl [HGh]; · iexact HGh
    isplitl [HP1]; · iexact HP1
    isplitl [HPh]; · iexact HPh
    iexact HW
  iintro %r ⟨%hr, Ht0, HG1, HGh, HP1, HPh, HW⟩
  subst hr
  dsimp only
  iapply (exec_cut Idealize.ShloMosaic.frame (wpE (defs₀ (F := F)) 𝒱₀ (c : Thread nD τ) none) Set.univ
    (part12 c arg0 harg0 arg1 harg1 XA GA DA QA g0 E hT k hk (ch E k.val) (by omega) _ _ _ (wd (min (k.val + 2) 288)) _ _ _ _ _ _ hk (by omega) _ (notMem_homeX2 hk) (mem_issued E) (mem_issued E) (notMem_waited E) W0)) $$ [Ht0 HD1 HDh HQ1 HQh HG HGh HX HXh HW]
  · isplitl [Ht0]; · iexact Ht0
    isplitl [HD1]; · iexact HD1
    isplitl [HDh]; · iexact HDh
    isplitl [HQ1]; · iexact HQ1
    isplitl [HQh]; · iexact HQh
    isplitl [HG]; · iexact HG
    isplitl [HGh]; · iexact HGh
    isplitl [HX]; · iexact HX
    isplitl [HXh]; · iexact HXh
    iexact HW
  iintro %r ⟨%hr, Ht0, HD1, HDh, HQ1, HQh, HG, HGh, ⟨HXc, HX⟩, HXh, ⟨%W1, HW⟩⟩
  subst hr
  dsimp only
  iapply (exec_cut Idealize.ShloMosaic.frame (wpE (defs₀ (F := F)) 𝒱₀ (c : Thread nD τ) none) Set.univ
    (part13 c arg0 harg0 arg1 harg1 PA DA QA g0 E hT hV k hk (ch E k.val) (by omega) _ _ _ (wd (min (k.val + 2) 288)) _ _ _ _ (by omega) (notMem_waited E) (notMem_waited E) (notMem_waited E) W1)) $$ [Ht0 HP HPh HD HDh HQ HQh Ht1 HW]
  · isplitl [Ht0]; · iexact Ht0
    isplitl [HP]; · iexact HP
    isplitl [HPh]; · iexact HPh
    isplitl [HD]; · iexact HD
    isplitl [HDh]; · iexact HDh
    isplitl [HQ]; · iexact HQ
    isplitl [HQh]; · iexact HQh
    isplitl [Ht1]; · iexact Ht1
    iexact HW
  iintro %r ⟨%hr, Ht0, HP, HPh, HD, HDh, HQ, HQh, Ht1, ⟨%W2, HW⟩⟩
  subst hr
  dsimp only
  ihave HG := (Entails.of_eq (curG_false c GA _ _ not_false)) $$ HG
  ihave HP := (Entails.of_eq (curP_false c PA _ _ not_false)) $$ HP
  ihave HD := (Entails.of_eq (curD_false c DA _ _ not_false)) $$ HD
  ihave HQ := (Entails.of_eq (curQ_false c QA _ _ not_false)) $$ HQ
  icases HG with ⟨HGc, HG⟩
  icases HP with ⟨HPc, HP⟩
  icases HD with ⟨HDc, HD⟩
  icases HQ with ⟨HQc, HQ⟩
  iapply (exec_cut Idealize.ShloMosaic.frame (wpE (defs₀ (F := F)) 𝒱₀ (c : Thread nD τ) none) Set.univ
    (part14 c arg0 harg0 arg1 harg1 XA GA PA DA QA k (ch E k.val) (by omega) (by omega) hk (E k.val) (wd (min (k.val + 2) 288)) _ _ _ _ _ _ _ _ _ _ _ _ _ _ _ _ W2)) $$ [Ha HX HG HP HD HQ HO Hany HW]
  · isplitl [Ha]; · iexact Ha
    isplitl [HX]; · iexact HX
    isplitl [HG]; · iexact HG
    isplitl [HP]; · iexact HP
    isplitl [HD]; · iexact HD
    isplitl [HQ]; · iexact HQ
    isplitl [HO]; · iexact HO
    isplitl [Hany]; · iexact Hany
    iexact HW
  iintro %r ⟨%hr, Ha, HX, HG, HP, HD, HQ, HO, HW⟩
  subst hr
  dsimp only
  iapply (exec_cut Idealize.ShloMosaic.frame (wpE (defs₀ (F := F)) 𝒱₀ (c : Thread nD τ) none) Set.univ
    (pure15 c arg0 harg0 arg1 harg1 k _ _ _ _ _ _ _ _ _ _ _ _ W2)) $$ [HW]
  · iexact HW
  iintro %r ⟨%hr, HW⟩
  subst hr
  dsimp only
  subst hS
  by_cases h0 : k.val = 0
  · have hc : ¬ k0_cond26 k (wd k.val) = 1#1 := by rw [cond26_iff]; omega
    ihave HO1 := (Entails.of_eq (prevO_zero c _ h0)) $$ HO1
    sl_exec
    sl_step
    isplitr
    · ipureintro
      have e12 := word12 E k
      unfold issB at e12
      have e22 := word22 k
      unfold after at e22
      rw [word10, e12, word11, word20, word21, e22]
      rfl
    iapply (sealed c arg0 arg1 XA GA PA DA QA g0 E g1 V hk hE)
    isplitl [Ht0]; · iexact Ht0
    isplitl [Ht1]; · iexact Ht1
    isplitl [Ha]; · iexact Ha
    isplitl [HXc HX HX1 HX2 HXh]
    · isplitl [HXc HX]
      · isplitl [HXc]; · iexact HXc
        iexact HX
      isplitl [HX1]; · iexact HX1
      isplitl [HX2]; · iexact HX2
      iexact HXh
    isplitl [HGc HG HG1 HGh]
    · isplitl [HGc HG]
      · isplitl [HGc]; · iexact HGc
        iexact HG
      isplitl [HG1]; · iexact HG1
      iexact HGh
    isplitl [HPc HP HP1 HPh]
    · isplitl [HPc HP]
      · isplitl [HPc]; · iexact HPc
        iexact HP
      isplitl [HP1]; · iexact HP1
      iexact HPh
    isplitl [HDc HD HD1 HDh]
    · isplitl [HDc HD]
      · isplitl [HDc]; · iexact HDc
        iexact HD
      isplitl [HD1]; · iexact HD1
      iexact HDh
    isplitl [HQc HQ HQ1 HQh]
    · isplitl [HQc HQ]
      · isplitl [HQc]; · iexact HQc
        iexact HQ
      isplitl [HQ1]; · iexact HQ1
      iexact HQh
    isplitl [HO1 HO Hgone Htogo]
    · iapply (ringO_next c (blockOut c XA GA PA DA QA E V) hk)
      isplitr
      · iapply (Entails.of_eq (if_pos h0).symm); iempintro
      isplitl [HO1]; · iexact HO1
      isplitl [HO]; · iexact HO
      isplitl [Hgone]; · iexact Hgone
      iexact Htogo
    iexists _; iexact HW
  · have hc : k0_cond26 k (wd k.val) = 1#1 := by rw [cond26_iff]; omega
    have hs2 : Ring.sl 2 (k.val - 1) = Ring.sl 2 (k.val + 1) := Fin.ext (by show (k.val - 1) % 2 = (k.val + 1) % 2; omega)
    ihave HO1 := (Entails.of_eq (prevO_pos c _ h0)) $$ HO1
    icases HO1 with ⟨%fo, %go, %hfg, HO1⟩
    sl_exec
    sl_step
    isplitr
    · ipureintro
      have e12 := word12 E k
      unfold issB at e12
      have e22 := word22 k
      unfold after at e22
      rw [word10, e12, word11, word20, word21, e22]
      rfl
    iapply (sealed c arg0 arg1 XA GA PA DA QA g0 E g1 V hk hE)
    isplitl [Ht0]; · iexact Ht0
    isplitl [Ht1]; · iexact Ht1
    isplitl [Ha]; · iexact Ha
    isplitl [HXc HX HX1 HX2 HXh]
    · isplitl [HXc HX]
      · isplitl [HXc]; · iexact HXc
        iexact HX
      isplitl [HX1]; · iexact HX1
      isplitl [HX2]; · iexact HX2
      iexact HXh
    isplitl [HGc HG HG1 HGh]
    · isplitl [HGc HG]
      · isplitl [HGc]; · iexact HGc
        iexact HG
      isplitl [HG1]; · iexact HG1
      iexact HGh
    isplitl [HPc HP HP1 HPh]
    · isplitl [HPc HP]
      · isplitl [HPc]; · iexact HPc
        iexact HP
      isplitl [HP1]; · iexact HP1
      iexact HPh
    isplitl [HDc HD HD1 HDh]
    · isplitl [HDc HD]
      · isplitl [HDc]; · iexact HDc
        iexact HD
      isplitl [HD1]; · iexact HD1
      iexact HDh
    isplitl [HQc HQ HQ1 HQh]
    · isplitl [HQc HQ]
      · isplitl [HQc]; · iexact HQc
        iexact HQ
      isplitl [HQ1]; · iexact HQ1
      iexact HQh
    isplitl [HO1 HO Hgone Htogo HO1_dst HO1_src]
    · iapply (ringO_next c (blockOut c XA GA PA DA QA E V) hk)
      isplitl [HO1_dst]
      · iapply (doneO_if c h0 hfg.2) $$ [HO1_dst]
        iexact HO1_dst
      isplitl [HO1 HO1_src]
      · iapply (freeO_back c h0 fo)
        isplitl [HO1_src]; · iexact HO1_src
        iexact HO1
      isplitl [HO]; · iexact HO
      isplitl [Hgone]; · iexact Hgone
      iexact Htogo
    iexists _; iexact HW
end Cert.Proof.Experts
-- ==== Proof.Start.lean ====
module

public import proofs.«01_k».proof.Proof.Trip
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
/-! ## The first fetches -/
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

open Idealize.ShloMosaic in
theorem part16 (W) :
    iprop(nxtX c XA (Ring.sl 3 0) (Ring.bk 288 0) False ∗ homesX c XA Finset.univ ∗ owes (c : Thread nD τ) 0 W)
      ⊢ wp frame (wpE (defs₀ (F := F)) 𝒱₀ (c : Thread nD τ) none) Set.univ
        (k0_part16 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11)
        (fun r => iprop(⌜r = ⟨wd 1, wd 1, 0#32, 2#32⟩⌝ ∗ nxtX c XA (Ring.sl 3 0) (Ring.bk 288 0) True ∗ homesX c XA (Finset.univ.erase (Ring.bk 288 0)) ∗ owes (c : Thread nD τ) 0 W)) := by
  rw [nxtX_false c XA _ _ not_false, nxtX_true c XA _ _ trivial, homesX_take c XA (Finset.mem_univ (Ring.bk 288 0))]
  iintro ⟨HX, HX', HW⟩
  icases HX with ⟨%fX, HcX, HX⟩
  icases HX' with ⟨HhX, HX'⟩
  sl_unfold [k0_part16]
  sl_exec
  sl_step
  isplitr
  · ipureintro; rfl
  isplitl [HcX]; · iexists _; iexact HcX
  isplitl [HX']; · iexact HX'
  iexact HW
open Idealize.ShloMosaic in
theorem part17 (hT : Table c arg0 g0 E) (W) :
    iprop(tabP c arg0 g0 ∗ nxtG c GA (Ring.sl 2 0) (E 0) False ∗ homesG c GA Finset.univ ∗ nxtP c PA (Ring.sl 2 0) (E 0) False ∗ homesP c PA Finset.univ ∗ owes (c : Thread nD τ) 0 W)
      ⊢ wp frame (wpE (defs₀ (F := F)) 𝒱₀ (c : Thread nD τ) none) Set.univ
        (k0_part17 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 0#32 2#32)
        (fun r => iprop(⌜r = ⟨wd 1, wd 1, wd (E 0).val, chk3_ok (E 0)⟩⌝ ∗ tabP c arg0 g0 ∗ nxtG c GA (Ring.sl 2 0) (E 0) True ∗ homesG c GA (Finset.univ.erase (E 0))
          ∗ nxtP c PA (Ring.sl 2 0) (E 0) True ∗ homesP c PA (Finset.univ.erase (E 0)) ∗ owes (c : Thread nD τ) 0 W)) := by
  rw [nxtG_false c GA _ _ not_false, nxtG_true c GA _ _ trivial, homesG_take c GA (Finset.mem_univ (E 0))]
  rw [nxtP_false c PA _ _ not_false, nxtP_true c PA _ _ trivial, homesP_take c PA (Finset.mem_univ (E 0))]
  iintro ⟨Ht, HG, HG', HP, HP', HW⟩
  icases HG with ⟨%fG, HcG, HG⟩
  icases HG' with ⟨HhG, HG'⟩
  icases HP with ⟨%fP, HcP, HP⟩
  icases HP' with ⟨HhP, HP'⟩
  sl_unfold [k0_part17]
  sl_exec
  have e0 : part17.sl.r c arg0 g0 = wd (E 0).val := hT _ _ _ 0 (by decide +kernel) (by decide)
  rw [e0]
  have h1 := chk1_ok (E 0)
  sl_exec
  have e1 : part17.sl.r_1 c arg0 g0 = wd (E 0).val := hT _ _ _ 0 (by decide +kernel) (by decide)
  rw [e1]
  have h2 := chk2_ok (E 0)
  sl_exec
  have e2 : part17.sl.r_2 c arg0 g0 = wd (E 0).val := hT _ _ _ 0 (by decide +kernel) (by decide)
  rw [e2]
  have h3 := chk3_ok (E 0)
  sl_exec
  sl_step
  isplitr
  · ipureintro; rfl
  isplitl [Ht]; · iexact Ht
  isplitl [HcG]; · iexists _; iexact HcG
  isplitl [HG']; · iexact HG'
  isplitl [HcP]; · iexists _; iexact HcP
  isplitl [HP']; · iexact HP'
  iexact HW
end Cert.Proof.Experts
-- ==== Proof.Loop.lean ====
module

public import proofs.«01_k».proof.Proof.Start
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

variable (g1 : Buf (Elt F) (arg1.view.loc (c : Thread nD τ))) (V : ℕ → BitVec 32)
/-! ## The whole loop -/
/-- What holds before trip `k` of the loop. -/
def loopState (k : ℕ) (acc : BitVec 32 × BitVec 32 × BitVec 32 × BitVec 32 × BitVec 32 × BitVec 32 × BitVec 32 × BitVec 32 × BitVec 32 × BitVec 32 × BitVec 32 × BitVec 32 × BitVec 32) : sProp 𝕄 :=
  iprop(⌜∃ m, acc = wordsAt E k m ∧ (k < 288 → m = wd (ch E k))⌝ ∗ stateAt c arg0 arg1 XA GA PA DA QA g0 E g1 V k)
theorem trips_288 : k0_t1_loop.trips = 288 := by decide +kernel
/-- One trip keeps it. -/
theorem loop_step (hT : Table c arg0 g0 E) (hV : Words c arg1 g1 V) (hE : E 288 = E 287) (v13 v30 v39 v48 v50 : BitVec 32) (hw3)
    (k : Fin k0_t1_loop.trips) (acc) :
    loopState c arg0 arg1 XA GA PA DA QA g0 E g1 V k.val acc
      ⊢ wp frame (wpE (defs₀ (F := F)) 𝒱₀ (c : Thread nD τ) none) Set.univ
        (k0_t1_body (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 v13 v30 v39 v48 v50 hw3 k acc) (loopState c arg0 arg1 XA GA PA DA QA g0 E g1 V (k.val + 1)) := by
    have hk : k.val < 288 := lt_of_lt_of_eq k.isLt trips_288
    unfold loopState
    iintro ⟨%h, H⟩
    obtain ⟨m, rfl, hm⟩ := h
    obtain rfl := hm hk
    iapply (wp_wand_r Idealize.ShloMosaic.frame (wpE (defs₀ (F := F)) 𝒱₀ (c : Thread nD τ) none) Set.univ)
    isplitl [H]
    · iapply (trip c arg0 harg0 arg1 harg1 XA GA PA DA QA g0 E g1 V hT hV hE v13 v30 v39 v48 v50 hw3 k hk) $$ [H]
      iexact H
    iintro %r ⟨%hr, H⟩
    isplitr
    · ipureintro; exact ⟨_, hr, fun h => word13_eq E k h⟩
    iexact H
theorem fr_zero : Fr E 0 := Or.inr rfl
theorem homeX2_zero : (Finset.univ.erase (Ring.bk 288 0)).erase (Ring.bk 288 1) = homeX2 0 := by decide +kernel
/-- The state in which the loop starts. -/
theorem loopState_zero {acc} (hacc : acc = (wd 2, 0#32, wd 1, 0#32, wd 1, 0#32, wd 1, 0#32, wd 1, 0#32, 0#32, 0#32, 0#32)) :
    iprop(tabP c arg0 g0 ∗ tabP c arg1 g1 ∗ actP c
        ∗ nxtX c XA (Ring.sl 3 0) (Ring.bk 288 0) True ∗ (∃ f, flyX c XA (Ring.sl 3 1) (Ring.bk 288 1) f) ∗ nxtX c XA (Ring.sl 3 (0 + 2)) (Ring.bk 288 (0 + 2)) False
        ∗ homesX c XA ((Finset.univ.erase (Ring.bk 288 0)).erase (Ring.bk 288 1))
        ∗ ringG c E GA 0 ∗ ringP c E PA 0
        ∗ ((∃ f, flyD c DA (Ring.sl 2 0) (E 0) f) ∗ nxtD c DA (Ring.sl 2 1) (E ((0 + 1) % 288)) False ∗ homesD c DA (Finset.univ.erase (E 0)))
        ∗ ((∃ f, flyQ c QA (Ring.sl 2 0) (E 0) f) ∗ nxtQ c QA (Ring.sl 2 1) (E ((0 + 1) % 288)) False ∗ homesQ c QA (Finset.univ.erase (E 0)))
        ∗ ringO c (blockOut c XA GA PA DA QA E V) 0 ∗ ∃ W, owes (c : Thread nD τ) 0 W)
      ⊢ loopState c arg0 arg1 XA GA PA DA QA g0 E g1 V 0 acc := by
  unfold loopState stateAt ringX ringD ringQ
  rw [homeX2_zero, nxtX_true c XA (Ring.sl 3 0) _ trivial, nxtX_true c XA (Ring.sl 3 0) _ (show 0 < 288 by decide), nxtX_true c XA (Ring.sl 3 (0 + 1)) _ (show 0 + 1 < 288 by decide)]
  rw [curD_true c DA _ _ (fr_zero E), without_true _ (fr_zero E), curQ_true c QA _ _ (fr_zero E)]
  iintro ⟨H0, H1, H2, X0, X1, X2, X3, H3, H4, ⟨D0, D1, D2⟩, ⟨Q0, Q1, Q2⟩, H5, H6⟩
  isplitr
  · ipureintro; exact ⟨_, hacc, fun _ => rfl⟩
  isplitl [H0]; · iexact H0
  isplitl [H1]; · iexact H1
  isplitl [H2]; · iexact H2
  isplitl [X0 X1 X2 X3]
  · isplitl [X0]; · iexact X0
    isplitl [X1]; · iexact X1
    isplitl [X2]; · iexact X2
    iexact X3
  isplitl [H3]; · iexact H3
  isplitl [H4]; · iexact H4
  isplitl [D0 D1 D2]
  · isplitl [D0]; · iexact D0
    isplitl [D1]; · iexact D1
    iexact D2
  isplitl [Q0 Q1 Q2]
  · isplitl [Q0]; · iexact Q0
    isplitl [Q1]; · iexact Q1
    iexact Q2
  isplitl [H5]; · iexact H5
  iexact H6
/-- The state in which the loop ends. -/
theorem loopState_end (acc) : loopState c arg0 arg1 XA GA PA DA QA g0 E g1 V k0_t1_loop.trips acc ⊢
    iprop(⌜∃ m, acc = (wd 288, wd 288, wd (ch E 288 + 1), m, wd (ch E 288 + 1), m, wd (ch E 288 + 1), m, wd (ch E 288 + 1), m, wd 288, wd 287, wd 0)⌝ ∗ stateAt c arg0 arg1 XA GA PA DA QA g0 E g1 V 288) := by
  rw [trips_288]
  unfold loopState
  iintro ⟨%h, H⟩
  isplitr
  · ipureintro; obtain ⟨m, h, -⟩ := h; exact ⟨m, h⟩
  iexact H
/-- Part 18 of the kernel: the last two first fetches, the fetch of the second block, the loop. -/
theorem part18 (hT : Table c arg0 g0 E) (hV : Words c arg1 g1 V) (hE : E 288 = E 287) :
    iprop(nxtD c DA (Ring.sl 2 0) (E 0) False ∗ homesD c DA Finset.univ ∗ nxtQ c QA (Ring.sl 2 0) (E 0) False ∗ homesQ c QA Finset.univ
        ∗ nxtX c XA (Ring.sl 3 1) (Ring.bk 288 1) False ∗ homesX c XA (Finset.univ.erase (Ring.bk 288 0))
        ∗ tabP c arg0 g0 ∗ tabP c arg1 g1 ∗ actP c
        ∗ nxtX c XA (Ring.sl 3 0) (Ring.bk 288 0) True ∗ nxtX c XA (Ring.sl 3 (0 + 2)) (Ring.bk 288 (0 + 2)) False
        ∗ ringG c E GA 0 ∗ ringP c E PA 0
        ∗ nxtD c DA (Ring.sl 2 1) (E ((0 + 1) % 288)) False ∗ nxtQ c QA (Ring.sl 2 1) (E ((0 + 1) % 288)) False
        ∗ ringO c (blockOut c XA GA PA DA QA E V) 0 ∗ ∃ W, owes (c : Thread nD τ) 0 W)
      ⊢ wp frame (wpE (defs₀ (F := F)) 𝒱₀ (c : Thread nD τ) none) Set.univ
        (k0_part18 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (wd 1) (wd 1) (wd 1) (wd 1) (wd (E 0).val) (chk3_ok (E 0)))
        (fun r => iprop(⌜∃ v, r = ⟨wd 287, wd 0, chk24_ok, chk23_ok, v, 4294967295#32⟩⌝ ∗ stateAt c arg0 arg1 XA GA PA DA QA g0 E g1 V 288)) := by
  rw [nxtD_false c DA (Ring.sl 2 0) _ not_false, homesD_take c DA (Finset.mem_univ (E 0))]
  rw [nxtQ_false c QA (Ring.sl 2 0) _ not_false, homesQ_take c QA (Finset.mem_univ (E 0))]
  rw [nxtX_false c XA (Ring.sl 3 1) _ not_false, homesX_take c XA (show Ring.bk 288 1 ∈ Finset.univ.erase (Ring.bk 288 0) by decide)]
  iintro ⟨HD, HD', HQ, HQ', HX, HX', Ht0, Ht1, Ha, HX0, HX2, HG, HP, HD1, HQ1, HO, ⟨%W, HW⟩⟩
  icases HD with ⟨%fD, HcD, HD⟩
  icases HD' with ⟨HhD, HD'⟩
  icases HQ with ⟨%fQ, HcQ, HQ⟩
  icases HQ' with ⟨HhQ, HQ'⟩
  icases HX with ⟨%fX, HcX, HX⟩
  icases HX' with ⟨HhX, HX'⟩
  have hw3 := chk3_ok (E 0)
  have hc1 := cond1_true
  sl_unfold [k0_part18]
  sl_exec
  have e0 : part18.sl.r c arg0 g0 = wd (E 0).val := hT _ _ _ 0 (by decide +kernel) (by decide)
  rw [e0]
  have h4 := chk4_ok (E 0)
  sl_exec
  iapply (Scf.wp_for_bind Idealize.ShloMosaic.frame (wpE (defs₀ (F := F)) 𝒱₀ (c : Thread nD τ) none) Set.univ _ _ _ _ _ _
    (loopState c arg0 arg1 XA GA PA DA QA g0 E g1 V) (loop_step c arg0 harg0 arg1 harg1 XA GA PA DA QA g0 E g1 V hT hV hE _ _ _ _ _ _)) $$ [Ht0 Ht1 Ha HX0 HcX HX2 HX' HG HP HcD HD' HD1 HcQ HQ' HQ1 HO HW]
  · iapply (loopState_zero c arg0 arg1 XA GA PA DA QA g0 E g1 V rfl)
    isplitl [Ht0]; · iexact Ht0
    isplitl [Ht1]; · iexact Ht1
    isplitl [Ha]; · iexact Ha
    isplitl [HX0]; · iexact HX0
    isplitl [HcX]; · iexists _; iexact HcX
    isplitl [HX2]; · iexact HX2
    isplitl [HX']; · iexact HX'
    isplitl [HG]; · iexact HG
    isplitl [HP]; · iexact HP
    isplitl [HcD HD1 HD']
    · isplitl [HcD]; · iexists _; iexact HcD
      isplitl [HD1]; · iexact HD1
      iexact HD'
    isplitl [HcQ HQ1 HQ']
    · isplitl [HcQ]; · iexists _; iexact HcQ
      isplitl [HQ1]; · iexact HQ1
      iexact HQ'
    isplitl [HO]; · iexact HO
    iexists _; iexact HW
  iintro %acc HL
  ihave HL := (loopState_end c arg0 arg1 XA GA PA DA QA g0 E g1 V acc) $$ HL
  icases HL with ⟨%h, HS⟩
  obtain ⟨m, rfl⟩ := h
  dsimp only
  have h24 := chk24_ok
  have h23 := chk23_ok
  sl_exec
  sl_step
  isplitr
  · ipureintro; exact ⟨_, rfl⟩
  iexact HS
end Cert.Proof.Experts
-- ==== Proof.Body.lean ====
module

public import proofs.«01_k».proof.Proof.Loop
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
variable (c : Dev nD) (arg0 : Memref sig .tc .smem S288 .i32) (harg0 : arg0.IsWhole) (arg1 : Memref sig .tc .smem S288 .i32) (harg1 : arg1.IsWhole)
variable (XA : Buf (Elt F) ((Memref.whole main_arg0).view.loc (c : Thread nD τ))) (GA : Buf (Elt F) ((Memref.whole main_v3).view.loc (c : Thread nD τ)))
   (PA : Buf (Elt F) ((Memref.whole main_v6).view.loc (c : Thread nD τ))) (DA : Buf (Elt F) ((Memref.whole main_arg5).view.loc (c : Thread nD τ)))
   (QA : Buf (Elt F) ((Memref.whole main_v7).view.loc (c : Thread nD τ)))
variable (g0 : Buf (Elt F) (arg0.view.loc (c : Thread nD τ))) (E : ℕ → Fin 32)

variable (g1 : Buf (Elt F) (arg1.view.loc (c : Thread nD τ))) (V : ℕ → BitVec 32)
/-! ## The whole kernel -/
section Ends
/-- A slot with nothing on its way. -/
abbrev freeX (s : Fin 3) : sProp 𝕄 := iprop(∃ f, cellP c (csmX s) ∗ holdX (F := F) c s f)
/-- A slot with nothing on its way. -/
abbrev freeG (s : Fin 2) : sProp 𝕄 := iprop(∃ f, cellP c (csmG s) ∗ holdG (F := F) c s f)
/-- A slot with nothing on its way. -/
abbrev freeP (s : Fin 2) : sProp 𝕄 := iprop(∃ f, cellP c (csmP s) ∗ holdP (F := F) c s f)
/-- A slot with nothing on its way. -/
abbrev freeD (s : Fin 2) : sProp 𝕄 := iprop(∃ f, cellP c (csmD s) ∗ holdD (F := F) c s f)
/-- A slot with nothing on its way. -/
abbrev freeQ (s : Fin 2) : sProp 𝕄 := iprop(∃ f, cellP c (csmQ s) ∗ holdQ (F := F) c s f)
/-- Two slots in turn are the two slots. -/
theorem two_slots (P : Fin 2 → sProp 𝕄) (n : ℕ) : iprop(P (Ring.sl 2 n) ∗ P (Ring.sl 2 (n + 1))) ⊢ iprop(P 0 ∗ P 1) := by
  rcases Nat.mod_two_eq_zero_or_one n with h | h
  · rw [show Ring.sl 2 n = 0 from Fin.ext h, show Ring.sl 2 (n + 1) = 1 from Fin.ext (by show (n + 1) % 2 = 1; omega)]
  · rw [show Ring.sl 2 n = 1 from Fin.ext h, show Ring.sl 2 (n + 1) = 0 from Fin.ext (by show (n + 1) % 2 = 0; omega)]
    iintro ⟨H, H'⟩
    isplitl [H']; · iexact H'
    iexact H
theorem not_fr_end (hE : E 288 = E 287) : ¬ Fr E 288 := by
  rintro (h | h)
  · exact h hE
  · omega
theorem ringG_end (hE : E 288 = E 287) : ringG c E GA 288 ⊢ iprop((freeG (F := F) c 0 ∗ freeG (F := F) c 1) ∗ homesG c GA Finset.univ) := by
  unfold ringG
  rw [curG_false c GA _ _ (not_fr_end E hE), nxtG_false c GA _ _ not_false, without_false _ (not_fr_end E hE)]
  iintro ⟨⟨Hc, Hf⟩, Hn, Hh⟩
  isplitl [Hc Hf Hn]
  · iapply (two_slots (freeG (F := F) c) (ch E 288))
    isplitl [Hc Hf]
    · iexists _; isplitl [Hc]; · iexact Hc
      iexact Hf
    iexact Hn
  iexact Hh
theorem ringP_end (hE : E 288 = E 287) : ringP c E PA 288 ⊢ iprop((freeP (F := F) c 0 ∗ freeP (F := F) c 1) ∗ homesP c PA Finset.univ) := by
  unfold ringP
  rw [curP_false c PA _ _ (not_fr_end E hE), nxtP_false c PA _ _ not_false, without_false _ (not_fr_end E hE)]
  iintro ⟨⟨Hc, Hf⟩, Hn, Hh⟩
  isplitl [Hc Hf Hn]
  · iapply (two_slots (freeP (F := F) c) (ch E 288))
    isplitl [Hc Hf]
    · iexists _; isplitl [Hc]; · iexact Hc
      iexact Hf
    iexact Hn
  iexact Hh
theorem ringD_end (hE : E 288 = E 287) : ringD c E DA 288 ⊢ iprop((freeD (F := F) c 0 ∗ freeD (F := F) c 1) ∗ homesD c DA Finset.univ) := by
  unfold ringD
  rw [curD_false c DA _ _ (not_fr_end E hE), nxtD_false c DA _ _ not_false, without_false _ (not_fr_end E hE)]
  iintro ⟨⟨Hc, Hf⟩, Hn, Hh⟩
  isplitl [Hc Hf Hn]
  · iapply (two_slots (freeD (F := F) c) (ch E 288))
    isplitl [Hc Hf]
    · iexists _; isplitl [Hc]; · iexact Hc
      iexact Hf
    iexact Hn
  iexact Hh
theorem ringQ_end (hE : E 288 = E 287) : ringQ c E QA 288 ⊢ iprop((freeQ (F := F) c 0 ∗ freeQ (F := F) c 1) ∗ homesQ c QA Finset.univ) := by
  unfold ringQ
  rw [curQ_false c QA _ _ (not_fr_end E hE), nxtQ_false c QA _ _ not_false, without_false _ (not_fr_end E hE)]
  iintro ⟨⟨Hc, Hf⟩, Hn, Hh⟩
  isplitl [Hc Hf Hn]
  · iapply (two_slots (freeQ (F := F) c) (ch E 288))
    isplitl [Hc Hf]
    · iexists _; isplitl [Hc]; · iexact Hc
      iexact Hf
    iexact Hn
  iexact Hh
theorem homeX2_end : homeX2 288 = Finset.univ := by
  ext b; have := b.isLt; simp only [homeX2, Finset.mem_filter, Finset.mem_univ, true_and, iff_true]; omega
theorem ringX_end : ringX c XA 288 ⊢ iprop((freeX (F := F) c 0 ∗ freeX (F := F) c 1 ∗ freeX (F := F) c 2) ∗ homesX c XA Finset.univ) := by
  unfold ringX
  rw [nxtX_false c XA (Ring.sl 3 288) _ (by decide), nxtX_false c XA (Ring.sl 3 (288 + 1)) _ (by decide), nxtX_false c XA (Ring.sl 3 (288 + 2)) _ not_false, homeX2_end]
  iintro ⟨H0, H1, H2, Hh⟩
  isplitl [H0 H1 H2]
  · isplitl [H0]; · iexact H0
    isplitl [H1]; · iexact H1
    iexact H2
  iexact Hh
theorem toGo_zero : toGo 0 = Finset.univ := by
  ext b; simp only [Finset.mem_filter, Finset.mem_univ, true_and, iff_true]; omega
theorem gone_zero : gone 0 = ∅ := by
  ext b; simp only [Finset.mem_filter, Finset.mem_univ, true_and, Finset.notMem_empty, iff_false]; omega
theorem gone_end : gone (287 + 2) = Finset.univ := by
  ext b; have := b.isLt; simp only [Finset.mem_filter, Finset.mem_univ, true_and, iff_true]; omega
theorem ringO_zero (y) : iprop((freeO (F := F) c 0 ∗ freeO (F := F) c 1) ∗ bigSep Finset.univ (fun b => anyO (F := F) c b)) ⊢ ringO c y 0 := by
  unfold ringO prevO
  rw [show (bigSep (toGo 0) (fun b => anyO c b) : sProp 𝕄) = bigSep Finset.univ (fun b => anyO c b) from congrArg (fun S => bigSep S _) toGo_zero,
    show (bigSep (gone 0) (fun b => doneO c b (y b.val)) : sProp 𝕄) = bigSep ∅ (fun b => doneO c b (y b.val)) from congrArg (fun S => bigSep S _) gone_zero, BI.bigSep_empty]
  iintro ⟨⟨H0, H1⟩, H2⟩
  isplitl [H0]; · iexact H0
  isplitl [H1]; · iexact H1
  isplitr; · iempintro
  iexact H2
theorem ringO_end (y) : ringO c y 288 ⊢ iprop(freeO (F := F) c 0 ∗ flyO (F := F) c (Ring.sl 2 287) (Ring.bk 288 287) (y 287) ∗ bigSep (gone (287 + 1)) (fun b => doneO (F := F) c b (y b.val))) := by
  unfold ringO prevO
  iintro ⟨H0, H1, H2, -⟩
  isplitl [H0]; · iexact H0
  isplitl [H1]; · iexact H1
  iexact H2
theorem ringG_start : iprop(nxtG c GA (Ring.sl 2 0) (E 0) True ∗ nxtG c GA (Ring.sl 2 1) (E ((0 + 1) % 288)) False ∗ homesG c GA (Finset.univ.erase (E 0))) ⊢ ringG c E GA 0 := by
  unfold ringG
  rw [curG_true c GA _ _ (fr_zero E), without_true _ (fr_zero E), nxtG_true c GA _ _ trivial]
  iintro ⟨H0, H1, H2⟩
  isplitl [H0]; · iexact H0
  isplitl [H1]; · iexact H1
  iexact H2
theorem ringP_start : iprop(nxtP c PA (Ring.sl 2 0) (E 0) True ∗ nxtP c PA (Ring.sl 2 1) (E ((0 + 1) % 288)) False ∗ homesP c PA (Finset.univ.erase (E 0))) ⊢ ringP c E PA 0 := by
  unfold ringP
  rw [curP_true c PA _ _ (fr_zero E), without_true _ (fr_zero E), nxtP_true c PA _ _ trivial]
  iintro ⟨H0, H1, H2⟩
  isplitl [H0]; · iexact H0
  isplitl [H1]; · iexact H1
  iexact H2
theorem all_done (y : ℕ → S1024x8x128.Idx → Elt F .f32) :
    iprop(doneO (F := F) c (Ring.bk 288 287) (y 287) ∗ bigSep (gone (287 + 1)) (fun b => doneO (F := F) c b (y b.val))) ⊢ (bigSep Finset.univ (fun b : Fin 288 => doneO (F := F) c b (y b.val)) : sProp 𝕄) := by
  rw [← gone_put c y (show 287 < 288 by decide)]
  exact Entails.of_eq (congrArg (fun S => bigSep S _) gone_end)
end Ends
/-- What the kernel starts from. -/
def before0 : sProp 𝕄 :=
  iprop(tabP c arg0 g0 ∗ tabP c arg1 g1 ∗ actP c
    ∗ ((freeX (F := F) c 0 ∗ freeX (F := F) c 1 ∗ freeX (F := F) c 2) ∗ homesX c XA Finset.univ)
    ∗ ((freeG (F := F) c 0 ∗ freeG (F := F) c 1) ∗ homesG c GA Finset.univ)
    ∗ ((freeP (F := F) c 0 ∗ freeP (F := F) c 1) ∗ homesP c PA Finset.univ)
    ∗ ((freeD (F := F) c 0 ∗ freeD (F := F) c 1) ∗ homesD c DA Finset.univ)
    ∗ ((freeQ (F := F) c 0 ∗ freeQ (F := F) c 1) ∗ homesQ c QA Finset.univ)
    ∗ ((freeO (F := F) c 0 ∗ freeO (F := F) c 1) ∗ bigSep Finset.univ (fun b => anyO (F := F) c b)) ∗ ∃ W, owes (c : Thread nD τ) 0 W)
/-- What the kernel ends with. -/
def after0 : sProp 𝕄 :=
  iprop(tabP c arg0 g0 ∗ tabP c arg1 g1 ∗ actP c
    ∗ ((freeX (F := F) c 0 ∗ freeX (F := F) c 1 ∗ freeX (F := F) c 2) ∗ homesX c XA Finset.univ)
    ∗ ((freeG (F := F) c 0 ∗ freeG (F := F) c 1) ∗ homesG c GA Finset.univ)
    ∗ ((freeP (F := F) c 0 ∗ freeP (F := F) c 1) ∗ homesP c PA Finset.univ)
    ∗ ((freeD (F := F) c 0 ∗ freeD (F := F) c 1) ∗ homesD c DA Finset.univ)
    ∗ ((freeQ (F := F) c 0 ∗ freeQ (F := F) c 1) ∗ homesQ c QA Finset.univ)
    ∗ ((freeO (F := F) c 0 ∗ freeO (F := F) c 1) ∗ bigSep Finset.univ (fun b : Fin 288 => doneO (F := F) c b (blockOut c XA GA PA DA QA E V b.val))) ∗ ∃ W, owes (c : Thread nD τ) 0 W)
/-- The kernel's last wait: the last block's. -/
theorem part19 (hE : E 288 = E 287) (v : BitVec 32) :
    stateAt c arg0 arg1 XA GA PA DA QA g0 E g1 V 288
      ⊢ wp frame (wpE (defs₀ (F := F)) 𝒱₀ (c : Thread nD τ) none) Set.univ
        (k0_part19 (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (wd 287) (wd 0) chk24_ok chk23_ok v 4294967295#32)
        (fun _ => after0 c arg0 arg1 XA GA PA DA QA g0 E g1 V) := by
  unfold stateAt after0
  iintro ⟨Ht0, Ht1, Ha, HX, HG, HP, HD, HQ, HO, ⟨%W, HW⟩⟩
  ihave HX := (ringX_end c XA) $$ HX
  ihave HG := (ringG_end c GA E hE) $$ HG
  ihave HP := (ringP_end c PA E hE) $$ HP
  ihave HD := (ringD_end c DA E hE) $$ HD
  ihave HQ := (ringQ_end c QA E hE) $$ HQ
  ihave HO := (ringO_end c (blockOut c XA GA PA DA QA E V)) $$ HO
  icases HO with ⟨HO0, ⟨%fo, %go, %hfg, HO1⟩, Hg⟩
  have h24 := chk24_ok
  have h23 := chk23_ok
  have h289 : 287 < 289 := by decide
  sl_unfold [k0_part19]
  sl_exec
  sl_step
  isplitl [Ht0]; · iexact Ht0
  isplitl [Ht1]; · iexact Ht1
  isplitl [Ha]; · iexact Ha
  isplitl [HX]; · iexact HX
  isplitl [HG]; · iexact HG
  isplitl [HP]; · iexact HP
  isplitl [HD]; · iexact HD
  isplitl [HQ]; · iexact HQ
  isplitl [HO0 HO1 HO1_src HO1_dst Hg]
  · isplitl [HO0 HO1 HO1_src]
    · isplitl [HO0]; · iexact HO0
      iexists fo
      isplitl [HO1_src]; · iexact HO1_src
      iexact HO1
    iapply (all_done c (blockOut c XA GA PA DA QA E V))
    isplitl [HO1_dst]
    · iexists go; isplitr
      · ipureintro; exact hfg.2
      iexact HO1_dst
    iexact Hg
  iexists _; iexact HW
/-- The kernel. -/
theorem kernel_run (hT : Table c arg0 g0 E) (hV : Words c arg1 g1 V) (hE : E 288 = E 287) (Q : PUnit → sProp 𝕄) :
    iprop(before0 c arg0 arg1 XA GA PA DA QA g0 g1 ∗ (after0 c arg0 arg1 XA GA PA DA QA g0 E g1 V -∗ Q ⟨⟩))
      ⊢ wp frame (wpE (defs₀ (F := F)) 𝒱₀ (c : Thread nD τ) none) Set.univ
        (cc0_experts (F := F) arg0 harg0 arg1 harg1 (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11) Q := by
  unfold before0
  iintro ⟨⟨Ht0, Ht1, Ha, ⟨⟨X0, X1, X2⟩, Xh⟩, ⟨⟨G0, G1⟩, Gh⟩, ⟨⟨P0, P1⟩, Ph⟩, ⟨⟨D0, D1⟩, Dh⟩, ⟨⟨Q0, Q1⟩, Qh⟩, HO, ⟨%W, HW⟩⟩, Hk⟩
  sl_unfold [cc0_experts]
  ihave X0 := (Entails.of_eq (nxtX_false c XA (Ring.sl 3 0) (Ring.bk 288 0) not_false).symm) $$ X0
  ihave X1 := (Entails.of_eq (nxtX_false c XA (Ring.sl 3 1) (Ring.bk 288 1) not_false).symm) $$ X1
  ihave X2 := (Entails.of_eq (nxtX_false c XA (Ring.sl 3 (0 + 2)) (Ring.bk 288 (0 + 2)) not_false).symm) $$ X2
  ihave G0 := (Entails.of_eq (nxtG_false c GA (Ring.sl 2 0) (E 0) not_false).symm) $$ G0
  ihave G1 := (Entails.of_eq (nxtG_false c GA (Ring.sl 2 1) (E ((0 + 1) % 288)) not_false).symm) $$ G1
  ihave P0 := (Entails.of_eq (nxtP_false c PA (Ring.sl 2 0) (E 0) not_false).symm) $$ P0
  ihave P1 := (Entails.of_eq (nxtP_false c PA (Ring.sl 2 1) (E ((0 + 1) % 288)) not_false).symm) $$ P1
  ihave D0 := (Entails.of_eq (nxtD_false c DA (Ring.sl 2 0) (E 0) not_false).symm) $$ D0
  ihave D1 := (Entails.of_eq (nxtD_false c DA (Ring.sl 2 1) (E ((0 + 1) % 288)) not_false).symm) $$ D1
  ihave Q0 := (Entails.of_eq (nxtQ_false c QA (Ring.sl 2 0) (E 0) not_false).symm) $$ Q0
  ihave Q1 := (Entails.of_eq (nxtQ_false c QA (Ring.sl 2 1) (E ((0 + 1) % 288)) not_false).symm) $$ Q1
  iapply (exec_cut Idealize.ShloMosaic.frame (wpE (defs₀ (F := F)) 𝒱₀ (c : Thread nD τ) none) Set.univ
    (part16 c arg0 harg0 arg1 harg1 XA W)) $$ [X0 Xh HW]
  · isplitl [X0]; · iexact X0
    isplitl [Xh]; · iexact Xh
    iexact HW
  iintro %r ⟨%hr, X0, Xh, HW⟩
  subst hr
  dsimp only
  iapply (exec_cut Idealize.ShloMosaic.frame (wpE (defs₀ (F := F)) 𝒱₀ (c : Thread nD τ) none) Set.univ
    (part17 c arg0 harg0 arg1 harg1 GA PA g0 E hT W)) $$ [Ht0 G0 Gh P0 Ph HW]
  · isplitl [Ht0]; · iexact Ht0
    isplitl [G0]; · iexact G0
    isplitl [Gh]; · iexact Gh
    isplitl [P0]; · iexact P0
    isplitl [Ph]; · iexact Ph
    iexact HW
  iintro %r ⟨%hr, Ht0, G0, Gh, P0, Ph, HW⟩
  subst hr
  dsimp only
  iapply (exec_cut Idealize.ShloMosaic.frame (wpE (defs₀ (F := F)) 𝒱₀ (c : Thread nD τ) none) Set.univ
    (part18 c arg0 harg0 arg1 harg1 XA GA PA DA QA g0 E g1 V hT hV hE)) $$ [D0 Dh Q0 Qh X1 Xh Ht0 Ht1 Ha X0 X2 G0 G1 Gh P0 P1 Ph D1 Q1 HO HW]
  · isplitl [D0]; · iexact D0
    isplitl [Dh]; · iexact Dh
    isplitl [Q0]; · iexact Q0
    isplitl [Qh]; · iexact Qh
    isplitl [X1]; · iexact X1
    isplitl [Xh]; · iexact Xh
    isplitl [Ht0]; · iexact Ht0
    isplitl [Ht1]; · iexact Ht1
    isplitl [Ha]; · iexact Ha
    isplitl [X0]; · iexact X0
    isplitl [X2]; · iexact X2
    isplitl [G0 G1 Gh]
    · iapply (ringG_start c GA E)
      isplitl [G0]; · iexact G0
      isplitl [G1]; · iexact G1
      iexact Gh
    isplitl [P0 P1 Ph]
    · iapply (ringP_start c PA E)
      isplitl [P0]; · iexact P0
      isplitl [P1]; · iexact P1
      iexact Ph
    isplitl [D1]; · iexact D1
    isplitl [Q1]; · iexact Q1
    isplitl [HO]
    · iapply (ringO_zero c (blockOut c XA GA PA DA QA E V)) $$ [HO]
      iexact HO
    iexists W; iexact HW
  iintro %r ⟨%hr, HS⟩
  obtain ⟨v, hr⟩ := hr
  subst hr
  dsimp only
  iapply (exec_cut Idealize.ShloMosaic.frame (wpE (defs₀ (F := F)) 𝒱₀ (c : Thread nD τ) none) Set.univ
    (part19 c arg0 harg0 arg1 harg1 XA GA PA DA QA g0 E g1 V hE v)) $$ [HS]
  · iexact HS
  iintro %r HF
  sl_exec
  sl_step
  iapply Hk
  iexact HF
end Cert.Proof.Experts
-- ==== Proof.Arrays.lean ====
module

public import proofs.«01_k».proof.Proof.Body
public import Idealize.ShloMosaic.Lib.Pipeline.ValueKit.Geometry
public import Idealize.ShloMosaic.Lib.ValueIdxCore
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
local notation "𝕄" => MT nD τ sig Unit (Elt F) ℕ (UU nD τ) ℕ
/-! # The arrays in HBM as their blocks, the rings' buffers as their slots -/
section Arrays
variable (c : Dev nD)
theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
abbrev setsX (b : Fin 3) : Finset S3x1024x8x128.Idx := (Rect.unit (s := S3x1024x8x128) (o4 b.val) S1x1024x8x128.size (slotX_inb b)).set
theorem set_setsX (b : Fin 3) : (slotX b).view.set = setsX b := (View.set_reshape _ _).trans (View.set_slice_whole _ _)
theorem mem_setsX (b : Fin 3) (y : S3x1024x8x128.Idx) : y ∈ setsX b ↔ b.val ≤ (y 0).val ∧ (y 0).val < b.val + 1 := by
  rw [Rect.mem_set_unit]
  have h1 : (y 1).val < 1024 := (y 1).isLt
  have h2 : (y 2).val < 8 := (y 2).isLt
  have h3 : (y 3).val < 128 := (y 3).isLt
  constructor
  · intro H; exact H 0
  · intro H i; fin_cases i
    · exact H
    · show 0 ≤ (y 1).val ∧ (y 1).val < 0 + 1024; omega
    · show 0 ≤ (y 2).val ∧ (y 2).val < 0 + 8; omega
    · show 0 ≤ (y 3).val ∧ (y 3).val < 0 + 128; omega
theorem setsX_disjoint : ∀ b b' : Fin 3, b ≠ b' → Disjoint (setsX b) (setsX b') := by
  intro b b' hne; rw [Finset.disjoint_left]; intro y hy hy'; rw [mem_setsX] at hy hy'; exact hne (Fin.ext (by omega))
theorem setsX_cover : (Finset.univ : Finset (Fin 3)).biUnion setsX = Finset.univ := by
  ext y; simp only [Finset.mem_biUnion, Finset.mem_univ, true_and, iff_true]
  have h0 : (y 0).val < 3 := (y 0).isLt
  refine ⟨⟨(y 0).val / 1, by omega⟩, ?_⟩
  rw [mem_setsX]; dsimp only; omega
abbrev partX (b : Fin 288) : Finset S294912x8x128.Idx := (Rect.unit (s := S294912x8x128) (o3 (1024 * b.val)) S1024x8x128.size (blkX_inb b)).set
theorem set_partX (b : Fin 288) : (blkX b).view.set = partX b := View.set_slice_whole _ _
theorem mem_partX (b : Fin 288) (y : S294912x8x128.Idx) : y ∈ partX b ↔ 1024 * b.val ≤ (y 0).val ∧ (y 0).val < 1024 * b.val + 1024 := by
  rw [Rect.mem_set_unit]
  have h1 : (y 1).val < 8 := (y 1).isLt
  have h2 : (y 2).val < 128 := (y 2).isLt
  constructor
  · intro H; exact H 0
  · intro H i; fin_cases i
    · exact H
    · show 0 ≤ (y 1).val ∧ (y 1).val < 0 + 8; omega
    · show 0 ≤ (y 2).val ∧ (y 2).val < 0 + 128; omega
theorem partX_disjoint : ∀ b b' : Fin 288, b ≠ b' → Disjoint (partX b) (partX b') := by
  intro b b' hne; rw [Finset.disjoint_left]; intro y hy hy'; rw [mem_partX] at hy hy'; exact hne (Fin.ext (by omega))
theorem partX_cover : (Finset.univ : Finset (Fin 288)).biUnion partX = Finset.univ := by
  ext y; simp only [Finset.mem_biUnion, Finset.mem_univ, true_and, iff_true]
  have h0 : (y 0).val < 294912 := (y 0).isLt
  refine ⟨⟨(y 0).val / 1024, by omega⟩, ?_⟩
  rw [mem_partX]; dsimp only; omega
/-- The array whole is its parts home. -/
theorem wholeX (A : Buf (Elt F) ((c : Thread nD τ).loc main_arg0)) :
    (((c : Thread nD τ).loc main_arg0) ↦{fullShare} A : sProp 𝕄) = homesX c A Finset.univ := by
  rw [Ring.pointsTo_blocks (ℓ := (c : Thread nD τ).loc main_arg0) partX partX_disjoint partX_cover]
  exact bigSep_congr fun b _ => by rw [← set_partX]; rfl
theorem holdX_eq (s : Fin 3) (f) : holdX c s f = (((c : Thread nD τ).loc cc0_scoped0) ↦[setsX s]{fullShare} f : sProp 𝕄) :=
  congrArg (fun S => (_ ↦[S]{fullShare} f : sProp 𝕄)) (set_setsX s)
/-- The ring's buffer whole is its slots, -/
theorem splitX :
    iprop(∃ f : Buf (Elt F) ((c : Thread nD τ).loc cc0_scoped0), ((c : Thread nD τ).loc cc0_scoped0) ↦{fullShare} f)
      ⊢ (iprop((∃ f, holdX c 0 f) ∗ (∃ f, holdX c 1 f) ∗ (∃ f, holdX c 2 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped0) setsX setsX_disjoint setsX_cover f).trans (bigSep_three _))) $$ H
  icases H2 with ⟨H0, H1, H2⟩
  isplitl [H0]
  · iexists f; iapply (Entails.of_eq (holdX_eq c 0 f).symm); iexact H0
  isplitl [H1]
  · iexists f; iapply (Entails.of_eq (holdX_eq c 1 f).symm); iexact H1
  iexists f; iapply (Entails.of_eq (holdX_eq c 2 f).symm); iexact H2
/-- and back. -/
theorem joinX :
    iprop((∃ f, holdX c 0 f) ∗ (∃ f, holdX c 1 f) ∗ (∃ f, holdX c 2 f))
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) setsX setsX_disjoint setsX_cover f0)
  irw [bigSep_three]
  isplitl [H0]
  · iexists f0; iapply (Entails.of_eq (holdX_eq c 0 f0)); iexact H0
  isplitl [H1]
  · iexists f1; iapply (Entails.of_eq (holdX_eq c 1 f1)); iexact H1
  iexists f2; iapply (Entails.of_eq (holdX_eq c 2 f2)); iexact H2
abbrev setsG (b : Fin 2) : Finset S2x1x1024x2048.Idx := (Rect.unit (s := S2x1x1024x2048) (o4 b.val) S1x1x1024x2048.size (slotG_inb b)).set
theorem set_setsG (b : Fin 2) : (slotG b).view.set = setsG b := (View.set_reshape _ _).trans (View.set_slice_whole _ _)
theorem mem_setsG (b : Fin 2) (y : S2x1x1024x2048.Idx) : y ∈ setsG b ↔ b.val ≤ (y 0).val ∧ (y 0).val < b.val + 1 := by
  rw [Rect.mem_set_unit]
  have h1 : (y 1).val < 1 := (y 1).isLt
  have h2 : (y 2).val < 1024 := (y 2).isLt
  have h3 : (y 3).val < 2048 := (y 3).isLt
  constructor
  · intro H; exact H 0
  · intro H i; fin_cases i
    · exact H
    · show 0 ≤ (y 1).val ∧ (y 1).val < 0 + 1; omega
    · show 0 ≤ (y 2).val ∧ (y 2).val < 0 + 1024; omega
    · show 0 ≤ (y 3).val ∧ (y 3).val < 0 + 2048; omega
theorem setsG_disjoint : ∀ b b' : Fin 2, b ≠ b' → Disjoint (setsG b) (setsG b') := by
  intro b b' hne; rw [Finset.disjoint_left]; intro y hy hy'; rw [mem_setsG] at hy hy'; exact hne (Fin.ext (by omega))
theorem setsG_cover : (Finset.univ : Finset (Fin 2)).biUnion setsG = Finset.univ := by
  ext y; simp only [Finset.mem_biUnion, Finset.mem_univ, true_and, iff_true]
  have h0 : (y 0).val < 2 := (y 0).isLt
  refine ⟨⟨(y 0).val / 1, by omega⟩, ?_⟩
  rw [mem_setsG]; dsimp only; omega
abbrev partG (b : Fin 32) : Finset S32x1024x2048.Idx := (Rect.unit (s := S32x1024x2048) (o3 b.val) S1x1024x2048.size (blkG_inb b)).set
theorem set_partG (b : Fin 32) : (blkG b).view.set = partG b := View.set_slice_whole _ _
theorem mem_partG (b : Fin 32) (y : S32x1024x2048.Idx) : y ∈ partG b ↔ b.val ≤ (y 0).val ∧ (y 0).val < b.val + 1 := by
  rw [Rect.mem_set_unit]
  have h1 : (y 1).val < 1024 := (y 1).isLt
  have h2 : (y 2).val < 2048 := (y 2).isLt
  constructor
  · intro H; exact H 0
  · intro H i; fin_cases i
    · exact H
    · show 0 ≤ (y 1).val ∧ (y 1).val < 0 + 1024; omega
    · show 0 ≤ (y 2).val ∧ (y 2).val < 0 + 2048; omega
theorem partG_disjoint : ∀ b b' : Fin 32, b ≠ b' → Disjoint (partG b) (partG b') := by
  intro b b' hne; rw [Finset.disjoint_left]; intro y hy hy'; rw [mem_partG] at hy hy'; exact hne (Fin.ext (by omega))
theorem partG_cover : (Finset.univ : Finset (Fin 32)).biUnion partG = Finset.univ := by
  ext y; simp only [Finset.mem_biUnion, Finset.mem_univ, true_and, iff_true]
  have h0 : (y 0).val < 32 := (y 0).isLt
  refine ⟨⟨(y 0).val / 1, by omega⟩, ?_⟩
  rw [mem_partG]; dsimp only; omega
/-- The array whole is its parts home. -/
theorem wholeG (A : Buf (Elt F) ((c : Thread nD τ).loc main_v3)) :
    (((c : Thread nD τ).loc main_v3) ↦{fullShare} A : sProp 𝕄) = homesG c A Finset.univ := by
  rw [Ring.pointsTo_blocks (ℓ := (c : Thread nD τ).loc main_v3) partG partG_disjoint partG_cover]
  exact bigSep_congr fun b _ => by rw [← set_partG]; rfl
theorem holdG_eq (s : Fin 2) (f) : holdG c s f = (((c : Thread nD τ).loc cc0_scoped2) ↦[setsG s]{fullShare} f : sProp 𝕄) :=
  congrArg (fun S => (_ ↦[S]{fullShare} f : sProp 𝕄)) (set_setsG s)
/-- The ring's buffer whole is its slots, -/
theorem splitG :
    iprop(∃ f : Buf (Elt F) ((c : Thread nD τ).loc cc0_scoped2), ((c : Thread nD τ).loc cc0_scoped2) ↦{fullShare} f)
      ⊢ (iprop((∃ f, holdG c 0 f) ∗ (∃ f, holdG c 1 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped2) setsG setsG_disjoint setsG_cover f).trans (bigSep_two _))) $$ H
  icases H2 with ⟨H0, H1⟩
  isplitl [H0]
  · iexists f; iapply (Entails.of_eq (holdG_eq c 0 f).symm); iexact H0
  iexists f; iapply (Entails.of_eq (holdG_eq c 1 f).symm); iexact H1
/-- and back. -/
theorem joinG :
    iprop((∃ f, holdG c 0 f) ∗ (∃ f, holdG c 1 f))
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) setsG setsG_disjoint setsG_cover f0)
  irw [bigSep_two]
  isplitl [H0]
  · iexists f0; iapply (Entails.of_eq (holdG_eq c 0 f0)); iexact H0
  iexists f1; iapply (Entails.of_eq (holdG_eq c 1 f1)); iexact H1
abbrev setsP (b : Fin 2) : Finset S2x1x1x2048.Idx := (Rect.unit (s := S2x1x1x2048) (o4 b.val) S1x1x1x2048.size (slotP_inb b)).set
theorem set_setsP (b : Fin 2) : (slotP b).view.set = setsP b := (View.set_reshape _ _).trans (View.set_slice_whole _ _)
theorem mem_setsP (b : Fin 2) (y : S2x1x1x2048.Idx) : y ∈ setsP b ↔ b.val ≤ (y 0).val ∧ (y 0).val < b.val + 1 := by
  rw [Rect.mem_set_unit]
  have h1 : (y 1).val < 1 := (y 1).isLt
  have h2 : (y 2).val < 1 := (y 2).isLt
  have h3 : (y 3).val < 2048 := (y 3).isLt
  constructor
  · intro H; exact H 0
  · intro H i; fin_cases i
    · exact H
    · show 0 ≤ (y 1).val ∧ (y 1).val < 0 + 1; omega
    · show 0 ≤ (y 2).val ∧ (y 2).val < 0 + 1; omega
    · show 0 ≤ (y 3).val ∧ (y 3).val < 0 + 2048; omega
theorem setsP_disjoint : ∀ b b' : Fin 2, b ≠ b' → Disjoint (setsP b) (setsP b') := by
  intro b b' hne; rw [Finset.disjoint_left]; intro y hy hy'; rw [mem_setsP] at hy hy'; exact hne (Fin.ext (by omega))
theorem setsP_cover : (Finset.univ : Finset (Fin 2)).biUnion setsP = Finset.univ := by
  ext y; simp only [Finset.mem_biUnion, Finset.mem_univ, true_and, iff_true]
  have h0 : (y 0).val < 2 := (y 0).isLt
  refine ⟨⟨(y 0).val / 1, by omega⟩, ?_⟩
  rw [mem_setsP]; dsimp only; omega
abbrev partP (b : Fin 32) : Finset S32x1x2048.Idx := (Rect.unit (s := S32x1x2048) (o3 b.val) S1x1x2048.size (blkP_inb b)).set
theorem set_partP (b : Fin 32) : (blkP b).view.set = partP b := View.set_slice_whole _ _
theorem mem_partP (b : Fin 32) (y : S32x1x2048.Idx) : y ∈ partP b ↔ b.val ≤ (y 0).val ∧ (y 0).val < b.val + 1 := by
  rw [Rect.mem_set_unit]
  have h1 : (y 1).val < 1 := (y 1).isLt
  have h2 : (y 2).val < 2048 := (y 2).isLt
  constructor
  · intro H; exact H 0
  · intro H i; fin_cases i
    · exact H
    · show 0 ≤ (y 1).val ∧ (y 1).val < 0 + 1; omega
    · show 0 ≤ (y 2).val ∧ (y 2).val < 0 + 2048; omega
theorem partP_disjoint : ∀ b b' : Fin 32, b ≠ b' → Disjoint (partP b) (partP b') := by
  intro b b' hne; rw [Finset.disjoint_left]; intro y hy hy'; rw [mem_partP] at hy hy'; exact hne (Fin.ext (by omega))
theorem partP_cover : (Finset.univ : Finset (Fin 32)).biUnion partP = Finset.univ := by
  ext y; simp only [Finset.mem_biUnion, Finset.mem_univ, true_and, iff_true]
  have h0 : (y 0).val < 32 := (y 0).isLt
  refine ⟨⟨(y 0).val / 1, by omega⟩, ?_⟩
  rw [mem_partP]; dsimp only; omega
/-- The array whole is its parts home. -/
theorem wholeP (A : Buf (Elt F) ((c : Thread nD τ).loc main_v6)) :
    (((c : Thread nD τ).loc main_v6) ↦{fullShare} A : sProp 𝕄) = homesP c A Finset.univ := by
  rw [Ring.pointsTo_blocks (ℓ := (c : Thread nD τ).loc main_v6) partP partP_disjoint partP_cover]
  exact bigSep_congr fun b _ => by rw [← set_partP]; rfl
theorem holdP_eq (s : Fin 2) (f) : holdP c s f = (((c : Thread nD τ).loc cc0_scoped4) ↦[setsP s]{fullShare} f : sProp 𝕄) :=
  congrArg (fun S => (_ ↦[S]{fullShare} f : sProp 𝕄)) (set_setsP s)
/-- The ring's buffer whole is its slots, -/
theorem splitP :
    iprop(∃ f : Buf (Elt F) ((c : Thread nD τ).loc cc0_scoped4), ((c : Thread nD τ).loc cc0_scoped4) ↦{fullShare} f)
      ⊢ (iprop((∃ f, holdP c 0 f) ∗ (∃ f, holdP c 1 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped4) setsP setsP_disjoint setsP_cover f).trans (bigSep_two _))) $$ H
  icases H2 with ⟨H0, H1⟩
  isplitl [H0]
  · iexists f; iapply (Entails.of_eq (holdP_eq c 0 f).symm); iexact H0
  iexists f; iapply (Entails.of_eq (holdP_eq c 1 f).symm); iexact H1
/-- and back. -/
theorem joinP :
    iprop((∃ f, holdP c 0 f) ∗ (∃ f, holdP c 1 f))
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) setsP setsP_disjoint setsP_cover f0)
  irw [bigSep_two]
  isplitl [H0]
  · iexists f0; iapply (Entails.of_eq (holdP_eq c 0 f0)); iexact H0
  iexists f1; iapply (Entails.of_eq (holdP_eq c 1 f1)); iexact H1
abbrev setsD (b : Fin 2) : Finset S2x1x1024x1024.Idx := (Rect.unit (s := S2x1x1024x1024) (o4 b.val) S1x1x1024x1024.size (slotD_inb b)).set
theorem set_setsD (b : Fin 2) : (slotD b).view.set = setsD b := (View.set_reshape _ _).trans (View.set_slice_whole _ _)
theorem mem_setsD (b : Fin 2) (y : S2x1x1024x1024.Idx) : y ∈ setsD b ↔ b.val ≤ (y 0).val ∧ (y 0).val < b.val + 1 := by
  rw [Rect.mem_set_unit]
  have h1 : (y 1).val < 1 := (y 1).isLt
  have h2 : (y 2).val < 1024 := (y 2).isLt
  have h3 : (y 3).val < 1024 := (y 3).isLt
  constructor
  · intro H; exact H 0
  · intro H i; fin_cases i
    · exact H
    · show 0 ≤ (y 1).val ∧ (y 1).val < 0 + 1; omega
    · show 0 ≤ (y 2).val ∧ (y 2).val < 0 + 1024; omega
    · show 0 ≤ (y 3).val ∧ (y 3).val < 0 + 1024; omega
theorem setsD_disjoint : ∀ b b' : Fin 2, b ≠ b' → Disjoint (setsD b) (setsD b') := by
  intro b b' hne; rw [Finset.disjoint_left]; intro y hy hy'; rw [mem_setsD] at hy hy'; exact hne (Fin.ext (by omega))
theorem setsD_cover : (Finset.univ : Finset (Fin 2)).biUnion setsD = Finset.univ := by
  ext y; simp only [Finset.mem_biUnion, Finset.mem_univ, true_and, iff_true]
  have h0 : (y 0).val < 2 := (y 0).isLt
  refine ⟨⟨(y 0).val / 1, by omega⟩, ?_⟩
  rw [mem_setsD]; dsimp only; omega
abbrev partD (b : Fin 32) : Finset S32x1024x1024.Idx := (Rect.unit (s := S32x1024x1024) (o3 b.val) S1x1024x1024.size (blkD_inb b)).set
theorem set_partD (b : Fin 32) : (blkD b).view.set = partD b := View.set_slice_whole _ _
theorem mem_partD (b : Fin 32) (y : S32x1024x1024.Idx) : y ∈ partD b ↔ b.val ≤ (y 0).val ∧ (y 0).val < b.val + 1 := by
  rw [Rect.mem_set_unit]
  have h1 : (y 1).val < 1024 := (y 1).isLt
  have h2 : (y 2).val < 1024 := (y 2).isLt
  constructor
  · intro H; exact H 0
  · intro H i; fin_cases i
    · exact H
    · show 0 ≤ (y 1).val ∧ (y 1).val < 0 + 1024; omega
    · show 0 ≤ (y 2).val ∧ (y 2).val < 0 + 1024; omega
theorem partD_disjoint : ∀ b b' : Fin 32, b ≠ b' → Disjoint (partD b) (partD b') := by
  intro b b' hne; rw [Finset.disjoint_left]; intro y hy hy'; rw [mem_partD] at hy hy'; exact hne (Fin.ext (by omega))
theorem partD_cover : (Finset.univ : Finset (Fin 32)).biUnion partD = Finset.univ := by
  ext y; simp only [Finset.mem_biUnion, Finset.mem_univ, true_and, iff_true]
  have h0 : (y 0).val < 32 := (y 0).isLt
  refine ⟨⟨(y 0).val / 1, by omega⟩, ?_⟩
  rw [mem_partD]; dsimp only; omega
/-- The array whole is its parts home. -/
theorem wholeD (A : Buf (Elt F) ((c : Thread nD τ).loc main_arg5)) :
    (((c : Thread nD τ).loc main_arg5) ↦{fullShare} A : sProp 𝕄) = homesD c A Finset.univ := by
  rw [Ring.pointsTo_blocks (ℓ := (c : Thread nD τ).loc main_arg5) partD partD_disjoint partD_cover]
  exact bigSep_congr fun b _ => by rw [← set_partD]; rfl
theorem holdD_eq (s : Fin 2) (f) : holdD c s f = (((c : Thread nD τ).loc cc0_scoped6) ↦[setsD s]{fullShare} f : sProp 𝕄) :=
  congrArg (fun S => (_ ↦[S]{fullShare} f : sProp 𝕄)) (set_setsD s)
/-- The ring's buffer whole is its slots, -/
theorem splitD :
    iprop(∃ f : Buf (Elt F) ((c : Thread nD τ).loc cc0_scoped6), ((c : Thread nD τ).loc cc0_scoped6) ↦{fullShare} f)
      ⊢ (iprop((∃ f, holdD c 0 f) ∗ (∃ f, holdD c 1 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped6) setsD setsD_disjoint setsD_cover f).trans (bigSep_two _))) $$ H
  icases H2 with ⟨H0, H1⟩
  isplitl [H0]
  · iexists f; iapply (Entails.of_eq (holdD_eq c 0 f).symm); iexact H0
  iexists f; iapply (Entails.of_eq (holdD_eq c 1 f).symm); iexact H1
/-- and back. -/
theorem joinD :
    iprop((∃ f, holdD c 0 f) ∗ (∃ f, holdD c 1 f))
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) setsD setsD_disjoint setsD_cover f0)
  irw [bigSep_two]
  isplitl [H0]
  · iexists f0; iapply (Entails.of_eq (holdD_eq c 0 f0)); iexact H0
  iexists f1; iapply (Entails.of_eq (holdD_eq c 1 f1)); iexact H1
abbrev setsQ (b : Fin 2) : Finset S2x1x1x1024.Idx := (Rect.unit (s := S2x1x1x1024) (o4 b.val) S1x1x1x1024.size (slotQ_inb b)).set
theorem set_setsQ (b : Fin 2) : (slotQ b).view.set = setsQ b := (View.set_reshape _ _).trans (View.set_slice_whole _ _)
theorem mem_setsQ (b : Fin 2) (y : S2x1x1x1024.Idx) : y ∈ setsQ b ↔ b.val ≤ (y 0).val ∧ (y 0).val < b.val + 1 := by
  rw [Rect.mem_set_unit]
  have h1 : (y 1).val < 1 := (y 1).isLt
  have h2 : (y 2).val < 1 := (y 2).isLt
  have h3 : (y 3).val < 1024 := (y 3).isLt
  constructor
  · intro H; exact H 0
  · intro H i; fin_cases i
    · exact H
    · show 0 ≤ (y 1).val ∧ (y 1).val < 0 + 1; omega
    · show 0 ≤ (y 2).val ∧ (y 2).val < 0 + 1; omega
    · show 0 ≤ (y 3).val ∧ (y 3).val < 0 + 1024; omega
theorem setsQ_disjoint : ∀ b b' : Fin 2, b ≠ b' → Disjoint (setsQ b) (setsQ b') := by
  intro b b' hne; rw [Finset.disjoint_left]; intro y hy hy'; rw [mem_setsQ] at hy hy'; exact hne (Fin.ext (by omega))
theorem setsQ_cover : (Finset.univ : Finset (Fin 2)).biUnion setsQ = Finset.univ := by
  ext y; simp only [Finset.mem_biUnion, Finset.mem_univ, true_and, iff_true]
  have h0 : (y 0).val < 2 := (y 0).isLt
  refine ⟨⟨(y 0).val / 1, by omega⟩, ?_⟩
  rw [mem_setsQ]; dsimp only; omega
abbrev partQ (b : Fin 32) : Finset S32x1x1024.Idx := (Rect.unit (s := S32x1x1024) (o3 b.val) S1x1x1024.size (blkQ_inb b)).set
theorem set_partQ (b : Fin 32) : (blkQ b).view.set = partQ b := View.set_slice_whole _ _
theorem mem_partQ (b : Fin 32) (y : S32x1x1024.Idx) : y ∈ partQ b ↔ b.val ≤ (y 0).val ∧ (y 0).val < b.val + 1 := by
  rw [Rect.mem_set_unit]
  have h1 : (y 1).val < 1 := (y 1).isLt
  have h2 : (y 2).val < 1024 := (y 2).isLt
  constructor
  · intro H; exact H 0
  · intro H i; fin_cases i
    · exact H
    · show 0 ≤ (y 1).val ∧ (y 1).val < 0 + 1; omega
    · show 0 ≤ (y 2).val ∧ (y 2).val < 0 + 1024; omega
theorem partQ_disjoint : ∀ b b' : Fin 32, b ≠ b' → Disjoint (partQ b) (partQ b') := by
  intro b b' hne; rw [Finset.disjoint_left]; intro y hy hy'; rw [mem_partQ] at hy hy'; exact hne (Fin.ext (by omega))
theorem partQ_cover : (Finset.univ : Finset (Fin 32)).biUnion partQ = Finset.univ := by
  ext y; simp only [Finset.mem_biUnion, Finset.mem_univ, true_and, iff_true]
  have h0 : (y 0).val < 32 := (y 0).isLt
  refine ⟨⟨(y 0).val / 1, by omega⟩, ?_⟩
  rw [mem_partQ]; dsimp only; omega
/-- The array whole is its parts home. -/
theorem wholeQ (A : Buf (Elt F) ((c : Thread nD τ).loc main_v7)) :
    (((c : Thread nD τ).loc main_v7) ↦{fullShare} A : sProp 𝕄) = homesQ c A Finset.univ := by
  rw [Ring.pointsTo_blocks (ℓ := (c : Thread nD τ).loc main_v7) partQ partQ_disjoint partQ_cover]
  exact bigSep_congr fun b _ => by rw [← set_partQ]; rfl
theorem holdQ_eq (s : Fin 2) (f) : holdQ c s f = (((c : Thread nD τ).loc cc0_scoped8) ↦[setsQ s]{fullShare} f : sProp 𝕄) :=
  congrArg (fun S => (_ ↦[S]{fullShare} f : sProp 𝕄)) (set_setsQ s)
/-- The ring's buffer whole is its slots, -/
theorem splitQ :
    iprop(∃ f : Buf (Elt F) ((c : Thread nD τ).loc cc0_scoped8), ((c : Thread nD τ).loc cc0_scoped8) ↦{fullShare} f)
      ⊢ (iprop((∃ f, holdQ c 0 f) ∗ (∃ f, holdQ c 1 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped8) setsQ setsQ_disjoint setsQ_cover f).trans (bigSep_two _))) $$ H
  icases H2 with ⟨H0, H1⟩
  isplitl [H0]
  · iexists f; iapply (Entails.of_eq (holdQ_eq c 0 f).symm); iexact H0
  iexists f; iapply (Entails.of_eq (holdQ_eq c 1 f).symm); iexact H1
/-- and back. -/
theorem joinQ :
    iprop((∃ f, holdQ c 0 f) ∗ (∃ f, holdQ c 1 f))
      ⊢ (iprop(∃ f : Buf (Elt F) ((c : Thread nD τ).loc cc0_scoped8), ((c : Thread nD τ).loc cc0_scoped8) ↦{fullShare} f) : sProp 𝕄) := by
  iintro ⟨⟨%f0, H0⟩, ⟨%f1, H1⟩⟩
  iapply (Ring.pointsTo_blocks_join_exists (ℓ := (c : Thread nD τ).loc cc0_scoped8) setsQ setsQ_disjoint setsQ_cover f0)
  irw [bigSep_two]
  isplitl [H0]
  · iexists f0; iapply (Entails.of_eq (holdQ_eq c 0 f0)); iexact H0
  iexists f1; iapply (Entails.of_eq (holdQ_eq c 1 f1)); iexact H1
abbrev setsO (b : Fin 2) : Finset S2x1024x8x128.Idx := (Rect.unit (s := S2x1024x8x128) (o4 b.val) S1x1024x8x128.size (slotO_inb b)).set
theorem set_setsO (b : Fin 2) : (slotO b).view.set = setsO b := (View.set_reshape _ _).trans (View.set_slice_whole _ _)
theorem mem_setsO (b : Fin 2) (y : S2x1024x8x128.Idx) : y ∈ setsO b ↔ b.val ≤ (y 0).val ∧ (y 0).val < b.val + 1 := by
  rw [Rect.mem_set_unit]
  have h1 : (y 1).val < 1024 := (y 1).isLt
  have h2 : (y 2).val < 8 := (y 2).isLt
  have h3 : (y 3).val < 128 := (y 3).isLt
  constructor
  · intro H; exact H 0
  · intro H i; fin_cases i
    · exact H
    · show 0 ≤ (y 1).val ∧ (y 1).val < 0 + 1024; omega
    · show 0 ≤ (y 2).val ∧ (y 2).val < 0 + 8; omega
    · show 0 ≤ (y 3).val ∧ (y 3).val < 0 + 128; omega
theorem setsO_disjoint : ∀ b b' : Fin 2, b ≠ b' → Disjoint (setsO b) (setsO b') := by
  intro b b' hne; rw [Finset.disjoint_left]; intro y hy hy'; rw [mem_setsO] at hy hy'; exact hne (Fin.ext (by omega))
theorem setsO_cover : (Finset.univ : Finset (Fin 2)).biUnion setsO = Finset.univ := by
  ext y; simp only [Finset.mem_biUnion, Finset.mem_univ, true_and, iff_true]
  have h0 : (y 0).val < 2 := (y 0).isLt
  refine ⟨⟨(y 0).val / 1, by omega⟩, ?_⟩
  rw [mem_setsO]; dsimp only; omega
abbrev partO (b : Fin 288) : Finset S294912x8x128.Idx := (Rect.unit (s := S294912x8x128) (o3 (1024 * b.val)) S1024x8x128.size (blkO_inb b)).set
theorem set_partO (b : Fin 288) : (blkO b).view.set = partO b := View.set_slice_whole _ _
theorem mem_partO (b : Fin 288) (y : S294912x8x128.Idx) : y ∈ partO b ↔ 1024 * b.val ≤ (y 0).val ∧ (y 0).val < 1024 * b.val + 1024 := by
  rw [Rect.mem_set_unit]
  have h1 : (y 1).val < 8 := (y 1).isLt
  have h2 : (y 2).val < 128 := (y 2).isLt
  constructor
  · intro H; exact H 0
  · intro H i; fin_cases i
    · exact H
    · show 0 ≤ (y 1).val ∧ (y 1).val < 0 + 8; omega
    · show 0 ≤ (y 2).val ∧ (y 2).val < 0 + 128; omega
theorem partO_disjoint : ∀ b b' : Fin 288, b ≠ b' → Disjoint (partO b) (partO b') := by
  intro b b' hne; rw [Finset.disjoint_left]; intro y hy hy'; rw [mem_partO] at hy hy'; exact hne (Fin.ext (by omega))
theorem partO_cover : (Finset.univ : Finset (Fin 288)).biUnion partO = Finset.univ := by
  ext y; simp only [Finset.mem_biUnion, Finset.mem_univ, true_and, iff_true]
  have h0 : (y 0).val < 294912 := (y 0).isLt
  refine ⟨⟨(y 0).val / 1024, by omega⟩, ?_⟩
  rw [mem_partO]; dsimp only; omega
theorem holdO_eq (s : Fin 2) (f) : holdO c s f = (((c : Thread nD τ).loc cc0_scoped10) ↦[setsO s]{fullShare} f : sProp 𝕄) :=
  congrArg (fun S => (_ ↦[S]{fullShare} f : sProp 𝕄)) (set_setsO s)
/-- The ring's buffer whole is its slots, -/
theorem splitO :
    iprop(∃ f : Buf (Elt F) ((c : Thread nD τ).loc cc0_scoped10), ((c : Thread nD τ).loc cc0_scoped10) ↦{fullShare} f)
      ⊢ (iprop((∃ f, holdO c 0 f) ∗ (∃ f, holdO c 1 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scoped10) setsO setsO_disjoint setsO_cover f).trans (bigSep_two _))) $$ H
  icases H2 with ⟨H0, H1⟩
  isplitl [H0]
  · iexists f; iapply (Entails.of_eq (holdO_eq c 0 f).symm); iexact H0
  iexists f; iapply (Entails.of_eq (holdO_eq c 1 f).symm); iexact H1
/-- and back. -/
theorem joinO :
    iprop((∃ f, holdO c 0 f) ∗ (∃ f, holdO c 1 f))
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) setsO setsO_disjoint setsO_cover f0)
  irw [bigSep_two]
  isplitl [H0]
  · iexists f0; iapply (Entails.of_eq (holdO_eq c 0 f0)); iexact H0
  iexists f1; iapply (Entails.of_eq (holdO_eq c 1 f1)); iexact H1

/-! ## The output -/

/-- The output at start, as its blocks at any contents. -/
theorem splitOut (A : Buf (Elt F) ((c : Thread nD τ).loc main_v8)) :
    (((c : Thread nD τ).loc main_v8) ↦{fullShare} A : sProp 𝕄) ⊢ bigSep Finset.univ (fun b => anyO (F := F) c b) := by
  rw [Ring.pointsTo_blocks (ℓ := (c : Thread nD τ).loc main_v8) partO partO_disjoint partO_cover]
  have h (b : Fin 288) : homeO c A b ⊢ anyO (F := F) c b := by iintro H; iexists A; iexact H
  refine bigSep_mono fun b _ => ?_
  rw [← set_partO]
  exact h b
/-- The output whose block `b` holds `y b`. -/
def result (y : ℕ → S1024x8x128.Idx → Elt F .f32) : S294912x8x128.Idx → Elt F .f32 :=
  fun i => y ((i 0).val / 1024) (ix3 ⟨(i 0).val % 1024, Nat.mod_lt _ (by decide)⟩ (i 1) (i 2))
/-- Where an element of block `b` lies in the array. -/
abbrev embO (b : Fin 288) (x : S1024x8x128.Idx) : S294912x8x128.Idx := (blkO b).view.emb x
theorem blkO_emb (b : Fin 288) (x : S1024x8x128.Idx) (a : Fin 3) : (embO b x a).val = o3 (1024 * b.val) a + (x a).val :=
  ValueKit.view_emb_slice_whole_unit_val main_v8 (o3 (1024 * b.val)) S1024x8x128.size (blkO_inb b) x a
theorem result_emb (y : ℕ → S1024x8x128.Idx → Elt F .f32) (b : Fin 288) (x : S1024x8x128.Idx) :
    result y (embO b x) = y b.val x := by
  have e0 : (embO b x 0).val = 1024 * b.val + (x 0).val := blkO_emb b x 0
  have e1 : (embO b x 1).val = 0 + (x 1).val := blkO_emb b x 1
  have e2 : (embO b x 2).val = 0 + (x 2).val := blkO_emb b x 2
  have h0 : (x 0).val < 1024 := (x 0).isLt
  unfold result
  have hb : (embO b x 0).val / 1024 = b.val := by omega
  rw [hb]
  congr 1
  funext a; fin_cases a
  · apply Fin.ext; show (embO b x 0).val % 1024 = (x 0).val; omega
  · apply Fin.ext; show (embO b x 1).val = (x 1).val; omega
  · apply Fin.ext; show (embO b x 2).val = (x 2).val; omega
/-- The blocks written, the whole is the result. -/
theorem joinOut (y : ℕ → S1024x8x128.Idx → Elt F .f32) :
    (bigSep Finset.univ (fun b : Fin 288 => doneO c b (y b.val)) : sProp 𝕄) ⊢ (((c : Thread nD τ).loc main_v8) ↦{fullShare} result y) := by
  rw [Ring.pointsTo_blocks (ℓ := (c : Thread nD τ).loc main_v8) partO partO_disjoint partO_cover]
  have e (b : Fin 288) (g) (hg : (blkO b).view.read (Elt F) g = y b.val) : (homeO c g b : sProp 𝕄) = homeO c (result y) b :=
    pointsTo_congr fun i hi => by
      obtain ⟨x, -, rfl⟩ := Finset.mem_map.mp hi
      exact (congrFun hg x).trans (result_emb y b x).symm
  have h (b : Fin 288) : doneO c b (y b.val) ⊢ homeO (F := F) c (result y) b := by
    iintro ⟨%g, %hg, H⟩
    iapply (Entails.of_eq (e b g hg)); iexact H
  refine bigSep_mono fun b _ => ?_
  rw [← set_partO]
  exact h b
theorem actWhole : (iprop(∃ f : Buf (Elt F) ((c : Thread nD τ).loc cc0_scratch0), ((c : Thread nD τ).loc cc0_scratch0) ↦{fullShare} f) : sProp 𝕄) = actP c := by
  show _ = (iprop(∃ f : Buf (Elt F) ((c : Thread nD τ).loc cc0_scratch0), ((c : Thread nD τ).loc cc0_scratch0) ↦[(View.whole cc0_scratch0).set]{fullShare} f) : sProp 𝕄)
  rw [View.set_whole]
end Arrays
end Cert.Proof.Experts
end
-- ==== Proof.Launch.lean ====
module

public import proofs.«01_k».proof.Proof.Arrays
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
local notation "𝕄" => MT nD τ sig Unit (Elt F) ℕ (UU nD τ) ℕ
/-! # The launch -/
section Launch
variable (m : (ℓ : Loc nD τ sig) → Buf (Elt F) ℓ) (ρ : Dev nD → PrngReg)

/-! ## The kernel's own semaphores: the rings' -/

/-- The rings' semaphores, listed. -/
abbrev osem : Fin 13 → SemLoc sig := fun i => .dma
  ((![csmX 0, csmX 1, csmX 2, csmG 0, csmG 1, csmP 0, csmP 1, csmD 0, csmD 1, csmQ 0, csmQ 1, csmO 0, csmO 1] : Fin 13 → DmaSems sig S_) i).sem
theorem ownSemFacts : Pipeline.OwnSemFacts spec0 osem := by decide +kernel
/-- The rings' semaphores at zero. -/
abbrev cells (c : Dev nD) : sProp 𝕄 :=
  iprop(cellP c (csmX 0) ∗ cellP c (csmX 1) ∗ cellP c (csmX 2) ∗ cellP c (csmG 0) ∗ cellP c (csmG 1) ∗ cellP c (csmP 0) ∗ cellP c (csmP 1)
    ∗ cellP c (csmD 0) ∗ cellP c (csmD 1) ∗ cellP c (csmQ 0) ∗ cellP c (csmQ 1) ∗ cellP c (csmO 0) ∗ cellP c (csmO 1))
theorem ownSems0_eq (c : Dev nD) : (Pipeline.ownSems0 (Ix := Unit) (Name := ℕ) (U := UU nD τ) (Lvl := ℕ) (Val := Elt F) (τ := τ) osem c : sProp 𝕄) = cells c := by
  unfold Pipeline.ownSems0
  exact bigSep_univ_eq_bigSepL [(0 : Fin 13), 1, 2, 3, 4, 5, 6, 7, 8, 9, 10, 11, 12] (by decide) (by decide) _

/-! ## The words of the two tables -/

/-- The precondition as the proof uses it: the block table's words lie between 0 and 31. -/
def PreOK : Prop := ∀ (c : Dev nD) (j), 0 ≤ (m ((c : Thread nD τ).loc main_arg1) j).toInt ∧ (m ((c : Thread nD τ).loc main_arg1) j).toInt < 32
/-- The index of word `j` of a table, the last one's past the end. -/
abbrev at288 (j : ℕ) : S288.Idx := ix1 ⟨min j 287, by omega⟩
/-- The words of table `w` as the pipeline stages them. -/
def words (c : Dev nD) (w : Fin 2) : S288.Idx → BitVec 32 := match w with
  | 0 => iblk m c 0 t0_0
  | 1 => iblk m c 1 t0_0
/-- The expert of block `j`. -/
def eOf (c : Dev nD) (j : ℕ) : Fin 32 := ⟨(words m c 0 (at288 j)).toNat % 32, Nat.mod_lt _ (by decide)⟩
/-- The number of valid rows of block `j`, as the kernel reads it. -/
def vOf (c : Dev nD) (j : ℕ) : BitVec 32 := words m c 1 (at288 j)
theorem emb_win0 (j : S288.Idx) : (((cfg0.win 0).blk t0_0).view.emb j : S288.Idx) = j := by
  funext a; fin_cases a; apply Fin.ext
  show 0 * 288 + 1 * (j 0).val = (j 0).val
  omega
theorem emb_win1 (j : S288.Idx) : (((cfg0.win 1).blk t0_0).view.emb j : S288.Idx) = j := by
  funext a; fin_cases a; apply Fin.ext
  show 0 * 288 + 1 * (j 0).val = (j 0).val
  omega
theorem words_arg1 (c : Dev nD) (j : S288.Idx) : words m c 0 j = m ((c : Thread nD τ).loc main_arg1) j :=
  (congrArg (V m c main_arg1) (emb_win0 j)).trans (congrFun (V_main_arg1 m c) j)
theorem words_arg2 (c : Dev nD) (j : S288.Idx) : words m c 1 j = m ((c : Thread nD τ).loc main_arg2) j :=
  (congrArg (V m c main_arg2) (emb_win1 j)).trans (congrFun (V_main_arg2 m c) j)
theorem eOf_val (h : PreOK m) (c : Dev nD) (j : ℕ) : wd (eOf m c j).val = words m c 0 (at288 j) := by
  obtain ⟨h0, h1⟩ := h c (at288 j)
  have hlt : (words m c 0 (at288 j)).toNat < 32 := by
    rw [← words_arg1 m c] at h0 h1
    generalize words m c 0 (at288 j) = w at h0 h1 ⊢
    have e := BitVec.toInt_eq_toNat_cond w
    have := w.isLt
    split at e <;> omega
  unfold eOf; dsimp only; rw [Nat.mod_eq_of_lt hlt]
  exact (BitVec.ofNat_toNat 32 _).trans (BitVec.setWidth_eq _)
theorem unit_at288 {off : Fin 1 → Nat} (h : ∀ a, off a + S1.size a ≤ S288.size a) (x : S1.Idx) (j : ℕ) (e : off = o1 j) (hj : j < 288) :
    (Rect.unit (s := S288) off S1.size h).toLoadRect.idx x = at288 j := by
  subst e
  funext a; fin_cases a
  apply Fin.ext
  have hx : (x 0).val < 1 := (x 0).isLt
  show j + 1 * (x 0).val = min j 287
  omega
theorem table_ok (h : PreOK m) (c : Dev nD) (t : Fin cfg0.N) : Table c (st0_0 t) ((st0_0 t).view.rep (iblk m c 0 t)) (eOf m c) := by
  obtain rfl := fin_N0 t
  intro off hh x j e hj
  rw [View.readAt_apply, View.read_rep, eOf_val m h]
  exact congrArg (words m c 0) (unit_at288 hh x j e hj)
theorem words_ok (c : Dev nD) (t : Fin cfg0.N) : Words c (st0_1 t) ((st0_1 t).view.rep (iblk m c 1 t)) (vOf m c) := by
  obtain rfl := fin_N0 t
  intro off hh x j e hj
  rw [View.readAt_apply, View.read_rep]
  exact congrArg (words m c 1) (unit_at288 hh x j e hj)

/-! ## The pipeline's proof data -/

/-- The block the kernel writes at block `b`. -/
def blockAt (c : Dev nD) (b : ℕ) : S1024x8x128.Idx → Elt F .f32 :=
  blockOut c (V m c main_arg0) (V m c main_v3) (V m c main_v6) (V m c main_arg5) (V m c main_v7) (eOf m c) (vOf m c) b
/-- The rings with nothing on its way, the output's blocks as `O` says. -/
def rings (c : Dev nD) (O : sProp 𝕄) : sProp 𝕄 :=
  iprop(actP (F := F) c
    ∗ ((freeX (F := F) c 0 ∗ freeX (F := F) c 1 ∗ freeX (F := F) c 2) ∗ homesX c (V m c main_arg0) Finset.univ)
    ∗ ((freeG (F := F) c 0 ∗ freeG (F := F) c 1) ∗ homesG c (V m c main_v3) Finset.univ)
    ∗ ((freeP (F := F) c 0 ∗ freeP (F := F) c 1) ∗ homesP c (V m c main_v6) Finset.univ)
    ∗ ((freeD (F := F) c 0 ∗ freeD (F := F) c 1) ∗ homesD c (V m c main_arg5) Finset.univ)
    ∗ ((freeQ (F := F) c 0 ∗ freeQ (F := F) c 1) ∗ homesQ c (V m c main_v7) Finset.univ)
    ∗ ((freeO (F := F) c 0 ∗ freeO (F := F) c 1) ∗ O))
/-- The region's invariant: before the one point the output at anything, after it at the blocks written. -/
def Φ (c : Dev nD) (n : ℕ) : sProp 𝕄 :=
  rings m c (if n = 0 then bigSep Finset.univ (fun b => anyO (F := F) c b) else bigSep Finset.univ (fun b : Fin 288 => doneO (F := F) c b (blockAt m c b.val)))
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := Φ m c t.val
  q _ := fullShare
  owed _ := 0
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ## The body -/

theorem defs_tc : (defs₀ (F := F)) .tc cfg0.body
    = fun a => cc0_experts (F := F) (win0_0.stage (a.2 0)) (hstage0_0 0) (win0_1.stage (a.2 1)) (hstage0_1 0) (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 := rfl
theorem prog_eq (t : Fin cfg0.N) : (defs₀ (F := F)) .tc cfg0.body (cfg0.bodyArgs t (cfg0.slots t))
    = cc0_experts (F := F) (st0_0 t) (hstage0_0 0) (st0_1 t) (hstage0_1 0) (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 :=
  (congrFun defs_tc _).trans rfl
/-- The kernel at the one point. -/
theorem point_run (h : PreOK m) (c : Dev nD) (t : Fin cfg0.N) (Q : PUnit → sProp 𝕄) :
    iprop(rings m c (bigSep Finset.univ (fun b => anyO (F := F) c b)) ∗ tabP c (st0_0 t) ((st0_0 t).view.rep (iblk m c 0 t)) ∗ tabP c (st0_1 t) ((st0_1 t).view.rep (iblk m c 1 t)) ∗ (∃ W, owes (c : Thread nD τ) 0 W)
      ∗ (iprop(rings m c (bigSep Finset.univ (fun b : Fin 288 => doneO (F := F) c b (blockAt m c b.val))) ∗ tabP c (st0_0 t) ((st0_0 t).view.rep (iblk m c 0 t)) ∗ tabP c (st0_1 t) ((st0_1 t).view.rep (iblk m c 1 t)) ∗ ∃ W, owes (c : Thread nD τ) 0 W) -∗ Q ⟨⟩))
    ⊢ wp frame (wpE (defs₀ (F := F)) 𝒱₀ (c : Thread nD τ) none) Set.univ
      (cc0_experts (F := F) (st0_0 t) (hstage0_0 0) (st0_1 t) (hstage0_1 0) (Memref.whole main_arg0) (Memref.isWhole_whole _) (Memref.whole main_v3) (Memref.isWhole_whole _) (Memref.whole main_v6) (Memref.isWhole_whole _) (Memref.whole main_arg5) (Memref.isWhole_whole _) (Memref.whole main_v7) (Memref.isWhole_whole _) (Memref.whole main_v8) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11) Q := by
  unfold rings
  iintro ⟨⟨Ha, HX, HG, HP, HD, HQ, HO⟩, H0, H1, HW, Hk⟩
  iapply (kernel_run c (st0_0 t) (hstage0_0 0) (st0_1 t) (hstage0_1 0) (V m c main_arg0) (V m c main_v3) (V m c main_v6) (V m c main_arg5) (V m c main_v7)
    ((st0_0 t).view.rep (iblk m c 0 t)) (eOf m c) ((st0_1 t).view.rep (iblk m c 1 t)) (vOf m c) (table_ok m h c t) (words_ok m c t) rfl Q)
  isplitl [Ha HX HG HP HD HQ HO H0 H1 HW]
  · unfold before0
    isplitl [H0]; · iexact H0
    isplitl [H1]; · iexact H1
    isplitl [Ha]; · iexact Ha
    isplitl [HX]; · iexact HX
    isplitl [HG]; · iexact HG
    isplitl [HP]; · iexact HP
    isplitl [HD]; · iexact HD
    isplitl [HQ]; · iexact HQ
    isplitl [HO]; · iexact HO
    iexact HW
  · unfold after0
    iintro ⟨H0, H1, Ha, HX, HG, HP, HD, HQ, HO, HW⟩
    iapply Hk
    isplitl [Ha HX HG HP HD HQ HO]
    · isplitl [Ha]; · iexact Ha
      isplitl [HX]; · iexact HX
      isplitl [HG]; · iexact HG
      isplitl [HP]; · iexact HP
      isplitl [HD]; · iexact HD
      isplitl [HQ]; · iexact HQ
      iexact HO
    isplitl [H0]; · iexact H0
    isplitl [H1]; · iexact H1
    iexact HW
set_option backward.isDefEq.respectTransparency.types false in
theorem body_obligation (h : PreOK m) (c : Dev nD) : BodyObligation (dats (F := F) m 0 c) (defs₀ (F := F)) 𝒱₀ () Set.univ := fun t => by
  obtain rfl := fin_N0 t
  rw [bigSep_W0, bigSep_W0]
  dsimp only
  simp only [before_w0, after_w0, before_w1, after_w1]
  rw [show (dats m 0 c).Φ t0_0.castSucc = rings m c (bigSep Finset.univ (fun b => anyO (F := F) c b)) from rfl,
    show (dats m 0 c).Φ t0_0.succ = rings m c (bigSep Finset.univ (fun b : Fin 288 => doneO (F := F) c b (blockAt m c b.val))) from rfl]
  unfold Dat.owesAt Pipeline.owesWithin
  rw [show (dats m 0 c).owed t0_0.castSucc = 0 from rfl, show (dats m 0 c).owed t0_0.succ = 0 from rfl]
  unfold owns
  iintro ⟨HR, ⟨%W, -, HW⟩, ⟨%d0, %g0, %hg0, H0⟩, ⟨%d1, %g1, %hg1, H1⟩⟩
  ihave H0' := (pointsTo_rep_entails (c : Thread nD τ) (st0_0 t0_0) g0 fullShare) $$ H0
  ihave H1' := (pointsTo_rep_entails (c : Thread nD τ) (st0_1 t0_0) g1 fullShare) $$ H1
  rw [hg0, hg1]
  sl_rw [prog_eq t0_0]
  iapply (point_run m h c t0_0 _)
  isplitl [HR]; · iexact HR
  isplitl [H0']; · iexact H0'
  isplitl [H1']; · iexact H1'
  isplitl [HW]; · iexists W; iexact HW
  iintro ⟨HR, H0, H1, ⟨%W', HW⟩⟩
  isplitl [HR]; · iexact HR
  isplitl [HW]
  · iexists W'; isplitr; · ipureintro; exact fun _ _ => Or.inl trivial
    iexact HW
  isplitl [H0]
  · iexists _; isplitr; · ipureintro; exact View.read_rep _ _
    iexact H0
  iexists _; isplitr; · ipureintro; exact View.read_rep _ _
  iexact H1
end Launch
end Cert.Proof.Experts
end
-- ==== Proof.Run.lean ====
module

public import proofs.«01_k».proof.Proof.Launch
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
/-! # The run -/
section Run
variable (m : (ℓ : Loc nD τ sig) → Buf (Elt F) ℓ) (ρ : Dev nD → PrngReg)
/-- A whole buffer of core `c`, held. -/
abbrev heldP (c : Dev nD) (b : Ref sig .tc) (f : Buf (Elt F) ((c : Thread nD τ).loc b)) : sProp 𝕄 := ((c : Thread nD τ).loc b) ↦{fullShare} f
/-- The arrays the kernel moves, whole, the output at `f`. -/
def arrays (c : Dev nD) (f : Buf (Elt F) ((c : Thread nD τ).loc main_v8)) : sProp 𝕄 :=
  iprop(heldP c main_arg0 (V m c main_arg0) ∗ heldP c main_v3 (V m c main_v3) ∗ heldP c main_v6 (V m c main_v6) ∗ heldP c main_arg5 (V m c main_arg5)
    ∗ heldP c main_v7 (V m c main_v7) ∗ heldP c main_v8 f)
/-- The rings' buffers, whole, at some contents each. -/
def buffers (c : Dev nD) : sProp 𝕄 :=
  iprop((∃ f, heldP (F := F) c cc0_scratch0 f) ∗ (∃ f, heldP (F := F) c cc0_scoped0 f) ∗ (∃ f, heldP (F := F) c cc0_scoped2 f) ∗ (∃ f, heldP (F := F) c cc0_scoped4 f)
    ∗ (∃ f, heldP (F := F) c cc0_scoped6 f) ∗ (∃ f, heldP (F := F) c cc0_scoped8 f) ∗ ∃ f, heldP (F := F) c cc0_scoped10 f)
/-- The arrays, the buffers and the semaphores make the rings at the start, -/
theorem rings_of (c : Dev nD) : iprop(arrays m c (V m c main_v8) ∗ cells (F := F) c ∗ buffers (F := F) c)
    ⊢ rings m c (bigSep Finset.univ (fun b => anyO (F := F) c b)) := by
  unfold arrays buffers rings
  iintro ⟨⟨AX, AG, AP, AD, AQ, AO⟩, ⟨X0, X1, X2, G0, G1, P0, P1, D0, D1, Q0, Q1, O0, O1⟩, BA, BX, BG, BP, BD, BQ, BO⟩
  ihave AX := (Entails.of_eq (wholeX c _)) $$ AX
  ihave AG := (Entails.of_eq (wholeG c _)) $$ AG
  ihave AP := (Entails.of_eq (wholeP c _)) $$ AP
  ihave AD := (Entails.of_eq (wholeD c _)) $$ AD
  ihave AQ := (Entails.of_eq (wholeQ c _)) $$ AQ
  ihave AO := (splitOut c _) $$ AO
  ihave BA := (Entails.of_eq (actWhole (F := F) c)) $$ BA
  ihave BX := (splitX c) $$ BX
  icases BX with ⟨⟨%fX0, BX0⟩, ⟨%fX1, BX1⟩, ⟨%fX2, BX2⟩⟩
  ihave BG := (splitG c) $$ BG
  icases BG with ⟨⟨%fG0, BG0⟩, ⟨%fG1, BG1⟩⟩
  ihave BP := (splitP c) $$ BP
  icases BP with ⟨⟨%fP0, BP0⟩, ⟨%fP1, BP1⟩⟩
  ihave BD := (splitD c) $$ BD
  icases BD with ⟨⟨%fD0, BD0⟩, ⟨%fD1, BD1⟩⟩
  ihave BQ := (splitQ c) $$ BQ
  icases BQ with ⟨⟨%fQ0, BQ0⟩, ⟨%fQ1, BQ1⟩⟩
  ihave BO := (splitO c) $$ BO
  icases BO with ⟨⟨%fO0, BO0⟩, ⟨%fO1, BO1⟩⟩
  isplitl [BA]; · iexact BA
  isplitl [X0 BX0 X1 BX1 X2 BX2 AX]
  · isplitl [X0 BX0 X1 BX1 X2 BX2]
    · isplitl [X0 BX0]
      · iexists fX0
        isplitl [X0]; · iexact X0
        iexact BX0
      isplitl [X1 BX1]
      · iexists fX1
        isplitl [X1]; · iexact X1
        iexact BX1
      iexists fX2
      isplitl [X2]; · iexact X2
      iexact BX2
    iexact AX
  isplitl [G0 BG0 G1 BG1 AG]
  · isplitl [G0 BG0 G1 BG1]
    · isplitl [G0 BG0]
      · iexists fG0
        isplitl [G0]; · iexact G0
        iexact BG0
      iexists fG1
      isplitl [G1]; · iexact G1
      iexact BG1
    iexact AG
  isplitl [P0 BP0 P1 BP1 AP]
  · isplitl [P0 BP0 P1 BP1]
    · isplitl [P0 BP0]
      · iexists fP0
        isplitl [P0]; · iexact P0
        iexact BP0
      iexists fP1
      isplitl [P1]; · iexact P1
      iexact BP1
    iexact AP
  isplitl [D0 BD0 D1 BD1 AD]
  · isplitl [D0 BD0 D1 BD1]
    · isplitl [D0 BD0]
      · iexists fD0
        isplitl [D0]; · iexact D0
        iexact BD0
      iexists fD1
      isplitl [D1]; · iexact D1
      iexact BD1
    iexact AD
  isplitl [Q0 BQ0 Q1 BQ1 AQ]
  · isplitl [Q0 BQ0 Q1 BQ1]
    · isplitl [Q0 BQ0]
      · iexists fQ0
        isplitl [Q0]; · iexact Q0
        iexact BQ0
      iexists fQ1
      isplitl [Q1]; · iexact Q1
      iexact BQ1
    iexact AQ
  isplitl [O0 BO0 O1 BO1]
  · isplitl [O0 BO0]
    · iexists fO0
      isplitl [BO0]; · iexact BO0
      iexact O0
    iexists fO1
    isplitl [BO1]; · iexact BO1
    iexact O1
  iexact AO
/-- and the rings at the end give them back, the output written. -/
theorem of_rings (c : Dev nD) : rings m c (bigSep Finset.univ (fun b : Fin 288 => doneO (F := F) c b (blockAt m c b.val)))
    ⊢ iprop(arrays m c (result (blockAt m c)) ∗ cells (F := F) c ∗ buffers (F := F) c) := by
  unfold arrays buffers rings
  iintro ⟨BA, ⟨⟨⟨%fX0, X0, BX0⟩, ⟨%fX1, X1, BX1⟩, ⟨%fX2, X2, BX2⟩⟩, AX⟩, ⟨⟨⟨%fG0, G0, BG0⟩, ⟨%fG1, G1, BG1⟩⟩, AG⟩, ⟨⟨⟨%fP0, P0, BP0⟩, ⟨%fP1, P1, BP1⟩⟩, AP⟩, ⟨⟨⟨%fD0, D0, BD0⟩, ⟨%fD1, D1, BD1⟩⟩, AD⟩, ⟨⟨⟨%fQ0, Q0, BQ0⟩, ⟨%fQ1, Q1, BQ1⟩⟩, AQ⟩, ⟨⟨⟨%fO0, BO0, O0⟩, ⟨%fO1, BO1, O1⟩⟩, AO⟩⟩
  isplitl [AX AG AP AD AQ AO]
  · isplitl [AX]; · iapply (Entails.of_eq (wholeX c _).symm); iexact AX
    isplitl [AG]; · iapply (Entails.of_eq (wholeG c _).symm); iexact AG
    isplitl [AP]; · iapply (Entails.of_eq (wholeP c _).symm); iexact AP
    isplitl [AD]; · iapply (Entails.of_eq (wholeD c _).symm); iexact AD
    isplitl [AQ]; · iapply (Entails.of_eq (wholeQ c _).symm); iexact AQ
    iapply (joinOut c (blockAt m c)); iexact AO
  isplitl [X0 X1 X2 G0 G1 P0 P1 D0 D1 Q0 Q1 O0 O1]
  · isplitl [X0]; · iexact X0
    isplitl [X1]; · iexact X1
    isplitl [X2]; · iexact X2
    isplitl [G0]; · iexact G0
    isplitl [G1]; · iexact G1
    isplitl [P0]; · iexact P0
    isplitl [P1]; · iexact P1
    isplitl [D0]; · iexact D0
    isplitl [D1]; · iexact D1
    isplitl [Q0]; · iexact Q0
    isplitl [Q1]; · iexact Q1
    isplitl [O0]; · iexact O0
    iexact O1
  isplitl [BA]; · iapply (Entails.of_eq (actWhole (F := F) c).symm); iexact BA
  isplitl [BX0 BX1 BX2]
  · iapply (joinX c)
    isplitl [BX0]; · iexists fX0; iexact BX0
    isplitl [BX1]; · iexists fX1; iexact BX1
    iexists fX2; iexact BX2
  isplitl [BG0 BG1]
  · iapply (joinG c)
    isplitl [BG0]; · iexists fG0; iexact BG0
    iexists fG1; iexact BG1
  isplitl [BP0 BP1]
  · iapply (joinP c)
    isplitl [BP0]; · iexists fP0; iexact BP0
    iexists fP1; iexact BP1
  isplitl [BD0 BD1]
  · iapply (joinD c)
    isplitl [BD0]; · iexists fD0; iexact BD0
    iexists fD1; iexact BD1
  isplitl [BQ0 BQ1]
  · iapply (joinQ c)
    isplitl [BQ0]; · iexists fQ0; iexact BQ0
    iexists fQ1; iexact BQ1
  iapply (joinO c)
  isplitl [BO0]; · iexists fO0; iexact BO0
  iexists fO1; iexact BO1

/-- What the launch passes to the region of the arrays no window stages: those the kernel moves and the arguments it does not touch. -/
def intoΦ (c : Dev nD) : sProp 𝕄 := iprop(arrays m c (V m c main_v8) ∗ Pipeline.ownSems0 osem c)
def besides (c : Dev nD) : sProp 𝕄 := iprop(heldP c main_arg3 (V m c main_arg3) ∗ heldP c main_arg4 (V m c main_arg4) ∗ heldP c main_arg6 (V m c main_arg6))
def outOfΦ (c : Dev nD) : sProp 𝕄 := arrays m c (result (blockAt m c))
def u₀ : UU nD τ := (initOf (Pipeline.cells cfgs Gen.cellOf_inj) (Pipeline.launchToks cfgs Gen.cellOf_inj), 1)
def QY (c : Dev nD) (s : MemSt nD τ sig (Elt F)) : Prop :=
  s.mem ((c : Thread nD τ).loc main_v8) = result (blockAt m c)
  ∧ s.mem ((c : Thread nD τ).loc main_arg0) = V m c main_arg0
  ∧ s.mem ((c : Thread nD τ).loc main_arg3) = V m c main_arg3
  ∧ s.mem ((c : Thread nD τ).loc main_arg4) = V m c main_arg4
  ∧ s.mem ((c : Thread nD τ).loc main_arg5) = V m c main_arg5
  ∧ s.mem ((c : Thread nD τ).loc main_arg6) = V m c main_arg6
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain
set_option backward.isDefEq.respectTransparency.types false in
/-- From any memory whose block table's words name experts, with every counter at zero: every execution ends, the
    output at the blocks' values, the arguments unchanged, every counter at zero. -/
theorem run_main (h : PreOK m) : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := besides m)
    (hX := fun c => by
      rw [unscopedRest0_eq]
      unfold intoΦ besides arrays
      iintro ⟨⟨A0, A3, A4, A5, A6, -, -, -, V3, -, -, V6, V7, V8⟩, HS, -, -, -⟩; imodintro
      isplitl [A0 V3 V6 A5 V7 V8 HS]
      · isplitl [A0 V3 V6 A5 V7 V8]
        · isplitl [A0]; · iexact A0
          isplitl [V3]; · iexact V3
          isplitl [V6]; · iexact V6
          isplitl [A5]; · iexact A5
          isplitl [V7]; · iexact V7
          iexact V8
        iexact HS
      isplitl [A3]; · iexact A3
      isplitl [A4]; · iexact A4
      iexact A6)
    (hin := fun c => by
      rw [scopedRest0_eq, show (dats m 0 c).Φ 0 = rings m c (bigSep Finset.univ (fun b => anyO (F := F) c b)) from rfl]
      unfold intoΦ; rw [ownSems0_eq]
      iintro ⟨⟨HA, HC⟩, HB⟩
      iapply (rings_of m c)
      unfold buffers
      isplitl [HA]; · iexact HA
      isplitl [HC]; · iexact HC
      iexact HB)
    (hout := fun c => by
      rw [scopedRest0_eq, show (dats m 0 c).Φ (Fin.last cfg0.N) = rings m c (bigSep Finset.univ (fun b : Fin 288 => doneO (F := F) c b (blockAt m c b.val))) from rfl, ownSems0_eq]
      unfold outOfΦ
      exact of_rings m c)
    (QY := QY m)
    (hY := fun c s' => by
      unfold outOfΦ besides arrays
      iintro ⟨⟨A0, -, -, A5, -, V8⟩, ⟨A3, A4, A6⟩, HSI⟩
      icombine HSI A0 gives %h0
      icombine HSI A5 gives %h5
      icombine HSI V8 gives %h8
      icombine HSI A3 gives %h3
      icombine HSI A4 gives %h4
      icombine HSI A6 gives %h6
      imodintro
      isplitr
      · ipureintro
        exact ⟨Buf.eq_of_forall_mem_univ h8, Buf.eq_of_forall_mem_univ h0, Buf.eq_of_forall_mem_univ h3, Buf.eq_of_forall_mem_univ h4,
          Buf.eq_of_forall_mem_univ h5, Buf.eq_of_forall_mem_univ h6⟩
      iexact HSI)
    (hQ := fun _ hh hz => ⟨hh, hz⟩)
/-- What a core's memory holds at the end. -/
def Final (c : Dev nD) (s : MemSt nD τ sig (Elt F)) : Prop :=
  s.mem ((c : Thread nD τ).loc main_v8) = result (blockAt m c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
theorem run_final (h : PreOK m) : θ_run defs (onTc (τ := τ) (main (F := F))) (s₀ m ρ) (fun r => (∀ c : Dev nD, Final m c r.2) ∧ r.2.sem = fun _ => 0) :=
  (θ_run defs _ _).mono (fun r hh => ⟨fun c => by
    obtain ⟨hw, h8, h0, h3, h4, h5, h6⟩ := hh.1 c
    exact ⟨h8, h0.trans (V_main_arg0 m c), (hw 0).trans (((dats m 0 c).arrAt_in 0 rfl _).trans (V_main_arg1 m c)),
      (hw 1).trans (((dats m 0 c).arrAt_in 1 rfl _).trans (V_main_arg2 m c)), h3.trans (V_main_arg3 m c), h4.trans (V_main_arg4 m c),
      h5.trans (V_main_arg5 m c), h6.trans (V_main_arg6 m c)⟩, hh.2⟩) (run_main m ρ h)
end Run
end Cert.Proof.Experts
end
-- ==== Proof.Frames.lean ====
/-
  The kernel's own claims: at the bit-exact floats and at the ideal ones it ends, its arguments unchanged and every
  counter at zero.
-/
module

public import proofs.«01_k».proof.Defs
public import proofs.«01_k».proof.Proof.Run
public import proofs.«01_k».proof.Proof.Gen.Kernel
public import proofs.«01_k».proof.Proof.Gen.Pre_in_range
public import Idealize.ShloMosaic.Lib.ReduceAll

@[expose] public section

noncomputable section

namespace Cert.Proof.Experts

open Idealize.ShloMosaic
open Idealize.ShloMosaic.TcCoe Idealize.ShloMosaic.Tactic
open Idealize.SL Idealize.SL.Sem

/-- The predicate's value, read: every word of the block table lies between 0 and 31. -/
theorem range_of_pre {F : FTy → Type} [FloatOps F] (a0) (a1 : IVec Cert.Pre_in_range.S288 32) (a2 a3 a4 a5 a6)
    (h : Cert.Pre_in_range.fn (F := F) a0 a1 a2 a3 a4 a5 a6 = fun _ => 1#1) (j : Cert.Pre_in_range.S288.Idx) :
    0 ≤ (a1 j).toInt ∧ (a1 j).toInt < 32 := by
  haveI : Subsingleton Cert.Pre_in_range.S_.Idx := ⟨fun a b => funext fun i => i.elim0⟩
  have e := congrFun h (fun i => i.elim0)
  unfold Cert.Pre_in_range.fn at e
  have e := Host.reduce_andi_all _ _ _ _ _ e j
  simp only [andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h4 : (32#32 : BitVec 32).toInt = 32 := by decide
  omega
theorem ok_of_pre (m : (ℓ : Loc Cert.KernelIdeal.nD Cert.KernelIdeal.τ Cert.KernelIdeal.sig) → Buf (Elt Ideal) ℓ) (h : Cert.Pre_KernelIdeal m) :
    PreOK (F := Ideal) m := fun c j => range_of_pre _ _ _ _ _ _ _ (h c) j
theorem ok_of_pre_bits (m : (ℓ : Loc Cert.Kernel.nD Cert.Kernel.τ Cert.Kernel.sig) → Buf (Elt Bits) ℓ) (h : Cert.Pre_Kernel m) :
    PreOK (F := Bits) m := fun c j => range_of_pre _ _ _ _ _ _ _ (h c) j
theorem frame_kernelIdeal : Cert.quiescent_KernelIdeal := fun m ρ hpre =>
  (θ_run Cert.KernelIdeal.defs _ _).mono (fun _ h => ⟨fun c => (h.1 c).2, h.2⟩) (run_final (F := Ideal) m ρ (ok_of_pre m hpre))
/-- The two programs have the same text: their definitions are equal, -/
theorem defs₀_eq {F : FTy → Type} [FloatOps F] : Cert.Kernel.defs₀ (F := F) = Cert.KernelIdeal.defs₀ (F := F) := by sl_kernel_rfl
theorem defs_eq {F : FTy → Type} [FloatOps F] : Cert.Kernel.defs (F := F) = Cert.KernelIdeal.defs (F := F) :=
  congrArg (Pipeline.defs Cert.KernelIdeal.pcfgs) defs₀_eq
/-- and so are their runs. -/
theorem runs_eq {F : FTy → Type} [FloatOps F] (s : MemSt Cert.KernelIdeal.nD Cert.KernelIdeal.τ Cert.KernelIdeal.sig (Elt F)) :
    θ_run (Cert.Kernel.defs (F := F)) (onTc (τ := Cert.Kernel.τ) (Cert.Kernel.main (F := F))) s
      = θ_run (Cert.KernelIdeal.defs (F := F)) (onTc (τ := Cert.KernelIdeal.τ) (Cert.KernelIdeal.main (F := F))) s :=
  congrArg (fun d => θ_run d (onTc (τ := Cert.KernelIdeal.τ) (Cert.KernelIdeal.main (F := F))) s) defs_eq
theorem frame_kernel : Cert.quiescent_Kernel := fun m ρ hpre => by
  rw [runs_eq]
  exact (θ_run Cert.KernelIdeal.defs _ _).mono (fun _ h => ⟨fun c => (h.1 c).2, h.2⟩) (run_final (F := Bits) m ρ (ok_of_pre_bits m hpre))
end Cert.Proof.Experts
end
-- ==== Proof.RefFrame.lean ====
/- The frame of the reference: its run leaves its arguments as they were, and it declares no semaphore. -/
module

public import proofs.«01_k».proof.Defs
public import proofs.«01_k».proof.Proof.Gen.ReferenceIdeal
public import Idealize.ShloMosaic.Lib.Quiescent
public import proofs.«01_k».proof.Proof.Gen.Pre_in_range
public import proofs.«01_k».proof.Proof.Gen.ReferenceIdeal.Run

@[expose] public section

noncomputable section

namespace Cert.Proof.Experts

open Idealize.ShloMosaic Idealize.ShloMosaic.TcCoe Idealize.SL.Sem

/-- The reference runs to an end from any memory, its arguments unchanged and no semaphore raised. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Experts

end
-- ==== Proof.Gate.lean ====
/- The gate over the extended reals: the kernel's hyperbolic tangent against the reference's quotient. -/
module

public import Idealize.ShloMosaic.Lib.Pointwise.Tactic

@[expose] public section

noncomputable section

namespace Cert.Proof.Experts

open Idealize.ShloMosaic

/-- The word of one half. -/
theorem half_eq : Ideal.ofBits .f32 0x3F000000#32 = ((1 / 2 : ℝ) : EReal) := by
  simp [Ideal.ofBits, Ideal.ieee, -EReal.coe_mul]; norm_num

/-- `½ · tanh (½ · x) + ½` is `1 / (1 + e⁻ˣ)`, the infinities included. -/
theorem sigmoid_eq (x : EReal) :
    ((1 / 2 : ℝ) : EReal) * Ideal.tanh (((1 / 2 : ℝ) : EReal) * x) + ((1 / 2 : ℝ) : EReal) = Ideal.div 1 (1 + Ideal.exp (-x)) := by
  induction x using EReal.rec with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot]
    show _ = Ideal.div 1 (1 + ⊤)
    have h1 : (1 : EReal) + ⊤ = ⊤ := EReal.add_top_of_ne_bot (by decide)
    rw [h1, Ideal.div, if_neg (by decide), EReal.inv_top, mul_zero]
    have h2 : (-1 : EReal) = ((-1 : ℝ) : EReal) := by norm_num
    rw [h2, ← EReal.coe_mul, ← EReal.coe_add]
    norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top]
    show _ = Ideal.div 1 (1 + 0)
    rw [add_zero, Ideal.div, if_neg one_ne_zero, mul_one, ← EReal.coe_add]
    norm_num
  | coe r =>
    have e1 : ((1 / 2 : ℝ) : EReal) * (r : EReal) = ((1 / 2 * r : ℝ) : EReal) := (EReal.coe_mul _ _).symm
    have e2 : -(r : EReal) = ((-r : ℝ) : EReal) := (EReal.coe_neg r).symm
    rw [e1, e2]
    show ((1 / 2 : ℝ) : EReal) * (Real.tanh (1 / 2 * r) : EReal) + ((1 / 2 : ℝ) : EReal) = Ideal.div 1 (1 + (Real.exp (-r) : EReal))
    have e3 : (1 : EReal) + (Real.exp (-r) : EReal) = ((1 + Real.exp (-r) : ℝ) : EReal) := by rw [EReal.coe_add, EReal.coe_one]
    have hp : 0 < 1 + Real.exp (-r) := by positivity
    rw [e3, Ideal.div, if_neg (by exact_mod_cast hp.ne'), one_mul, ← EReal.coe_inv, ← EReal.coe_mul, ← EReal.coe_add]
    congr 1
    rw [Real.tanh_eq_sinh_div_cosh, Real.sinh_eq, Real.cosh_eq]
    have hr : Real.exp (-r) = Real.exp (-(1 / 2 * r)) * Real.exp (-(1 / 2 * r)) := by rw [← Real.exp_add]; congr 1; ring
    have h1 : Real.exp (1 / 2 * r) * Real.exp (-(1 / 2 * r)) = 1 := by rw [← Real.exp_add]; simp
    rw [hr]
    have hu := Real.exp_pos (1 / 2 * r)
    have hv := Real.exp_pos (-(1 / 2 * r))
    generalize Real.exp (1 / 2 * r) = u at *
    generalize Real.exp (-(1 / 2 * r)) = v at *
    have hs : u + v ≠ 0 := by positivity
    have ht : 1 + v * v ≠ 0 := by positivity
    field_simp
    nlinarith [h1]

/-- The clamped and gated product of one unit, from its gate `g` and its linear part `l`, as the reference writes it. -/
def gated (g l : EReal) : EReal :=
  min g (Ideal.ofBits .f32 0x40E00000#32) * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

end Cert.Proof.Experts

end
-- ==== Proof.Slab.lean ====
/- The activation of a block, element by element: each slab, and the eight slabs side by side. -/
module

public import proofs.«01_k».proof.Proof.Compute
public import proofs.«01_k».proof.Proof.Gate
public import Idealize.ShloMosaic.Lib.Pipeline.ValueKit
public import Idealize.ShloMosaic.Lib.Pointwise.Tactic

@[expose] public section

noncomputable section

namespace Cert.Proof.Experts

open Cert.KernelIdeal Cert.KernelIdeal.Gen
open Idealize.ShloMosaic

/-- One unit of the first product before its gate: row `r` of the block against column `n` of the weights, and the bias. -/
def hid (x : S1024x1024.Idx → EReal) (gv : S1x1024x2048.Idx → EReal) (pv : S1x1x2048.Idx → EReal) (r : Fin 1024) (n : Fin 2048) : EReal :=
  (∑ k : Fin 1024, x (ix2 r k) * gv (ix3 0 k n)) + pv (ix3 0 0 n)

set_option maxRecDepth 16384 in
/-- A slab at an index, from its own slices of the weights and of the bias. -/
theorem slabV_apply (x : S1024x1024.Idx → EReal) (w : S1x1024x256.Idx → EReal) (b : S1x1x256.Idx → EReal) (r : Fin 1024) (l : Fin 128) :
    slabV (F := Ideal) x w b (ix2 r l)
      = gated ((∑ k : Fin 1024, x (ix2 r k) * w (ix3 0 k ⟨l.val, by omega⟩)) + b (ix3 0 0 ⟨l.val, by omega⟩))
          ((∑ k : Fin 1024, x (ix2 r k) * w (ix3 0 k ⟨128 + l.val, by omega⟩)) + b (ix3 0 0 ⟨128 + l.val, by omega⟩)) := by
  pointwise [slabV, k0_pay13, k0_pay12, k0_pay11, k0_pay10, k0_pay9, k0_pay8]
  rw [gated, half_eq, sigmoid_eq]

set_option maxRecDepth 16384 in
/-- A slab loaded from the block's weights, at an index. -/
theorem slab_at (x : S1024x1024.Idx → EReal) (gv : S1x1024x2048.Idx → EReal) (pv : S1x1x2048.Idx → EReal) (s : ℕ) (hs : s < 8)
    (hg : ∀ a, (![0, 0, 256 * s] : Fin 3 → ℕ) a + S1x1024x256.size a ≤ S1x1024x2048.size a)
    (hp : ∀ a, (![0, 0, 256 * s] : Fin 3 → ℕ) a + S1x1x256.size a ≤ S1x1x2048.size a) (r : Fin 1024) (l : Fin 128) :
    slabV (F := Ideal) x (View.ld (e' := .bf16) (Val := Elt Ideal) gv (Rect.unit (s := S1x1024x2048) ![0, 0, 256 * s] S1x1024x256.size hg))
        (View.ld (e' := .f32) (Val := Elt Ideal) pv (Rect.unit (s := S1x1x2048) ![0, 0, 256 * s] S1x1x256.size hp)) (ix2 r l)
      = gated (hid x gv pv r ⟨256 * s + l.val, by omega⟩) (hid x gv pv r ⟨256 * s + 128 + l.val, by omega⟩) := by
  rw [slabV_apply]
  have e1 : ∀ (k : Fin 1024) (j : Fin 256), View.ld (e' := .bf16) (Val := Elt Ideal) gv (Rect.unit (s := S1x1024x2048) ![0, 0, 256 * s] S1x1024x256.size hg) (ix3 0 k j)
      = gv (ix3 0 k ⟨256 * s + j.val, by omega⟩) := by intro k j; pointwise
  have e2 : ∀ (j : Fin 256), View.ld (e' := .f32) (Val := Elt Ideal) pv (Rect.unit (s := S1x1x2048) ![0, 0, 256 * s] S1x1x256.size hp) (ix3 0 0 j)
      = pv (ix3 0 0 ⟨256 * s + j.val, by omega⟩) := by intro j; pointwise
  simp only [e1, e2, hid, Nat.add_assoc]

/-- The activation of a block at unit `128 s + l`: the gated product of columns `256 s + l` and `256 s + 128 + l`. -/
theorem act_at (x : S1024x1024.Idx → EReal) (gv : S1x1024x2048.Idx → EReal) (pv : S1x1x2048.Idx → EReal) (s : ℕ) (hs : s < 8)
    (r : Fin 1024) (l : Fin 128) :
    View.canon (actL (F := Ideal) x gv pv) (ix2 r ⟨128 * s + l.val, by omega⟩)
      = gated (hid x gv pv r ⟨256 * s + l.val, by omega⟩) (hid x gv pv r ⟨256 * s + 128 + l.val, by omega⟩) := by
  have tile : ∀ (t : ℕ) (ht : t < 8) (o g : ℕ) (ho : o = 128 * t) (hgt : g = 256 * t) (hg hp),
      View.TileAt (Val := Elt Ideal) (e := .bf16) (S := S1024x1024) (ix2 r ⟨128 * s + l.val, by omega⟩) ![0, o] S1024x128.size
        (slabV (F := Ideal) x (View.ld (e' := .bf16) (Val := Elt Ideal) gv (Rect.unit (s := S1x1024x2048) ![0, 0, g] S1x1024x256.size hg))
        (View.ld (e' := .f32) (Val := Elt Ideal) pv (Rect.unit (s := S1x1x2048) ![0, 0, g] S1x1x256.size hp)))
        (gated (hid x gv pv r ⟨256 * s + l.val, by omega⟩) (hid x gv pv r ⟨256 * s + 128 + l.val, by omega⟩)) := by
    rintro t ht o g rfl rfl hg hp y hy
    have h0 : r.val = 0 + (y 0).val := hy 0
    have h1 : 128 * s + l.val = 128 * t + (y 1).val := hy 1
    have hy1 : (y 1).val < 128 := (y 1).isLt
    obtain rfl : s = t := by omega
    have e : y = ix2 r l := by
      funext a; fin_cases a
      · exact Fin.ext (by show (y 0).val = r.val; omega)
      · exact Fin.ext (by show (y 1).val = l.val; omega)
    rw [e]
    exact slab_at x gv pv s hs hg hp r l
  refine View.canon_eq_of_allAt _ _ _ (View.cover_of_tiled_head _ _ _ rfl _) ?_
  unfold actL
  refine View.allAt_cons_unit _ _ _ _ _ (tile 7 (by decide) _ _ rfl rfl _ _) ?_
  refine View.allAt_cons_unit _ _ _ _ _ (tile 6 (by decide) _ _ rfl rfl _ _) ?_
  refine View.allAt_cons_unit _ _ _ _ _ (tile 5 (by decide) _ _ rfl rfl _ _) ?_
  refine View.allAt_cons_unit _ _ _ _ _ (tile 4 (by decide) _ _ rfl rfl _ _) ?_
  refine View.allAt_cons_unit _ _ _ _ _ (tile 3 (by decide) _ _ rfl rfl _ _) ?_
  refine View.allAt_cons_unit _ _ _ _ _ (tile 2 (by decide) _ _ rfl rfl _ _) ?_
  refine View.allAt_cons_unit _ _ _ _ _ (tile 1 (by decide) _ _ rfl rfl _ _) ?_
  refine View.allAt_cons_unit _ _ _ _ _ (tile 0 (by decide) _ _ rfl rfl _ _) ?_
  exact View.allAt_nil _ _

end Cert.Proof.Experts

end
-- ==== Proof.Out.lean ====
/- What a trip stores for a block, element by element. -/
module

public import proofs.«01_k».proof.Proof.Slab

@[expose] public section

noncomputable section

namespace Cert.Proof.Experts

open Cert.KernelIdeal Cert.KernelIdeal.Gen
open Idealize.ShloMosaic

set_option maxRecDepth 16384 in
/-- The masked block at an index. -/
theorem pay1_at (v : BitVec 32) (xb : S1024x8x128.Idx → EReal) (r k : Fin 1024) :
    k0_pay1 (F := Ideal) v (blockV (F := Ideal) xb) (ix2 r k)
      = Scalar.select (IntOp.cmpi .slt (BitVec.ofNat 32 r.val) v) (xb (ix3 r ⟨k.val / 128, by omega⟩ ⟨k.val % 128, by omega⟩)) 0 := by
  pointwise [k0_pay1, blockV]

set_option maxRecDepth 16384 in
/-- The second product at an index. -/
theorem pay50_at (a : S1024x1024.Idx → EReal) (dv : S1x1024x1024.Idx → EReal) (qv : S1x1x1024.Idx → EReal) (r : Fin 1024) (i : Fin 8) (l : Fin 128) :
    k0_pay50 (F := Ideal) a dv qv (ix4 0 r i l)
      = (∑ j : Fin 1024, a (ix2 r j) * dv (ix3 0 j ⟨i.val * 128 + l.val, by omega⟩)) + qv (ix3 0 0 ⟨i.val * 128 + l.val, by omega⟩) := by
  pointwise [k0_pay50]

set_option maxRecDepth 16384 in
/-- A block's results at an index. -/
theorem outV_at (v : BitVec 32) (xb : S1024x8x128.Idx → EReal) (gv : S1x1024x2048.Idx → EReal) (pv : S1x1x2048.Idx → EReal)
    (dv : S1x1024x1024.Idx → EReal) (qv : S1x1x1024.Idx → EReal) (r : Fin 1024) (i : Fin 8) (l : Fin 128) :
    outV (F := Ideal) v xb gv pv dv qv (ix3 r i l)
      = Scalar.select (IntOp.cmpi .sgt v 0#32) ((∑ j : Fin 1024, View.canon (actL (F := Ideal) (k0_pay1 (F := Ideal) v (blockV (F := Ideal) xb)) gv pv) (ix2 r j) * dv (ix3 0 j ⟨i.val * 128 + l.val, by omega⟩))
          + qv (ix3 0 0 ⟨i.val * 128 + l.val, by omega⟩)) 0 := by
  have e : outV (F := Ideal) v xb gv pv dv qv (ix3 r i l) = storeV (F := Ideal) v xb gv pv dv qv (ix4 0 r i l) := by
    unfold outV
    generalize storeV (F := Ideal) v xb gv pv dv qv = w
    pointwise
  rw [e]; unfold storeV
  have hc : k0_cond13 v = 1#1 ↔ IntOp.cmpi .sgt v 0#32 = 1#1 := by
    exact cond13_iff v
  by_cases h : k0_cond13 v = 1#1
  · rw [if_pos h, hc.mp h]
    exact pay50_at _ _ _ _ _ _
  · have h0 : IntOp.cmpi .sgt v 0#32 = 0#1 := by
      rcases BitVec.eq_zero_or_eq_one (IntOp.cmpi .sgt v 0#32) with h0 | h1
      · exact h0
      · exact absurd (hc.mpr h1) h
    rw [if_neg h, h0]
    pointwise [k0_pay51]

end Cert.Proof.Experts

end
-- ==== Proof.Layout.lean ====
/- The prepared weights, element by element, as the region finds them. -/
module

public import proofs.«01_k».proof.Proof.Gen.KernelIdeal.Frame
public import Idealize.ShloMosaic.Lib.Pointwise.Tactic
public import Idealize.ShloMosaic.Lib.Pipeline.Value
public import Idealize.ShloMosaic.Lib.Pointwise.Reshape

@[expose] public section

noncomputable section

namespace Cert.Proof.Experts

open Cert.KernelIdeal Cert.KernelIdeal.Gen
open Idealize.ShloMosaic Idealize.ShloMosaic.TcCoe Idealize.ShloMosaic.StableHlo

/-- The gate/up weights laid out: in each slab of 256 columns the even columns, then the odd ones. -/
def layG (A : FVec Ideal S32x1024x2048 .f32) : FVec Ideal S32x1024x2048 .bf16 :=
  truncf .bf16 (shapeCast S32x1024x2048 (transpose S32x1024x8x2x128 [0, 1, 2, 4, 3] (shapeCast S32x1024x8x128x2 A shapeCasts_S32x1024x2048_S32x1024x8x128x2) transposes_S32x1024x8x128x2_S32x1024x8x2x128_0_1_2_4_3) shapeCasts_S32x1024x8x2x128_S32x1024x2048) bitsLt_bf16_f32
/-- Their bias, laid out in the same way. -/
def layP (A : FVec Ideal S32x2048 .f32) : FVec Ideal S32x1x2048 .f32 :=
  shapeCast S32x1x2048 (transpose S32x8x2x128 [0, 1, 3, 2] (shapeCast S32x8x128x2 A shapeCasts_S32x2048_S32x8x128x2) transposes_S32x8x128x2_S32x8x2x128_0_1_3_2) shapeCasts_S32x8x2x128_S32x1x2048
/-- The second product's bias as a row. -/
def layQ (A : FVec Ideal S32x1024 .f32) : FVec Ideal S32x1x1024 .f32 :=
  broadcastInDim S32x1x1024 ![0, 2] bcast_S32x1024_S32x1x1024_0_2 A

/-- Where column `n` of the laid out weights comes from. -/
def srcCol (n : Fin 2048) : Fin 2048 := ⟨(n.val / 256 * 128 + n.val % 128) * 2 + n.val / 128 % 2, by omega⟩

/-- The way back through the reshapes and the transpose, by the column's slab, half and lane. -/
theorem layG_at (A : FVec Ideal S32x1024x2048 .f32) (e : Fin 32) (k : Fin 1024) (n : Fin 2048) : layG A (ix3 e k n) = A (ix3 e k (srcCol n)) := by
  have hn := n.isLt
  pointwise [layG]
  exact congrArg (fun z => A (ix3 e k z)) (Fin.ext (by show _ = (n.val / 256 * 128 + n.val % 128) * 2 + n.val / 128 % 2; dsimp only; omega))
theorem layP_at (A : FVec Ideal S32x2048 .f32) (e : Fin 32) (n : Fin 2048) : layP A (ix3 e 0 n) = A (ix2 e (srcCol n)) := by
  have hn := n.isLt
  pointwise [layP]
  exact congrArg (fun z => A (ix2 e z)) (Fin.ext (by show _ = (n.val / 256 * 128 + n.val % 128) * 2 + n.val / 128 % 2; dsimp only; omega))
theorem layQ_at (A : FVec Ideal S32x1024 .f32) (e : Fin 32) (n : Fin 1024) : layQ A (ix3 e 0 n) = A (ix2 e n) := by
  pointwise [layQ]

section Layout
variable (m : (ℓ : Loc nD τ sig) → Buf (Elt Ideal) ℓ) (c : Dev nD)

theorem V_main_v3 : V m c main_v3 = layG (m ((c : Thread nD τ).loc main_arg3)) := by
  simp only [V, hostOps0]
  after_results_simp <;> rfl
theorem V_main_v6 : V m c main_v6 = layP (m ((c : Thread nD τ).loc main_arg4)) := by
  simp only [V, hostOps0]
  after_results_simp <;> rfl
theorem V_main_v7 : V m c main_v7 = layQ (m ((c : Thread nD τ).loc main_arg6)) := by
  simp only [V, hostOps0]
  after_results_simp <;> rfl

end Layout

end Cert.Proof.Experts

end
-- ==== Proof.Value.lean ====
/- The region's results, element by element, from the program's own arguments. -/
module

public import proofs.«01_k».proof.Proof.Out
public import proofs.«01_k».proof.Proof.Layout
public import proofs.«01_k».proof.Proof.Run

@[expose] public section

noncomputable section

namespace Cert.Proof.Experts

open Cert.KernelIdeal Cert.KernelIdeal.Gen
open Idealize.ShloMosaic Idealize.ShloMosaic.TcCoe

/-! # A block read at an index -/
section Blocks
variable (c : Dev nD)
theorem valX_at (A : S294912x8x128.Idx → EReal) (b : Fin 288) (r : Fin 1024) (i : Fin 8) (l : Fin 128) :
    valX (F := Ideal) c A b (ix3 r i l) = A (ix3 ⟨1024 * b.val + r.val, by omega⟩ i l) := by
  refine congrArg A (funext fun a => Fin.ext ?_)
  refine (ValueKit.view_emb_slice_whole_unit_val main_arg0 (o3 (1024 * b.val)) S1024x8x128.size (blkX_inb b) (ix3 r i l) a).trans ?_
  match a with
  | ⟨0, _⟩ => rfl
  | ⟨1, _⟩ => exact Nat.zero_add _
  | ⟨2, _⟩ => exact Nat.zero_add _
theorem valG_at (A : S32x1024x2048.Idx → EReal) (e : Fin 32) (k : Fin 1024) (n : Fin 2048) :
    valG (F := Ideal) c A e (ix3 0 k n) = A (ix3 e k n) := by
  refine congrArg A (funext fun a => Fin.ext ?_)
  refine (ValueKit.view_emb_slice_whole_unit_val main_v3 (o3 e.val) S1x1024x2048.size (blkG_inb e) (ix3 0 k n) a).trans ?_
  match a with
  | ⟨0, _⟩ => rfl
  | ⟨1, _⟩ => exact Nat.zero_add _
  | ⟨2, _⟩ => exact Nat.zero_add _
theorem valP_at (A : S32x1x2048.Idx → EReal) (e : Fin 32) (n : Fin 2048) :
    valP (F := Ideal) c A e (ix3 0 0 n) = A (ix3 e 0 n) := by
  refine congrArg A (funext fun a => Fin.ext ?_)
  refine (ValueKit.view_emb_slice_whole_unit_val main_v6 (o3 e.val) S1x1x2048.size (blkP_inb e) (ix3 0 0 n) a).trans ?_
  match a with
  | ⟨0, _⟩ => rfl
  | ⟨1, _⟩ => exact Nat.zero_add _
  | ⟨2, _⟩ => exact Nat.zero_add _
theorem valD_at (A : S32x1024x1024.Idx → EReal) (e : Fin 32) (k n : Fin 1024) :
    valD (F := Ideal) c A e (ix3 0 k n) = A (ix3 e k n) := by
  refine congrArg A (funext fun a => Fin.ext ?_)
  refine (ValueKit.view_emb_slice_whole_unit_val main_arg5 (o3 e.val) S1x1024x1024.size (blkD_inb e) (ix3 0 k n) a).trans ?_
  match a with
  | ⟨0, _⟩ => rfl
  | ⟨1, _⟩ => exact Nat.zero_add _
  | ⟨2, _⟩ => exact Nat.zero_add _
theorem valQ_at (A : S32x1x1024.Idx → EReal) (e : Fin 32) (n : Fin 1024) :
    valQ (F := Ideal) c A e (ix3 0 0 n) = A (ix3 e 0 n) := by
  refine congrArg A (funext fun a => Fin.ext ?_)
  refine (ValueKit.view_emb_slice_whole_unit_val main_v7 (o3 e.val) S1x1x1024.size (blkQ_inb e) (ix3 0 0 n) a).trans ?_
  match a with
  | ⟨0, _⟩ => rfl
  | ⟨1, _⟩ => exact Nat.zero_add _
  | ⟨2, _⟩ => exact Nat.zero_add _
end Blocks

/-! # The expert block, plainly -/
section Spec
variable (A0 : S294912x8x128.Idx → EReal) (A3 : S32x1024x2048.Idx → EReal) (A4 : S32x2048.Idx → EReal)
  (A5 : S32x1024x1024.Idx → EReal) (A6 : S32x1024.Idx → EReal) (e : Fin 32) (v : BitVec 32) (b : Fin 288)

/-- Row `r` of block `b`: zero from the block's own count of rows on. -/
def rowX (r k : Fin 1024) : EReal :=
  Scalar.select (IntOp.cmpi .slt (BitVec.ofNat 32 r.val) v) (A0 (ix3 ⟨1024 * b.val + r.val, by omega⟩ ⟨k.val / 128, by omega⟩ ⟨k.val % 128, by omega⟩)) 0
/-- The first product and its bias. -/
def hidX (r : Fin 1024) (n : Fin 2048) : EReal := (∑ k : Fin 1024, rowX A0 v b r k * A3 (ix3 e k n)) + A4 (ix2 e n)
/-- The block's results: even columns gate the odd ones, then the second product and its bias. -/
def specX (r : Fin 1024) (i : Fin 8) (l : Fin 128) : EReal :=
  Scalar.select (IntOp.cmpi .sgt v 0#32)
    ((∑ j : Fin 1024, gated (hidX A0 A3 A4 e v b r ⟨2 * j.val, by omega⟩) (hidX A0 A3 A4 e v b r ⟨2 * j.val + 1, by omega⟩) * A5 (ix3 e j ⟨i.val * 128 + l.val, by omega⟩))
      + A6 (ix2 e ⟨i.val * 128 + l.val, by omega⟩)) 0

/-- A slab's column is the gate or the up column it was laid out from. -/
theorem hid_eq (c : Dev nD) (xb : S1024x8x128.Idx → EReal) (hx : ∀ r i l, xb (ix3 r i l) = A0 (ix3 ⟨1024 * b.val + r.val, by omega⟩ i l))
    (r : Fin 1024) (n : Fin 2048) :
    hid (k0_pay1 (F := Ideal) v (blockV (F := Ideal) xb)) (valG (F := Ideal) c (layG A3) e) (valP (F := Ideal) c (layP A4) e) r n = hidX A0 A3 A4 e v b r (srcCol n) := by
  unfold hid hidX
  rw [valP_at, layP_at]
  refine congrArg (· + _) (Finset.sum_congr rfl fun k _ => ?_)
  rw [pay1_at, valG_at, layG_at, hx]
  rfl

/-- The gated product at a column, whatever slab it lies in. -/
theorem act_eq (c : Dev nD) (r j : Fin 1024) :
    View.canon (actL (F := Ideal) (k0_pay1 (F := Ideal) v (blockV (F := Ideal) (valX (F := Ideal) c A0 b))) (valG (F := Ideal) c (layG A3) e) (valP (F := Ideal) c (layP A4) e)) (ix2 r j)
      = gated (hidX A0 A3 A4 e v b r ⟨2 * j.val, by omega⟩) (hidX A0 A3 A4 e v b r ⟨2 * j.val + 1, by omega⟩) := by
  have hj := j.isLt
  have ej : j = ⟨128 * (j.val / 128) + (⟨j.val % 128, by omega⟩ : Fin 128).val, by dsimp only; omega⟩ := Fin.ext (by dsimp only; omega)
  rw [show ix2 r j = ix2 r ⟨128 * (j.val / 128) + (⟨j.val % 128, by omega⟩ : Fin 128).val, by dsimp only; omega⟩ from congrArg (fun z => ix2 r z) ej,
    act_at _ _ _ (j.val / 128) (by omega) r ⟨j.val % 128, by omega⟩, hid_eq A0 A3 A4 e v b c _ (valX_at c A0 b), hid_eq A0 A3 A4 e v b c _ (valX_at c A0 b)]
  have e1 : srcCol ⟨256 * (j.val / 128) + j.val % 128, by omega⟩ = ⟨2 * j.val, by omega⟩ := Fin.ext (by unfold srcCol; dsimp only; omega)
  have e2 : srcCol ⟨256 * (j.val / 128) + 128 + j.val % 128, by omega⟩ = ⟨2 * j.val + 1, by omega⟩ := Fin.ext (by unfold srcCol; dsimp only; omega)
  rw [e1, e2]

theorem outV_eq (c : Dev nD) (r : Fin 1024) (i : Fin 8) (l : Fin 128) :
    outV (F := Ideal) v (valX (F := Ideal) c A0 b) (valG (F := Ideal) c (layG A3) e) (valP (F := Ideal) c (layP A4) e) (valD (F := Ideal) c A5 e) (valQ (F := Ideal) c (layQ A6) e) (ix3 r i l)
      = specX A0 A3 A4 A5 A6 e v b r i l := by
  have hsum : (∑ j : Fin 1024, View.canon (actL (F := Ideal) (k0_pay1 (F := Ideal) v (blockV (F := Ideal) (valX (F := Ideal) c A0 b))) (valG (F := Ideal) c (layG A3) e) (valP (F := Ideal) c (layP A4) e)) (ix2 r j)
        * valD (F := Ideal) c A5 e (ix3 0 j ⟨i.val * 128 + l.val, by omega⟩))
      = ∑ j : Fin 1024, gated (hidX A0 A3 A4 e v b r ⟨2 * j.val, by omega⟩) (hidX A0 A3 A4 e v b r ⟨2 * j.val + 1, by omega⟩) * A5 (ix3 e j ⟨i.val * 128 + l.val, by omega⟩) := by
    refine Finset.sum_congr rfl fun j _ => ?_
    rw [valD_at, act_eq]
  rw [outV_at, valQ_at, layQ_at, hsum]
  rfl
end Spec

section Kernel
variable (m : (ℓ : Loc nD τ sig) → Buf (Elt Ideal) ℓ) (c : Dev nD)

/-- The region's block `b`, from the arguments. -/
theorem blockAt_at (b : Fin 288) (r : Fin 1024) (i : Fin 8) (l : Fin 128) :
    blockAt (F := Ideal) m c b.val (ix3 r i l)
      = specX (m ((c : Thread nD τ).loc main_arg0)) (m ((c : Thread nD τ).loc main_arg3)) (m ((c : Thread nD τ).loc main_arg4)) (m ((c : Thread nD τ).loc main_arg5)) (m ((c : Thread nD τ).loc main_arg6))
          (eOf m c b.val) (vOf m c b.val) b r i l := by
  unfold blockAt blockOut
  have hb : Ring.bk 288 b.val = b := Fin.ext (Nat.mod_eq_of_lt b.isLt)
  rw [V_main_v3, V_main_v6, V_main_v7, V_main_arg0, V_main_arg5, hb]
  exact outV_eq _ _ _ _ _ _ _ _ c r i l
end Kernel

end Cert.Proof.Experts

end
-- ==== Proof.Gather.lean ====
/- A row of a table taken by a table of row numbers, element by element. -/
module

public import proofs.«01_k».proof.ReferenceIdeal
public import Idealize.ShloMosaic.Lib.Pointwise.Tactic
public import Idealize.ShloMosaic.Lib.ValueIdxCore

@[expose] public section

noncomputable section

namespace Cert.Proof.Experts.Ref

open Cert.ReferenceIdeal
open Idealize.ShloMosaic

/-- The row the `b`-th index names, clamped into the table. -/
def rowAt (I : IVec S288x1 32) (b : Fin 288) : Fin 32 := ⟨min (I (ix2 b 0)).toInt.toNat 31, by omega⟩

section
variable {α : Type}

/-- One matrix per index. -/
theorem gather3_at {K N : Nat} (wf : GatherDims.WF ⟨3, ![32, K, N]⟩ S288x1 ⟨3, ![288, K, N]⟩ [1, 2] [0] [] [0] [] 1 ![1, K, N])
    (A : (⟨3, ![32, K, N]⟩ : Shape).Idx → α) (I : IVec S288x1 32) (b : Fin 288) (k : Fin K) (n : Fin N) :
    Host.gather (s := ⟨3, ![32, K, N]⟩) (t := ⟨3, ![288, K, N]⟩) { offsetDims := [1, 2], collapsedSliceDims := [0], operandBatchingDims := [], startIndicesBatchingDims := [], startIndexMap := [0], indexVectorDim := 1, sliceSizes := ![1, K, N], wf := wf } A I (ix3 b k n)
      = A (ix3 (rowAt I b) k n) := by
  generalize hd : ({ offsetDims := [1, 2], collapsedSliceDims := [0], operandBatchingDims := [], startIndicesBatchingDims := [], startIndexMap := [0], indexVectorDim := 1, sliceSizes := ![1, K, N], wf := wf } : GatherDims ⟨3, ![32, K, N]⟩ S288x1 ⟨3, ![288, K, N]⟩) = d
  unfold Host.gather
  congr 1
  funext a
  refine Fin.ext ?_
  show d.start (ix3 b k n) I a + d.batchCoord (ix3 b k n) a + d.offCoord (ix3 b k n) a = _
  subst hd
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (I z).toInt.toNat 31) (funext fun x => Fin.ext ?_)
    match x with
    | ⟨0, _⟩ => rfl
    | ⟨1, _⟩ => rfl
  · unfold GatherDims.start
    rw [dif_neg (fun h => absurd (List.mem_singleton.mp h) (show ¬ ((1 : Fin 3) = 0) from by decide))]
    simp only [Nat.zero_add]
    rfl
  · unfold GatherDims.start
    rw [dif_neg (fun h => absurd (List.mem_singleton.mp h) (show ¬ ((2 : Fin 3) = 0) from by decide))]
    simp only [Nat.zero_add]
    rfl

/-- One row per index. -/
theorem gather2_at {N : Nat} (wf : GatherDims.WF ⟨2, ![32, N]⟩ S288x1 ⟨2, ![288, N]⟩ [1] [0] [] [0] [] 1 ![1, N])
    (A : (⟨2, ![32, N]⟩ : Shape).Idx → α) (I : IVec S288x1 32) (b : Fin 288) (n : Fin N) :
    Host.gather (s := ⟨2, ![32, N]⟩) (t := ⟨2, ![288, N]⟩) { offsetDims := [1], collapsedSliceDims := [0], operandBatchingDims := [], startIndicesBatchingDims := [], startIndexMap := [0], indexVectorDim := 1, sliceSizes := ![1, N], wf := wf } A I (ix2 b n)
      = A (ix2 (rowAt I b) n) := by
  generalize hd : ({ offsetDims := [1], collapsedSliceDims := [0], operandBatchingDims := [], startIndicesBatchingDims := [], startIndexMap := [0], indexVectorDim := 1, sliceSizes := ![1, N], wf := wf } : GatherDims ⟨2, ![32, N]⟩ S288x1 ⟨2, ![288, N]⟩) = d
  unfold Host.gather
  congr 1
  funext a
  refine Fin.ext ?_
  show d.start (ix2 b n) I a + d.batchCoord (ix2 b n) a + d.offCoord (ix2 b n) a = _
  subst hd
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (I z).toInt.toNat 31) (funext fun x => Fin.ext ?_)
    match x with
    | ⟨0, _⟩ => rfl
    | ⟨1, _⟩ => rfl
  · unfold GatherDims.start
    rw [dif_neg (fun h => absurd (List.mem_singleton.mp h) (show ¬ ((1 : Fin 2) = 0) from by decide))]
    simp only [Nat.zero_add]
    rfl

end

section Program
variable [Facts₀] {α : Type}

theorem gatherG (A : S32x1024x2048.Idx → α) (I : IVec S288x1 32) (b : Fin 288) (k : Fin 1024) (n : Fin 2048) :
    Host.gather gather_S32x1024x2048_S288x1_S288x1024x2048_12_0_n_n_0_1_110242048 A I (ix3 b k n) = A (ix3 (rowAt I b) k n) := gather3_at _ A I b k n
theorem gatherD (A : S32x1024x1024.Idx → α) (I : IVec S288x1 32) (b : Fin 288) (k n : Fin 1024) :
    Host.gather gather_S32x1024x1024_S288x1_S288x1024x1024_12_0_n_n_0_1_110241024 A I (ix3 b k n) = A (ix3 (rowAt I b) k n) := gather3_at _ A I b k n
theorem gatherP (A : S32x2048.Idx → α) (I : IVec S288x1 32) (b : Fin 288) (n : Fin 2048) :
    Host.gather gather_S32x2048_S288x1_S288x2048_1_0_n_n_0_1_12048 A I (ix2 b n) = A (ix2 (rowAt I b) n) := gather2_at _ A I b n
theorem gatherQ (A : S32x1024.Idx → α) (I : IVec S288x1 32) (b : Fin 288) (n : Fin 1024) :
    Host.gather gather_S32x1024_S288x1_S288x1024_1_0_n_n_0_1_11024 A I (ix2 b n) = A (ix2 (rowAt I b) n) := gather2_at _ A I b n

end Program

end Cert.Proof.Experts.Ref

end
-- ==== Proof.RefValue.lean ====
/- The reference's result, element by element. -/
module

public import proofs.«01_k».proof.Proof.Gather
public import proofs.«01_k».proof.Proof.Gate
public import proofs.«01_k».proof.Proof.Gen.ReferenceIdeal.Run
public import Idealize.ShloMosaic.Lib.Pointwise.Tactic
public import Idealize.ShloMosaic.Lib.Pointwise.Reshape
public import Idealize.ShloMosaic.Lib.Pointwise.Contract

@[expose] public section

noncomputable section

namespace Cert.Proof.Experts.Ref

open Cert.ReferenceIdeal Cert.ReferenceIdeal.Gen
open Idealize.ShloMosaic Idealize.ShloMosaic.TcCoe

/-- The row numbers, the negative ones counted from the end. -/
def idxR (a1 : IVec S288 32) : IVec S288x1 32 :=
  broadcastInDim S288x1 ![0] bcast_S288_S288x1_0 (select (cmpi .slt a1 (broadcastInDim S288 ![] bcast_S_S288 (constantI S_ 32 0#32))) (addi a1 (broadcastInDim S288 ![] bcast_S_S288 (constantI S_ 32 32#32))) a1)
/-- The rows, zero from each block's own count on. -/
def rowR (a0 : FVec Ideal S294912x8x128 .f32) (a2 : IVec S288 32) : FVec Ideal S288x1024x1024 .f32 :=
  select (broadcastInDim S288x1024x1024 ![0, 1, 2] bcast_S288x1024x1_S288x1024x1024_0_1_2 (cmpi .slt (broadcastInDim S288x1024x1 ![0, 1, 2] bcast_S1x1024x1_S288x1024x1_0_1_2 (broadcastInDim S1x1024x1 ![1] bcast_S1024_S1x1024x1_1 (iotaInDim S1024 32 0))) (broadcastInDim S288x1024x1 ![0, 1, 2] bcast_S288x1x1_S288x1024x1_0_1_2 (broadcastInDim S288x1x1 ![0] bcast_S288_S288x1x1_0 a2)))) (shapeCast _ a0 shapeCasts_S294912x8x128_S288x1024x1024) (broadcastInDim S288x1024x1024 ![] bcast_S_S288x1024x1024 (constant S_ .f32 0x00000000#32))
/-- The first product and its bias. -/
def hidR (x : FVec Ideal S288x1024x1024 .f32) (g : FVec Ideal S288x1024x2048 .f32) (p : FVec Ideal S288x2048 .f32) : FVec Ideal S288x1024x2048 .f32 :=
  addf (Host.dotGeneral dot_S288x1024x1024_S288x1024x2048_S288x1024x2048_2_1_1_2_0_0 none x g) (broadcastInDim S288x1024x2048 ![0, 1, 2] bcast_S288x1x2048_S288x1024x2048_0_1_2 (broadcastInDim S288x1x2048 ![0, 2] bcast_S288x2048_S288x1x2048_0_2 p))
/-- The gate's columns, bounded above. -/
def gateR (h : FVec Ideal S288x1024x2048 .f32) : FVec Ideal S288x1024x1024 .f32 :=
  minimumf (Host.slice S288x1024x1024 ![0, 0, 0] ![1, 1, 2] h slicesBy_S288x1024x2048_S288x1024x1024_0s1_0s1_0s2) (broadcastInDim S288x1024x1024 ![] bcast_S_S288x1024x1024 (constant S_ .f32 0x40E00000#32))
/-- The gated columns. -/
def actR (h : FVec Ideal S288x1024x2048 .f32) : FVec Ideal S288x1024x1024 .f32 :=
  mulf (mulf (gateR h) (Host.divf (broadcastInDim S288x1024x1024 ![] bcast_S_S288x1024x1024 (constant S_ .f32 0x3F800000#32)) (addf (broadcastInDim S288x1024x1024 ![] bcast_S_S288x1024x1024 (constant S_ .f32 0x3F800000#32)) (Host.exp (Host.negf (mulf (broadcastInDim S288x1024x1024 ![] bcast_S_S288x1024x1024 (constant S_ .f32 0x3FD9DB23#32)) (gateR h))))))) (addf (minimumf (broadcastInDim S288x1024x1024 ![] bcast_S_S288x1024x1024 (constant S_ .f32 0x40E00000#32)) (maximumf (broadcastInDim S288x1024x1024 ![] bcast_S_S288x1024x1024 (constant S_ .f32 0xC0E00000#32)) (Host.slice S288x1024x1024 ![0, 0, 1] ![1, 1, 2] h slicesBy_S288x1024x2048_S288x1024x1024_0s1_0s1_1s2))) (broadcastInDim S288x1024x1024 ![] bcast_S_S288x1024x1024 (constant S_ .f32 0x3F800000#32)))
/-- The second product and its bias, zero in a block with no rows of its own. -/
def outR (a2 : IVec S288 32) (u : FVec Ideal S288x1024x1024 .f32) (d : FVec Ideal S288x1024x1024 .f32) (q : FVec Ideal S288x1024 .f32) : FVec Ideal S294912x8x128 .f32 :=
  shapeCast _ (select (broadcastInDim S288x1024x1024 ![0, 1, 2] bcast_S288x1x1_S288x1024x1024_0_1_2 (broadcastInDim S288x1x1 ![0] bcast_S288_S288x1x1_0 (cmpi .sgt a2 (broadcastInDim S288 ![] bcast_S_S288 (constantI S_ 32 0#32))))) (addf (Host.dotGeneral dot_S288x1024x1024_S288x1024x1024_S288x1024x1024_2_1_1_2_0_0 none u d) (broadcastInDim S288x1024x1024 ![0, 1, 2] bcast_S288x1x1024_S288x1024x1024_0_1_2 (broadcastInDim S288x1x1024 ![0, 2] bcast_S288x1024_S288x1x1024_0_2 q))) (broadcastInDim S288x1024x1024 ![] bcast_S_S288x1024x1024 (constant S_ .f32 0x00000000#32))) shapeCasts_S288x1024x1024_S294912x8x128

/-- The reference's term is these, composed. -/
theorem res_eq (m : (ℓ : Loc nD τ sig) → Buf (Elt Ideal) ℓ) (c : Dev nD) :
    Cert.ReferenceIdeal.Value.res_main_v65 m c
      = outR (m ((c.tc : Thread nD τ).loc main_arg2))
          (actR (hidR (rowR (m ((c.tc : Thread nD τ).loc main_arg0)) (m ((c.tc : Thread nD τ).loc main_arg2)))
            (Host.gather gather_S32x1024x2048_S288x1_S288x1024x2048_12_0_n_n_0_1_110242048 (m ((c.tc : Thread nD τ).loc main_arg3)) (idxR (m ((c.tc : Thread nD τ).loc main_arg1))))
            (Host.gather gather_S32x2048_S288x1_S288x2048_1_0_n_n_0_1_12048 (m ((c.tc : Thread nD τ).loc main_arg4)) (idxR (m ((c.tc : Thread nD τ).loc main_arg1))))))
          (Host.gather gather_S32x1024x1024_S288x1_S288x1024x1024_12_0_n_n_0_1_110241024 (m ((c.tc : Thread nD τ).loc main_arg5)) (idxR (m ((c.tc : Thread nD τ).loc main_arg1))))
          (Host.gather gather_S32x1024_S288x1_S288x1024_1_0_n_n_0_1_11024 (m ((c.tc : Thread nD τ).loc main_arg6)) (idxR (m ((c.tc : Thread nD τ).loc main_arg1)))) := by
  unfold Cert.ReferenceIdeal.Value.res_main_v65 outR actR gateR hidR rowR idxR
  rfl

set_option maxRecDepth 16384 in
theorem idxR_at (a1 : IVec S288 32) (b : Fin 288) (h : 0 ≤ (a1 (ix1 b)).toInt) : idxR a1 (ix2 b 0) = a1 (ix1 b) := by
  have e : idxR a1 (ix2 b 0) = Scalar.select (IntOp.cmpi .slt (a1 (ix1 b)) 0#32) (IntOp.addi (a1 (ix1 b)) 32#32) (a1 (ix1 b)) := by
    pointwise [idxR]
  rw [e]
  have h0 : (0#32 : BitVec 32).toInt = 0 := by decide
  have hc : IntOp.cmpi .slt (a1 (ix1 b)) 0#32 = 0#1 := by
    simp only [IntOp.cmpi, BitVec.slt_eq_decide, h0, decide_eq_false (by omega : ¬ (a1 (ix1 b)).toInt < 0)]
    rfl
  rw [hc]
  rfl
set_option maxRecDepth 16384 in
theorem rowR_at (a0 : FVec Ideal S294912x8x128 .f32) (a2 : IVec S288 32) (b : Fin 288) (r k : Fin 1024) :
    rowR a0 a2 (ix3 b r k) = Scalar.select (IntOp.cmpi .slt (BitVec.ofNat 32 r.val) (a2 (ix1 b)))
      (a0 (ix3 ⟨b.val * 1024 + r.val, by omega⟩ ⟨k.val / 128, by omega⟩ ⟨k.val % 128, by omega⟩)) 0 := by
  pointwise [rowR]
set_option maxRecDepth 16384 in
theorem hidR_at (x : FVec Ideal S288x1024x1024 .f32) (g : FVec Ideal S288x1024x2048 .f32) (p : FVec Ideal S288x2048 .f32) (b : Fin 288) (r : Fin 1024) (n : Fin 2048) :
    hidR x g p (ix3 b r n) = (∑ k : Fin 1024, x (ix3 b r k) * g (ix3 b k n)) + p (ix2 b n) := by
  pointwise [hidR]
set_option maxRecDepth 16384 in
theorem gateR_at (h : FVec Ideal S288x1024x2048 .f32) (b : Fin 288) (r j : Fin 1024) :
    gateR h (ix3 b r j) = min (h (ix3 b r ⟨2 * j.val, by omega⟩)) (Ideal.ofBits .f32 0x40E00000#32) := by
  pointwise [gateR]
set_option maxRecDepth 16384 in
theorem actR_at (h : FVec Ideal S288x1024x2048 .f32) (b : Fin 288) (r j : Fin 1024) :
    actR h (ix3 b r j) = gated (h (ix3 b r ⟨2 * j.val, by omega⟩)) (h (ix3 b r ⟨1 + 2 * j.val, by omega⟩)) := by
  pointwise [actR, gateR, gated]
set_option maxRecDepth 16384 in
theorem outR_at (a2 : IVec S288 32) (u d : FVec Ideal S288x1024x1024 .f32) (q : FVec Ideal S288x1024 .f32) (R : Fin 294912) (i : Fin 8) (l : Fin 128) :
    outR a2 u d q (ix3 R i l) = Scalar.select (IntOp.cmpi .sgt (a2 (ix1 ⟨R.val / 1024, by omega⟩)) 0#32)
      ((∑ j : Fin 1024, u (ix3 ⟨R.val / 1024, by omega⟩ ⟨R.val % 1024, by omega⟩ j) * d (ix3 ⟨R.val / 1024, by omega⟩ j ⟨i.val * 128 + l.val, by omega⟩)) + q (ix2 ⟨R.val / 1024, by omega⟩ ⟨i.val * 128 + l.val, by omega⟩)) 0 := by
  pointwise [outR]

end Cert.Proof.Experts.Ref

end
-- ==== Proof.Equal.lean ====
/- The region's results are the reference's: the value claim. -/
module

public import proofs.«01_k».proof.Proof.Value
public import proofs.«01_k».proof.Proof.RefValue
public import proofs.«01_k».proof.Proof.Frames
public import Idealize.ShloMosaic.Lib.Pointwise.IndexBridge

@[expose] public section

noncomputable section

namespace Cert.Proof.Experts

open Idealize.ShloMosaic Idealize.ShloMosaic.TcCoe
open Idealize.SL Idealize.SL.Sem

section
variable (A0 : Cert.KernelIdeal.S294912x8x128.Idx → EReal) (A1 A2 : IVec Cert.KernelIdeal.S288 32) (A3 : Cert.KernelIdeal.S32x1024x2048.Idx → EReal)
  (A4 : Cert.KernelIdeal.S32x2048.Idx → EReal) (A5 : Cert.KernelIdeal.S32x1024x1024.Idx → EReal) (A6 : Cert.KernelIdeal.S32x1024.Idx → EReal)

/-- The reference's result from its arguments. -/
abbrev refV : FVec Ideal Cert.ReferenceIdeal.S294912x8x128 .f32 :=
  Ref.outR A2
    (Ref.actR (Ref.hidR (Ref.rowR A0 A2)
      (Host.gather Cert.ReferenceIdeal.gather_S32x1024x2048_S288x1_S288x1024x2048_12_0_n_n_0_1_110242048 A3 (Ref.idxR A1))
      (Host.gather Cert.ReferenceIdeal.gather_S32x2048_S288x1_S288x2048_1_0_n_n_0_1_12048 A4 (Ref.idxR A1))))
    (Host.gather Cert.ReferenceIdeal.gather_S32x1024x1024_S288x1_S288x1024x1024_12_0_n_n_0_1_110241024 A5 (Ref.idxR A1))
    (Host.gather Cert.ReferenceIdeal.gather_S32x1024_S288x1_S288x1024_1_0_n_n_0_1_11024 A6 (Ref.idxR A1))

/-- A hidden column of the reference, plainly. -/
theorem hidR_eq (b : Fin 288) (r : Fin 1024) (n : Fin 2048) :
    Ref.hidR (Ref.rowR A0 A2)
      (Host.gather Cert.ReferenceIdeal.gather_S32x1024x2048_S288x1_S288x1024x2048_12_0_n_n_0_1_110242048 A3 (Ref.idxR A1))
      (Host.gather Cert.ReferenceIdeal.gather_S32x2048_S288x1_S288x2048_1_0_n_n_0_1_12048 A4 (Ref.idxR A1)) (ix3 b r n)
      = hidX A0 A3 A4 (Ref.rowAt (Ref.idxR A1) b) (A2 (ix1 b)) b r n := by
  rw [Ref.hidR_at, Ref.gatherP]
  unfold hidX
  refine congrArg (· + _) (Finset.sum_congr rfl fun k _ => ?_)
  rw [Ref.rowR_at, Ref.gatherG]
  unfold rowX
  have e : (⟨b.val * 1024 + r.val, by omega⟩ : Fin 294912) = ⟨1024 * b.val + r.val, by omega⟩ := Fin.ext (by dsimp only; omega)
  rw [e]

/-- The reference's result at an index. -/
theorem refV_at (R : Fin 294912) (i : Fin 8) (l : Fin 128) :
    refV A0 A1 A2 A3 A4 A5 A6 (ix3 R i l)
      = specX A0 A3 A4 A5 A6 (Ref.rowAt (Ref.idxR A1) ⟨R.val / 1024, by omega⟩) (A2 (ix1 ⟨R.val / 1024, by omega⟩)) ⟨R.val / 1024, by omega⟩
          ⟨R.val % 1024, by omega⟩ i l := by
  have hsum : ∀ (b : Fin 288) (r : Fin 1024) (n : Fin 1024),
      (∑ j : Fin 1024, Ref.actR (Ref.hidR (Ref.rowR A0 A2)
        (Host.gather Cert.ReferenceIdeal.gather_S32x1024x2048_S288x1_S288x1024x2048_12_0_n_n_0_1_110242048 A3 (Ref.idxR A1))
        (Host.gather Cert.ReferenceIdeal.gather_S32x2048_S288x1_S288x2048_1_0_n_n_0_1_12048 A4 (Ref.idxR A1))) (ix3 b r j)
        * Host.gather Cert.ReferenceIdeal.gather_S32x1024x1024_S288x1_S288x1024x1024_12_0_n_n_0_1_110241024 A5 (Ref.idxR A1) (ix3 b j n))
      = ∑ j : Fin 1024, gated (hidX A0 A3 A4 (Ref.rowAt (Ref.idxR A1) b) (A2 (ix1 b)) b r ⟨2 * j.val, by omega⟩)
          (hidX A0 A3 A4 (Ref.rowAt (Ref.idxR A1) b) (A2 (ix1 b)) b r ⟨2 * j.val + 1, by omega⟩) * A5 (ix3 (Ref.rowAt (Ref.idxR A1) b) j n) := by
    intro b r n
    refine Finset.sum_congr rfl fun j _ => ?_
    have e : (⟨1 + 2 * j.val, by omega⟩ : Fin 2048) = ⟨2 * j.val + 1, by omega⟩ := Fin.ext (by dsimp only; omega)
    rw [Ref.gatherD, Ref.actR_at, e, hidR_eq, hidR_eq]
  unfold refV
  rw [Ref.outR_at, hsum, Ref.gatherQ]
  rfl
end

/-- A word between 0 and 31 names the same row, clamped or reduced. -/
theorem row_eq (w : BitVec 32) (h0 : 0 ≤ w.toInt) (h1 : w.toInt < 32) : min w.toInt.toNat 31 = w.toNat % 32 := by
  have e := BitVec.toInt_eq_toNat_cond w
  have := w.isLt
  split at e <;> omega

section
variable (m : (ℓ : Loc Cert.KernelIdeal.nD Cert.KernelIdeal.τ Cert.KernelIdeal.sig) → Buf (Elt Ideal) ℓ) (c : Dev Cert.KernelIdeal.nD)

theorem at288_eq (b : Fin 288) : at288 b.val = ix1 b := by
  rw [ix1_eq_valueIdx]
  exact congrArg ValueIdx.ix1 (Fin.ext (by dsimp only; omega))

/-- The two results, equal. -/
theorem result_eq (h : PreOK (F := Ideal) m) :
    result (blockAt (F := Ideal) m c)
      = refV (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5))
          (m ((c : Thread Cert.KernelIdeal.nD Cert.KernelIdeal.τ).loc Cert.KernelIdeal.main_arg6)) := by
  funext y
  obtain ⟨R, i, l, rfl⟩ : ∃ (R : Fin 294912) (i : Fin 8) (l : Fin 128), y = ix3 R i l := ⟨y 0, y 1, y 2, eq_ix3 y⟩
  have hR := R.isLt
  rw [refV_at]
  have e1 : result (blockAt (F := Ideal) m c) (ix3 R i l) = blockAt (F := Ideal) m c (R.val / 1024) (ix3 ⟨R.val % 1024, by omega⟩ i l) := by
    rw [ix3_eq_valueIdx (⟨R.val % 1024, by omega⟩ : Fin 1024)]
    rfl
  rw [e1]
  refine (blockAt_at m c ⟨R.val / 1024, by omega⟩ ⟨R.val % 1024, by omega⟩ i l).trans ?_
  generalize (⟨R.val / 1024, by omega⟩ : Fin 288) = b
  obtain ⟨h0, h1⟩ := h c (ix1 b)
  have ev : vOf (F := Ideal) m c b.val = m ((c : Thread Cert.KernelIdeal.nD Cert.KernelIdeal.τ).loc Cert.KernelIdeal.main_arg2) (ix1 b) := by
    unfold vOf
    rw [at288_eq]
    exact words_arg2 m c _
  have ee : eOf (F := Ideal) m c b.val = Ref.rowAt (Ref.idxR (m ((c : Thread Cert.KernelIdeal.nD Cert.KernelIdeal.τ).loc Cert.KernelIdeal.main_arg1))) b := by
    refine Fin.ext ?_
    show (words m c 0 (at288 b.val)).toNat % 32 = min (Ref.idxR _ (ix2 b 0)).toInt.toNat 31
    rw [at288_eq, words_arg1, Ref.idxR_at _ b h0, row_eq _ h0 h1]
  rw [ev, ee]
end

/-- The value claim. -/
theorem algebraic : Cert.algebraic_KernelIdeal_ReferenceIdeal := by
  intro m g m' g' hpre hargs
  have hok := ok_of_pre m hpre
  refine ⟨fun c => result (blockAt (F := Ideal) m c), ?_, ?_⟩
  · exact (θ_run Cert.KernelIdeal.defs _ _).mono (fun _ h c => h.1 c) (run_final (F := Ideal) m g hok)
  · refine (θ_run Cert.ReferenceIdeal.defs _ _).mono (fun r h c => ⟨((h c).1.trans (Ref.res_eq m' c)).trans ?_, (h c).2⟩)
      (Cert.ReferenceIdeal.Value.run (F := Ideal) m' g')
    obtain ⟨a0, a1, a2, a3, a4, a5, a6⟩ := hargs c
    refine Eq.trans ?_ (result_eq m c hok).symm
    rw [a0, a1, a2, a3, a4, a5, a6]

end Cert.Proof.Experts

end
-- ==== Proof.ProjRun.lean ====
/- The input projection: what a grid point leaves in the normalised rows and in the output block. -/
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack

@[expose] public section

noncomputable section

namespace Cert.Proof.InProj

open Cert.Kernel2Ideal Cert.Kernel2Ideal.Gen
open Idealize.ShloMosaic Idealize.ShloMosaic.TcCoe

variable (m : (ℓ : Loc nD τ sig) → Buf (Elt Ideal) ℓ) (c : Dev nD)

/-- The normalised and modulated rows a point computes from its blocks. -/
def rows (t : Fin cfg0.N) : FVec Ideal S2048x1024 .bf16 :=
  k0_pay1 (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 0 t) (iblk m c 2 t)

theorem keep_A (t : Fin cfg0.N) (h0 : t.val % 4 = 0) : (outsAt0 m c t.val t.isLt).2 = rows m c t := by
  rw [outsAt0_A m c t h0]; frame_out; rfl
theorem keep_B (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]; rfl

/-- Every point of a run of four works on the rows of the run's first point. -/
theorem keep_eq (t : Fin cfg0.N) : (outsAt0 m c t.val t.isLt).2 = rows m c ⟨4 * (t.val / 4), Pipeline.run_start_lt t⟩ :=
  funext fun i => Pipeline.eq_of_write_hold_apply (fun n h => (outsAt0 m c n h).2) 4 (rows m c)
    (fun t h i => congrFun (keep_A m c t h) i) (fun t h i => congrFun (keep_B m c t h) i) t i

/-- The output block: those rows times the point's block of weights. -/
theorem out_eq (t : Fin cfg0.N) : (outsAt0 m c t.val t.isLt).1 = k0_pay2 (rows m c ⟨4 * (t.val / 4), Pipeline.run_start_lt t⟩) (iblk m c 3 t) := by
  rw [← keep_eq]
  by_cases h0 : t.val % 4 = 0
  · rw [keep_A m c t h0, outsAt0_A m c t h0]; frame_out; rfl
  · rw [keep_B m c t h0, outsAt0_B m c t h0]; frame_out; simp only [read_unread_whole]

end Cert.Proof.InProj

end
-- ==== Proof.ProjCore.lean ====
/- The input projection: what both programs compute. -/
module

public import Idealize.ShloMosaic.PureOps.Ideal
public import Idealize.ShloMosaic.Lib.Pointwise.Tactic

@[expose] public section

noncomputable section

namespace Cert.Proof.InProj

open Idealize.ShloMosaic

/-- A normalised and modulated element of a row `x`: the shift `sh`, the scale `sc`, the norm's weights `g`. -/
def nrm (x sh sc g : Fin 1024 → EReal) (k : Fin 1024) : EReal :=
  x k * Ideal.rsqrt (Ideal.div (∑ l, x l * x l) (Ideal.ofBits FTy.f32 1149239296#32) + Ideal.ofBits FTy.f32 897988541#32) * g k * (1 + sc k) + sh k

/-- Where column `n` of the regrouped product comes from. -/
def src (n : Fin 8704) : Fin 8704 := ⟨if n.val < 5120 then n.val else if n.val < 7168 then n.val + 1536 else n.val - 2048, by split_ifs <;> omega⟩

end Cert.Proof.InProj

end
-- ==== Proof.ProjPay.lean ====
/- The input projection: the kernel's two stored values and its prepared operands at an index. -/
module

public import proofs.«01_k».proof.Proof.ProjCore
public import proofs.«01_k».proof.Proof.Gen.Kernel2Ideal.Frame
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select
public import Idealize.ShloMosaic.Lib.Pipeline.Value

@[expose] public section

noncomputable section

namespace Cert.Proof.InProj

open Cert.Kernel2Ideal Cert.Kernel2Ideal.Gen
open Idealize.ShloMosaic Idealize.ShloMosaic.TcCoe Idealize.ShloMosaic.StableHlo

set_option maxRecDepth 16384 in
theorem pay1_at (a b : FVec Ideal S1x1x1024 .f32) (x : FVec Ideal S1x2048x1024 .f32) (g : FVec Ideal S1x1024 .f32) (r : Fin 2048) (k : Fin 1024) :
    k0_pay1 (F := Ideal) a b x g (ix2 r k)
      = nrm (fun l => x (ix3 0 r l)) (fun l => a (ix3 0 0 l)) (fun l => b (ix3 0 0 l)) (fun l => g (ix2 0 l)) k := by
  pointwise [k0_pay1]
  rfl

set_option maxRecDepth 16384 in
theorem pay2_at (u : FVec Ideal S2048x1024 .bf16) (w : FVec Ideal S1024x2176 .bf16) (r : Fin 2048) (n : Fin 2176) :
    k0_pay2 (F := Ideal) u w (ix3 0 r n) = ∑ k, u (ix2 r k) * w (ix2 k n) := by
  pointwise [k0_pay2]

/-- The weights with the columns of the neighbourhood attention moved last. -/
def layW (A : FVec Ideal S1024x8704 .f32) : FVec Ideal S1024x8704 .bf16 :=
  truncf .bf16 (concatenate S1024x8704 1 [⟨S1024x5120, extractStridedSlice S1024x5120 ![0, 0] A slices_S1024x8704_S1024x5120_0_0⟩, ⟨S1024x2048, extractStridedSlice S1024x2048 ![0, 6656] A slices_S1024x8704_S1024x2048_0_6656⟩, ⟨S1024x1536, extractStridedSlice S1024x1536 ![0, 5120] A slices_S1024x8704_S1024x1536_0_5120⟩] concatenates_S1024x5120_S1024x2048_S1024x1536_S1024x8704_d1) bitsLt_bf16_f32

set_option maxRecDepth 16384 in
theorem layW_at (A : FVec Ideal S1024x8704 .f32) (k : Fin 1024) (n : Fin 8704) : layW A (ix2 k n) = A (ix2 k (src n)) := by
  have hn := n.isLt
  pointwise [layW]
  by_cases h1 : n.val < 5120
  · rw [dif_pos h1]
    exact congrArg (fun z => A (ix2 k z)) (Fin.ext (by unfold src; dsimp only; rw [if_pos h1]))
  · rw [dif_neg h1]
    by_cases h2 : n.val - 5120 < 2048
    · rw [dif_pos h2]
      exact congrArg (fun z => A (ix2 k z)) (Fin.ext (by unfold src; dsimp only; rw [if_neg h1, if_pos (by omega)]; omega))
    · rw [dif_neg h2]
      exact congrArg (fun z => A (ix2 k z)) (Fin.ext (by unfold src; dsimp only; rw [if_neg h1, if_neg (by omega)]; omega))

section Layout
variable (m : (ℓ : Loc nD τ sig) → Buf (Elt Ideal) ℓ) (c : Dev nD)

theorem V_main_v4 : V m c main_v4 = layW (m ((c : Thread nD τ).loc main_arg3)) := by
  simp only [V, hostOps0]
  after_results_simp <;> rfl
theorem V_main_v5 : V m c main_v5 = shapeCast S1x1024 (m ((c : Thread nD τ).loc main_arg2)) shapeCasts_S1024_S1x1024 := by
  simp only [V, hostOps0]
  after_results_simp <;> rfl

end Layout

end Cert.Proof.InProj

end
-- ==== Proof.ProjBlocks.lean ====
/- The input projection: the blocks a grid point is given, from the arguments. -/
module

public import proofs.«01_k».proof.Proof.ProjRun
public import proofs.«01_k».proof.Proof.ProjPay
public import Idealize.ShloMosaic.Lib.Pointwise.IndexBridge

@[expose] public section

noncomputable section

namespace Cert.Proof.InProj

open Cert.Kernel2Ideal Cert.Kernel2Ideal.Gen
open Idealize.ShloMosaic Idealize.ShloMosaic.TcCoe

/-! The printed index maps over the grid of 16 by 2 by 4 points. -/

theorem idx0 : ∀ t : Fin cfg0.N, win0_0.index t = ![t.val / 8, t.val / 4 % 2, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 4] := (by decide +kernel : ∀ t : Fin grid0.N, _)
theorem lt128 (t : Fin cfg0.N) : t.val < 128 := lt_of_lt_of_eq t.isLt N_0

variable (m : (ℓ : Loc nD τ sig) → Buf (Elt Ideal) ℓ) (c : Dev nD)

theorem blk0_at (t : Fin cfg0.N) (r : Fin 2048) (k : Fin 1024) :
    iblk m c 0 t (ix3 0 r k) = m ((c : Thread nD τ).loc main_arg0) (ix3 ⟨t.val / 8, by have := lt128 t; omega⟩ ⟨t.val / 4 % 2 * 2048 + r.val, by omega⟩ k) := by
  rw [← V_main_arg0 m c]
  blk_ext [iblk, idx0 t]
theorem blk1_at (t : Fin cfg0.N) (q : Fin 6) (k : Fin 1024) :
    iblk m c 1 t (ix3 0 q k) = m ((c : Thread nD τ).loc main_arg1) (ix3 ⟨t.val / 8, by have := lt128 t; omega⟩ q k) := by
  rw [← V_main_arg1 m c]
  blk_ext [iblk, idx1 t]
theorem blk1_at0 (t : Fin cfg0.N) (k : Fin 1024) :
    View.ld (iblk m c 1 t) (Rect.unit ![0, 0, 0] ![1, 1, 1024] inb_S1x6x1024_S1x1x1024_0_0_0) (ix3 0 0 k)
      = m ((c : Thread nD τ).loc main_arg1) (ix3 ⟨t.val / 8, by have := lt128 t; omega⟩ 0 k) := by
  rw [← blk1_at m c t 0 k]
  exact View.ld_unit_apply_of _ _ _ _ _ _ (fun a => match a with | ⟨0, _⟩ => rfl | ⟨1, _⟩ => rfl | ⟨2, _⟩ => (Nat.zero_add _).symm)
theorem blk1_at1 (t : Fin cfg0.N) (k : Fin 1024) :
    View.ld (iblk m c 1 t) (Rect.unit ![0, 1, 0] ![1, 1, 1024] inb_S1x6x1024_S1x1x1024_0_1_0) (ix3 0 0 k)
      = m ((c : Thread nD τ).loc main_arg1) (ix3 ⟨t.val / 8, by have := lt128 t; omega⟩ 1 k) := by
  rw [← blk1_at m c t 1 k]
  exact View.ld_unit_apply_of _ _ _ _ _ _ (fun a => match a with | ⟨0, _⟩ => rfl | ⟨1, _⟩ => rfl | ⟨2, _⟩ => (Nat.zero_add _).symm)
theorem blk2_at (t : Fin cfg0.N) (k : Fin 1024) :
    iblk m c 2 t (ix2 0 k) = m ((c : Thread nD τ).loc main_arg2) (ix1 k) := by
  have e : V m c main_v5 (ix2 0 k) = m ((c : Thread nD τ).loc main_arg2) (ix1 k) := by
    rw [V_main_v5]
    pointwise
  rw [← e]
  blk_ext [iblk, idx2 t]
theorem blk3_at (t : Fin cfg0.N) (k : Fin 1024) (n : Fin 2176) :
    iblk m c 3 t (ix2 k n) = m ((c : Thread nD τ).loc main_arg3) (ix2 k (src ⟨t.val % 4 * 2176 + n.val, by omega⟩)) := by
  refine Eq.trans ?_ (layW_at (m ((c : Thread nD τ).loc main_arg3)) k ⟨t.val % 4 * 2176 + n.val, by omega⟩)
  rw [← V_main_v4 m c]
  blk_ext [iblk, idx3 t]

/-- The rows a point computes, element by element. -/
theorem rows_at (t : Fin cfg0.N) (r : Fin 2048) (k : Fin 1024) :
    rows m c t (ix2 r k)
      = nrm (fun l => m ((c : Thread nD τ).loc main_arg0) (ix3 ⟨t.val / 8, by have := lt128 t; omega⟩ ⟨t.val / 4 % 2 * 2048 + r.val, by omega⟩ l))
          (fun l => m ((c : Thread nD τ).loc main_arg1) (ix3 ⟨t.val / 8, by have := lt128 t; omega⟩ 0 l))
          (fun l => m ((c : Thread nD τ).loc main_arg1) (ix3 ⟨t.val / 8, by have := lt128 t; omega⟩ 1 l))
          (fun l => m ((c : Thread nD τ).loc main_arg2) (ix1 l)) k := by
  unfold rows
  refine (pay1_at _ _ _ _ r k).trans ?_
  simp only [blk0_at, blk1_at0, blk1_at1, blk2_at]

end Cert.Proof.InProj

end
-- ==== Proof.ProjRef.lean ====
/- The input projection: the reference's result at an index. -/
module

public import proofs.«01_k».proof.Proof.ProjCore
public import proofs.«01_k».proof.Proof.Gen.Reference2Ideal.Run
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.InProj

namespace Ref

open Cert.Reference2Ideal Cert.Reference2Ideal.Gen
open Idealize.ShloMosaic Idealize.ShloMosaic.TcCoe Idealize.ShloMosaic.StableHlo

/-- The normalised and modulated input. -/
def xn (x : FVec Ideal S16x4096x1024 .f32) (md : FVec Ideal S16x6x1024 .f32) (g : FVec Ideal S1024 .f32) : FVec Ideal S16x4096x1024 .f32 :=
  addf (mulf (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S16x1x1024_S16x4096x1024_0_1_2 (addf (broadcastInDim S16x1x1024 ![] bcast_S_S16x1x1024 (constant S_ .f32 0x3F800000#32)) (extractStridedSlice S16x1x1024 ![0, 1, 0] md slices_S16x6x1024_S16x1x1024_0_1_0)))) (broadcastInDim S16x4096x1024 ![0, 1, 2] bcast_S16x1x1024_S16x4096x1024_0_1_2 (extractStridedSlice S16x1x1024 ![0, 0, 0] md slices_S16x6x1024_S16x1x1024_0_0_0))

/-- Its product with the weights. -/
def prod (u : FVec Ideal S16x4096x1024 .f32) (w : FVec Ideal S1024x8704 .f32) : FVec Ideal S16x4096x8704 .f32 :=
  Host.dotGeneral dot_S16x4096x1024_S1024x8704_S16x4096x8704_2_0_01_1_n_n none u w

/-- The product's columns regrouped, those of the neighbourhood attention last. -/
def regroup (p : FVec Ideal S16x4096x8704 .f32) : FVec Ideal S16x4096x8704 .bf16 :=
  truncf .bf16 (concatenate S16x4096x8704 2 [⟨S16x4096x5120, extractStridedSlice S16x4096x5120 ![0, 0, 0] p slices_S16x4096x8704_S16x4096x5120_0_0_0⟩, ⟨S16x4096x2048, extractStridedSlice S16x4096x2048 ![0, 0, 6656] p slices_S16x4096x8704_S16x4096x2048_0_0_6656⟩, ⟨S16x4096x1536, extractStridedSlice S16x4096x1536 ![0, 0, 5120] p slices_S16x4096x8704_S16x4096x1536_0_0_5120⟩] concatenates_S16x4096x5120_S16x4096x2048_S16x4096x1536_S16x4096x8704_d2) bitsLt_bf16_f32

/-- The reference's result from its arguments. -/
def out (x : FVec Ideal S16x4096x1024 .f32) (md : FVec Ideal S16x6x1024 .f32) (g : FVec Ideal S1024 .f32) (w : FVec Ideal S1024x8704 .f32) :
    FVec Ideal S16x4096x8704 .bf16 := regroup (prod (xn x md g) w)

theorem res_eq (m : (ℓ : Loc nD τ sig) → Buf (Elt Ideal) ℓ) (c : Dev nD) :
    Cert.Reference2Ideal.Value.res_main_v26 m c
      = out (m ((c.tc : Thread nD τ).loc main_arg0)) (m ((c.tc : Thread nD τ).loc main_arg1)) (m ((c.tc : Thread nD τ).loc main_arg2)) (m ((c.tc : Thread nD τ).loc main_arg3)) := by
  unfold Cert.Reference2Ideal.Value.res_main_v26 out regroup prod xn
  rfl

set_option maxRecDepth 16384 in
theorem xn_at (x : FVec Ideal S16x4096x1024 .f32) (md : FVec Ideal S16x6x1024 .f32) (g : FVec Ideal S1024 .f32) (b : Fin 16) (s : Fin 4096) (k : Fin 1024) :
    xn x md g (ix3 b s k) = nrm (fun l => x (ix3 b s l)) (fun l => md (ix3 b 0 l)) (fun l => md (ix3 b 1 l)) (fun l => g (ix1 l)) k := by
  pointwise [xn]
  rfl

set_option maxRecDepth 16384 in
theorem prod_at (u : FVec Ideal S16x4096x1024 .f32) (w : FVec Ideal S1024x8704 .f32) (b : Fin 16) (s : Fin 4096) (n : Fin 8704) :
    prod u w (ix3 b s n) = ∑ k, u (ix3 b s k) * w (ix2 k n) := by
  pointwise [prod]

set_option maxRecDepth 16384 in
theorem regroup_at (p : FVec Ideal S16x4096x8704 .f32) (b : Fin 16) (s : Fin 4096) (n : Fin 8704) :
    regroup p (ix3 b s n) = p (ix3 b s (src n)) := by
  have hn := n.isLt
  pointwise [regroup]
  by_cases h1 : n.val < 5120
  · rw [dif_pos h1]
    exact congrArg (fun z => p (ix3 b s z)) (Fin.ext (by unfold src; dsimp only; rw [if_pos h1]))
  · rw [dif_neg h1]
    by_cases h2 : n.val - 5120 < 2048
    · rw [dif_pos h2]
      exact congrArg (fun z => p (ix3 b s z)) (Fin.ext (by unfold src; dsimp only; rw [if_neg h1, if_pos (by omega)]; omega))
    · rw [dif_neg h2]
      exact congrArg (fun z => p (ix3 b s z)) (Fin.ext (by unfold src; dsimp only; rw [if_neg h1, if_neg (by omega)]; omega))

/-- The reference's result at an index. -/
theorem out_at (x : FVec Ideal S16x4096x1024 .f32) (md : FVec Ideal S16x6x1024 .f32) (g : FVec Ideal S1024 .f32) (w : FVec Ideal S1024x8704 .f32) (b : Fin 16) (s : Fin 4096) (n : Fin 8704) :
    out x md g w (ix3 b s n)
      = ∑ k, nrm (fun l => x (ix3 b s l)) (fun l => md (ix3 b 0 l)) (fun l => md (ix3 b 1 l)) (fun l => g (ix1 l)) k * w (ix2 k (src n)) := by
  unfold out
  rw [regroup_at, prod_at]
  exact Finset.sum_congr rfl fun k _ => by rw [xn_at]

end Ref

end Cert.Proof.InProj

end
-- ==== Proof.ProjEqual.lean ====
/- The input projection: the region's result is the reference's, and the reference's frame claim. -/
module

public import proofs.«01_k».proof.Proof.ProjBlocks
public import proofs.«01_k».proof.Proof.ProjRef
public import proofs.«01_k».proof.Defs
public import Idealize.ShloMosaic.Lib.Quiescent

@[expose] public section

noncomputable section

namespace Cert.Proof.InProj

open Idealize.ShloMosaic Idealize.ShloMosaic.TcCoe
open Idealize.SL Idealize.SL.Sem

section
open Cert.Kernel2Ideal Cert.Kernel2Ideal.Gen Cert.Kernel2Ideal.Value
variable (m : (ℓ : Loc nD τ sig) → Buf (Elt Ideal) ℓ) (c : Dev nD)

/-- The result array at an index: the output block of the point that writes it. -/
theorem G4_at (b : Fin 16) (s : Fin 4096) (n : Fin 8704) (t : Fin cfg0.N) (ht : t.val = 8 * b.val + 4 * (s.val / 2048) + n.val / 2176) :
    G4 m c (ix3 b s n) = (outsAt0 m c t.val t.isLt).1 (ix3 0 ⟨s.val % 2048, by omega⟩ ⟨n.val % 2176, by omega⟩) := by
  have hp : pt4Of (ix3 b s n) = t.val := by
    show 8 * (b.val / 1 - 0) + 4 * (s.val / 2048 - 0) + 1 * (n.val / 2176 - 0) = t.val
    omega
  have hl : loc4Of (ix3 b s n) = ix3 0 ⟨s.val % 2048, by omega⟩ ⟨n.val % 2176, by omega⟩ := by
    funext a; apply Fin.ext
    match a with
    | ⟨0, _⟩ => show b.val % 1 = 0; omega
    | ⟨1, _⟩ => rfl
    | ⟨2, _⟩ => rfl
  rw [outsAt0_sweep]
  unfold G4
  rw [dif_pos (by rw [hp]; exact t.isLt), hl, fold0_congr m c _ _ _ _ hp]

/-- The two results, equal. -/
theorem result_eq :
    G4 m c = Ref.out (m ((c : Thread nD τ).loc main_arg0)) (m ((c : Thread nD τ).loc main_arg1)) (m ((c : Thread nD τ).loc main_arg2)) (m ((c : Thread nD τ).loc main_arg3)) := by
  funext y
  obtain ⟨b, s, n, rfl⟩ : ∃ (b : Fin 16) (s : Fin 4096) (n : Fin 8704), y = ix3 b s n := ⟨y 0, y 1, y 2, eq_ix3 y⟩
  have hb := b.isLt; have hs := s.isLt; have hn := n.isLt
  have hT : 8 * b.val + 4 * (s.val / 2048) + n.val / 2176 < cfg0.N := lt_of_lt_of_eq (by omega) N_0.symm
  rw [G4_at m c b s n ⟨_, hT⟩ rfl, out_eq]
  refine (pay2_at _ _ _ _).trans (Eq.trans ?_ (Ref.out_at _ _ _ _ b s n).symm)
  refine Finset.sum_congr rfl fun k _ => ?_
  rw [rows_at, blk3_at]
  have e0 : (8 * b.val + 4 * (s.val / 2048) + n.val / 2176) / 4 * 4 / 8 = b.val := by omega
  have e1 : (8 * b.val + 4 * (s.val / 2048) + n.val / 2176) / 4 * 4 / 4 % 2 * 2048 + s.val % 2048 = s.val := by omega
  have e2 : (8 * b.val + 4 * (s.val / 2048) + n.val / 2176) % 4 * 2176 + n.val % 2176 = n.val := by omega
  simp only [Nat.mul_comm 4 (_ / 4), e0, e1, e2, Fin.eta]
end

/-- The value claim. -/
theorem algebraic : Cert.algebraic_Kernel2Ideal_Reference2Ideal := by
  intro m g m' g' hpre hargs
  refine ⟨fun c => Cert.Kernel2Ideal.Value.G4 m c, Cert.Kernel2Ideal.Value.run m g, ?_⟩
  refine (θ_run Cert.Reference2Ideal.defs _ _).mono (fun r h c => ⟨((h c).1.trans (Ref.res_eq m' c)).trans ?_, (h c).2⟩)
    (Cert.Reference2Ideal.Value.run (F := Ideal) m' g')
  obtain ⟨a0, a1, a2, a3⟩ := hargs c
  refine Eq.trans ?_ (result_eq m c).symm
  rw [a0, a1, a2, a3]

/-- The reference's frame claim. -/
theorem frame_reference : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

end Cert.Proof.InProj

end
-- ==== Proof.CombCore.lean ====
/- The combination: what both programs compute. -/
module

public import Idealize.ShloMosaic.PureOps.Ideal
public import Idealize.ShloMosaic.Lib.Pointwise.Tactic

@[expose] public section

noncomputable section

namespace Cert.Proof.Combine

open Idealize.ShloMosaic

/-- The sum of a token's four expert rows `y`, each times its gate `r`. -/
def gated (y : Fin 4 → Fin 1024 → EReal) (r : Fin 4 → EReal) (k : Fin 1024) : EReal := ∑ j, y j k * r j

/-- An element of the layer's result: the row `x` plus the modulation `gt` times the normalised row `h`, the norm's weights `g`. -/
def fin (x gt h g : Fin 1024 → EReal) (k : Fin 1024) : EReal :=
  x k + gt k * (h k * Ideal.rsqrt (Ideal.div (∑ l, h l * h l) (Ideal.ofBits FTy.f32 1149239296#32) + Ideal.ofBits FTy.f32 897988541#32) * g k)

end Cert.Proof.Combine

end
-- ==== Proof.CombPay.lean ====
/- The combination: what the kernel stores, at an index. -/
module

public import proofs.«01_k».proof.Proof.CombCore
public import proofs.«01_k».proof.Proof.Gen.Kernel3Ideal.Frame
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select
public import Idealize.ShloMosaic.Lib.Pipeline.Value

@[expose] public section

noncomputable section

namespace Cert.Proof.Combine

open Cert.Kernel3Ideal Cert.Kernel3Ideal.Gen
open Idealize.ShloMosaic Idealize.ShloMosaic.TcCoe Idealize.ShloMosaic.StableHlo

set_option maxRecDepth 16384 in
theorem pay2_at (r : FVec Ideal S512x128 .f32) (y0 y1 y2 y3 : FVec Ideal S1x512x8x128 .f32) (s : Fin 512) (k : Fin 1024) :
    k0_pay2 (F := Ideal) r y0 y1 y2 y3 (ix2 s k)
      = r (ix2 s 0) * y0 (ix4 0 s ⟨k.val / 128, by omega⟩ ⟨k.val % 128, by omega⟩) + r (ix2 s 1) * y1 (ix4 0 s ⟨k.val / 128, by omega⟩ ⟨k.val % 128, by omega⟩)
        + r (ix2 s 2) * y2 (ix4 0 s ⟨k.val / 128, by omega⟩ ⟨k.val % 128, by omega⟩) + r (ix2 s 3) * y3 (ix4 0 s ⟨k.val / 128, by omega⟩ ⟨k.val % 128, by omega⟩) := by
  pointwise [k0_pay2]

set_option maxRecDepth 16384 in
theorem pay1_at (h : FVec Ideal S512x1024 .f32) (gt : FVec Ideal S1x1x1024 .f32) (x : FVec Ideal S512x1024 .f32) (g : FVec Ideal S1x1024 .f32) (q : FVec Ideal S512x1024 .f32) (s : Fin 512) (k : Fin 1024)
    (hq : ∀ l, q (ix2 s l) = h (ix2 s l) * h (ix2 s l)) :
    k0_pay1 (F := Ideal) h (k0_pay3 gt) x (k0_pay4 g) q (ix2 s k)
      = fin (fun l => x (ix2 s l)) (fun l => gt (ix3 0 0 l)) (fun l => h (ix2 s l)) (fun l => g (ix2 0 l)) k := by
  unfold fin
  simp only [← hq]
  pointwise [k0_pay1, k0_pay3, k0_pay4]

theorem pay5_at (r : FVec Ideal S512x128 .f32) (y0 y1 y2 y3 : FVec Ideal S1x512x8x128 .f32) (s : Fin 512) (k : Fin 1024) :
    k0_pay5 (F := Ideal) r y0 y1 y2 y3 (ix2 s k) = k0_pay2 r y0 y1 y2 y3 (ix2 s k) * k0_pay2 r y0 y1 y2 y3 (ix2 s k) := rfl

section Layout
variable (m : (ℓ : Loc nD τ sig) → Buf (Elt Ideal) ℓ) (c : Dev nD)

theorem V_main_v0 : V m c main_v0 = shapeCast S1x1024 (m ((c : Thread nD τ).loc main_arg4)) shapeCasts_S1024_S1x1024 := by
  show StableHlo.after hostOps0 (fun b => m (c, b)) (Proc.devRef .tc main_v0) = _
  simp only [hostOps0]
  after_results_simp <;> rfl

end Layout

end Cert.Proof.Combine

end
-- ==== Proof.CombBlocks.lean ====
/- The combination: the blocks a grid point is given, from the arguments, and what it stores. -/
module

public import proofs.«01_k».proof.Proof.CombPay
public import Idealize.ShloMosaic.Lib.Pointwise.IndexBridge
public import Idealize.ShloMosaic.Lib.Pipeline.ValueKit

@[expose] public section

noncomputable section

namespace Cert.Proof.Combine

open Cert.Kernel3Ideal Cert.Kernel3Ideal.Gen
open Idealize.ShloMosaic Idealize.ShloMosaic.TcCoe

/-! The printed index maps over the grid of 128 points. -/

theorem idx0 : ∀ t : Fin cfg0.N, win0_0.index t = ![0, t.val, 0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem lt128 (t : Fin cfg0.N) : t.val < 128 := lt_of_lt_of_eq t.isLt N_0

variable (m : (ℓ : Loc nD τ sig) → Buf (Elt Ideal) ℓ) (c : Dev nD)

theorem blk0_at (t : Fin cfg0.N) (j : Fin 4) (s : Fin 512) (a : Fin 8) (d : Fin 128) :
    iblk m c 0 t (ix4 j s a d) = m ((c : Thread nD τ).loc main_arg0) (ix4 j ⟨t.val * 512 + s.val, by have := lt128 t; omega⟩ a d) := by
  rw [← V_main_arg0 m c]
  blk_ext [iblk, idx0 t]
theorem blk1_at (t : Fin cfg0.N) (s : Fin 512) (k : Fin 1024) :
    iblk m c 1 t (ix2 s k) = m ((c : Thread nD τ).loc main_arg1) (ix2 ⟨t.val * 512 + s.val, by have := lt128 t; omega⟩ k) := by
  rw [← V_main_arg1 m c]
  blk_ext [iblk, idx1 t]
theorem blk2_at (t : Fin cfg0.N) (q : Fin 6) (k : Fin 1024) :
    iblk m c 2 t (ix3 0 q k) = m ((c : Thread nD τ).loc main_arg2) (ix3 ⟨t.val / 8, by have := lt128 t; omega⟩ q k) := by
  rw [← V_main_arg2 m c]
  blk_ext [iblk, idx2 t]
theorem blk3_at (t : Fin cfg0.N) (s : Fin 512) (k : Fin 128) :
    iblk m c 3 t (ix2 s k) = m ((c : Thread nD τ).loc main_arg3) (ix2 ⟨t.val * 512 + s.val, by have := lt128 t; omega⟩ k) := by
  rw [← V_main_arg3 m c]
  blk_ext [iblk, idx3 t]
theorem blk4_at (t : Fin cfg0.N) (k : Fin 1024) :
    iblk m c 4 t (ix2 0 k) = m ((c : Thread nD τ).loc main_arg4) (ix1 k) := by
  have e : V m c main_v0 (ix2 0 k) = m ((c : Thread nD τ).loc main_arg4) (ix1 k) := by
    rw [V_main_v0]
    pointwise
  rw [← e]
  blk_ext [iblk, idx4 t]

theorem row0_at (t : Fin cfg0.N) (s : Fin 512) (a : Fin 8) (d : Fin 128) :
    View.ld (iblk m c 0 t) r0_1 (ix4 0 s a d) = m ((c : Thread nD τ).loc main_arg0) (ix4 0 ⟨t.val * 512 + s.val, by have := lt128 t; omega⟩ a d) := by
  rw [← blk0_at m c t 0 s a d]
  exact View.ld_unit_apply_of _ _ _ _ _ _ (fun i => match i with | ⟨0, _⟩ => rfl | ⟨1, _⟩ => (Nat.zero_add _).symm | ⟨2, _⟩ => (Nat.zero_add _).symm | ⟨3, _⟩ => (Nat.zero_add _).symm)
theorem row1_at (t : Fin cfg0.N) (s : Fin 512) (a : Fin 8) (d : Fin 128) :
    View.ld (iblk m c 0 t) r0_2 (ix4 0 s a d) = m ((c : Thread nD τ).loc main_arg0) (ix4 1 ⟨t.val * 512 + s.val, by have := lt128 t; omega⟩ a d) := by
  rw [← blk0_at m c t 1 s a d]
  exact View.ld_unit_apply_of _ _ _ _ _ _ (fun i => match i with | ⟨0, _⟩ => rfl | ⟨1, _⟩ => (Nat.zero_add _).symm | ⟨2, _⟩ => (Nat.zero_add _).symm | ⟨3, _⟩ => (Nat.zero_add _).symm)
theorem row2_at (t : Fin cfg0.N) (s : Fin 512) (a : Fin 8) (d : Fin 128) :
    View.ld (iblk m c 0 t) r0_3 (ix4 0 s a d) = m ((c : Thread nD τ).loc main_arg0) (ix4 2 ⟨t.val * 512 + s.val, by have := lt128 t; omega⟩ a d) := by
  rw [← blk0_at m c t 2 s a d]
  exact View.ld_unit_apply_of _ _ _ _ _ _ (fun i => match i with | ⟨0, _⟩ => rfl | ⟨1, _⟩ => (Nat.zero_add _).symm | ⟨2, _⟩ => (Nat.zero_add _).symm | ⟨3, _⟩ => (Nat.zero_add _).symm)
theorem row3_at (t : Fin cfg0.N) (s : Fin 512) (a : Fin 8) (d : Fin 128) :
    View.ld (iblk m c 0 t) r0_4 (ix4 0 s a d) = m ((c : Thread nD τ).loc main_arg0) (ix4 3 ⟨t.val * 512 + s.val, by have := lt128 t; omega⟩ a d) := by
  rw [← blk0_at m c t 3 s a d]
  exact View.ld_unit_apply_of _ _ _ _ _ _ (fun i => match i with | ⟨0, _⟩ => rfl | ⟨1, _⟩ => (Nat.zero_add _).symm | ⟨2, _⟩ => (Nat.zero_add _).symm | ⟨3, _⟩ => (Nat.zero_add _).symm)
theorem gate_at (t : Fin cfg0.N) (k : Fin 1024) :
    View.ld (iblk m c 2 t) r0_5 (ix3 0 0 k) = m ((c : Thread nD τ).loc main_arg2) (ix3 ⟨t.val / 8, by have := lt128 t; omega⟩ 5 k) := by
  rw [← blk2_at m c t 5 k]
  exact View.ld_unit_apply_of _ _ _ _ _ _ (fun i => match i with | ⟨0, _⟩ => rfl | ⟨1, _⟩ => rfl | ⟨2, _⟩ => (Nat.zero_add _).symm)

/-- The gated sum a point computes. -/
theorem sum_at (t : Fin cfg0.N) (s : Fin 512) (k : Fin 1024) :
    k0_pay2 (F := Ideal) (iblk m c 3 t) (View.ld (iblk m c 0 t) r0_1) (View.ld (iblk m c 0 t) r0_2) (View.ld (iblk m c 0 t) r0_3) (View.ld (iblk m c 0 t) r0_4) (ix2 s k)
      = gated (fun j l => m ((c : Thread nD τ).loc main_arg0) (ix4 j ⟨t.val * 512 + s.val, by have := lt128 t; omega⟩ ⟨l.val / 128, by omega⟩ ⟨l.val % 128, by omega⟩))
          (fun j => m ((c : Thread nD τ).loc main_arg3) (ix2 ⟨t.val * 512 + s.val, by have := lt128 t; omega⟩ ⟨j.val, by omega⟩)) k := by
  refine (pay2_at _ _ _ _ _ s k).trans ?_
  rw [row0_at, row1_at, row2_at, row3_at, blk3_at, blk3_at, blk3_at, blk3_at]
  unfold gated
  rw [Fin.sum_univ_four]
  refine congrArg₂ _ (congrArg₂ _ (congrArg₂ _ ?_ ?_) ?_) ?_ <;> exact mul_comm _ _

/-- The value a point stores. -/
theorem stored_at (t : Fin cfg0.N) (s : Fin 512) (k : Fin 1024) :
    out0_5 (F := Ideal) (iblk m c 0 t) (iblk m c 1 t) (iblk m c 2 t) (iblk m c 3 t) (iblk m c 4 t) (ix2 s k)
      = fin (fun l => m ((c : Thread nD τ).loc main_arg1) (ix2 ⟨t.val * 512 + s.val, by have := lt128 t; omega⟩ l))
          (fun l => m ((c : Thread nD τ).loc main_arg2) (ix3 ⟨t.val / 8, by have := lt128 t; omega⟩ 5 l))
          (gated (fun j l => m ((c : Thread nD τ).loc main_arg0) (ix4 j ⟨t.val * 512 + s.val, by have := lt128 t; omega⟩ ⟨l.val / 128, by omega⟩ ⟨l.val % 128, by omega⟩))
            (fun j => m ((c : Thread nD τ).loc main_arg3) (ix2 ⟨t.val * 512 + s.val, by have := lt128 t; omega⟩ ⟨j.val, by omega⟩)))
          (fun l => m ((c : Thread nD τ).loc main_arg4) (ix1 l)) k := by
  frame_out
  refine (pay1_at _ _ _ _ _ s k (fun l => pay5_at _ _ _ _ _ s l)).trans ?_
  simp only [blk1_at, gate_at, blk4_at]
  exact congrArg (fun h => fin _ _ h _ k) (funext fun l => sum_at m c t s l)

end Cert.Proof.Combine

end
-- ==== Proof.CombRef.lean ====
/- The combination: the reference's result at an index. -/
module

public import proofs.«01_k».proof.Proof.CombCore
public import proofs.«01_k».proof.Proof.Gen.Reference3Ideal.Run
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.Combine

namespace Ref

open Cert.Reference3Ideal Cert.Reference3Ideal.Gen
open Idealize.ShloMosaic Idealize.ShloMosaic.TcCoe Idealize.ShloMosaic.StableHlo

/-- The gated sum. -/
def hs (y : FVec Ideal S4x65536x8x128 .f32) (r : FVec Ideal S65536x128 .f32) : FVec Ideal S16x4096x1024 .f32 :=
  Host.reduceAdd (mulf (shapeCast S4x16x4096x1024 y shapeCasts_S4x65536x8x128_S4x16x4096x1024) (broadcastInDim S4x16x4096x1024 ![0, 1, 2, 3] bcast_S4x16x4096x1_S4x16x4096x1024_0_1_2_3 (broadcastInDim S4x16x4096x1 ![0, 1, 2] bcast_S4x16x4096_S4x16x4096x1_0_1_2 (transpose S4x16x4096 [2, 0, 1] (extractStridedSlice S16x4096x4 ![0, 0, 0] (shapeCast S16x4096x128 r shapeCasts_S65536x128_S16x4096x128) slices_S16x4096x128_S16x4096x4_0_0_0) transposes_S16x4096x4_S4x16x4096_2_0_1)))) (constant S_ .f32 0x00000000#32) reducesTo_S4x16x4096x1024_S16x4096x1024_d0 h_S_

/-- The result from the gated sum. -/
def res (h : FVec Ideal S16x4096x1024 .f32) (x : FVec Ideal S65536x1024 .f32) (md : FVec Ideal S16x6x1024 .f32) (g : FVec Ideal S1024 .f32) : FVec Ideal S16x4096x1024 .f32 :=
  addf (shapeCast S16x4096x1024 x shapeCasts_S65536x1024_S16x4096x1024) (mulf (broadcastInDim S16x4096x1024 ![0, 1, 2] bcast_S16x1x1024_S16x4096x1024_0_1_2 (extractStridedSlice S16x1x1024 ![0, 5, 0] md slices_S16x6x1024_S16x1x1024_0_5_0)) (mulf (mulf h (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))))

/-- The reference's result from its arguments. -/
def out (y : FVec Ideal S4x65536x8x128 .f32) (x : FVec Ideal S65536x1024 .f32) (md : FVec Ideal S16x6x1024 .f32) (r : FVec Ideal S65536x128 .f32) (g : FVec Ideal S1024 .f32) :
    FVec Ideal S16x4096x1024 .f32 := res (hs y r) x md g

set_option maxRecDepth 16384 in
theorem hs_at (y : FVec Ideal S4x65536x8x128 .f32) (r : FVec Ideal S65536x128 .f32) (b : Fin 16) (s : Fin 4096) (k : Fin 1024) :
    hs y r (ix3 b s k) = gated (fun j l => y (ix4 j ⟨b.val * 4096 + s.val, by omega⟩ ⟨l.val / 128, by omega⟩ ⟨l.val % 128, by omega⟩)) (fun j => r (ix2 ⟨b.val * 4096 + s.val, by omega⟩ ⟨j.val, by omega⟩)) k := by
  unfold gated
  pointwise [hs]

set_option maxRecDepth 16384 in
theorem res_at (h : FVec Ideal S16x4096x1024 .f32) (x : FVec Ideal S65536x1024 .f32) (md : FVec Ideal S16x6x1024 .f32) (g : FVec Ideal S1024 .f32) (b : Fin 16) (s : Fin 4096) (k : Fin 1024) :
    res h x md g (ix3 b s k) = fin (fun l => x (ix2 ⟨b.val * 4096 + s.val, by omega⟩ l)) (fun l => md (ix3 b 5 l)) (fun l => h (ix3 b s l)) (fun l => g (ix1 l)) k := by
  unfold fin
  pointwise [res]

theorem out_at (y : FVec Ideal S4x65536x8x128 .f32) (x : FVec Ideal S65536x1024 .f32) (md : FVec Ideal S16x6x1024 .f32) (r : FVec Ideal S65536x128 .f32) (g : FVec Ideal S1024 .f32) (b : Fin 16) (s : Fin 4096) (k : Fin 1024) :
    out y x md r g (ix3 b s k)
      = fin (fun l => x (ix2 ⟨b.val * 4096 + s.val, by omega⟩ l)) (fun l => md (ix3 b 5 l))
          (gated (fun j l => y (ix4 j ⟨b.val * 4096 + s.val, by omega⟩ ⟨l.val / 128, by omega⟩ ⟨l.val % 128, by omega⟩)) (fun j => r (ix2 ⟨b.val * 4096 + s.val, by omega⟩ ⟨j.val, by omega⟩)))
          (fun l => g (ix1 l)) k := by
  unfold out
  rw [res_at]
  simp only [hs_at]

end Ref

end Cert.Proof.Combine

end
-- ==== Proof.CombEqual.lean ====
/- The combination: the region's result is the reference's, and the reference's frame claim. -/
module

public import proofs.«01_k».proof.Proof.CombBlocks
public import proofs.«01_k».proof.Proof.CombRef
public import proofs.«01_k».proof.Defs
public import Idealize.ShloMosaic.Lib.Quiescent

@[expose] public section

noncomputable section

namespace Cert.Proof.Combine

open Idealize.ShloMosaic Idealize.ShloMosaic.TcCoe
open Idealize.SL Idealize.SL.Sem

section
open Cert.Kernel3Ideal Cert.Kernel3Ideal.Gen
variable (m : (ℓ : Loc nD τ sig) → Buf (Elt Ideal) ℓ) (c : Dev nD)

/-- The element of the result for row `i` of all tokens and column `k`. -/
def elt (i : Fin 65536) (k : Fin 1024) : EReal :=
  fin (fun l => m ((c : Thread nD τ).loc main_arg1) (ix2 i l))
    (fun l => m ((c : Thread nD τ).loc main_arg2) (ix3 ⟨i.val / 4096, by omega⟩ 5 l))
    (gated (fun j l => m ((c : Thread nD τ).loc main_arg0) (ix4 j i ⟨l.val / 128, by omega⟩ ⟨l.val % 128, by omega⟩))
      (fun j => m ((c : Thread nD τ).loc main_arg3) (ix2 i ⟨j.val, by omega⟩)))
    (fun l => m ((c : Thread nD τ).loc main_arg4) (ix1 l)) k

/-- The region's result array. -/
def flat : FVec Ideal S65536x1024 .f32 := fun y => elt m c (y 0) (y 1)

/-- What the region leaves in its result array. -/
theorem arr_eq : (dats m 0 c).arrAt 5 (cfgs 0).N = flat m c := by
  refine (dats m 0 c).arrAt_eq_of_covers 5 _ (by decide +kernel) fun t hf y => ?_
  blk_simp
  rw [after0_5]
  obtain ⟨s, k, rfl⟩ : ∃ (s : Fin 512) (k : Fin 1024), y = ix2 s k := ⟨y 0, y 1, eq_ix2 y⟩
  have hs := s.isLt
  have ht := lt128 t
  have e : (win0_5.blk t).view.emb (ix2 s k) = (ix2 ⟨t.val * 512 + s.val, by omega⟩ k : S65536x1024.Idx) := by
    blk_ext [idx5 t]
  refine (stored_at m c t s k).trans ?_
  rw [e]
  show _ = elt m c ⟨t.val * 512 + s.val, by omega⟩ k
  unfold elt
  have h : (t.val * 512 + s.val) / 4096 = t.val / 8 := by omega
  simp only [h]

/-- The result the program returns: the region's, reshaped. -/
theorem tail_eq : Pipeline.afterTail₀ cfgs (dats m) 0 (V0 m) [hostOps1] c main_v2
    = shapeCast S16x4096x1024 (flat m c) shapeCasts_S65536x1024_S16x4096x1024 := by
  unfold Pipeline.afterTail₀
  show StableHlo.after hostOps1 _ (Proc.devRef .tc main_v2) = _
  simp only [hostOps1]
  after_results_simp
  funext i
  refine congrArg (fun A => shapeCast S16x4096x1024 A shapeCasts_S65536x1024_S16x4096x1024 i) ?_
  exact (Pipeline.withArrays_arr (cfgs 0).spec (by decide : Function.Injective (Pipeline.arrRef spec0)) c (V0 m c) (fun w => (dats m 0 c).arrAt w (cfgs 0).N) 5).trans (arr_eq m c)

/-- The two results, equal. -/
theorem result_eq : shapeCast S16x4096x1024 (flat m c) shapeCasts_S65536x1024_S16x4096x1024
    = Ref.out (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨b, s, k, rfl⟩ : ∃ (b : Fin 16) (s : Fin 4096) (k : Fin 1024), y = ix3 b s k := ⟨y 0, y 1, y 2, eq_ix3 y⟩
  rw [Ref.out_at]
  have e : shapeCast S16x4096x1024 (flat m c) shapeCasts_S65536x1024_S16x4096x1024 (ix3 b s k) = flat m c (ix2 ⟨b.val * 4096 + s.val, by omega⟩ k) := by
    pointwise
  rw [e]
  show elt m c ⟨b.val * 4096 + s.val, by omega⟩ k = _
  unfold elt
  have h : (b.val * 4096 + s.val) / 4096 = b.val := by omega
  simp only [h, Fin.eta]
end

/-- The value claim. -/
theorem algebraic : Cert.algebraic_Kernel3Ideal_Reference3Ideal := by
  intro m g m' g' hpre hargs
  refine ⟨fun c => shapeCast Cert.Kernel3Ideal.S16x4096x1024 (flat m c) Cert.Kernel3Ideal.Gen.shapeCasts_S65536x1024_S16x4096x1024, ?_, ?_⟩
  · refine (θ_run Cert.Kernel3Ideal.defs _ _).mono (fun r h c => ⟨((h.1 c).2 Cert.Kernel3Ideal.main_v2 (Pipeline.mem_restRefs_of Cert.Kernel3Ideal.main_v2 (by decide) (by decide))).trans (tail_eq m c), h.2 c⟩)
      (θ_run_and (Cert.Kernel3Ideal.Gen.run_main (F := Ideal) m g) (Cert.Kernel3Ideal.Gen.unchanged (F := Ideal) m g))
  · refine (θ_run Cert.Reference3Ideal.defs _ _).mono (fun r h c => ⟨(h c).1.trans ?_, (h c).2⟩)
      (Cert.Reference3Ideal.Value.run (F := Ideal) m' g')
    obtain ⟨a0, a1, a2, a3, a4⟩ := hargs c
    refine Eq.trans ?_ (result_eq m c).symm
    rw [a0, a1, a2, a3, a4]
    rfl

/-- The reference's frame claim. -/
theorem frame_reference : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

end Cert.Proof.Combine

end
-- ==== Proof.MixCore.lean ====
/- The mixers' rows joined to the residual: what both programs compute. -/
module

public import Idealize.ShloMosaic.PureOps.Ideal
public import Idealize.ShloMosaic.Lib.Pointwise.Tactic

@[expose] public section

noncomputable section

namespace Cert.Proof.Mix

open Idealize.ShloMosaic

/-- The gate `1 / (1 + e⁻ˣ)`. -/
def sg (x : EReal) : EReal := Ideal.div 1 (1 + Ideal.exp (-x))

/-- An element of a row `o` of eight heads of 128, each head normalised by itself. -/
def head (o : Fin 1024 → EReal) (k : Fin 1024) : EReal :=
  o k * Ideal.rsqrt (Ideal.div (∑ d : Fin 128, o ⟨k.val / 128 * 128 + d.val, by omega⟩ * o ⟨k.val / 128 * 128 + d.val, by omega⟩) (Ideal.ofBits FTy.f32 1124073472#32)
    + Ideal.ofBits FTy.f32 897988541#32)

/-- The gated row of the recurrence: the normalised heads times the norm's weights `w`, times the gate of `g`. -/
def gatedRow (o w g : Fin 1024 → EReal) (k : Fin 1024) : EReal := head o k * w k * (g k * sg (g k))

/-- The two branches' rows, each through its weights and its gate, added. -/
def mixed (a : Fin 1024 → EReal) (b : Fin 512 → EReal) (ga gb : Fin 1024 → EReal) (wa : Fin 1024 → Fin 1024 → EReal) (wb : Fin 512 → Fin 1024 → EReal) (n : Fin 1024) : EReal :=
  sg (ga n) * (∑ l, a l * wa l n) + sg (gb n) * ∑ l, b l * wb l n

/-- The output projection of a row. -/
def proj (u : Fin 1024 → EReal) (w : Fin 1024 → Fin 1024 → EReal) (k : Fin 1024) : EReal := ∑ n, u n * w n k

end Cert.Proof.Mix

end
-- ==== Proof.MixHeads.lean ====
/- The mixers joined to the residual: the recurrence's gated rows in the kernel, at an index. -/
module

public import proofs.«01_k».proof.Proof.MixCore
public import proofs.«01_k».proof.Proof.Gate
public import proofs.«01_k».proof.Proof.Gen.Kernel4Ideal.Skeleton
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.Mix

open Cert.Kernel4Ideal Cert.Kernel4Ideal.Gen
open Idealize.ShloMosaic Idealize.ShloMosaic.TcCoe Idealize.ShloMosaic.StableHlo

/-- The gate as the kernel computes it. -/
theorem sg_eq (x : EReal) : sg x = Ideal.ofBits .f32 0x3F000000#32 * Ideal.tanh (Ideal.ofBits .f32 0x3F000000#32 * x) + Ideal.ofBits .f32 0x3F000000#32 := by
  rw [Experts.half_eq, Experts.sigmoid_eq]; rfl

/-- The head at an offset, its columns given. -/
theorem head_at (o : Fin 1024 → EReal) (k : Fin 1024) (h : ℕ) (hk : k.val / 128 = h) (hh : h < 8) :
    head o k = o k * Ideal.rsqrt (Ideal.div (∑ d : Fin 128, o ⟨h * 128 + d.val, by omega⟩ * o ⟨h * 128 + d.val, by omega⟩) (Ideal.ofBits FTy.f32 1124073472#32)
      + Ideal.ofBits FTy.f32 897988541#32) := by
  subst hk; rfl

/-- The head whose columns start at `off`, normalised. -/
def headAt (off : ℕ) (hs : S512x1024.Slices ![0, off] S512x128) (o : FVec Ideal S512x1024 .f32) : FVec Ideal S512x128 .f32 :=
  let v := extractStridedSlice S512x128 ![0, off] o hs
  mulf v (broadcastTo S512x128 (rsqrt (addf (divf (shapeCast S512x1 (multiReduction .add [1] S512 (mulf v v) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)

set_option maxRecDepth 16384 in
theorem headAt_at (off h : ℕ) (hs : S512x1024.Slices ![0, off] S512x128) (o : FVec Ideal S512x1024 .f32) (hoff : off = h * 128) (hh : h < 8) (s : Fin 512) (d : Fin 128) (k : Fin 1024)
    (hk : k.val = off + d.val) : headAt off hs o (ix2 s d) = head (fun l => o (ix2 s l)) k := by
  obtain ⟨k, hk'⟩ := k
  dsimp only at hk
  subst hk hoff
  rw [head_at _ _ h (by dsimp only; omega) hh]
  pointwise [headAt]

/-- The eight heads side by side. -/
def join (p0 p1 p2 p3 p4 p5 p6 p7 : FVec Ideal S512x128 .f32) : FVec Ideal S512x1024 .f32 :=
  concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩] concatenates_S512x128_S512x128_S512x128_S512x128_S512x128_S512x128_S512x128_S512x128_S512x1024_d1

set_option maxRecDepth 16384 in
theorem join_at (p0 p1 p2 p3 p4 p5 p6 p7 : FVec Ideal S512x128 .f32) (s : Fin 512) (k : Fin 1024) (f : Fin 1024 → EReal)
    (h0 : ∀ (d : Fin 128) (k : Fin 1024), k.val = 0 + d.val → p0 (ix2 s d) = f k)
    (h1 : ∀ (d : Fin 128) (k : Fin 1024), k.val = 128 + d.val → p1 (ix2 s d) = f k)
    (h2 : ∀ (d : Fin 128) (k : Fin 1024), k.val = 256 + d.val → p2 (ix2 s d) = f k)
    (h3 : ∀ (d : Fin 128) (k : Fin 1024), k.val = 384 + d.val → p3 (ix2 s d) = f k)
    (h4 : ∀ (d : Fin 128) (k : Fin 1024), k.val = 512 + d.val → p4 (ix2 s d) = f k)
    (h5 : ∀ (d : Fin 128) (k : Fin 1024), k.val = 640 + d.val → p5 (ix2 s d) = f k)
    (h6 : ∀ (d : Fin 128) (k : Fin 1024), k.val = 768 + d.val → p6 (ix2 s d) = f k)
    (h7 : ∀ (d : Fin 128) (k : Fin 1024), k.val = 896 + d.val → p7 (ix2 s d) = f k) :
    join p0 p1 p2 p3 p4 p5 p6 p7 (ix2 s k) = f k := by
  have hk := k.isLt
  pointwise [join]
  by_cases c0 : k.val < 128
  · rw [dif_pos c0]; exact h0 _ _ (by dsimp only; omega)
  rw [dif_neg c0]
  by_cases c1 : k.val - 128 < 128
  · rw [dif_pos c1]; exact h1 _ _ (by dsimp only; omega)
  rw [dif_neg c1]
  by_cases c2 : k.val - 128 - 128 < 128
  · rw [dif_pos c2]; exact h2 _ _ (by dsimp only; omega)
  rw [dif_neg c2]
  by_cases c3 : k.val - 128 - 128 - 128 < 128
  · rw [dif_pos c3]; exact h3 _ _ (by dsimp only; omega)
  rw [dif_neg c3]
  by_cases c4 : k.val - 128 - 128 - 128 - 128 < 128
  · rw [dif_pos c4]; exact h4 _ _ (by dsimp only; omega)
  rw [dif_neg c4]
  by_cases c5 : k.val - 128 - 128 - 128 - 128 - 128 < 128
  · rw [dif_pos c5]; exact h5 _ _ (by dsimp only; omega)
  rw [dif_neg c5]
  by_cases c6 : k.val - 128 - 128 - 128 - 128 - 128 - 128 < 128
  · rw [dif_pos c6]; exact h6 _ _ (by dsimp only; omega)
  rw [dif_neg c6]
  exact h7 _ _ (by dsimp only; omega)

/-- The rows times the norm's weights and the gate. -/
def gateRows (u : FVec Ideal S512x1024 .f32) (g : FVec Ideal S1x512x1024 .bf16) (w : FVec Ideal S1x1024 .f32) : FVec Ideal S512x1024 .bf16 :=
  let x : FVec Ideal S512x1024 .f32 := extf .f32 (shapeCast S512x1024 g shapeCasts_S1x512x1024_S512x1024) bitsLt_bf16_f32
  truncf .bf16 (mulf (mulf u (broadcastTo S512x1024 (shapeCast S1x1024 w shapeCasts_S1x1024_S1x1024) broadcasts_S1x1024_S512x1024))
    (mulf x (addf (mulf (broadcast S512x1024 (Scalar.ofBits .f32 0x3F000000#32)) (tanh (mulf (broadcast S512x1024 (Scalar.ofBits .f32 0x3F000000#32)) x))) (broadcast S512x1024 (Scalar.ofBits .f32 0x3F000000#32))))) bitsLt_bf16_f32

set_option maxRecDepth 16384 in
theorem gateRows_at (u : FVec Ideal S512x1024 .f32) (g : FVec Ideal S1x512x1024 .bf16) (w : FVec Ideal S1x1024 .f32) (s : Fin 512) (k : Fin 1024) :
    gateRows u g w (ix2 s k) = u (ix2 s k) * w (ix2 0 k) * (g (ix3 0 s k) * sg (g (ix3 0 s k))) := by
  simp only [sg_eq]
  pointwise [gateRows]

theorem sum_at (a b : FVec Ideal S1x512x1024 .bf16) (s : Fin 512) (k : Fin 1024) : k0_pay7 (F := Ideal) a b (ix2 s k) = a (ix3 0 s k) + b (ix3 0 s k) := by
  pointwise [k0_pay7]

/-- The gated rows a point computes from its blocks. -/
def oa (a b g : FVec Ideal S1x512x1024 .bf16) (w : FVec Ideal S1x1024 .f32) : FVec Ideal S512x1024 .bf16 :=
  k0_pay18 (F := Ideal) (k0_pay7 a b) (k0_pay8 a b) (k0_pay12 (k0_pay9 a b) (k0_pay10 a b) k0_pay11) (k0_pay13 (k0_pay7 a b)) (k0_pay14 (k0_pay7 a b)) (k0_pay15 (k0_pay7 a b))
    (k0_pay16 (k0_pay7 a b)) (k0_pay17 (k0_pay7 a b)) g w

theorem oa_eq (a b g : FVec Ideal S1x512x1024 .bf16) (w : FVec Ideal S1x1024 .f32) :
    oa a b g w = gateRows (join (headAt 0 slices_S512x1024_o0_0_S512x128 (k0_pay7 a b)) (headAt 128 slices_S512x1024_o0_128_S512x128 (k0_pay7 a b)) (headAt 256 slices_S512x1024_o0_256_S512x128 (k0_pay7 a b)) (headAt 384 slices_S512x1024_o0_384_S512x128 (k0_pay7 a b)) (headAt 512 slices_S512x1024_o0_512_S512x128 (k0_pay7 a b)) (headAt 640 slices_S512x1024_o0_640_S512x128 (k0_pay7 a b)) (headAt 768 slices_S512x1024_o0_768_S512x128 (k0_pay7 a b)) (headAt 896 slices_S512x1024_o0_896_S512x128 (k0_pay7 a b))) g w := rfl

theorem oa_at (a b g : FVec Ideal S1x512x1024 .bf16) (w : FVec Ideal S1x1024 .f32) (s : Fin 512) (k : Fin 1024) :
    oa a b g w (ix2 s k) = gatedRow (fun l => a (ix3 0 s l) + b (ix3 0 s l)) (fun l => w (ix2 0 l)) (fun l => g (ix3 0 s l)) k := by
  rw [oa_eq, gateRows_at]
  have e := join_at (headAt 0 slices_S512x1024_o0_0_S512x128 (k0_pay7 a b)) (headAt 128 slices_S512x1024_o0_128_S512x128 (k0_pay7 a b)) (headAt 256 slices_S512x1024_o0_256_S512x128 (k0_pay7 a b)) (headAt 384 slices_S512x1024_o0_384_S512x128 (k0_pay7 a b)) (headAt 512 slices_S512x1024_o0_512_S512x128 (k0_pay7 a b)) (headAt 640 slices_S512x1024_o0_640_S512x128 (k0_pay7 a b)) (headAt 768 slices_S512x1024_o0_768_S512x128 (k0_pay7 a b)) (headAt 896 slices_S512x1024_o0_896_S512x128 (k0_pay7 a b)) s k (head (fun l => k0_pay7 (F := Ideal) a b (ix2 s l)))
    (fun d k e => headAt_at _ 0 _ _ rfl (by omega) s d k e) (fun d k e => headAt_at _ 1 _ _ rfl (by omega) s d k e) (fun d k e => headAt_at _ 2 _ _ rfl (by omega) s d k e) (fun d k e => headAt_at _ 3 _ _ rfl (by omega) s d k e) (fun d k e => headAt_at _ 4 _ _ rfl (by omega) s d k e) (fun d k e => headAt_at _ 5 _ _ rfl (by omega) s d k e) (fun d k e => headAt_at _ 6 _ _ rfl (by omega) s d k e) (fun d k e => headAt_at _ 7 _ _ rfl (by omega) s d k e)
  rw [e]
  simp only [sum_at]
  rfl

end Cert.Proof.Mix

end
-- ==== Proof.MixPay.lean ====
/- The mixers joined to the residual: the two stored values, at an index. -/
module

public import proofs.«01_k».proof.Proof.MixHeads
public import proofs.«01_k».proof.Proof.CombCore
public import proofs.«01_k».proof.Proof.ProjCore
public import proofs.«01_k».proof.Proof.Gen.Kernel4Ideal.Skeleton
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.Mix

open Cert.Kernel4Ideal Cert.Kernel4Ideal.Gen
open Idealize.ShloMosaic Idealize.ShloMosaic.TcCoe Idealize.ShloMosaic.StableHlo

set_option maxRecDepth 16384 in
theorem pay19_at (u : FVec Ideal S512x1024 .bf16) (wa : FVec Ideal S1024x1024 .bf16) (nb : FVec Ideal S1x512x512 .bf16) (wb : FVec Ideal S512x1024 .bf16) (ga gb : FVec Ideal S1x512x1024 .bf16) (wo : FVec Ideal S1024x1024 .bf16) (s : Fin 512) (k : Fin 1024) :
    k0_pay19 (F := Ideal) u wa nb wb ga gb wo (ix2 s k)
      = proj (mixed (fun l => u (ix2 s l)) (fun l => nb (ix3 0 s l)) (fun l => ga (ix3 0 s l)) (fun l => gb (ix3 0 s l)) (fun l n => wa (ix2 l n)) (fun l n => wb (ix2 l n)))
          (fun l n => wo (ix2 l n)) k := by
  unfold proj mixed
  simp only [sg_eq]
  pointwise [k0_pay19]

set_option maxRecDepth 16384 in
theorem pay20_at (gt : FVec Ideal S1x1x1024 .f32) (h : FVec Ideal S512x1024 .f32) (x : FVec Ideal S1x512x1024 .f32) (g : FVec Ideal S1x1024 .f32) (s : Fin 512) (k : Fin 1024) :
    k0_pay20 (F := Ideal) (k0_pay6 gt) h x g (ix2 s k)
      = Combine.fin (fun l => x (ix3 0 s l)) (fun l => gt (ix3 0 0 l)) (fun l => h (ix2 s l)) (fun l => g (ix2 0 l)) k := by
  unfold Combine.fin
  pointwise [k0_pay20, k0_pay6]

/-- A block of rows as the output window holds it. -/
def lift (u : FVec Ideal S512x1024 .f32) : FVec Ideal S1x512x1024 .f32 := shapeCast S1x512x1024 u shapeCasts_S512x1024_S1x512x1024
theorem lift_at (u : FVec Ideal S512x1024 .f32) (s : Fin 512) (k : Fin 1024) : lift u (ix3 0 s k) = u (ix2 s k) := by
  pointwise [lift]

/-- The rows normalised and modulated, each row as 8 by 128. -/
def nr (u : FVec Ideal S512x1024 .f32) (sc sh : FVec Ideal S1x1x1024 .f32) (g : FVec Ideal S1x1024 .f32) : FVec Ideal S1x512x8x128 .f32 :=
  shapeCast S1x512x8x128 (shapeCast S512x8x128 (addf (mulf (mulf (mulf u (broadcastTo S512x1024 (rsqrt (addf (divf (shapeCast S512x1 (multiReduction .add [1] S512 (mulf u u) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024))
    (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)) shapeCasts_S512x1024_S512x8x128) shapeCasts_S512x8x128_S1x512x8x128

set_option maxRecDepth 16384 in
theorem nr_at (u : FVec Ideal S512x1024 .f32) (sc sh : FVec Ideal S1x1x1024 .f32) (g : FVec Ideal S1x1024 .f32) (s : Fin 512) (a : Fin 8) (d : Fin 128) :
    nr u sc sh g (ix4 0 s a d)
      = InProj.nrm (fun l => u (ix2 s l)) (fun l => sh (ix3 0 0 l)) (fun l => sc (ix3 0 0 l)) (fun l => g (ix2 0 l)) ⟨a.val * 128 + d.val, by omega⟩ := by
  unfold InProj.nrm
  pointwise [nr]

theorem pay21_eq (gt : FVec Ideal S1x1024 .f32) (h : FVec Ideal S512x1024 .f32) (x : FVec Ideal S1x512x1024 .f32) (g : FVec Ideal S1x1024 .f32) :
    k0_pay21 (F := Ideal) gt h x g = lift (k0_pay20 gt h x g) := rfl
theorem pay24_eq (sc sh : FVec Ideal S1x1x1024 .f32) (gt : FVec Ideal S1x1024 .f32) (h : FVec Ideal S512x1024 .f32) (x : FVec Ideal S1x512x1024 .f32) (g g' : FVec Ideal S1x1024 .f32) :
    k0_pay24 (F := Ideal) (k0_pay23 (k0_pay4 sc) (k0_pay5 sh) gt h x g g') = nr (k0_pay20 gt h x g) sc sh g' := rfl

end Cert.Proof.Mix

end
-- ==== Proof.MixRun.lean ====
/- The mixers joined to the residual: what a grid point leaves in its first two output blocks. -/
module

public import proofs.«01_k».proof.Proof.MixPay
public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack

@[expose] public section

noncomputable section

namespace Cert.Proof.Mix

open Cert.Kernel4Ideal Cert.Kernel4Ideal.Gen
open Idealize.ShloMosaic Idealize.ShloMosaic.TcCoe

variable (m : (ℓ : Loc nD τ sig) → Buf (Elt Ideal) ℓ) (c : Dev nD)

/-- The mixers' projected rows a point computes. -/
def mo (t : Fin cfg0.N) : FVec Ideal S512x1024 .f32 :=
  k0_pay19 (F := Ideal) (oa (iblk m c 2 t) (iblk m c 3 t) (X0_4 m c t) (iblk m c 8 t)) (iblk m c 11 t) (iblk m c 7 t) (iblk m c 12 t) (X0_5 m c t) (X0_6 m c t) (iblk m c 13 t)

/-- The residual rows a point computes. -/
def xr (t : Fin cfg0.N) : FVec Ideal S512x1024 .f32 :=
  k0_pay20 (F := Ideal) (k0_pay6 (View.ld (iblk m c 1 t) (Rect.unit ![0, 2, 0] ![1, 1, 1024] inb_S1x6x1024_S1x1x1024_0_2_0))) (mo m c t) (iblk m c 0 t) (iblk m c 9 t)

theorem out16 (t : Fin cfg0.N) : (outsAt0 m c t.val t.isLt).1 = lift (xr m c t) := by
  by_cases h0 : t.val % 128 = 0
  · rw [outsAt0_A m c t h0]; frame_out; rfl
  · rw [outsAt0_B m c t h0]; frame_out; rfl

theorem out17 (t : Fin cfg0.N) : (outsAt0 m c t.val t.isLt).2.1
    = nr (xr m c t) (View.ld (iblk m c 1 t) (Rect.unit ![0, 4, 0] ![1, 1, 1024] inb_S1x6x1024_S1x1x1024_0_4_0))
        (View.ld (iblk m c 1 t) (Rect.unit ![0, 3, 0] ![1, 1, 1024] inb_S1x6x1024_S1x1x1024_0_3_0)) (iblk m c 10 t) := by
  by_cases h0 : t.val % 128 = 0
  · rw [outsAt0_A m c t h0]; frame_out; rfl
  · rw [outsAt0_B m c t h0]; frame_out; rfl

end Cert.Proof.Mix

end
-- ==== Proof.MixBlocks.lean ====
/- The mixers joined to the residual: the blocks a grid point is given, from the arguments, and what it stores. -/
module

public import proofs.«01_k».proof.Proof.MixRun
public import Idealize.ShloMosaic.Lib.Pointwise.IndexBridge
public import Idealize.ShloMosaic.Lib.Pipeline.Value
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.Mix

open Cert.Kernel4Ideal Cert.Kernel4Ideal.Gen
open Idealize.ShloMosaic Idealize.ShloMosaic.TcCoe

/-! The printed index maps over the grid of 16 by 8 points. -/

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 4] := (by decide +kernel : ∀ t : Fin grid0.N, _)
theorem idx5 : ∀ t : Fin cfg0.N, win0_5.index t = ![t.val / 8, t.val % 8, 5] := (by decide +kernel : ∀ t : Fin grid0.N, _)
theorem idx6 : ∀ t : Fin cfg0.N, win0_6.index t = ![t.val / 8, t.val % 8, 6] := (by decide +kernel : ∀ t : Fin grid0.N, _)
theorem idx7 : ∀ t : Fin cfg0.N, win0_7.index t = ![t.val / 8, t.val % 8, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem lt128 (t : Fin cfg0.N) : t.val < 128 := lt_of_lt_of_eq t.isLt N_0

variable (m : (ℓ : Loc nD τ sig) → Buf (Elt Ideal) ℓ) (c : Dev nD)

/-! The operands the host prepares. -/

theorem V_main_v4 : V m c main_v4 = shapeCast S1x1024 (m ((c : Thread nD τ).loc main_arg6)) shapeCasts_S1024_S1x1024 := by
  show StableHlo.after hostOps0 (fun b => m (c, b)) (Proc.devRef .tc main_v4) = _
  simp only [hostOps0]
  after_results_simp <;> rfl
theorem V_main_v5 : V m c main_v5 = shapeCast S1x1024 (m ((c : Thread nD τ).loc main_arg7)) shapeCasts_S1024_S1x1024 := by
  show StableHlo.after hostOps0 (fun b => m (c, b)) (Proc.devRef .tc main_v5) = _
  simp only [hostOps0]
  after_results_simp <;> rfl
theorem V_main_v6 : V m c main_v6 = shapeCast S1x1024 (m ((c : Thread nD τ).loc main_arg8)) shapeCasts_S1024_S1x1024 := by
  show StableHlo.after hostOps0 (fun b => m (c, b)) (Proc.devRef .tc main_v6) = _
  simp only [hostOps0]
  after_results_simp <;> rfl
theorem V_main_v0 : V m c main_v0 = (truncf .bf16 (m ((c : Thread nD τ).loc main_arg9) : FVec Ideal S1024x1024 .f32) bitsLt_bf16_f32 : FVec Ideal S1024x1024 .bf16) := by
  show StableHlo.after hostOps0 (fun b => m (c, b)) (Proc.devRef .tc main_v0) = _
  simp only [hostOps0]
  after_results_simp <;> rfl
theorem V_main_v1 : V m c main_v1 = (truncf .bf16 (m ((c : Thread nD τ).loc main_arg10) : FVec Ideal S512x1024 .f32) bitsLt_bf16_f32 : FVec Ideal S512x1024 .bf16) := by
  show StableHlo.after hostOps0 (fun b => m (c, b)) (Proc.devRef .tc main_v1) = _
  simp only [hostOps0]
  after_results_simp <;> rfl
theorem V_main_v2 : V m c main_v2 = (truncf .bf16 (m ((c : Thread nD τ).loc main_arg11) : FVec Ideal S1024x1024 .f32) bitsLt_bf16_f32 : FVec Ideal S1024x1024 .bf16) := by
  show StableHlo.after hostOps0 (fun b => m (c, b)) (Proc.devRef .tc main_v2) = _
  simp only [hostOps0]
  after_results_simp <;> rfl

/-! The blocks at an index. -/

theorem blk0_at (t : Fin cfg0.N) (s : Fin 512) (k : Fin 1024) :
    iblk m c 0 t (ix3 0 s k) = m ((c : Thread nD τ).loc main_arg0) (ix3 ⟨t.val / 8, by have := lt128 t; omega⟩ ⟨t.val % 8 * 512 + s.val, by omega⟩ k) := by
  rw [← V_main_arg0 m c]
  blk_ext [iblk, idx0 t]
theorem blk2_at (t : Fin cfg0.N) (s : Fin 512) (k : Fin 1024) :
    iblk m c 2 t (ix3 0 s k) = m ((c : Thread nD τ).loc main_arg3) (ix3 ⟨t.val / 8, by have := lt128 t; omega⟩ ⟨t.val % 8 * 512 + s.val, by omega⟩ k) := by
  rw [← V_main_arg3 m c]
  blk_ext [iblk, idx2 t]
theorem blk3_at (t : Fin cfg0.N) (s : Fin 512) (k : Fin 1024) :
    iblk m c 3 t (ix3 0 s k) = m ((c : Thread nD τ).loc main_arg4) (ix3 ⟨t.val / 8, by have := lt128 t; omega⟩ ⟨t.val % 8 * 512 + s.val, by omega⟩ k) := by
  rw [← V_main_arg4 m c]
  blk_ext [iblk, idx3 t]
theorem blk7_at (t : Fin cfg0.N) (s : Fin 512) (k : Fin 512) :
    iblk m c 7 t (ix3 0 s k) = m ((c : Thread nD τ).loc main_arg5) (ix3 ⟨t.val / 8, by have := lt128 t; omega⟩ ⟨t.val % 8 * 512 + s.val, by omega⟩ k) := by
  rw [← V_main_arg5 m c]
  blk_ext [iblk, idx7 t]
theorem blk4_at (t : Fin cfg0.N) (s : Fin 512) (k : Fin 1024) :
    X0_4 m c t (ix3 0 s k) = m ((c : Thread nD τ).loc main_arg2) (ix3 ⟨t.val / 8, by have := lt128 t; omega⟩ ⟨t.val % 8 * 512 + s.val, by omega⟩ ⟨4096 + k.val, by omega⟩) := by
  unfold X0_4 Pipeline.Window.fill
  rw [dif_pos (moved0_4 t _), ← V_main_arg2 m c]
  blk_ext [iblk, idx4 t]
theorem blk5_at (t : Fin cfg0.N) (s : Fin 512) (k : Fin 1024) :
    X0_5 m c t (ix3 0 s k) = m ((c : Thread nD τ).loc main_arg2) (ix3 ⟨t.val / 8, by have := lt128 t; omega⟩ ⟨t.val % 8 * 512 + s.val, by omega⟩ ⟨5120 + k.val, by omega⟩) := by
  unfold X0_5 Pipeline.Window.fill
  rw [dif_pos (moved0_5 t _), ← V_main_arg2 m c]
  blk_ext [iblk, idx5 t]
theorem blk6_at (t : Fin cfg0.N) (s : Fin 512) (k : Fin 1024) :
    X0_6 m c t (ix3 0 s k) = m ((c : Thread nD τ).loc main_arg2) (ix3 ⟨t.val / 8, by have := lt128 t; omega⟩ ⟨t.val % 8 * 512 + s.val, by omega⟩ ⟨6144 + k.val, by omega⟩) := by
  unfold X0_6 Pipeline.Window.fill
  rw [dif_pos (moved0_6 t _), ← V_main_arg2 m c]
  blk_ext [iblk, idx6 t]
theorem blk1_at (t : Fin cfg0.N) (q : Fin 6) (k : Fin 1024) :
    iblk m c 1 t (ix3 0 q k) = m ((c : Thread nD τ).loc main_arg1) (ix3 ⟨t.val / 8, by have := lt128 t; omega⟩ q k) := by
  rw [← V_main_arg1 m c]
  blk_ext [iblk, idx1 t]
theorem mod2_at (t : Fin cfg0.N) (k : Fin 1024) :
    View.ld (iblk m c 1 t) (Rect.unit ![0, 2, 0] ![1, 1, 1024] inb_S1x6x1024_S1x1x1024_0_2_0) (ix3 0 0 k) = m ((c : Thread nD τ).loc main_arg1) (ix3 ⟨t.val / 8, by have := lt128 t; omega⟩ 2 k) := by
  rw [← blk1_at m c t 2 k]
  exact View.ld_unit_apply_of _ _ _ _ _ _ (fun a => match a with | ⟨0, _⟩ => rfl | ⟨1, _⟩ => rfl | ⟨2, _⟩ => (Nat.zero_add _).symm)
theorem mod3_at (t : Fin cfg0.N) (k : Fin 1024) :
    View.ld (iblk m c 1 t) (Rect.unit ![0, 3, 0] ![1, 1, 1024] inb_S1x6x1024_S1x1x1024_0_3_0) (ix3 0 0 k) = m ((c : Thread nD τ).loc main_arg1) (ix3 ⟨t.val / 8, by have := lt128 t; omega⟩ 3 k) := by
  rw [← blk1_at m c t 3 k]
  exact View.ld_unit_apply_of _ _ _ _ _ _ (fun a => match a with | ⟨0, _⟩ => rfl | ⟨1, _⟩ => rfl | ⟨2, _⟩ => (Nat.zero_add _).symm)
theorem mod4_at (t : Fin cfg0.N) (k : Fin 1024) :
    View.ld (iblk m c 1 t) (Rect.unit ![0, 4, 0] ![1, 1, 1024] inb_S1x6x1024_S1x1x1024_0_4_0) (ix3 0 0 k) = m ((c : Thread nD τ).loc main_arg1) (ix3 ⟨t.val / 8, by have := lt128 t; omega⟩ 4 k) := by
  rw [← blk1_at m c t 4 k]
  exact View.ld_unit_apply_of _ _ _ _ _ _ (fun a => match a with | ⟨0, _⟩ => rfl | ⟨1, _⟩ => rfl | ⟨2, _⟩ => (Nat.zero_add _).symm)
theorem blk8_at (t : Fin cfg0.N) (k : Fin 1024) : iblk m c 8 t (ix2 0 k) = m ((c : Thread nD τ).loc main_arg6) (ix1 k) := by
  have e : V m c main_v4 (ix2 0 k) = m ((c : Thread nD τ).loc main_arg6) (ix1 k) := by
    rw [V_main_v4]
    pointwise
  rw [← e]
  blk_ext [iblk, idx8 t]
theorem blk9_at (t : Fin cfg0.N) (k : Fin 1024) : iblk m c 9 t (ix2 0 k) = m ((c : Thread nD τ).loc main_arg7) (ix1 k) := by
  have e : V m c main_v5 (ix2 0 k) = m ((c : Thread nD τ).loc main_arg7) (ix1 k) := by
    rw [V_main_v5]
    pointwise
  rw [← e]
  blk_ext [iblk, idx9 t]
theorem blk10_at (t : Fin cfg0.N) (k : Fin 1024) : iblk m c 10 t (ix2 0 k) = m ((c : Thread nD τ).loc main_arg8) (ix1 k) := by
  have e : V m c main_v6 (ix2 0 k) = m ((c : Thread nD τ).loc main_arg8) (ix1 k) := by
    rw [V_main_v6]
    pointwise
  rw [← e]
  blk_ext [iblk, idx10 t]
theorem blk11_at (t : Fin cfg0.N) (l : Fin 1024) (k : Fin 1024) : iblk m c 11 t (ix2 l k) = m ((c : Thread nD τ).loc main_arg9) (ix2 l k) := by
  have e : V m c main_v0 (ix2 l k) = m ((c : Thread nD τ).loc main_arg9) (ix2 l k) := by
    rw [V_main_v0]
    pointwise
  rw [← e]
  blk_ext [iblk, idx11 t]
theorem blk12_at (t : Fin cfg0.N) (l : Fin 512) (k : Fin 1024) : iblk m c 12 t (ix2 l k) = m ((c : Thread nD τ).loc main_arg10) (ix2 l k) := by
  have e : V m c main_v1 (ix2 l k) = m ((c : Thread nD τ).loc main_arg10) (ix2 l k) := by
    rw [V_main_v1]
    pointwise
  rw [← e]
  blk_ext [iblk, idx12 t]
theorem blk13_at (t : Fin cfg0.N) (l : Fin 1024) (k : Fin 1024) : iblk m c 13 t (ix2 l k) = m ((c : Thread nD τ).loc main_arg11) (ix2 l k) := by
  have e : V m c main_v2 (ix2 l k) = m ((c : Thread nD τ).loc main_arg11) (ix2 l k) := by
    rw [V_main_v2]
    pointwise
  rw [← e]
  blk_ext [iblk, idx13 t]

/-- A row of the residual a point computes, over a row number and a batch. -/
def row (b : Fin 16) (s : Fin 4096) (k : Fin 1024) : EReal :=
  Combine.fin (fun l => m ((c : Thread nD τ).loc main_arg0) (ix3 b s l)) (fun l => m ((c : Thread nD τ).loc main_arg1) (ix3 b 2 l))
          (proj (mixed (gatedRow (fun l => @HAdd.hAdd EReal EReal EReal _ (m ((c : Thread nD τ).loc main_arg3) (ix3 b s l)) (m ((c : Thread nD τ).loc main_arg4) (ix3 b s l))) (fun l => m ((c : Thread nD τ).loc main_arg6) (ix1 l)) (fun l => m ((c : Thread nD τ).loc main_arg2) (ix3 b s ⟨4096 + l.val, by omega⟩)))
              (fun l => m ((c : Thread nD τ).loc main_arg5) (ix3 b s l)) (fun l => m ((c : Thread nD τ).loc main_arg2) (ix3 b s ⟨5120 + l.val, by omega⟩)) (fun l => m ((c : Thread nD τ).loc main_arg2) (ix3 b s ⟨6144 + l.val, by omega⟩))
              (fun l n => m ((c : Thread nD τ).loc main_arg9) (ix2 l n)) (fun l n => m ((c : Thread nD τ).loc main_arg10) (ix2 l n))) (fun l n => m ((c : Thread nD τ).loc main_arg11) (ix2 l n)))
          (fun l => m ((c : Thread nD τ).loc main_arg7) (ix1 l)) k

/-- The residual rows a point computes, at an index. -/
theorem xr_at (t : Fin cfg0.N) (s : Fin 512) (k : Fin 1024) :
    xr m c t (ix2 s k) = row m c ⟨t.val / 8, by have := lt128 t; omega⟩ ⟨t.val % 8 * 512 + s.val, by omega⟩ k := by
  unfold xr row
  refine (pay20_at _ _ _ _ s k).trans ?_
  unfold mo
  simp only [pay19_at, oa_at, mod2_at, blk0_at, blk2_at, blk3_at, blk4_at, blk5_at, blk6_at, blk7_at, blk8_at, blk9_at, blk11_at, blk12_at, blk13_at]

end Cert.Proof.Mix

end
-- ==== Proof.MixRef.lean ====
/- The mixers joined to the residual: the reference's two results at an index. -/
module

public import proofs.«01_k».proof.Proof.MixCore
public import proofs.«01_k».proof.Proof.CombCore
public import proofs.«01_k».proof.Proof.ProjCore
public import proofs.«01_k».proof.Proof.Gen.Reference4Ideal.Run
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

noncomputable section

namespace Cert.Proof.Mix

namespace Ref

open Cert.Reference4Ideal Cert.Reference4Ideal.Gen
open Idealize.ShloMosaic Idealize.ShloMosaic.TcCoe Idealize.ShloMosaic.StableHlo

/-- The heads, each normalised. -/
def heads (O : FVec Ideal S16x4096x1024 .f32) : FVec Ideal S16x4096x1024 .f32 :=
  shapeCast S16x4096x1024 (mulf (shapeCast S16x4096x8x128 O shapeCasts_S16x4096x1024_S16x4096x8x128) (broadcastInDim S16x4096x8x128 ![0, 1, 2, 3] bcast_S16x4096x8x1_S16x4096x8x128_0_1_2_3 (Host.rsqrt (addf (Host.divf (broadcastInDim S16x4096x8x1 ![0, 1, 2] bcast_S16x4096x8_S16x4096x8x1_0_1_2 (Host.reduceAdd (mulf (shapeCast S16x4096x8x128 O shapeCasts_S16x4096x1024_S16x4096x8x128) (shapeCast S16x4096x8x128 O shapeCasts_S16x4096x1024_S16x4096x8x128)) (constant S_ .f32 0x00000000#32) reducesTo_S16x4096x8x128_S16x4096x8_d3 h_S_)) (broadcastInDim S16x4096x8x1 ![] bcast_S_S16x4096x8x1 (constant S_ .f32 0x43000000#32))) (broadcastInDim S16x4096x8x1 ![] bcast_S_S16x4096x8x1 (constant S_ .f32 0x358637BD#32)))))) shapeCasts_S16x4096x8x128_S16x4096x1024

/-- The recurrence's gated rows. -/
def gatedRows (HN : FVec Ideal S16x4096x1024 .f32) (A2 : FVec Ideal S16x4096x8704 .bf16) (A6 : FVec Ideal S1024 .f32) : FVec Ideal S16x4096x1024 .f32 :=
  mulf (mulf HN (broadcastInDim S16x4096x1024 ![0, 1, 2] bcast_S1x1x1024_S16x4096x1024_0_1_2 (broadcastInDim S1x1x1024 ![2] bcast_S1024_S1x1x1024_2 A6))) (mulf (extractStridedSlice S16x4096x1024 ![0, 0, 4096] (extf .f32 A2 bitsLt_bf16_f32) slices_S16x4096x8704_S16x4096x1024_0_0_4096) (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extractStridedSlice S16x4096x1024 ![0, 0, 4096] (extf .f32 A2 bitsLt_bf16_f32) slices_S16x4096x8704_S16x4096x1024_0_0_4096))))))

/-- The two branches mixed and projected. -/
def mixRows (GR : FVec Ideal S16x4096x1024 .f32) (A2 : FVec Ideal S16x4096x8704 .bf16) (A5 : FVec Ideal S16x4096x512 .bf16) (A9 : FVec Ideal S1024x1024 .f32) (A10 : FVec Ideal S512x1024 .f32) (A11 : FVec Ideal S1024x1024 .f32) : FVec Ideal S16x4096x1024 .f32 :=
  Host.dotGeneral dot_S16x4096x1024_S1024x1024_S16x4096x1024_2_0_01_1_n_n none (addf (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extractStridedSlice S16x4096x1024 ![0, 0, 5120] (extf .f32 A2 bitsLt_bf16_f32) slices_S16x4096x8704_S16x4096x1024_0_0_5120))))) (Host.dotGeneral dot_S16x4096x1024_S1024x1024_S16x4096x1024_2_0_01_1_n_n none GR A9)) (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extractStridedSlice S16x4096x1024 ![0, 0, 6144] (extf .f32 A2 bitsLt_bf16_f32) slices_S16x4096x8704_S16x4096x1024_0_0_6144))))) (Host.dotGeneral dot_S16x4096x512_S512x1024_S16x4096x1024_2_0_01_1_n_n none (extf .f32 A5 bitsLt_bf16_f32) A10))) A11

/-- The residual after the mixers. -/
def res (MO A0 : FVec Ideal S16x4096x1024 .f32) (A1 : FVec Ideal S16x6x1024 .f32) (A7 : FVec Ideal S1024 .f32) : FVec Ideal S16x4096x1024 .f32 :=
  addf A0 (mulf (broadcastInDim S16x4096x1024 ![0, 1, 2] bcast_S16x1x1024_S16x4096x1024_0_1_2 (extractStridedSlice S16x1x1024 ![0, 2, 0] A1 slices_S16x6x1024_S16x1x1024_0_2_0)) (mulf (mulf MO (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf MO MO) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 A7))))

/-- The router's input. -/
def nrmRows (X1 : FVec Ideal S16x4096x1024 .f32) (A1 : FVec Ideal S16x6x1024 .f32) (A8 : FVec Ideal S1024 .f32) : FVec Ideal S16x4096x8x128 .f32 :=
  shapeCast S16x4096x8x128 (addf (mulf (mulf (mulf X1 (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf X1 X1) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 A8))) (broadcastInDim S16x4096x1024 ![0, 1, 2] bcast_S16x1x1024_S16x4096x1024_0_1_2 (addf (broadcastInDim S16x1x1024 ![] bcast_S_S16x1x1024 (constant S_ .f32 0x3F800000#32)) (extractStridedSlice S16x1x1024 ![0, 4, 0] A1 slices_S16x6x1024_S16x1x1024_0_4_0)))) (broadcastInDim S16x4096x1024 ![0, 1, 2] bcast_S16x1x1024_S16x4096x1024_0_1_2 (extractStridedSlice S16x1x1024 ![0, 3, 0] A1 slices_S16x6x1024_S16x1x1024_0_3_0))) shapeCasts_S16x4096x1024_S16x4096x8x128

/-- The first result from the arguments. -/
def out0 (A0 : FVec Ideal S16x4096x1024 .f32) (A1 : FVec Ideal S16x6x1024 .f32) (A2 : FVec Ideal S16x4096x8704 .bf16) (A3 A4 : FVec Ideal S16x4096x1024 .bf16) (A5 : FVec Ideal S16x4096x512 .bf16) (A6 A7 : FVec Ideal S1024 .f32) (A9 : FVec Ideal S1024x1024 .f32) (A10 : FVec Ideal S512x1024 .f32) (A11 : FVec Ideal S1024x1024 .f32) : FVec Ideal S16x4096x1024 .f32 :=
  res (mixRows (gatedRows (heads (addf (extf .f32 A3 bitsLt_bf16_f32) (extf .f32 A4 bitsLt_bf16_f32))) A2 A6) A2 A5 A9 A10 A11) A0 A1 A7

set_option maxRecDepth 16384 in
theorem heads_at (O : FVec Ideal S16x4096x1024 .f32) (b : Fin 16) (s : Fin 4096) (k : Fin 1024) :
    heads O (ix3 b s k) = head (fun l => O (ix3 b s l)) k := by
  unfold head
  pointwise [heads]

set_option maxRecDepth 16384 in
theorem gatedRows_at (HN : FVec Ideal S16x4096x1024 .f32) (A2 : FVec Ideal S16x4096x8704 .bf16) (A6 : FVec Ideal S1024 .f32) (b : Fin 16) (s : Fin 4096) (k : Fin 1024) :
    gatedRows HN A2 A6 (ix3 b s k) = HN (ix3 b s k) * A6 (ix1 k) * (A2 (ix3 b s ⟨4096 + k.val, by omega⟩) * sg (A2 (ix3 b s ⟨4096 + k.val, by omega⟩))) := by
  unfold sg
  pointwise [gatedRows]

set_option maxRecDepth 16384 in
theorem mixRows_at (GR : FVec Ideal S16x4096x1024 .f32) (A2 : FVec Ideal S16x4096x8704 .bf16) (A5 : FVec Ideal S16x4096x512 .bf16) (A9 : FVec Ideal S1024x1024 .f32) (A10 : FVec Ideal S512x1024 .f32) (A11 : FVec Ideal S1024x1024 .f32) (b : Fin 16) (s : Fin 4096) (k : Fin 1024) :
    mixRows GR A2 A5 A9 A10 A11 (ix3 b s k)
      = proj (mixed (fun l => GR (ix3 b s l)) (fun l => A5 (ix3 b s l)) (fun l => A2 (ix3 b s ⟨5120 + l.val, by omega⟩)) (fun l => A2 (ix3 b s ⟨6144 + l.val, by omega⟩))
          (fun l n => A9 (ix2 l n)) (fun l n => A10 (ix2 l n))) (fun l n => A11 (ix2 l n)) k := by
  unfold proj mixed sg
  pointwise [mixRows]

set_option maxRecDepth 16384 in
theorem res_at (MO A0 : FVec Ideal S16x4096x1024 .f32) (A1 : FVec Ideal S16x6x1024 .f32) (A7 : FVec Ideal S1024 .f32) (b : Fin 16) (s : Fin 4096) (k : Fin 1024) :
    res MO A0 A1 A7 (ix3 b s k) = Combine.fin (fun l => A0 (ix3 b s l)) (fun l => A1 (ix3 b 2 l)) (fun l => MO (ix3 b s l)) (fun l => A7 (ix1 l)) k := by
  unfold Combine.fin
  pointwise [res]

set_option maxRecDepth 16384 in
theorem nrmRows_at (X1 : FVec Ideal S16x4096x1024 .f32) (A1 : FVec Ideal S16x6x1024 .f32) (A8 : FVec Ideal S1024 .f32) (b : Fin 16) (s : Fin 4096) (a : Fin 8) (d : Fin 128) :
    nrmRows X1 A1 A8 (ix4 b s a d) = InProj.nrm (fun l => X1 (ix3 b s l)) (fun l => A1 (ix3 b 3 l)) (fun l => A1 (ix3 b 4 l)) (fun l => A8 (ix1 l)) ⟨a.val * 128 + d.val, by omega⟩ := by
  unfold InProj.nrm
  pointwise [nrmRows]

/-- The first result at an index. -/
theorem out0_at (A0 : FVec Ideal S16x4096x1024 .f32) (A1 : FVec Ideal S16x6x1024 .f32) (A2 : FVec Ideal S16x4096x8704 .bf16) (A3 A4 : FVec Ideal S16x4096x1024 .bf16) (A5 : FVec Ideal S16x4096x512 .bf16) (A6 A7 : FVec Ideal S1024 .f32) (A9 : FVec Ideal S1024x1024 .f32) (A10 : FVec Ideal S512x1024 .f32) (A11 : FVec Ideal S1024x1024 .f32) (b : Fin 16) (s : Fin 4096) (k : Fin 1024) :
    out0 A0 A1 A2 A3 A4 A5 A6 A7 A9 A10 A11 (ix3 b s k)
      = Combine.fin (fun l => A0 (ix3 b s l)) (fun l => A1 (ix3 b 2 l))
          (proj (mixed (gatedRow (fun l => A3 (ix3 b s l) + A4 (ix3 b s l)) (fun l => A6 (ix1 l)) (fun l => A2 (ix3 b s ⟨4096 + l.val, by omega⟩)))
              (fun l => A5 (ix3 b s l)) (fun l => A2 (ix3 b s ⟨5120 + l.val, by omega⟩)) (fun l => A2 (ix3 b s ⟨6144 + l.val, by omega⟩))
              (fun l n => A9 (ix2 l n)) (fun l n => A10 (ix2 l n))) (fun l n => A11 (ix2 l n)))
          (fun l => A7 (ix1 l)) k := by
  unfold out0
  rw [res_at]
  simp only [mixRows_at, gatedRows_at, heads_at]
  rfl

end Ref

end Cert.Proof.Mix

end
-- ==== Proof.MixEqual.lean ====
/- The mixers joined to the residual: the region's two results are the reference's, and the reference's frame claim. -/
module

public import proofs.«01_k».proof.Proof.MixBlocks
public import proofs.«01_k».proof.Proof.MixRef
public import proofs.«01_k».proof.Defs
public import Idealize.ShloMosaic.Lib.Quiescent

@[expose] public section

noncomputable section

namespace Cert.Proof.Mix

open Idealize.ShloMosaic Idealize.ShloMosaic.TcCoe
open Idealize.SL Idealize.SL.Sem

section
open Cert.Kernel4Ideal Cert.Kernel4Ideal.Gen Cert.Kernel4Ideal.Value
variable (m : (ℓ : Loc nD τ sig) → Buf (Elt Ideal) ℓ) (c : Dev nD)

/-- The first result array at an index: the block of the point that writes it. -/
theorem G16_at (b : Fin 16) (s : Fin 4096) (k : Fin 1024) (t : Fin cfg0.N) (ht : t.val = 8 * b.val + s.val / 512) :
    G16 m c (ix3 b s k) = (outsAt0 m c t.val t.isLt).1 (ix3 0 ⟨s.val % 512, by omega⟩ k) := by
  have hk := k.isLt
  have hp : pt16Of (ix3 b s k) = t.val := by
    show 8 * (b.val / 1 - 0) + 1 * (s.val / 512 - 0) + 1 * (k.val / 1024 - 0) = t.val
    omega
  have hl : loc16Of (ix3 b s k) = ix3 0 ⟨s.val % 512, by omega⟩ k := by
    funext a; apply Fin.ext
    match a with
    | ⟨0, _⟩ => show b.val % 1 = 0; omega
    | ⟨1, _⟩ => rfl
    | ⟨2, _⟩ => show k.val % 1024 = k.val; omega
  rw [outsAt0_sweep]
  unfold G16
  rw [dif_pos (by rw [hp]; exact t.isLt), hl, fold0_congr m c _ _ _ _ hp]

/-- The second result array at an index. -/
theorem G17_at (b : Fin 16) (s : Fin 4096) (a : Fin 8) (d : Fin 128) (t : Fin cfg0.N) (ht : t.val = 8 * b.val + s.val / 512) :
    G17 m c (ix4 b s a d) = (outsAt0 m c t.val t.isLt).2.1 (ix4 0 ⟨s.val % 512, by omega⟩ a d) := by
  have ha := a.isLt; have hd := d.isLt
  have hp : pt17Of (ix4 b s a d) = t.val := by
    show 8 * (b.val / 1 - 0) + 1 * (s.val / 512 - 0) + 1 * (a.val / 8 - 0) + 1 * (d.val / 128 - 0) = t.val
    omega
  have hl : loc17Of (ix4 b s a d) = ix4 0 ⟨s.val % 512, by omega⟩ a d := by
    funext i; apply Fin.ext
    match i with
    | ⟨0, _⟩ => show b.val % 1 = 0; omega
    | ⟨1, _⟩ => rfl
    | ⟨2, _⟩ => show a.val % 8 = a.val; omega
    | ⟨3, _⟩ => show d.val % 128 = d.val; omega
  rw [outsAt0_sweep]
  unfold G17
  rw [dif_pos (by rw [hp]; exact t.isLt), hl, fold0_congr m c _ _ _ _ hp]

/-- The reference's first result at an index, by the row the kernel's point computes. -/
theorem ref_row (b : Fin 16) (s : Fin 4096) (k : Fin 1024) :
    Ref.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (ix3 b s k) = row m c b s k := Ref.out0_at _ _ _ _ _ _ _ _ _ _ _ b s k

theorem row_of (b : Fin 16) (s : Fin 4096) (t : Fin cfg0.N) (ht : t.val = 8 * b.val + s.val / 512) (k : Fin 1024) :
    xr m c t (ix2 ⟨s.val % 512, by omega⟩ k) = row m c b s k := by
  have hs := s.isLt
  rw [xr_at]
  have e0 : t.val / 8 = b.val := by omega
  have e1 : t.val % 8 * 512 + s.val % 512 = s.val := by omega
  simp only [e0, e1, Fin.eta]

/-- The first results, equal. -/
theorem result0_eq : G16 m c = Ref.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  funext y
  obtain ⟨b, s, k, rfl⟩ : ∃ (b : Fin 16) (s : Fin 4096) (k : Fin 1024), y = ix3 b s k := ⟨y 0, y 1, y 2, eq_ix3 y⟩
  have hb := b.isLt; have hs := s.isLt
  have hT : 8 * b.val + s.val / 512 < cfg0.N := lt_of_lt_of_eq (by omega) N_0.symm
  rw [G16_at m c b s k ⟨_, hT⟩ rfl, out16, lift_at, row_of m c b s ⟨_, hT⟩ rfl]
  exact (ref_row m c b s k).symm

/-- The second results, equal. -/
theorem result1_eq : G17 m c = Ref.nrmRows (Ref.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))) (m ((c : Thread nD τ).loc main_arg1)) (m ((c : Thread nD τ).loc main_arg8)) := by
  funext y
  obtain ⟨b, s, a, d, rfl⟩ : ∃ (b : Fin 16) (s : Fin 4096) (a : Fin 8) (d : Fin 128), y = ix4 b s a d := ⟨y 0, y 1, y 2, y 3, eq_ix4 y⟩
  have hb := b.isLt; have hs := s.isLt
  have hT : 8 * b.val + s.val / 512 < cfg0.N := lt_of_lt_of_eq (by omega) N_0.symm
  rw [G17_at m c b s a d ⟨_, hT⟩ rfl, out17, nr_at]
  refine Eq.trans ?_ (Ref.nrmRows_at _ _ _ b s a d).symm
  have e0 : (8 * b.val + s.val / 512) / 8 = b.val := by omega
  simp only [row_of m c b s ⟨_, hT⟩ rfl, ref_row, mod3_at, mod4_at, blk10_at, e0, Fin.eta]
end

section
open Cert.Reference4Ideal
variable (m : (ℓ : Loc nD τ sig) → Buf (Elt Ideal) ℓ) (c : Dev nD)

theorem res0_eq : Cert.Reference4Ideal.Value.res_out0 m c = Ref.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  unfold Cert.Reference4Ideal.Value.res_out0 Cert.Reference4Ideal.Value.res_main_v61 Ref.out0 Ref.res Ref.mixRows Ref.gatedRows Ref.heads
  rfl
theorem res1_eq : Cert.Reference4Ideal.Value.res_out1 m c = Ref.nrmRows (Ref.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))) (m ((c : Thread nD τ).loc main_arg1)) (m ((c : Thread nD τ).loc main_arg8)) := by
  unfold Cert.Reference4Ideal.Value.res_out1 Cert.Reference4Ideal.Value.res_main_v81 Ref.nrmRows Ref.out0 Ref.res Ref.mixRows Ref.gatedRows Ref.heads
  rfl
end

/-- The value claim. -/
theorem algebraic : Cert.algebraic_Kernel4Ideal_Reference4Ideal := by
  intro m g m' g' hpre hargs
  refine ⟨fun c => Cert.Kernel4Ideal.Value.G16 m c, fun c => Cert.Kernel4Ideal.Value.G17 m c,
    (θ_run Cert.Kernel4Ideal.defs _ _).mono (fun r h c => ⟨(h c).1, (h c).2.1, (h c).2.2.2.2.2⟩) (Cert.Kernel4Ideal.Value.run m g), ?_⟩
  refine (θ_run Cert.Reference4Ideal.defs _ _).mono (fun r h c => ⟨((h c).1.trans (res0_eq m' c)).trans ?_, ((h c).2.1.trans (res1_eq m' c)).trans ?_, (h c).2.2⟩)
    (Cert.Reference4Ideal.Value.run (F := Ideal) m' g')
  · obtain ⟨a0, a1, a2, a3, a4, a5, a6, a7, a8, a9, a10, a11, a12, a13⟩ := hargs c
    refine Eq.trans ?_ (result0_eq m c).symm
    rw [a0, a1, a2, a3, a4, a5, a6, a7, a9, a10, a11]
  · obtain ⟨a0, a1, a2, a3, a4, a5, a6, a7, a8, a9, a10, a11, a12, a13⟩ := hargs c
    refine Eq.trans ?_ (result1_eq m c).symm
    rw [a0, a1, a2, a3, a4, a5, a6, a7, a8, a9, a10, a11]

/-- The reference's frame claim. -/
theorem frame_reference : Cert.quiescent_Reference4Ideal := by
  intro m ρ _
  exact (θ_run Cert.Reference4Ideal.defs _ _).mono (fun r h => ⟨fun c => (h c).2.2, sem_eq_zero_of_no_sems (by decide) r.2⟩)
    (Cert.Reference4Ideal.Value.run (F := Ideal) m ρ)

end Cert.Proof.Mix

end
-- ==== Proof.lean ====
module

public import proofs.«01_k».proof.Defs
public import proofs.«01_k».proof.Proof.Frames
public import proofs.«01_k».proof.Proof.RefFrame
public import proofs.«01_k».proof.Proof.Equal
public import proofs.«01_k».proof.Proof.ProjEqual
public import proofs.«01_k».proof.Proof.CombEqual
public import proofs.«01_k».proof.Proof.MixEqual
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_in_range.Gen.facts,
  Experts.frame_kernel, Experts.frame_kernelIdeal, Experts.frame_reference,
  fun m ρ _ => Cert.Kernel2.Gen.frame m ρ, fun m ρ _ => Cert.Kernel2Ideal.Gen.frame m ρ, InProj.frame_reference,
  fun m ρ _ => Cert.Kernel3.Gen.frame m ρ, fun m ρ _ => Cert.Kernel3Ideal.Gen.frame m ρ, Combine.frame_reference,
  fun m ρ _ => Cert.Kernel4.Gen.frame m ρ, fun m ρ _ => Cert.Kernel4Ideal.Gen.frame m ρ, Mix.frame_reference,
  trivial, Experts.algebraic, trivial, InProj.algebraic, trivial, Combine.algebraic, trivial, Mix.algebraic⟩

end Cert.Proof

end
